-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 16]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![16, 1024, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![16, 2048, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![256, 1024]⟩ ⟨2, ![1024, 1024]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S256x1024 .f32) (main_arg1 : FVec F S1024x4 .f32) (main_arg2 : FVec F S4x1024x2048 .f32) (main_arg3 : FVec F S4x2048x1024 .f32) : IVec S_ 1 :=
  let main_v0 : FVec F S256x1024 .f32 := Host.absf main_arg0
  let main_cst : FVec F S_ .f32 := constant S_ .f32 0x5C800000#32
  let main_v1 : FVec F S256x1024 .f32 := broadcastInDim S256x1024 ![] bcast_S_S256x1024 main_cst
  let main_v2 : IVec S256x1024 1 := cmpf .ole main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x4 .f32 := Host.absf main_arg1
  let main_cst_0 : FVec F S_ .f32 := constant S_ .f32 0x5C800000#32
  let main_v5 : FVec F S1024x4 .f32 := broadcastInDim S1024x4 ![] bcast_S_S1024x4 main_cst_0
  let main_v6 : IVec S1024x4 1 := cmpf .ole main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Pre_bounded_ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S1024x1024 .f32) (main_arg1 : FVec F S1024x16 .f32) (main_arg2 : FVec F S16x1024x2048 .f32) (main_arg3 : FVec F S16x2048x1024 .f32) : IVec S_ 1 :=
  let main_v0 : FVec F S1024x1024 .f32 := Host.absf main_arg0
  let main_cst : FVec F S_ .f32 := constant S_ .f32 0x5C800000#32
  let main_v1 : FVec F S1024x1024 .f32 := broadcastInDim S1024x1024 ![] bcast_S_S1024x1024 main_cst
  let main_v2 : IVec S1024x1024 1 := cmpf .ole main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16 .f32 := Host.absf main_arg1
  let main_cst_0 : FVec F S_ .f32 := constant S_ .f32 0x5C800000#32
  let main_v5 : FVec F S1024x16 .f32 := broadcastInDim S1024x16 ![] bcast_S_S1024x16 main_cst_0
  let main_v6 : IVec S1024x16 1 := cmpf .ole main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Kernel.lean ====
abbrev S256x1024 : Shape := ⟨2, ![256, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S4x1024 : Shape := ⟨2, ![4, 1024]⟩
abbrev S1024x1024 : Shape := ⟨2, ![1024, 1024]⟩
abbrev S4x4x1024 : Shape := ⟨3, ![4, 4, 1024]⟩
abbrev S3x256x1024 : Shape := ⟨3, ![3, 256, 1024]⟩
abbrev S3x4x1024 : Shape := ⟨3, ![3, 4, 1024]⟩
abbrev S2x1024x2048 : Shape := ⟨3, ![2, 1024, 2048]⟩
abbrev S2x2048x1024 : Shape := ⟨3, ![2, 2048, 1024]⟩
abbrev S3 : Shape := ⟨1, ![3]⟩
abbrev S3x2 : Shape := ⟨2, ![3, 2]⟩
abbrev S2 : Shape := ⟨1, ![2]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S1x256x1024 : Shape := ⟨3, ![1, 256, 1024]⟩
abbrev S1x4x1024 : Shape := ⟨3, ![1, 4, 1024]⟩
abbrev S16x1024 : Shape := ⟨2, ![16, 1024]⟩
abbrev S256x16 : Shape := ⟨2, ![256, 16]⟩
abbrev S256 : Shape := ⟨1, ![256]⟩
abbrev S256x1 : Shape := ⟨2, ![256, 1]⟩
abbrev S256x2048 : Shape := ⟨2, ![256, 2048]⟩
abbrev S128x1 : Shape := ⟨2, ![128, 1]⟩
abbrev S128x1024 : Shape := ⟨2, ![128, 1024]⟩
abbrev S128x2048 : Shape := ⟨2, ![128, 2048]⟩
abbrev S1x1 : Shape := ⟨2, ![1, 1]⟩
abbrev S1x128x1024 : Shape := ⟨3, ![1, 128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S4x1024, .f32⟩
  | .hbm, ⟨5, _⟩ => ⟨S256x1024, .f32⟩
  | .local _ .vmem, ⟨0, _⟩ => ⟨S256x1024, .f32⟩
  | .local _ .vmem, ⟨1, _⟩ => ⟨S4x1024, .f32⟩
  | .local _ .vmem, ⟨2, _⟩ => ⟨S256x1024, .f32⟩
  | .local _ .vmem, ⟨3, _⟩ => ⟨S1024x1024, .f32⟩
  | .local _ .vmem, ⟨4, _⟩ => ⟨S4x4x1024, .f32⟩
  | .local _ .vmem, ⟨5, _⟩ => ⟨S1024x1024, .f32⟩
  | .local _ .vmem, ⟨6, _⟩ => ⟨S3x256x1024, .f32⟩
  | .local _ .vmem, ⟨7, _⟩ => ⟨S3x4x1024, .f32⟩
  | .local _ .vmem, ⟨8, _⟩ => ⟨S3x256x1024, .f32⟩
  | .local _ .vmem, ⟨9, _⟩ => ⟨S2x1024x2048, .f32⟩
  | .local _ .vmem, ⟨10, _⟩ => ⟨S2x2048x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_15 : BitVec 32 := 16#32
  let v32 : BitVec 32 := Scalar.muli v2 c16_i32_15
  let v33 : BitVec 32 := Scalar.addi c0_i32_16 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v20 : BitVec 32 := Scalar.addi v5 c3_i32
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let c0_i32_11 : BitVec 32 := 0#32
  let v24 : BitVec 1 := Scalar.cmpi .ne v23 c0_i32_11
  let v28 : BitVec 1 := Scalar.andi v27 v24
  let v29 : BitVec 32 := Scalar.addi v23 v22
  let v30 : BitVec 32 := Scalar.select v28 v29 v23
  let c4_i32_17 : BitVec 32 := 4#32
  let v34 : BitVec 32 := Scalar.muli v30 c4_i32_17
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v36 : BitVec 32 := Scalar.muli v8 c1_i32_18
  let v37 : BitVec 32 := Scalar.addi v35 v36
  v37.toNat
def k0_dev2 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v38 : BitVec 32 := Scalar.muli v2 c16_i32_20
  let v39 : BitVec 32 := Scalar.addi c0_i32_21 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_22 : BitVec 32 := 4#32
  let v40 : BitVec 32 := Scalar.muli v19 c4_i32_22
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v42 : BitVec 32 := Scalar.muli v8 c1_i32_23
  let v43 : BitVec 32 := Scalar.addi v41 v42
  v43.toNat
def k0_dev3 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_56 : BitVec 32 := 16#32
  let v68 : BitVec 32 := Scalar.muli v2 c16_i32_56
  let v69 : BitVec 32 := Scalar.addi c0_i32_57 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_58 : BitVec 32 := 4#32
  let v70 : BitVec 32 := Scalar.muli v19 c4_i32_58
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v72 : BitVec 32 := Scalar.muli v8 c1_i32_59
  let v73 : BitVec 32 := Scalar.addi v71 v72
  v73.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32 : BitVec 32 := 256#32
  let v82 : BitVec 32 := Scalar.muli v5 c256_i32
  let v83 : Index := Scalar.indexCast v82
  let c0_63 : Index := 0#32
  ![v83.toNat, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v90 : Index := Scalar.indexCast v5
  let c0_66 : Index := 0#32
  let c0_67 : Index := 0#32
  ![v90.toNat, 0, 0]
def k0_dev4 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_71 : BitVec 32 := 16#32
  let v94 : BitVec 32 := Scalar.muli v2 c16_i32_71
  let v95 : BitVec 32 := Scalar.addi c0_i32_72 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_73 : BitVec 32 := 4#32
  let v96 : BitVec 32 := Scalar.muli v19 c4_i32_73
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v98 : BitVec 32 := Scalar.muli v8 c1_i32_74
  let v99 : BitVec 32 := Scalar.addi v97 v98
  v99.toNat
def k0_off3 (d0 : Dev nD) (c0_i32_94 : BitVec 32) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_92 : BitVec 32 := 4#32
  let v120 : BitVec 32 := Scalar.addi v5 c4_i32_92
  let c1_i32_93 : BitVec 32 := 1#32
  let v121 : BitVec 32 := Scalar.subi v120 c1_i32_93
  let v122 : BitVec 32 := Scalar.subi v121 c0_i32_94
  let c4_i32_95 : BitVec 32 := 4#32
  let c0_i32_96 : BitVec 32 := 0#32
  let v123 : BitVec 1 := Scalar.cmpi .eq c4_i32_95 c0_i32_96
  let c1_i32_97 : BitVec 32 := 1#32
  let v124 : BitVec 32 := Scalar.select v123 c1_i32_97 c4_i32_95
  let v125 : BitVec 32 := Scalar.remsi v122 v124
  let c0_i32_99 : BitVec 32 := 0#32
  let v127 : BitVec 1 := Scalar.cmpi .slt v125 c0_i32_99
  let c0_i32_100 : BitVec 32 := 0#32
  let v128 : BitVec 1 := Scalar.cmpi .slt v124 c0_i32_100
  let v129 : BitVec 1 := Scalar.xori v127 v128
  let c0_i32_98 : BitVec 32 := 0#32
  let v126 : BitVec 1 := Scalar.cmpi .ne v125 c0_i32_98
  let v130 : BitVec 1 := Scalar.andi v129 v126
  let v131 : BitVec 32 := Scalar.addi v125 v124
  let v132 : BitVec 32 := Scalar.select v130 v131 v125
  let v136 : Index := Scalar.indexCast v132
  let c0_104 : Index := 0#32
  let c0_105 : Index := 0#32
  ![v136.toNat, 0, 0]
def k0_dev5 (d0 : Dev nD) : Nat :=
  let c0_i32_111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_110 : BitVec 32 := 16#32
  let v140 : BitVec 32 := Scalar.muli v2 c16_i32_110
  let v141 : BitVec 32 := Scalar.addi c0_i32_111 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_112 : BitVec 32 := 4#32
  let v142 : BitVec 32 := Scalar.muli v19 c4_i32_112
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v144 : BitVec 32 := Scalar.muli v8 c1_i32_113
  let v145 : BitVec 32 := Scalar.addi v143 v144
  v145.toNat
def k0_dev6 (d0 : Dev nD) : Nat :=
  let c0_i32_157 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_156 : BitVec 32 := 16#32
  let v192 : BitVec 32 := Scalar.muli v2 c16_i32_156
  let v193 : BitVec 32 := Scalar.addi c0_i32_157 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_158 : BitVec 32 := 4#32
  let v194 : BitVec 32 := Scalar.muli v19 c4_i32_158
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_159 : BitVec 32 := 1#32
  let v196 : BitVec 32 := Scalar.muli v8 c1_i32_159
  let v197 : BitVec 32 := Scalar.addi v195 v196
  v197.toNat
def k0_off4 (d0 : Dev nD) (c0_i32_232 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_231 : BitVec 32 := 4#32
  let v272 : BitVec 32 := Scalar.addi v5 c4_i32_231
  let v273 : BitVec 32 := Scalar.subi v272 c0_i32_232
  let c4_i32_233 : BitVec 32 := 4#32
  let c0_i32_234 : BitVec 32 := 0#32
  let v274 : BitVec 1 := Scalar.cmpi .eq c4_i32_233 c0_i32_234
  let c1_i32_235 : BitVec 32 := 1#32
  let v275 : BitVec 32 := Scalar.select v274 c1_i32_235 c4_i32_233
  let v276 : BitVec 32 := Scalar.remsi v273 v275
  let c0_i32_237 : BitVec 32 := 0#32
  let v278 : BitVec 1 := Scalar.cmpi .slt v276 c0_i32_237
  let c0_i32_238 : BitVec 32 := 0#32
  let v279 : BitVec 1 := Scalar.cmpi .slt v275 c0_i32_238
  let v280 : BitVec 1 := Scalar.xori v278 v279
  let c0_i32_236 : BitVec 32 := 0#32
  let v277 : BitVec 1 := Scalar.cmpi .ne v276 c0_i32_236
  let v281 : BitVec 1 := Scalar.andi v280 v277
  let v282 : BitVec 32 := Scalar.addi v276 v275
  let v283 : BitVec 32 := Scalar.select v281 v282 v276
  let c256_i32_260 : BitVec 32 := 256#32
  let v338 : BitVec 32 := Scalar.muli v283 c256_i32_260
  let v339 : Index := Scalar.indexCast v338
  let c0_261 : Index := 0#32
  ![v339.toNat, 0]
def k0_dev7 (d0 : Dev nD) : Nat :=
  let c0_i32_297 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_296 : BitVec 32 := 16#32
  let v389 : BitVec 32 := Scalar.muli v2 c16_i32_296
  let v390 : BitVec 32 := Scalar.addi c0_i32_297 v389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_298 : BitVec 32 := 4#32
  let v391 : BitVec 32 := Scalar.muli v19 c4_i32_298
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_299 : BitVec 32 := 1#32
  let v393 : BitVec 32 := Scalar.muli v8 c1_i32_299
  let v394 : BitVec 32 := Scalar.addi v392 v393
  v394.toNat
def k0_dev8 (d0 : Dev nD) : Nat :=
  let c0_i32_390 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_389 : BitVec 32 := 16#32
  let v543 : BitVec 32 := Scalar.muli v2 c16_i32_389
  let v544 : BitVec 32 := Scalar.addi c0_i32_390 v543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_391 : BitVec 32 := 4#32
  let v545 : BitVec 32 := Scalar.muli v19 c4_i32_391
  let v546 : BitVec 32 := Scalar.addi v544 v545
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v547 : BitVec 32 := Scalar.muli v8 c1_i32_392
  let v548 : BitVec 32 := Scalar.addi v546 v547
  v548.toNat
def k0_off5 (d0 : Dev nD) (c1_i32_695 : BitVec 32) (c0_i32_705 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_694 : BitVec 32 := 4#32
  let v1055 : BitVec 32 := Scalar.addi v5 c4_i32_694
  let v1056 : BitVec 32 := Scalar.subi v1055 c1_i32_695
  let c4_i32_696 : BitVec 32 := 4#32
  let c0_i32_697 : BitVec 32 := 0#32
  let v1057 : BitVec 1 := Scalar.cmpi .eq c4_i32_696 c0_i32_697
  let c1_i32_698 : BitVec 32 := 1#32
  let v1058 : BitVec 32 := Scalar.select v1057 c1_i32_698 c4_i32_696
  let v1059 : BitVec 32 := Scalar.remsi v1056 v1058
  let c0_i32_700 : BitVec 32 := 0#32
  let v1061 : BitVec 1 := Scalar.cmpi .slt v1059 c0_i32_700
  let c0_i32_701 : BitVec 32 := 0#32
  let v1062 : BitVec 1 := Scalar.cmpi .slt v1058 c0_i32_701
  let v1063 : BitVec 1 := Scalar.xori v1061 v1062
  let c0_i32_699 : BitVec 32 := 0#32
  let v1060 : BitVec 1 := Scalar.cmpi .ne v1059 c0_i32_699
  let v1064 : BitVec 1 := Scalar.andi v1063 v1060
  let v1065 : BitVec 32 := Scalar.addi v1059 v1058
  let v1066 : BitVec 32 := Scalar.select v1064 v1065 v1059
  let c256_i32_704 : BitVec 32 := 256#32
  let v1084 : BitVec 32 := Scalar.muli v1066 c256_i32_704
  let v1085 : BitVec 32 := Scalar.addi v1084 c0_i32_705
  let v1086 : Index := Scalar.indexCast v1085
  let c0_706 : Index := 0#32
  ![v1086.toNat, 0]
def k0_off6 (d0 : Dev nD) (c0_i32_723 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_694 : BitVec 32 := 4#32
  let v1055 : BitVec 32 := Scalar.addi v5 c4_i32_694
  let c1_i32_695 : BitVec 32 := 1#32
  let v1056 : BitVec 32 := Scalar.subi v1055 c1_i32_695
  let c4_i32_696 : BitVec 32 := 4#32
  let c0_i32_697 : BitVec 32 := 0#32
  let v1057 : BitVec 1 := Scalar.cmpi .eq c4_i32_696 c0_i32_697
  let c1_i32_698 : BitVec 32 := 1#32
  let v1058 : BitVec 32 := Scalar.select v1057 c1_i32_698 c4_i32_696
  let v1059 : BitVec 32 := Scalar.remsi v1056 v1058
  let c0_i32_700 : BitVec 32 := 0#32
  let v1061 : BitVec 1 := Scalar.cmpi .slt v1059 c0_i32_700
  let c0_i32_701 : BitVec 32 := 0#32
  let v1062 : BitVec 1 := Scalar.cmpi .slt v1058 c0_i32_701
  let v1063 : BitVec 1 := Scalar.xori v1061 v1062
  let c0_i32_699 : BitVec 32 := 0#32
  let v1060 : BitVec 1 := Scalar.cmpi .ne v1059 c0_i32_699
  let v1064 : BitVec 1 := Scalar.andi v1063 v1060
  let v1065 : BitVec 32 := Scalar.addi v1059 v1058
  let v1066 : BitVec 32 := Scalar.select v1064 v1065 v1059
  let c256_i32_722 : BitVec 32 := 256#32
  let v1109 : BitVec 32 := Scalar.muli v1066 c256_i32_722
  let v1110 : BitVec 32 := Scalar.addi v1109 c0_i32_723
  let c0_i32_735 : BitVec 32 := 0#32
  ![v1110.toNat, 0]
def k0_dev9 (d0 : Dev nD) : Nat :=
  let c0_i32_730 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_729 : BitVec 32 := 16#32
  let v1111 : BitVec 32 := Scalar.muli v2 c16_i32_729
  let v1112 : BitVec 32 := Scalar.addi c0_i32_730 v1111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_731 : BitVec 32 := 4#32
  let v1113 : BitVec 32 := Scalar.muli v19 c4_i32_731
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_732 : BitVec 32 := 1#32
  let v1115 : BitVec 32 := Scalar.muli v8 c1_i32_732
  let v1116 : BitVec 32 := Scalar.addi v1114 v1115
  v1116.toNat
def k0_dev10 (d0 : Dev nD) : Nat :=
  let c0_i32_763 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_762 : BitVec 32 := 16#32
  let v1168 : BitVec 32 := Scalar.muli v2 c16_i32_762
  let v1169 : BitVec 32 := Scalar.addi c0_i32_763 v1168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_764 : BitVec 32 := 4#32
  let v1170 : BitVec 32 := Scalar.muli v19 c4_i32_764
  let v1171 : BitVec 32 := Scalar.addi v1169 v1170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_765 : BitVec 32 := 1#32
  let v1172 : BitVec 32 := Scalar.muli v8 c1_i32_765
  let v1173 : BitVec 32 := Scalar.addi v1171 v1172
  v1173.toNat
def k0_dev11 (d0 : Dev nD) : Nat :=
  let c0_i32_825 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_824 : BitVec 32 := 16#32
  let v1256 : BitVec 32 := Scalar.muli v2 c16_i32_824
  let v1257 : BitVec 32 := Scalar.addi c0_i32_825 v1256
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_826 : BitVec 32 := 4#32
  let v1258 : BitVec 32 := Scalar.muli v19 c4_i32_826
  let v1259 : BitVec 32 := Scalar.addi v1257 v1258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_827 : BitVec 32 := 1#32
  let v1260 : BitVec 32 := Scalar.muli v8 c1_i32_827
  let v1261 : BitVec 32 := Scalar.addi v1259 v1260
  v1261.toNat
def k0_dev12 (d0 : Dev nD) : Nat :=
  let c0_i32_879 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_878 : BitVec 32 := 16#32
  let v1333 : BitVec 32 := Scalar.muli v2 c16_i32_878
  let v1334 : BitVec 32 := Scalar.addi c0_i32_879 v1333
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_880 : BitVec 32 := 4#32
  let v1335 : BitVec 32 := Scalar.muli v19 c4_i32_880
  let v1336 : BitVec 32 := Scalar.addi v1334 v1335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_881 : BitVec 32 := 1#32
  let v1337 : BitVec 32 := Scalar.muli v8 c1_i32_881
  let v1338 : BitVec 32 := Scalar.addi v1336 v1337
  v1338.toNat
def k0_dev13 (d0 : Dev nD) : Nat :=
  let c0_i32_944 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_943 : BitVec 32 := 16#32
  let v1423 : BitVec 32 := Scalar.muli v2 c16_i32_943
  let v1424 : BitVec 32 := Scalar.addi c0_i32_944 v1423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_945 : BitVec 32 := 4#32
  let v1425 : BitVec 32 := Scalar.muli v19 c4_i32_945
  let v1426 : BitVec 32 := Scalar.addi v1424 v1425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_946 : BitVec 32 := 1#32
  let v1427 : BitVec 32 := Scalar.muli v8 c1_i32_946
  let v1428 : BitVec 32 := Scalar.addi v1426 v1427
  v1428.toNat
def k0_dev14 (d0 : Dev nD) : Nat :=
  let c0_i32_1001 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1000 : BitVec 32 := 16#32
  let v1501 : BitVec 32 := Scalar.muli v2 c16_i32_1000
  let v1502 : BitVec 32 := Scalar.addi c0_i32_1001 v1501
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_1002 : BitVec 32 := 4#32
  let v1503 : BitVec 32 := Scalar.muli v19 c4_i32_1002
  let v1504 : BitVec 32 := Scalar.addi v1502 v1503
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1003 : BitVec 32 := 1#32
  let v1505 : BitVec 32 := Scalar.muli v8 c1_i32_1003
  let v1506 : BitVec 32 := Scalar.addi v1504 v1505
  v1506.toNat
def k0_off7 (d0 : Dev nD) (c0_i32_1011 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_1010 : BitVec 32 := 256#32
  let v1532 : BitVec 32 := Scalar.muli v5 c256_i32_1010
  let v1533 : BitVec 32 := Scalar.addi v1532 c0_i32_1011
  let v1534 : Index := Scalar.indexCast v1533
  let c0_1012 : Index := 0#32
  ![v1534.toNat, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x16 : Shape := ⟨2, ![1024, 16]⟩
abbrev S16x1024x2048 : Shape := ⟨3, ![16, 1024, 2048]⟩
abbrev S16x2048x1024 : Shape := ⟨3, ![16, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1024x16x2048 : Shape := ⟨3, ![1024, 16, 2048]⟩
abbrev S16x1024x1024 : Shape := ⟨3, ![16, 1024, 1024]⟩
abbrev S2x1024 : Shape := ⟨2, ![2, 1024]⟩
abbrev S2x1x1024 : Shape := ⟨3, ![2, 1, 1024]⟩
abbrev S16 : Shape := ⟨1, ![16]⟩
abbrev S1x16x1 : Shape := ⟨3, ![1, 16, 1]⟩
abbrev S2x16x1024 : Shape := ⟨3, ![2, 16, 1024]⟩
abbrev S2x16x1024x1 : Shape := ⟨4, ![2, 16, 1024, 1]⟩
abbrev S1x16x1024x1024 : Shape := ⟨4, ![1, 16, 1024, 1024]⟩
abbrev S2x1x1024x1 : Shape := ⟨4, ![2, 1, 1024, 1]⟩
abbrev S2x16x1024x1024 : Shape := ⟨4, ![2, 16, 1024, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16, .f32⟩
  | .hbm, ⟨2, _⟩ => ⟨S16x1024x2048, .f32⟩
  | .hbm, ⟨3, _⟩ => ⟨S16x2048x1024, .f32⟩
  | .hbm, ⟨4, _⟩ => ⟨S1024x16, .f32⟩
  | .hbm, ⟨5, _⟩ => ⟨S1024x2, .f32⟩
  | .hbm, ⟨6, _⟩ => ⟨S1024x2, .i32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2, .f32⟩
  | .hbm, ⟨11, _⟩ => ⟨S1024x2, .f32⟩
  | .hbm, ⟨12, _⟩ => ⟨S1024x2, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x2, .f32⟩
  | .hbm, ⟨17, _⟩ => ⟨S1024x2, .f32⟩
  | .hbm, ⟨18, _⟩ => ⟨S1024x16x2048, .f32⟩
  | .hbm, ⟨19, _⟩ => ⟨S_, .f32⟩
  | .hbm, ⟨20, _⟩ => ⟨S1024x16x2048, .f32⟩
  | .hbm, ⟨21, _⟩ => ⟨S1024x16x2048, .f32⟩
  | .hbm, ⟨22, _⟩ => ⟨S16x1024x1024, .f32⟩
  | .hbm, ⟨23, _⟩ => ⟨S2x1024, .i32⟩
  | .hbm, ⟨24, _⟩ => ⟨S2x1x1024, .i32⟩
  | .hbm, ⟨25, _⟩ => ⟨S16, .i32⟩
  | .hbm, ⟨26, _⟩ => ⟨S1x16x1, .i32⟩
  | .hbm, ⟨27, _⟩ => ⟨S2x16x1024, .i32⟩
  | .hbm, ⟨28, _⟩ => ⟨S2x16x1024, .i32⟩
  | .hbm, ⟨29, _⟩ => ⟨S2x16x1024, .i1⟩
  | .hbm, ⟨30, _⟩ => ⟨S2x16x1024x1, .i1⟩
  | .hbm, ⟨31, _⟩ => ⟨S1x16x1024x1024, .f32⟩
  | .hbm, ⟨32, _⟩ => ⟨S2x1024, .f32⟩
  | .hbm, ⟨33, _⟩ => ⟨S2x1x1024x1, .f32⟩
  | .hbm, ⟨34, _⟩ => ⟨S2x16x1024x1024, .f32⟩
  | .hbm, ⟨35, _⟩ => ⟨S2x16x1024x1024, .f32⟩
  | .hbm, ⟨36, _⟩ => ⟨S2x16x1024x1024, .f32⟩
  | .hbm, ⟨37, _⟩ => ⟨S_, .f32⟩
  | .hbm, ⟨38, _⟩ => ⟨S_, .f32⟩
  | .hbm, ⟨39, _⟩ => ⟨S2x16x1024x1024, .i1⟩
  | .hbm, ⟨40, _⟩ => ⟨S2x16x1024x1024, .f32⟩
  | .hbm, ⟨41, _⟩ => ⟨S2x16x1024x1024, .f32⟩
  | .hbm, ⟨42, _⟩ => ⟨S_, .f32⟩
  | .hbm, ⟨43, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Own.lean ====
/-
  Holding the elements of a view at named values: the assertion `own`, how it is split, joined and
  re-shaped, and the load, store, copy and send rules stated with it.
-/
module

public import Idealize.ShloMosaic.Lib.Rounds
public import Idealize.ShloMosaic.Lib.VecWindow
public import Idealize.ShloMosaic.Lib.Ring
public import Idealize.ShloMosaic.Lib.Tactic
public import Idealize.ShloMosaic.PureOps

@[expose] public section

set_option maxRecDepth 16384

noncomputable section

namespace Cert.Moe

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Own

variable {nD : Nat} {τ : Topo} {sig : RefSig} {Ix : Type} [DecidableEq Ix]
variable {Val : EltTy → Type} [∀ e, Nonempty (Val e)] {Name : Type} [DecidableEq Name]
variable {U : Type} [URA U] {Lvl : Type}
local notation "𝕄" => MT nD τ sig Ix Val Name U Lvl

variable {sp : Space} {s s' : Shape} {e : EltTy}

/-- The elements of the view `v` on device `c`, held at the share `q` and reading `x`. -/
abbrev own (c : Thread nD τ) (v : View sig c.2.kind sp s e) (q : PosShare TreeShare) (x : s.Idx → Val e) : sProp 𝕄 :=
  v.loc c ↦[v.set]{q} v.rep x

/-- The elements of the view `v` on device `c`, held whole at some contents. -/
abbrev any (c : Thread nD τ) (v : View sig c.2.kind sp s e) : sProp 𝕄 :=
  iprop(∃ f : Buf Val (v.loc c), v.loc c ↦[v.set]{fullShare} f)

/-- Contents that read `x` through the view are the view held at `x`. -/
theorem own_of_read (c : Thread nD τ) (v : View sig c.2.kind sp s e) (q : PosShare TreeShare) (f : Buf Val (v.loc c))
    (x : s.Idx → Val e) (h : v.read Val f = x) :
    (v.loc c ↦[v.set]{q} f : sProp 𝕄) = own c v q x := by
  subst h
  refine pointsTo_congr fun i hi => ?_
  obtain ⟨j, -, rfl⟩ := Finset.mem_map.mp hi
  rw [View.rep_emb, View.read_apply, cast_cast, cast_eq]

/-- What a copy leaves: the destination view at what the source view read. -/
theorem own_of_copy (c c' : Thread nD τ) {sp' : Space} (v : View sig c.2.kind sp s e) (v' : View sig c'.2.kind sp' s e)
    (f : Buf Val (v'.loc c')) (x : s.Idx → Val e) :
    (v'.loc c' ↦[v'.set]{fullShare} (v'.write Val f (v.read Val (v.rep x)) Finset.univ) : sProp 𝕄) = own c' v' fullShare x := by
  rw [View.read_rep]
  exact own_of_read c' v' fullShare _ x (View.read_write_univ _ _)

/-- A view held at a value is held at some contents. -/
theorem any_of_own (c : Thread nD τ) (v : View sig c.2.kind sp s e) (x : s.Idx → Val e) :
    (own c v fullShare x : sProp 𝕄) ⊢ any c v := by
  iintro H; iexists _; iexact H

/-- A re-shaped view reading `x` is the view reading `x` re-shaped back. -/
theorem own_reshape (c : Thread nD τ) (v : View sig c.2.kind sp s e) (h : s'.numel = s.numel) (q : PosShare TreeShare)
    (x : s'.Idx → Val e) (y : s.Idx → Val e) (hxy : ∀ i, x i = y (Shape.reshapeEquiv h i)) :
    (own c (v.reshape s' h) q x : sProp 𝕄) = own c v q y := by
  have hs : (v.reshape s' h).set = v.set := View.set_reshape v h
  have : ∀ i ∈ v.set, (v.reshape s' h).rep x i = v.rep y i := by
    intro i hi
    obtain ⟨j, -, rfl⟩ := Finset.mem_map.mp hi
    obtain ⟨k, rfl⟩ := (Shape.reshapeEquiv h).surjective j
    have h1 := View.rep_emb (v.reshape s' h) x k
    have h2 := View.rep_emb v y (Shape.reshapeEquiv h k)
    rw [h2, ← hxy k]
    exact h1
  unfold own
  rw [hs]
  exact pointsTo_congr this

/-- A view through the rectangle of all its elements is the view. -/
theorem own_full (c : Thread nD τ) (v : View sig c.2.kind sp s e) {off : Fin s.rank → ℕ} (inb : ∀ a, off a + s.size a ≤ s.size a)
    (q : PosShare TreeShare) (x : s.Idx → Val e) :
    (own c (v.slice (Rect.unit off s.size inb)) q x : sProp 𝕄) = own c v q x := by
  have hs : (v.slice (Rect.unit off s.size inb)).set = v.set := by
    ext i
    simp only [View.set, Finset.mem_map, Finset.mem_univ, true_and]
    constructor
    · rintro ⟨j, rfl⟩; exact ⟨j, by show v.emb j = v.emb ((Rect.unit off s.size inb).emb j); rw [Rect.emb_unit_full]⟩
    · rintro ⟨j, rfl⟩; exact ⟨j, by show v.emb ((Rect.unit off s.size inb).emb j) = v.emb j; rw [Rect.emb_unit_full]⟩
  have : ∀ i ∈ v.set, (v.slice (Rect.unit off s.size inb)).rep x i = v.rep x i := by
    intro i hi
    obtain ⟨j, -, rfl⟩ := Finset.mem_map.mp hi
    have h1 := View.rep_emb (v.slice (Rect.unit off s.size inb)) x j
    have h2 := View.rep_emb v x j
    have h3 : (v.slice (Rect.unit off s.size inb)).emb j = v.emb j := by
      show v.emb ((Rect.unit off s.size inb).emb j) = v.emb j; rw [Rect.emb_unit_full]
    rw [h3] at h1
    rw [h1, h2]
  unfold own
  rw [hs]
  exact pointsTo_congr this

/-- A rectangle cut in two: held at `x`, its two parts are held at what `x` is there, and back. -/
theorem own_split (c : Thread nD τ) (v : View sig c.2.kind sp s e) (R R₁ R₂ : Rect s)
    (e₁ : R₁.shape.Idx → R.shape.Idx) (e₂ : R₂.shape.Idx → R.shape.Idx)
    (h₁ : ∀ i, R.emb (e₁ i) = R₁.emb i) (h₂ : ∀ i, R.emb (e₂ i) = R₂.emb i)
    (hc : ∀ i, (∃ j, e₁ j = i) ∨ ∃ j, e₂ j = i) (hd : ∀ j j', e₁ j ≠ e₂ j')
    (q : PosShare TreeShare) (x : R.shape.Idx → Val e) :
    (own c (v.slice R) q x : sProp 𝕄) ⊣⊢ iprop(own c (v.slice R₁) q (fun i => x (e₁ i)) ∗ own c (v.slice R₂) q (fun i => x (e₂ i))) := by
  have hset : (v.slice R).set = (v.slice R₁).set ∪ (v.slice R₂).set := by
    ext i
    simp only [View.set, Finset.mem_union, Finset.mem_map, Finset.mem_univ, true_and]
    constructor
    · rintro ⟨j, rfl⟩
      rcases hc j with ⟨k, rfl⟩ | ⟨k, rfl⟩
      · exact .inl ⟨k, congrArg v.emb (h₁ k).symm⟩
      · exact .inr ⟨k, congrArg v.emb (h₂ k).symm⟩
    · rintro (⟨j, rfl⟩ | ⟨j, rfl⟩)
      · exact ⟨e₁ j, congrArg v.emb (h₁ j)⟩
      · exact ⟨e₂ j, congrArg v.emb (h₂ j)⟩
  have hdis : Disjoint (v.slice R₁).set (v.slice R₂).set := by
    rw [Finset.disjoint_left]
    intro i hi hi'
    simp only [View.set, Finset.mem_map, Finset.mem_univ, true_and] at hi hi'
    obtain ⟨j, rfl⟩ := hi
    obtain ⟨j', hj'⟩ := hi'
    have h3 : v.emb (R₂.emb j') = v.emb (R₁.emb j) := hj'
    have := v.emb.injective h3
    rw [← h₁, ← h₂] at this
    exact hd j j' (R.emb.injective this).symm
  have hr₁ : ∀ i ∈ (v.slice R₁).set, (v.slice R).rep x i = (v.slice R₁).rep (fun i => x (e₁ i)) i := by
    intro i hi
    obtain ⟨j, -, rfl⟩ := Finset.mem_map.mp hi
    have a := View.rep_emb (v.slice R) x (e₁ j)
    have b := View.rep_emb (v.slice R₁) (fun i => x (e₁ i)) j
    have c' : (v.slice R).emb (e₁ j) = (v.slice R₁).emb j := congrArg v.emb (h₁ j)
    rw [c'] at a; rw [a, b]
  have hr₂ : ∀ i ∈ (v.slice R₂).set, (v.slice R).rep x i = (v.slice R₂).rep (fun i => x (e₂ i)) i := by
    intro i hi
    obtain ⟨j, -, rfl⟩ := Finset.mem_map.mp hi
    have a := View.rep_emb (v.slice R) x (e₂ j)
    have b := View.rep_emb (v.slice R₂) (fun i => x (e₂ i)) j
    have c' : (v.slice R).emb (e₂ j) = (v.slice R₂).emb j := congrArg v.emb (h₂ j)
    rw [c'] at a; rw [a, b]
  unfold own
  rw [← pointsTo_congr (ℓ := (v.slice R₁).loc c) hr₁, ← pointsTo_congr (ℓ := (v.slice R₂).loc c) hr₂, hset]
  exact pointsTo_union hdis

/-- A share cut in two halves. -/
theorem own_halves (c : Thread nD τ) (v : View sig c.2.kind sp s e) (x : s.Idx → Val e) :
    (own c v fullShare x : sProp 𝕄) ⊣⊢ iprop(own c v fullShare.left x ∗ own c v fullShare.right x) :=
  pointsTo_share (PosShare.mem_left_op_right fullShare)

section Step

variable [Preorder Lvl] {Λ : Labels} {defs : Defs nD τ sig Val Λ} (𝒱 : Variants) (c : Thread nD τ) (bd : Option 𝒱.V)
  (E : Set Name) {α : Type} {Q : α → sProp (MT nD τ sig Ix Val Name U Lvl)}

/-- A load of a rectangle held at a value: the program goes on at that value, which is still held. -/
theorem wp_ld {cs : CoreSpace} {m : Memref sig c.2.kind cs s e} {off off' size : Fin s.rank → ℕ}
    {inb : ∀ a, off a + size a ≤ s.size a} {inb' : ∀ a, off' a + size a ≤ s.size a}
    {hl : m.view.LoadsAt (Rect.unit off size inb).toLoadRect}
    {k : ((Rect.unit off size inb).shape.Idx → Val e) → Prog (TpuEff nD τ sig Val Λ c.2) α}
    {q : PosShare TreeShare} (x : (Rect.unit off' size inb').shape.Idx → Val e) (ho : off = off') :
    (own c (m.access (Rect.unit off' size inb')) q x : sProp 𝕄)
      ⊢ iprop((own c (m.access (Rect.unit off' size inb')) q x -∗ wp frame (wpE defs 𝒱 c bd) E (k x) Q)
        -∗ wp frame (wpE defs 𝒱 c bd) E (.op (.load m (Rect.unit off size inb).toLoadRect hl) k) Q) := by
  subst ho
  have h := wp_load_rect (defs := defs) (Γ := .empty) 𝒱 c bd E (m := m) (r := Rect.unit off size inb) (hl := hl) (k := k) (Q := Q)
    (q := q) (f := (m.access (Rect.unit off size inb)).rep x) (subset_rfl)
  rw [View.read_rep] at h
  exact h

/-- A load of a rectangle held whole at some contents: the program goes on at some value. -/
theorem wp_ldAny {cs : CoreSpace} {m : Memref sig c.2.kind cs s e} {off off' size : Fin s.rank → ℕ}
    {inb : ∀ a, off a + size a ≤ s.size a} {inb' : ∀ a, off' a + size a ≤ s.size a}
    {hl : m.view.LoadsAt (Rect.unit off size inb).toLoadRect}
    {k : ((Rect.unit off size inb).shape.Idx → Val e) → Prog (TpuEff nD τ sig Val Λ c.2) α}
    (ho : off = off') :
    (any c (m.access (Rect.unit off' size inb')) : sProp 𝕄)
      ⊢ iprop((∀ x, any c (m.access (Rect.unit off' size inb')) -∗ wp frame (wpE defs 𝒱 c bd) E (k x) Q)
        -∗ wp frame (wpE defs 𝒱 c bd) E (.op (.load m (Rect.unit off size inb).toLoadRect hl) k) Q) := by
  subst ho
  iintro ⟨%f, H⟩ Hk
  iapply (wp_load_rect (Γ := .empty) 𝒱 c bd E (m := m) (r := Rect.unit off size inb) (hl := hl) (k := k) (Q := Q)
    (subset_rfl)) $$ H
  iintro H
  iapply Hk
  iexists f; iexact H

/-- A store through a rectangle held whole: it is held at the stored value. -/
theorem wp_st {cs : CoreSpace} {m : Memref sig c.2.kind cs s e} {off off' size : Fin s.rank → ℕ}
    {inb : ∀ a, off a + size a ≤ s.size a} {inb' : ∀ a, off' a + size a ≤ s.size a}
    {w : (Rect.unit off size inb).shape.Idx → Val e}
    {hx : (m.access (Rect.unit off size inb)).Stores Finset.univ} {hm}
    {k : PUnit → Prog (TpuEff nD τ sig Val Λ c.2) α} (ho : off = off') :
    (any c (m.access (Rect.unit off' size inb')) : sProp 𝕄)
      ⊢ iprop((own c (m.access (Rect.unit off' size inb')) fullShare w -∗ wp frame (wpE defs 𝒱 c bd) E (k ⟨⟩) Q)
        -∗ wp frame (wpE defs 𝒱 c bd) E (.op (.store m (Rect.unit off size inb) w Finset.univ hx hm) k) Q) := by
  subst ho
  iintro ⟨%f, H⟩ Hk
  iapply (wp_store (Γ := .empty) 𝒱 c bd E (m := m) (r := Rect.unit off size inb) (w := w) (hx := hx) (hm := hm) (k := k) (Q := Q)
    (View.setOn_univ _).subset) $$ H
  iintro H
  iapply Hk
  iapply (Entails.of_eq (own_of_read c (m.access (Rect.unit off size inb)) fullShare _ w (View.read_write_univ _ _)))
  iexact H

end Step

end Own

end Cert.Moe

end
-- ==== Proof.Ring.lean ====
/-
  The ring of four devices along the mesh axis y, and what the printed words of a device's place come to:
  the neighbour a copy or a signal addresses, the row blocks an access goes through, the semaphores.
-/
module

public import proofs.«01_k».proof.Proof.Gen.KernelIdeal.Points
public import proofs.«01_k».proof.Proof.Gen.KernelIdeal.Skeleton

@[expose] public section

set_option maxRecDepth 16384

noncomputable section

namespace Cert.Moe

open Idealize.ShloMosaic Idealize.ShloMosaic.TcCoe
open Idealize.SL Idealize.SL.Sem
open Cert.KernelIdeal Cert.KernelIdeal.Gen

/-- A device's place along the ring. -/
def yOf (d : Dev nD) : ℕ := d.val / 4 % 4
theorem yOf_lt (d : Dev nD) : yOf d < 4 := Nat.mod_lt _ (by decide)

/-- The device with the same first and last mesh coordinates at place `j` of the ring. -/
def atY (d : Dev nD) (j : Fin 4) : Dev nD := ⟨d.val / 16 * 16 + j.val * 4 + d.val % 4, by
  have := d.isLt; have := j.isLt; have : nD = 32 := rfl; omega⟩

/-- The next device of the ring, to which every remote copy goes. -/
def right (d : Dev nD) : Dev nD := atY d ⟨(yOf d + 1) % 4, Nat.mod_lt _ (by decide)⟩
/-- The previous device of the ring. -/
def left (d : Dev nD) : Dev nD := atY d ⟨(yOf d + 3) % 4, Nat.mod_lt _ (by decide)⟩

theorem right_left : ∀ d, right (left d) = d := by decide +kernel
theorem left_right : ∀ d, left (right d) = d := by decide +kernel

/-- The ring as a rearrangement of the devices. -/
def ring : Dev nD ≃ Dev nD := ⟨right, left, left_right, right_left⟩

/-- The device whose chunk reaches device `d` after `k` hops. -/
def back : ℕ → Dev nD → Dev nD
  | 0, d => d
  | k + 1, d => back k (left d)

theorem back_left : ∀ (k : ℕ) (d : Dev nD), back k (left d) = left (back k d)
  | 0, _ => rfl
  | k + 1, d => back_left k (left d)
theorem back_right (k : ℕ) (d : Dev nD) : back (k + 1) (right d) = back k d := by
  show back k (left (right d)) = _
  rw [left_right]

/-- The place along the ring of the device `k` hops back. -/
def org (d : Dev nD) (k : ℕ) : ℕ := (yOf d + (4 - k)) % 4
theorem org_lt (d : Dev nD) (k : ℕ) : org d k < 4 := Nat.mod_lt _ (by decide)

theorem dev_1 : ∀ d : Dev nD, (⟨k0_dev1 d, k0_dev1_lt d⟩ : Dev nD) = left d := by decide +kernel
theorem dev_2 : ∀ d : Dev nD, (⟨k0_dev2 d, k0_dev2_lt d⟩ : Dev nD) = right d := by decide +kernel
theorem dev_3 : ∀ d : Dev nD, (⟨k0_dev3 d, k0_dev3_lt d⟩ : Dev nD) = right d := by decide +kernel
theorem dev_4 : ∀ d : Dev nD, (⟨k0_dev4 d, k0_dev4_lt d⟩ : Dev nD) = right d := by decide +kernel
theorem dev_5 : ∀ d : Dev nD, (⟨k0_dev5 d, k0_dev5_lt d⟩ : Dev nD) = right d := by decide +kernel
theorem dev_6 : ∀ d : Dev nD, (⟨k0_dev6 d, k0_dev6_lt d⟩ : Dev nD) = right d := by decide +kernel
theorem dev_7 : ∀ d : Dev nD, (⟨k0_dev7 d, k0_dev7_lt d⟩ : Dev nD) = right d := by decide +kernel
theorem dev_8 : ∀ d : Dev nD, (⟨k0_dev8 d, k0_dev8_lt d⟩ : Dev nD) = right d := by decide +kernel
theorem dev_9 : ∀ d : Dev nD, (⟨k0_dev9 d, k0_dev9_lt d⟩ : Dev nD) = right d := by decide +kernel
theorem dev_10 : ∀ d : Dev nD, (⟨k0_dev10 d, k0_dev10_lt d⟩ : Dev nD) = right d := by decide +kernel
theorem dev_11 : ∀ d : Dev nD, (⟨k0_dev11 d, k0_dev11_lt d⟩ : Dev nD) = right d := by decide +kernel
theorem dev_12 : ∀ d : Dev nD, (⟨k0_dev12 d, k0_dev12_lt d⟩ : Dev nD) = right d := by decide +kernel
theorem dev_13 : ∀ d : Dev nD, (⟨k0_dev13 d, k0_dev13_lt d⟩ : Dev nD) = right d := by decide +kernel
theorem dev_14 : ∀ d : Dev nD, (⟨k0_dev14 d, k0_dev14_lt d⟩ : Dev nD) = right d := by decide +kernel

theorem off_1 : ∀ d : Dev nD, k0_off1 d = ![256 * org d 0, 0] := by decide +kernel
theorem off_2 : ∀ d : Dev nD, k0_off2 d = ![org d 0, 0, 0] := by decide +kernel
theorem off_3_0 : ∀ d : Dev nD, k0_off3 d 0#32 = ![org d 1, 0, 0] := by decide +kernel
theorem off_3_1 : ∀ d : Dev nD, k0_off3 d 1#32 = ![org d 2, 0, 0] := by decide +kernel
theorem off_3_2 : ∀ d : Dev nD, k0_off3 d 2#32 = ![org d 3, 0, 0] := by decide +kernel
theorem off_4_0 : ∀ d : Dev nD, k0_off4 d 0#32 = ![256 * org d 0, 0] := by decide +kernel
theorem off_4_1 : ∀ d : Dev nD, k0_off4 d 1#32 = ![256 * org d 1, 0] := by decide +kernel
theorem off_4_2 : ∀ d : Dev nD, k0_off4 d 2#32 = ![256 * org d 2, 0] := by decide +kernel
theorem off_4_3 : ∀ d : Dev nD, k0_off4 d 3#32 = ![256 * org d 3, 0] := by decide +kernel
theorem off_5_1_0 : ∀ d : Dev nD, k0_off5 d 1#32 0#32 = ![256 * org d 1 + 0, 0] := by decide +kernel
theorem off_5_1_1 : ∀ d : Dev nD, k0_off5 d 1#32 128#32 = ![256 * org d 1 + 128, 0] := by decide +kernel
theorem off_5_2_0 : ∀ d : Dev nD, k0_off5 d 2#32 0#32 = ![256 * org d 2 + 0, 0] := by decide +kernel
theorem off_5_2_1 : ∀ d : Dev nD, k0_off5 d 2#32 128#32 = ![256 * org d 2 + 128, 0] := by decide +kernel
theorem off_5_3_0 : ∀ d : Dev nD, k0_off5 d 3#32 0#32 = ![256 * org d 3 + 0, 0] := by decide +kernel
theorem off_5_3_1 : ∀ d : Dev nD, k0_off5 d 3#32 128#32 = ![256 * org d 3 + 128, 0] := by decide +kernel
theorem off_6_0 : ∀ d : Dev nD, k0_off6 d 0#32 = ![256 * org d 1 + 0, 0] := by decide +kernel
theorem off_6_1 : ∀ d : Dev nD, k0_off6 d 128#32 = ![256 * org d 1 + 128, 0] := by decide +kernel
theorem off_7_0 : ∀ d : Dev nD, k0_off7 d 0#32 = ![256 * org d 0 + 0, 0] := by decide +kernel
theorem off_7_1 : ∀ d : Dev nD, k0_off7 d 128#32 = ![256 * org d 0 + 128, 0] := by decide +kernel

/-- The word of a device's place along the ring, as the kernel computes it. -/
def yWord (d : Dev nD) : BitVec 32 := Scalar.remsi (Scalar.divsi (Dev.word d) 4#32) 4#32
theorem yWord_eq : ∀ d : Dev nD, yWord d = BitVec.ofNat 32 (yOf d) := by decide +kernel

/-! ## The operands -/

abbrev mX : Memref sig .tc .vmem S256x1024 .f32 := Memref.whole cc0_stg0_0
abbrev mRT : Memref sig .tc .vmem S4x1024 .f32 := Memref.whole cc0_stg1_0
abbrev mW1 : Memref sig .tc .hbm S4x1024x2048 .f32 := Memref.whole main_arg2
abbrev mW2 : Memref sig .tc .hbm S4x2048x1024 .f32 := Memref.whole main_arg3
abbrev mOut : Memref sig .tc .vmem S256x1024 .f32 := Memref.whole cc0_stg2_0
abbrev mXF : Memref sig .tc .vmem S1024x1024 .f32 := Memref.whole cc0_scratch0
abbrev mRF : Memref sig .tc .vmem S4x4x1024 .f32 := Memref.whole cc0_scratch1
abbrev mAcc : Memref sig .tc .vmem S1024x1024 .f32 := Memref.whole cc0_scratch2
abbrev mAG : Memref sig .tc .vmem S3x256x1024 .f32 := Memref.whole cc0_scratch3
abbrev mRG : Memref sig .tc .vmem S3x4x1024 .f32 := Memref.whole cc0_scratch4
abbrev mRS : Memref sig .tc .vmem S3x256x1024 .f32 := Memref.whole cc0_scratch5
abbrev mV1 : Memref sig .tc .vmem S2x1024x2048 .f32 := Memref.whole cc0_scratch6
abbrev mV2 : Memref sig .tc .vmem S2x2048x1024 .f32 := Memref.whole cc0_scratch7

/-- The bound of 256 rows of a block of 1024 from row `256 * n`. -/
theorem inbRow {n : ℕ} (h : n < 4) : ∀ a, (![256 * n, 0] : Fin 2 → ℕ) a + S256x1024.size a ≤ S1024x1024.size a := by
  intro a; fin_cases a
  · show 256 * n + 256 ≤ 1024; omega
  · show 0 + 1024 ≤ 1024; omega
/-- The bound of 128 rows of a block of 1024 from row `256 * n + l`. -/
theorem inbHalf {n l : ℕ} (h : n < 4) (hl : l ≤ 128) : ∀ a, (![256 * n + l, 0] : Fin 2 → ℕ) a + S128x1024.size a ≤ S1024x1024.size a := by
  intro a; fin_cases a
  · show 256 * n + l + 128 ≤ 1024; omega
  · show 0 + 1024 ≤ 1024; omega

/-- The 256 rows of place `n` of a block of 1024 rows. -/
abbrev rowR (n : ℕ) (h : n < 4) : Rect S1024x1024 := Rect.unit (s := S1024x1024) ![256 * n, 0] S256x1024.size (inbRow h)
/-- The 128 rows from row `l` of those of place `n`. -/
abbrev halfR (n l : ℕ) (h : n < 4) (hl : l ≤ 128) : Rect S1024x1024 := Rect.unit (s := S1024x1024) ![256 * n + l, 0] S128x1024.size (inbHalf h hl)

end Cert.Moe

end
-- ==== Proof.Values.lean ====
/-
  What the kernel computes, as functions of its blocks: the routing of a chunk of rows, one expert's part of a
  chunk, and what the reduce-scatter adds along the ring.
-/
module

public import proofs.«01_k».proof.Proof.Ring
public import Idealize.ShloMosaic.Lib.ValueIdxCore

@[expose] public section

set_option maxRecDepth 16384

noncomputable section

namespace Cert.Moe

open Idealize.ShloMosaic Idealize.ShloMosaic.TcCoe
open Idealize.SL Idealize.SL.Sem
open Cert.KernelIdeal Cert.KernelIdeal.Gen
open Idealize.ShloMosaic.ValueIdx (ix2 ix3)

variable {F : FTy → Type} [FloatOps F]

/-! ## Routing -/

/-- The gates of a chunk of rows. -/
def gates (rt : FVec F S16x1024 .f32) (x : FVec F S256x1024 .f32) : FVec F S256x16 .f32 :=
  matmul dot_S256x1024_S16x1024_S256x16_1_1_0_0_n_n (some .fp32) x rt (constant S256x16 .f32 0x00000000#32)
/-- The greatest gate of each row. -/
def rmax (g : FVec F S256x16 .f32) : FVec F S256x1 .f32 :=
  shapeCast S256x1 (multiReduction .maximumf [1] S256 g 0xFF800000#32 reduces_S256x16_S256 (.inl rfl) rfl) shapeCasts_S256_S256x1
/-- The number of the expert in each column. -/
def ids : IVec S256x16 32 := iota .tc S256x16 32 [1] iota_S256x16_d1_w32
/-- The first expert at which each row's greatest gate is. -/
def amax (g : FVec F S256x16 .f32) : IVec S256x1 32 :=
  shapeCast S256x1 (multiReductionI .minsi [1] S256
    (select (cmpf .oeq g (broadcastTo S256x16 (rmax g) broadcasts_S256x1_S256x16)) ids (broadcast S256x16 16#32))
    2147483647#32 reduces_S256x16_S256 rfl) shapeCasts_S256_S256x1
/-- The gates with each row's first expert masked. -/
def masked (g : FVec F S256x16 .f32) : FVec F S256x16 .f32 :=
  select (cmpi .eq ids (broadcastTo S256x16 (amax g) broadcasts_S256x1_S256x16)) (broadcast S256x16 (Scalar.ofBits .f32 0xFF7FFFFF#32)) g

/-- The number one in each row. -/
def ones : FVec F S256x1 .f32 := broadcast S256x1 (Scalar.ofBits .f32 0x3F800000#32)

/-- Each row's first expert. -/
def ex1 (rt : FVec F S16x1024 .f32) (x : FVec F S256x1024 .f32) : IVec S256x1 32 := amax (gates rt x)
/-- Each row's second expert. -/
def ex2 (rt : FVec F S16x1024 .f32) (x : FVec F S256x1024 .f32) : IVec S256x1 32 := amax (masked (gates rt x))
/-- The exponential of the second gate over the first. -/
def ratio (rt : FVec F S16x1024 .f32) (x : FVec F S256x1024 .f32) : FVec F S256x1 .f32 :=
  exp (subf (rmax (masked (gates rt x))) (rmax (gates rt x)))
/-- Each row's weight at its first expert. -/
def sc1 (rt : FVec F S16x1024 .f32) (x : FVec F S256x1024 .f32) : FVec F S256x1 .f32 := divf ones (addf ones (ratio rt x))
/-- Each row's weight at its second expert. -/
def sc2 (rt : FVec F S16x1024 .f32) (x : FVec F S256x1024 .f32) : FVec F S256x1 .f32 := divf (ratio rt x) (addf ones (ratio rt x))

/-! ## One expert's part -/

/-- The number of expert `el` of the device at place `v`. -/
def exNo (v el : BitVec 32) : BitVec 32 := Scalar.addi (Scalar.muli v 4#32) el

/-- Each row's weight at an expert. -/
def weight (ge : BitVec 32) (a1 a2 : IVec S256x1 32) (s1 s2 : FVec F S256x1 .f32) : FVec F S256x1 .f32 :=
  addf (mulf s1 (sitofp .f32 (extui 32 (cmpi .eq a1 (broadcast S256x1 ge)) natLt_1_32)))
    (mulf s2 (sitofp .f32 (extui 32 (cmpi .eq a2 (broadcast S256x1 ge)) natLt_1_32)))

/-- An expert's two matrix products on a chunk, each row at its weight. -/
def part (x : FVec F S256x1024 .f32) (w1 : FVec F S1024x2048 .f32) (w2 : FVec F S2048x1024 .f32) (wt : FVec F S256x1 .f32) : FVec F S256x1024 .f32 :=
  mulf (matmul dot_S256x2048_S2048x1024_S256x1024_1_0_0_1_n_n none
      (maximumf (matmul dot_S256x1024_S1024x2048_S256x2048_1_0_0_1_n_n none x w1 (constant S256x2048 .f32 0x00000000#32))
        (broadcast S256x2048 (Scalar.ofBits .f32 0x00000000#32)))
      w2 (constant S256x1024 .f32 0x00000000#32))
    (broadcastTo S256x1024 wt broadcasts_S256x1_S256x1024)

/-- The same for half of a chunk. -/
def partH (x : FVec F S128x1024 .f32) (w1 : FVec F S1024x2048 .f32) (w2 : FVec F S2048x1024 .f32) (wt : FVec F S128x1 .f32) : FVec F S128x1024 .f32 :=
  mulf (matmul dot_S128x2048_S2048x1024_S128x1024_1_0_0_1_n_n none
      (maximumf (matmul dot_S128x1024_S1024x2048_S128x2048_1_0_0_1_n_n none x w1 (constant S128x2048 .f32 0x00000000#32))
        (broadcast S128x2048 (Scalar.ofBits .f32 0x00000000#32)))
      w2 (constant S128x1024 .f32 0x00000000#32))
    (broadcastTo S128x1024 wt broadcasts_S128x1_S128x1024)

/-- Half of the rows' weights at an expert: rows 0 to 127, -/
def weight0 (ge : BitVec 32) (a1 a2 : IVec S256x1 32) (s1 s2 : FVec F S256x1 .f32) : FVec F S128x1 .f32 :=
  addf (mulf (extractStridedSlice S128x1 ![0, 0] s1 slices_S256x1_o0_0_S128x1)
      (sitofp .f32 (extui 32 (cmpi .eq (extractStridedSlice S128x1 ![0, 0] a1 slices_S256x1_o0_0_S128x1) (broadcast S128x1 ge)) natLt_1_32)))
    (mulf (extractStridedSlice S128x1 ![0, 0] s2 slices_S256x1_o0_0_S128x1)
      (sitofp .f32 (extui 32 (cmpi .eq (extractStridedSlice S128x1 ![0, 0] a2 slices_S256x1_o0_0_S128x1) (broadcast S128x1 ge)) natLt_1_32)))
/-- and rows 128 to 255. -/
def weight1 (ge : BitVec 32) (a1 a2 : IVec S256x1 32) (s1 s2 : FVec F S256x1 .f32) : FVec F S128x1 .f32 :=
  addf (mulf (extractStridedSlice S128x1 ![128, 0] s1 slices_S256x1_o128_0_S128x1)
      (sitofp .f32 (extui 32 (cmpi .eq (extractStridedSlice S128x1 ![128, 0] a1 slices_S256x1_o128_0_S128x1) (broadcast S128x1 ge)) natLt_1_32)))
    (mulf (extractStridedSlice S128x1 ![128, 0] s2 slices_S256x1_o128_0_S128x1)
      (sitofp .f32 (extui 32 (cmpi .eq (extractStridedSlice S128x1 ![128, 0] a2 slices_S256x1_o128_0_S128x1) (broadcast S128x1 ge)) natLt_1_32)))

/-! ## The blocks and what comes of them -/

/-- What each device is given: its rows, its columns of the router turned, and its experts. -/
structure Inp (F : FTy → Type) where
  x : Dev nD → Vec F S256x1024 .f32
  rt : Dev nD → Vec F S4x1024 .f32
  w1 : Dev nD → Vec F S4x1024x2048 .f32
  w2 : Dev nD → Vec F S4x2048x1024 .f32

/-- The first rows of a chunk of 256. -/
def top (x : Vec F S256x1024 .f32) : Vec F S128x1024 .f32 := fun i => x (ix2 (n0 := 256) (n1 := 1024) ⟨(i 0).val, lt_of_lt_of_le (i 0).isLt (by decide)⟩ (i 1))
/-- The last rows of a chunk of 256. -/
def bot (x : Vec F S256x1024 .f32) : Vec F S128x1024 .f32 := fun i => x (ix2 (n0 := 256) (n1 := 1024) ⟨(i 0).val + 128, Nat.lt_of_lt_of_le (Nat.add_lt_add_right (i 0).isLt 128) (by decide)⟩ (i 1))

namespace Inp
variable (I : Inp F)

/-- The chunk that device `c` works on after `k` hops. -/
def xk (c : Dev nD) (k : ℕ) : Vec F S256x1024 .f32 := I.x (back k c)
/-- The router's rows, gathered: place `j` of the ring gives rows `4 j` to `4 j + 3`. -/
def RT4 (c : Dev nD) : Vec F S4x4x1024 .f32 := fun i => I.rt (atY c (i 0)) (ix2 (n0 := 4) (n1 := 1024) (i 1) (i 2))
/-- The same as a matrix. -/
def RT (c : Dev nD) : FVec F S16x1024 .f32 := shapeCast S16x1024 (I.RT4 c) shapeCasts_S4x4x1024_S16x1024
/-- One expert's first matrix. -/
def W1 (c : Dev nD) (el : Fin 4) : FVec F S1024x2048 .f32 := fun i => I.w1 c (ix3 (n0 := 4) (n1 := 1024) (n2 := 2048) el (i 0) (i 1))
/-- One expert's second matrix. -/
def W2 (c : Dev nD) (el : Fin 4) : FVec F S2048x1024 .f32 := fun i => I.w2 c (ix3 (n0 := 4) (n1 := 2048) (n2 := 1024) el (i 0) (i 1))

/-- Expert `el`'s part of the chunk after `k` hops. -/
def ctr (c : Dev nD) (k : ℕ) (el : Fin 4) (w : BitVec 32) : FVec F S256x1024 .f32 :=
  part (I.xk c k) (I.W1 c el) (I.W2 c el)
    (weight (exNo (yWord c) w) (ex1 (I.RT c) (I.xk c k)) (ex2 (I.RT c) (I.xk c k)) (sc1 (I.RT c) (I.xk c k)) (sc2 (I.RT c) (I.xk c k)))

/-- The sum of the parts of the first expert; -/
def acc1 (c : Dev nD) (k : ℕ) : FVec F S256x1024 .f32 := I.ctr c k 0 0#32
/-- of the first two; -/
def acc2 (c : Dev nD) (k : ℕ) : FVec F S256x1024 .f32 := addf (I.acc1 c k) (I.ctr c k 1 1#32)
/-- of the first three; -/
def acc3 (c : Dev nD) (k : ℕ) : FVec F S256x1024 .f32 := addf (I.acc2 c k) (I.ctr c k 2 2#32)
/-- of all four, on the first rows of the chunk, -/
def accT (c : Dev nD) (k : ℕ) : FVec F S128x1024 .f32 :=
  addf (top (I.acc3 c k)) (partH (top (I.xk c k)) (I.W1 c 3) (I.W2 c 3)
    (weight0 (exNo (yWord c) 3#32) (ex1 (I.RT c) (I.xk c k)) (ex2 (I.RT c) (I.xk c k)) (sc1 (I.RT c) (I.xk c k)) (sc2 (I.RT c) (I.xk c k))))
/-- and on the last. -/
def accB (c : Dev nD) (k : ℕ) : FVec F S128x1024 .f32 :=
  addf (bot (I.acc3 c k)) (partH (bot (I.xk c k)) (I.W1 c 3) (I.W2 c 3)
    (weight1 (exNo (yWord c) 3#32) (ex1 (I.RT c) (I.xk c k)) (ex2 (I.RT c) (I.xk c k)) (sc1 (I.RT c) (I.xk c k)) (sc2 (I.RT c) (I.xk c k))))

/-- What lands at step `t` of the reduce-scatter: first rows, -/
def rsT : ℕ → Dev nD → FVec F S128x1024 .f32
  | 0, c => I.accT (left c) 1
  | t + 1, c => addf (rsT t (left c)) (I.accT (left c) (t + 2))
/-- and last rows. -/
def rsB : ℕ → Dev nD → FVec F S128x1024 .f32
  | 0, c => I.accB (left c) 1
  | t + 1, c => addf (rsB t (left c)) (I.accB (left c) (t + 2))

/-- Two halves of a chunk put together. -/
def join (a b : FVec F S128x1024 .f32) : FVec F S256x1024 .f32 := fun i =>
  if h : (i 0).val < 128 then a (ix2 (n0 := 128) (n1 := 1024) ⟨(i 0).val, h⟩ (i 1))
  else b (ix2 (n0 := 128) (n1 := 1024) ⟨(i 0).val - 128, by have : (i 0).val < 256 := (i 0).isLt; omega⟩ (i 1))

/-- Device `c`'s rows of the result. -/
def out (c : Dev nD) : FVec F S256x1024 .f32 :=
  addf (join (I.rsT 2 c) (I.rsB 2 c)) (join (I.accT c 0) (I.accB c 0))
end Inp

end Cert.Moe

end
-- ==== Proof.Slots.lean ====
/-
  The pieces of the scratch buffers and of the weights that copies move: each as the memref the kernel names, and
  how a load or a store of the same elements meets it.
-/
module

public import proofs.«01_k».proof.Proof.Own
public import proofs.«01_k».proof.Proof.Values

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## Rows that arrive, router rows that arrive, partial sums that arrive -/

abbrev agS0 : Memref sig .tc .vmem S256x1024 .f32 :=
  (mAG.slice (Rect.unit (s := S3x256x1024) ![0, 0, 0] S1x256x1024.size inb_S3x256x1024_S1x256x1024_0_0_0) (fun _ => rfl)).squeeze S256x1024 squeezes_S1x256x1024_S256x1024
abbrev agS1 : Memref sig .tc .vmem S256x1024 .f32 :=
  (mAG.slice (Rect.unit (s := S3x256x1024) ![1, 0, 0] S1x256x1024.size inb_S3x256x1024_S1x256x1024_1_0_0) (fun _ => rfl)).squeeze S256x1024 squeezes_S1x256x1024_S256x1024
abbrev agS2 : Memref sig .tc .vmem S256x1024 .f32 :=
  (mAG.slice (Rect.unit (s := S3x256x1024) ![2, 0, 0] S1x256x1024.size inb_S3x256x1024_S1x256x1024_2_0_0) (fun _ => rfl)).squeeze S256x1024 squeezes_S1x256x1024_S256x1024
abbrev rgS0 : Memref sig .tc .vmem S4x1024 .f32 :=
  (mRG.slice (Rect.unit (s := S3x4x1024) ![0, 0, 0] S1x4x1024.size inb_S3x4x1024_S1x4x1024_0_0_0) (fun _ => rfl)).squeeze S4x1024 squeezes_S1x4x1024_S4x1024
abbrev rgS1 : Memref sig .tc .vmem S4x1024 .f32 :=
  (mRG.slice (Rect.unit (s := S3x4x1024) ![1, 0, 0] S1x4x1024.size inb_S3x4x1024_S1x4x1024_1_0_0) (fun _ => rfl)).squeeze S4x1024 squeezes_S1x4x1024_S4x1024
abbrev rgS2 : Memref sig .tc .vmem S4x1024 .f32 :=
  (mRG.slice (Rect.unit (s := S3x4x1024) ![2, 0, 0] S1x4x1024.size inb_S3x4x1024_S1x4x1024_2_0_0) (fun _ => rfl)).squeeze S4x1024 squeezes_S1x4x1024_S4x1024
abbrev rsS00 : Memref sig .tc .vmem S128x1024 .f32 :=
  (mRS.slice (Rect.unit (s := S3x256x1024) ![0, 0, 0] S1x128x1024.size inb_S3x256x1024_S1x128x1024_0_0_0) (fun _ => rfl)).squeeze S128x1024 squeezes_S1x128x1024_S128x1024
abbrev rsS01 : Memref sig .tc .vmem S128x1024 .f32 :=
  (mRS.slice (Rect.unit (s := S3x256x1024) ![0, 128, 0] S1x128x1024.size inb_S3x256x1024_S1x128x1024_0_128_0) (fun _ => rfl)).squeeze S128x1024 squeezes_S1x128x1024_S128x1024
abbrev rsS10 : Memref sig .tc .vmem S128x1024 .f32 :=
  (mRS.slice (Rect.unit (s := S3x256x1024) ![1, 0, 0] S1x128x1024.size inb_S3x256x1024_S1x128x1024_1_0_0) (fun _ => rfl)).squeeze S128x1024 squeezes_S1x128x1024_S128x1024
abbrev rsS11 : Memref sig .tc .vmem S128x1024 .f32 :=
  (mRS.slice (Rect.unit (s := S3x256x1024) ![1, 128, 0] S1x128x1024.size inb_S3x256x1024_S1x128x1024_1_128_0) (fun _ => rfl)).squeeze S128x1024 squeezes_S1x128x1024_S128x1024
abbrev rsS20 : Memref sig .tc .vmem S128x1024 .f32 :=
  (mRS.slice (Rect.unit (s := S3x256x1024) ![2, 0, 0] S1x128x1024.size inb_S3x256x1024_S1x128x1024_2_0_0) (fun _ => rfl)).squeeze S128x1024 squeezes_S1x128x1024_S128x1024
abbrev rsS21 : Memref sig .tc .vmem S128x1024 .f32 :=
  (mRS.slice (Rect.unit (s := S3x256x1024) ![2, 128, 0] S1x128x1024.size inb_S3x256x1024_S1x128x1024_2_128_0) (fun _ => rfl)).squeeze S128x1024 squeezes_S1x128x1024_S128x1024

/-! ## The weights' two slots, and the experts they are copied from -/

abbrev v1S0 : Memref sig .tc .vmem S1024x2048 .f32 :=
  (mV1.slice (Rect.unit (s := S2x1024x2048) ![0, 0, 0] S1x1024x2048.size inb_S2x1024x2048_S1x1024x2048_0_0_0) (fun _ => rfl)).squeeze S1024x2048 squeezes_S1x1024x2048_S1024x2048
abbrev v1S1 : Memref sig .tc .vmem S1024x2048 .f32 :=
  (mV1.slice (Rect.unit (s := S2x1024x2048) ![1, 0, 0] S1x1024x2048.size inb_S2x1024x2048_S1x1024x2048_1_0_0) (fun _ => rfl)).squeeze S1024x2048 squeezes_S1x1024x2048_S1024x2048
abbrev v2S0 : Memref sig .tc .vmem S2048x1024 .f32 :=
  (mV2.slice (Rect.unit (s := S2x2048x1024) ![0, 0, 0] S1x2048x1024.size inb_S2x2048x1024_S1x2048x1024_0_0_0) (fun _ => rfl)).squeeze S2048x1024 squeezes_S1x2048x1024_S2048x1024
abbrev v2S1 : Memref sig .tc .vmem S2048x1024 .f32 :=
  (mV2.slice (Rect.unit (s := S2x2048x1024) ![1, 0, 0] S1x2048x1024.size inb_S2x2048x1024_S1x2048x1024_1_0_0) (fun _ => rfl)).squeeze S2048x1024 squeezes_S1x2048x1024_S2048x1024
abbrev w1E0 : Memref sig .tc .hbm S1024x2048 .f32 :=
  (mW1.slice (Rect.unit (s := S4x1024x2048) ![0, 0, 0] S1x1024x2048.size inb_S4x1024x2048_S1x1024x2048_0_0_0) (fun _ => rfl)).squeeze S1024x2048 squeezes_S1x1024x2048_S1024x2048
abbrev w1E1 : Memref sig .tc .hbm S1024x2048 .f32 :=
  (mW1.slice (Rect.unit (s := S4x1024x2048) ![1, 0, 0] S1x1024x2048.size inb_S4x1024x2048_S1x1024x2048_1_0_0) (fun _ => rfl)).squeeze S1024x2048 squeezes_S1x1024x2048_S1024x2048
abbrev w1E2 : Memref sig .tc .hbm S1024x2048 .f32 :=
  (mW1.slice (Rect.unit (s := S4x1024x2048) ![2, 0, 0] S1x1024x2048.size inb_S4x1024x2048_S1x1024x2048_2_0_0) (fun _ => rfl)).squeeze S1024x2048 squeezes_S1x1024x2048_S1024x2048
abbrev w1E3 : Memref sig .tc .hbm S1024x2048 .f32 :=
  (mW1.slice (Rect.unit (s := S4x1024x2048) ![3, 0, 0] S1x1024x2048.size inb_S4x1024x2048_S1x1024x2048_3_0_0) (fun _ => rfl)).squeeze S1024x2048 squeezes_S1x1024x2048_S1024x2048
abbrev w2E0 : Memref sig .tc .hbm S2048x1024 .f32 :=
  (mW2.slice (Rect.unit (s := S4x2048x1024) ![0, 0, 0] S1x2048x1024.size inb_S4x2048x1024_S1x2048x1024_0_0_0) (fun _ => rfl)).squeeze S2048x1024 squeezes_S1x2048x1024_S2048x1024
abbrev w2E1 : Memref sig .tc .hbm S2048x1024 .f32 :=
  (mW2.slice (Rect.unit (s := S4x2048x1024) ![1, 0, 0] S1x2048x1024.size inb_S4x2048x1024_S1x2048x1024_1_0_0) (fun _ => rfl)).squeeze S2048x1024 squeezes_S1x2048x1024_S2048x1024
abbrev w2E2 : Memref sig .tc .hbm S2048x1024 .f32 :=
  (mW2.slice (Rect.unit (s := S4x2048x1024) ![2, 0, 0] S1x2048x1024.size inb_S4x2048x1024_S1x2048x1024_2_0_0) (fun _ => rfl)).squeeze S2048x1024 squeezes_S1x2048x1024_S2048x1024
abbrev w2E3 : Memref sig .tc .hbm S2048x1024 .f32 :=
  (mW2.slice (Rect.unit (s := S4x2048x1024) ![3, 0, 0] S1x2048x1024.size inb_S4x2048x1024_S1x2048x1024_3_0_0) (fun _ => rfl)).squeeze S2048x1024 squeezes_S1x2048x1024_S2048x1024

section Step
variable {Ix : Type} [DecidableEq Ix]
variable {Val : EltTy → Type} [∀ e, Nonempty (Val e)] {Name : Type} [DecidableEq Name]
variable {U : Type} [URA U] {Lvl : Type}
local notation "𝕄" => MT nD τ sig Ix Val Name U Lvl
variable {s s' : Shape} {e : EltTy}

/-- A slot taken as a matrix, held at `x`, is the rectangle held at `x` with its unit axis back. -/
theorem own_squeeze (c : Thread nD τ) {cs : Space} (m : Memref sig c.2.kind cs s e) (R : Rect s) (hR : ∀ a, R.stride a = 1) (hs : R.shape.Squeezes s')
    (hn : s'.ShapeCasts R.shape) (q : PosShare TreeShare) (x : s'.Idx → Val e) :
    (own c ((m.slice R hR).squeeze s' hs).view q x : sProp 𝕄) = own c (m.view.slice R) q (shapeCast R.shape x hn) := by
  refine own_reshape c (m.view.slice R) hs.numel_eq q x _ fun i => ?_
  show x i = x (Shape.reshapeEquiv _ (Shape.reshapeEquiv _ i))
  rw [Shape.reshapeEquiv_reshapeEquiv, Shape.reshapeEquiv_self]

/-- The same at contents not chosen. -/
theorem any_squeeze (c : Thread nD τ) {cs : Space} (m : Memref sig c.2.kind cs s e) (R : Rect s) (hR : ∀ a, R.stride a = 1) (hs : R.shape.Squeezes s') :
    (any c ((m.slice R hR).squeeze s' hs).view : sProp 𝕄) = any c (m.view.slice R) := by
  have h : ((m.slice R hR).squeeze s' hs).view.set = (m.view.slice R).set := View.set_reshape (m.view.slice R) hs.numel_eq
  unfold any
  rw [h]

section
variable [Preorder Lvl] {Λ : Labels} {defs : Defs nD τ sig Val Λ} (𝒱 : Variants) (c : Thread nD τ) (bd : Option 𝒱.V)
  (E : Set Name) {α : Type} {Q : α → sProp (MT nD τ sig Ix Val Name U Lvl)}

/-- A load of a slot held as a matrix. -/
theorem wp_ldS {cs : CoreSpace} {m : Memref sig c.2.kind cs s e} {off size : Fin s.rank → ℕ}
    {inb : ∀ a, off a + size a ≤ s.size a} {hR} {hs : (Rect.unit off size inb).shape.Squeezes s'}
    {hl : m.view.LoadsAt (Rect.unit off size inb).toLoadRect}
    {k : ((Rect.unit off size inb).shape.Idx → Val e) → Prog (TpuEff nD τ sig Val Λ c.2) α}
    {q : PosShare TreeShare} (x : s'.Idx → Val e) (hn : s'.ShapeCasts (Rect.unit off size inb).shape) :
    (own c ((m.slice (Rect.unit off size inb) hR).squeeze s' hs).view q x : sProp 𝕄)
      ⊢ iprop((own c ((m.slice (Rect.unit off size inb) hR).squeeze s' hs).view q x -∗ wp frame (wpE defs 𝒱 c bd) E (k (shapeCast (Rect.unit off size inb).shape x hn)) Q)
        -∗ wp frame (wpE defs 𝒱 c bd) E (.op (.load m (Rect.unit off size inb).toLoadRect hl) k) Q) := by
  rw [own_squeeze c m _ hR hs hn]
  exact wp_ld 𝒱 c bd E _ rfl

/-- A store to a slot. -/
theorem wp_stS {cs : CoreSpace} {m : Memref sig c.2.kind cs s e} {off size : Fin s.rank → ℕ}
    {inb : ∀ a, off a + size a ≤ s.size a} {hR} {hs : (Rect.unit off size inb).shape.Squeezes s'}
    {w : (Rect.unit off size inb).shape.Idx → Val e}
    {hx : (m.access (Rect.unit off size inb)).Stores Finset.univ} {hm}
    {k : PUnit → Prog (TpuEff nD τ sig Val Λ c.2) α} (x : s'.Idx → Val e) (hn : s'.ShapeCasts (Rect.unit off size inb).shape)
    (hw : w = shapeCast (Rect.unit off size inb).shape x hn) :
    (any c ((m.slice (Rect.unit off size inb) hR).squeeze s' hs).view : sProp 𝕄)
      ⊢ iprop((own c ((m.slice (Rect.unit off size inb) hR).squeeze s' hs).view fullShare x -∗ wp frame (wpE defs 𝒱 c bd) E (k ⟨⟩) Q)
        -∗ wp frame (wpE defs 𝒱 c bd) E (.op (.store m (Rect.unit off size inb) w Finset.univ hx hm) k) Q) := by
  subst hw
  rw [own_squeeze c m _ hR hs hn, any_squeeze c m _ hR hs]
  exact wp_st 𝒱 c bd E rfl

/-- A load of a whole buffer. -/
theorem wp_ldW {cs : CoreSpace} {m : Memref sig c.2.kind cs s e} {off : Fin s.rank → ℕ}
    {inb : ∀ a, off a + s.size a ≤ s.size a}
    {hl : m.view.LoadsAt (Rect.unit off s.size inb).toLoadRect}
    {k : (s.Idx → Val e) → Prog (TpuEff nD τ sig Val Λ c.2) α}
    {q : PosShare TreeShare} (x : s.Idx → Val e) :
    (own c m.view q x : sProp 𝕄)
      ⊢ iprop((own c m.view q x -∗ wp frame (wpE defs 𝒱 c bd) E (k x) Q)
        -∗ wp frame (wpE defs 𝒱 c bd) E (.op (.load m (Rect.unit off s.size inb).toLoadRect hl) k) Q) := by
  rw [← own_full c m.view inb q x]
  exact wp_ld 𝒱 c bd E _ rfl

end

end Step

end Cert.Moe

end
-- ==== Proof.Proto.lean ====
/-
  The protocol between the devices: for each semaphore who pays it, how much, and what holdings a payment hands over.

  * Barrier: each device signals the previous one (false) and the next one (true) and waits for both. The signal to the
    previous device lends it every landing buffer, and says that the landing semaphores are open.
  * Landing semaphores 6-8 (rows), 12-14 (router), 21-26 (partial sums): paid by the previous device's copy with the
    landing slot, at the contents named here.
  * Departure semaphores 3-5, 9-11, 15-20: paid by the device's own copy with the source back.
  * Semaphores 27-30 (weights): paid twice by the device's own local copies, with the slot written and the source back.
-/
module

public import proofs.«01_k».proof.Proof.Slots

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Cells and amounts -/

abbrev barS : Sem sig := ⟨0, by decide⟩
abbrev gb (c : Dev nD) : GSem nD τ sig := ((c : Thread nD τ), .reg barS)
abbrev gd (c : Dev nD) (q : DmaSem sig) : GSem nD τ sig := ((c : Thread nD τ), .dma q)

/-- What one copy onto a semaphore counts. -/
def amt (q : DmaSem sig) : ℕ :=
  if q.val < 9 then agS0.view.dmaCredit else if q.val < 15 then rgS0.view.dmaCredit else if q.val < 27 then rsS00.view.dmaCredit
  else if q.val < 29 then v1S0.view.dmaCredit else v2S0.view.dmaCredit

theorem amt_pos (q : DmaSem sig) : 0 < amt q := by
  unfold amt
  split_ifs <;> exact View.dmaCredit_pos _ (by decide)

/-! ## Payloads -/

variable (I : Inp F)

namespace Inp
/-- What departs at step `t` of the reduce-scatter, first rows; -/
def snT (d : Dev nD) : ℕ → FVec F S128x1024 .f32
  | 0 => I.accT d 1
  | t + 1 => addf (I.rsT t d) (I.accT d (t + 2))
/-- last rows. -/
def snB (d : Dev nD) : ℕ → FVec F S128x1024 .f32
  | 0 => I.accB d 1
  | t + 1 => addf (I.rsB t d) (I.accB d (t + 2))
theorem rsT_right (t : ℕ) (d : Dev nD) : I.rsT t (right d) = I.snT d t := by
  cases t <;> simp only [rsT, snT, left_right]
theorem rsB_right (t : ℕ) (d : Dev nD) : I.rsB t (right d) = I.snB d t := by
  cases t <;> simp only [rsB, snB, left_right]
end Inp

/-- What a payment of semaphore `q` of device `d` at round `r` hands over. -/
def pay (d : Dev nD) (q r : ℕ) : sProp 𝕄 :=
  match q with
  | 3 => own d mX.view fullShare.left (I.x d)
  | 4 => own d agS0.view fullShare.left (I.xk d 1)
  | 5 => own d agS1.view fullShare.left (I.xk d 2)
  | 6 => own d agS0.view fullShare (I.xk d 1)
  | 7 => own d agS1.view fullShare (I.xk d 2)
  | 8 => own d agS2.view fullShare (I.xk d 3)
  | 9 => own d mRT.view fullShare (I.rt d)
  | 10 => own d rgS0.view fullShare (I.rt (back 1 d))
  | 11 => own d rgS1.view fullShare (I.rt (back 2 d))
  | 12 => own d rgS0.view fullShare (I.rt (back 1 d))
  | 13 => own d rgS1.view fullShare (I.rt (back 2 d))
  | 14 => own d rgS2.view fullShare (I.rt (back 3 d))
  | 15 => own d (mAcc.access (halfR (org d 1) 0 (org_lt d 1) (by decide))) fullShare (I.snT d 0)
  | 16 => own d (mAcc.access (halfR (org d 1) 128 (org_lt d 1) (by decide))) fullShare (I.snB d 0)
  | 17 => own d rsS00.view fullShare (I.snT d 1)
  | 18 => own d rsS01.view fullShare (I.snB d 1)
  | 19 => own d rsS10.view fullShare (I.snT d 2)
  | 20 => own d rsS11.view fullShare (I.snB d 2)
  | 21 => own d rsS00.view fullShare (I.rsT 0 d)
  | 22 => own d rsS01.view fullShare (I.rsB 0 d)
  | 23 => own d rsS10.view fullShare (I.rsT 1 d)
  | 24 => own d rsS11.view fullShare (I.rsB 1 d)
  | 25 => own d rsS20.view fullShare (I.rsT 2 d)
  | 26 => own d rsS21.view fullShare (I.rsB 2 d)
  | 27 => if r = 0 then iprop(own d v1S0.view fullShare (I.W1 d 0) ∗ own d w1E0.view fullShare (I.W1 d 0))
      else iprop(own d v1S0.view fullShare (I.W1 d 2) ∗ own d w1E2.view fullShare (I.W1 d 2))
  | 28 => if r = 0 then iprop(own d v1S1.view fullShare (I.W1 d 1) ∗ own d w1E1.view fullShare (I.W1 d 1))
      else iprop(own d v1S1.view fullShare (I.W1 d 3) ∗ own d w1E3.view fullShare (I.W1 d 3))
  | 29 => if r = 0 then iprop(own d v2S0.view fullShare (I.W2 d 0) ∗ own d w2E0.view fullShare (I.W2 d 0))
      else iprop(own d v2S0.view fullShare (I.W2 d 2) ∗ own d w2E2.view fullShare (I.W2 d 2))
  | 30 => if r = 0 then iprop(own d v2S1.view fullShare (I.W2 d 1) ∗ own d w2E1.view fullShare (I.W2 d 1))
      else iprop(own d v2S1.view fullShare (I.W2 d 3) ∗ own d w2E3.view fullShare (I.W2 d 3))
  | _ => iprop(emp)

/-- The landing semaphores. -/
def land : Finset (DmaSem sig) := Finset.univ.filter fun q => (6 ≤ q.val ∧ q.val < 9) ∨ (12 ≤ q.val ∧ q.val < 15) ∨ (21 ≤ q.val ∧ q.val < 27)

/-- Device `d`'s landing buffers, at contents not chosen. -/
def lend (d : Dev nD) : sProp 𝕄 :=
  iprop(any d agS0.view ∗ any d agS1.view ∗ any d agS2.view ∗ any d rgS0.view ∗ any d rgS1.view ∗ any d rgS2.view
    ∗ any d rsS00.view ∗ any d rsS01.view ∗ any d rsS10.view ∗ any d rsS11.view ∗ any d rsS20.view ∗ any d rsS21.view)

/-- Device `d`'s landing semaphores are open. -/
def opn (d : Dev nD) : sProp 𝕄 := bigSep land fun q => reached ER (gd d q) 0
instance opn_persistent (d : Dev nD) : BI.Persistent (opn (F := F) d) := by unfold opn; infer_instance

/-- What the signal of the next device hands over. -/
def barPay (d : Dev nD) : sProp 𝕄 := iprop(lend d ∗ opn d)

/-- One or two payments at the barrier, one at each copy. -/
def sched : Rounds.Schedule (GSem nD τ sig) Bool 𝕄 where
  duties g r := match g.2 with
    | .reg _ => if r = 0 then {false, true} else ∅
    | .dma q => if r = 0 ∨ (r = 1 ∧ 27 ≤ q.val) then {false} else ∅
  unitless _ := False
  amount g _ _ := match g.2 with
    | .reg _ => 1
    | .dma q => amt q
  payload g r d := match g.2 with
    | .reg _ => if d then iprop(emp) else barPay (right g.1.1)
    | .dma q => pay I g.1.1 q.val r
  amount_pos g _ _ _ := by
    rcases g with ⟨_, _ | q⟩
    · exact Nat.one_pos
    · exact amt_pos q

instance pay_storable (d : Dev nD) (q r : ℕ) : BI.Storable (upEmb : UEmb _ 𝕄) (pay I d q r) := by
  unfold pay
  (repeat' split) <;> infer_instance

instance any_storable (d : Dev nD) {sp : Space} {s : Shape} {e : EltTy} (v : View sig .tc sp s e) :
    BI.Storable (upEmb : UEmb _ 𝕄) (any (d : Thread nD τ) v) := by unfold any; infer_instance

theorem sep_storable {P R : sProp 𝕄} (h : BI.Storable (upEmb : UEmb _ 𝕄) P) (h' : BI.Storable (upEmb : UEmb _ 𝕄) R) :
    BI.Storable (upEmb : UEmb _ 𝕄) iprop(P ∗ R) := inferInstance

instance lend_storable (d : Dev nD) : BI.Storable (upEmb : UEmb _ 𝕄) (lend (F := F) d) := by
  unfold lend
  iterate 11 refine sep_storable (any_storable d _) ?_
  exact any_storable d _

instance opn_storable (d : Dev nD) : BI.Storable (upEmb : UEmb _ 𝕄) (opn (F := F) d) := by unfold opn; infer_instance

instance barPay_storable (d : Dev nD) : BI.Storable (upEmb : UEmb _ 𝕄) (barPay (F := F) d) := sep_storable (lend_storable d) (opn_storable d)

instance sched_payload_storable (g : GSem nD τ sig) (r : ℕ) (d : Bool) :
    BI.Storable (upEmb : UEmb _ 𝕄) ((sched I).payload g r d) := by
  rcases g with ⟨t, _ | q⟩
  · show BI.Storable upEmb (if d then iprop(emp) else barPay (right t.1))
    split <;> infer_instance
  · exact pay_storable I t.1 q.val r

section Sched
variable (c : Dev nD) (q : DmaSem sig) (r : ℕ)

theorem duties_bar : (sched I).duties (gb c) 0 = {false, true} := rfl
theorem duties_dma (h : r = 0 ∨ (r = 1 ∧ 27 ≤ q.val)) : (sched I).duties (gd c q) r = {false} := if_pos h
theorem duties_bar_later : ∀ r, 1 ≤ r → (sched I).duties (gb c) r = ∅ := fun r h => if_neg (by omega)
theorem duties_dma_later (h : q.val < 27) : ∀ r, 1 ≤ r → (sched I).duties (gd c q) r = ∅ := fun r hr => if_neg (by omega)
theorem duties_dma_later2 : ∀ r, 2 ≤ r → (sched I).duties (gd c q) r = ∅ := fun r hr => if_neg (by omega)

theorem payload_dma (d : Bool) : (sched I).payload (gd c q) r d = pay I c q.val r := rfl
theorem amount_dma (d : Bool) : (sched I).amount (gd c q) r d = amt q := rfl
attribute [irreducible] amt pay

theorem mem_duties (d : Dev nD) (h : r = 0 ∨ (r = 1 ∧ 27 ≤ q.val)) : false ∈ (sched I).duties (gd d q) r := by
  rw [duties_dma I d q r h]; exact Finset.mem_singleton_self _

theorem expect_bar : (sched I).expect (gb c) 0 = 2 := by
  unfold Schedule.expect Schedule.amountOf; rw [duties_bar]; rfl
theorem expect_dma (h : r = 0 ∨ (r = 1 ∧ 27 ≤ q.val)) : (sched I).expect (gd c q) r = amt q := by
  unfold Schedule.expect Schedule.amountOf; rw [duties_dma I c q r h, Finset.sum_singleton, amount_dma]

theorem rest_bar : bigSep ((sched I).duties (gb c) 0 \ ∅) (fun u => (sched I).payload (gb c) 0 u) = iprop(barPay (F := F) (right c) ∗ emp) := by
  rw [Finset.sdiff_empty, duties_bar, show ({false, true} : Finset Bool) = Finset.univ from by decide,
    bigSep_univ_eq_bigSepL [false, true] (by decide) (by decide), bigSepL_cons_cons, bigSepL_singleton]
  rfl
theorem rest_dma (h : r = 0 ∨ (r = 1 ∧ 27 ≤ q.val)) :
    bigSep ((sched I).duties (gd c q) r \ ∅) (fun u => (sched I).payload (gd c q) r u) = pay I c q.val r := by
  rw [Finset.sdiff_empty, duties_dma I c q r h, bigSep_singleton, payload_dma]

end Sched

/-! ## What is owed, and the levels -/

/-- What device `c` owes its next device: one copy onto each semaphore of the list. -/
def owe (c : Dev nD) : List (DmaSem sig) → CellTallies nD τ sig Unit
  | [] => 0
  | q :: l => owe c l + tallyAt (gd (right c) q) () (amt q)

/-- The landings device `c` pays, in the order of its copies. -/
abbrev order : List (DmaSem sig) := [6, 12, 13, 14, 7, 8, 21, 22, 23, 24, 25, 26]

/-- What device `c` owes at the launch. -/
def O₀ (c : Dev nD) : CellTallies nD τ sig Unit := owe c order + tallyAt (gb (right c)) () 1 + tallyAt (gb (left c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: those of the landings rise in the order in which they are waited for. -/
def lvl (q : ℕ) : ℕ :=
  if 12 ≤ q ∧ q < 15 then q - 10 else if 6 ≤ q ∧ q < 9 then q - 1 else if 21 ≤ q ∧ q < 27 then q - 13 else 0
def lv (g : GSem nD τ sig) (_ : Unit) : ℕ := match g.2 with
  | .reg _ => 1
  | .dma q => lvl q.val

theorem owe_pos (c : Dev nD) : ∀ (l : List (DmaSem sig)) (g : GSem nD τ sig) (u : Unit), 0 < owe c l g u → ∃ q ∈ l, g = gd (right c) q
  | [], g, u, h => absurd h (by show ¬ 0 < (0 : CellTallies nD τ sig Unit) g u; simp)
  | q :: l, g, u, h => by
    unfold owe at h
    rw [Pi.add_apply, Finsupp.add_apply] at h
    rcases Nat.add_pos_iff_pos_or_pos.mp h with h | h
    · obtain ⟨q', hq', rfl⟩ := owe_pos c l g u h
      exact ⟨q', List.mem_cons_of_mem _ hq', rfl⟩
    · rw [tallyAt_apply] at h
      split at h
      · next hg => exact ⟨q, List.mem_cons_self, hg.1⟩
      · exact absurd h (Nat.lt_irrefl 0)

/-- A wait at a level below every landing still owed. -/
theorem mayWait (c : Dev nD) (sm : SemLoc sig) (l : List (DmaSem sig)) (hl : ∀ q ∈ l, lv ((c : Thread nD τ), sm) () < lvl q.val) :
    (levAts L lv : sProp 𝕄) ⊢ MayWait (c : Thread nD τ) sm () (owe c l) :=
  MayOwe.of_cut (L := L) (lev := lv) (lv ((c : Thread nD τ), sm) ())
    (fun p hp => by rw [Finset.mem_singleton.mp hp, L_tc]; exact Finset.mem_singleton_self _)
    (fun g u hg => by
      obtain ⟨q, _, rfl⟩ := owe_pos c l g u hg
      rw [L_tc]; exact Finset.mem_singleton_self _)
    (fun p hp => by rw [Finset.mem_singleton.mp hp])
    (fun g u hg => by
      obtain ⟨q, hq, rfl⟩ := owe_pos c l g u hg
      exact hl q hq)

/-! ## The ghost state of a device -/

/-- The semaphores of the kernel's own. -/
def mine : Finset (DmaSem sig) := Finset.univ.filter fun q => 3 ≤ q.val

/-- The invariants device `c` uses, and the levels. -/
def Env (K : GSem nD τ sig → ℕ) (c : Dev nD) : sProp 𝕄 :=
  iprop(levAts L lv ∗ cellInv ER (sched I) (K (gb c)) (gb c) ∗ cellInv ER (sched I) (K (gb (left c))) (gb (left c)) ∗ cellInv ER (sched I) (K (gb (right c))) (gb (right c))
    ∗ reached ER (gb (left c)) 0 ∗ reached ER (gb (right c)) 0
    ∗ (bigSep mine fun q => cellInv ER (sched I) (K (gd c q)) (gd c q))
    ∗ (bigSep mine fun q => cellInv ER (sched I) (K (gd (right c) q)) (gd (right c) q)))

instance Env_persistent (K : GSem nD τ sig → ℕ) (c : Dev nD) : BI.Persistent (Env I K c) := by unfold Env; infer_instance

/-- Device `c`'s place on semaphore `q`, before round `r`. -/
def Don (c : Dev nD) (q : DmaSem sig) (r : ℕ) : sProp 𝕄 := iprop(atPos ER (gd c q) r ∅ 0 ∗ reached ER (gd c q) r)
/-- A copy onto semaphore `q` is on its way, to be waited for in round `r`. -/
def Fly (c : Dev nD) (q : DmaSem sig) (r : ℕ) : sProp 𝕄 := iprop(cred (tallyAt (gd c q) () (amt q)) ∗ Don c q r)
/-- The right to make the local copy of round `r`. -/
def Cpy (c : Dev nD) (q : DmaSem sig) (r : ℕ) : sProp 𝕄 := iprop(dutyTok ER (gd c q) r false ∗ Don c q r)
/-- The right to make the remote copy that departs on `i` and lands on `j` of the next device. -/
def Snd (c : Dev nD) (i j : DmaSem sig) : sProp 𝕄 := iprop(dutyTok ER (gd c i) 0 false ∗ dutyTok ER (gd (right c) j) 0 false ∗ Don c i 0)
/-- What device `c` owes. -/
def Ow (c : Dev nD) (l : List (DmaSem sig)) : sProp 𝕄 := iprop(∃ W, owes (c : Thread nD τ) (owe c l) W)

theorem Env_own (K : GSem nD τ sig → ℕ) (c : Dev nD) (q : DmaSem sig) (h : 3 ≤ q.val) :
    Env I K c ⊢ cellInv ER (sched I) (K (gd c q)) (gd c q) := by
  unfold Env
  iintro ⟨-, -, -, -, -, -, H, -⟩
  have he : (bigSep mine fun q => cellInv ER (sched I) (K (gd c q)) (gd c q) : sProp 𝕄) ⊢ cellInv ER (sched I) (K (gd c q)) (gd c q) :=
    bigSep_elim (Finset.mem_filter.mpr ⟨Finset.mem_univ q, h⟩)
  iapply he $$ H
theorem Env_nbr (K : GSem nD τ sig → ℕ) (c : Dev nD) (q : DmaSem sig) (h : 3 ≤ q.val) :
    Env I K c ⊢ cellInv ER (sched I) (K (gd (right c) q)) (gd (right c) q) := by
  unfold Env
  iintro ⟨-, -, -, -, -, -, -, H⟩
  have he : (bigSep mine fun q => cellInv ER (sched I) (K (gd (right c) q)) (gd (right c) q) : sProp 𝕄) ⊢ cellInv ER (sched I) (K (gd (right c) q)) (gd (right c) q) :=
    bigSep_elim (Finset.mem_filter.mpr ⟨Finset.mem_univ q, h⟩)
  iapply he $$ H
theorem Env_lev (K : GSem nD τ sig → ℕ) (c : Dev nD) : Env I K c ⊢ levAts L lv := by
  unfold Env
  iintro ⟨H, -⟩
  iexact H
theorem opn_at (d : Dev nD) (q : DmaSem sig) (h : q ∈ land) : opn (F := F) d ⊢ reached ER (gd d q) 0 := by
  unfold opn
  exact bigSep_elim h

/-! ## The steps -/

section Step
variable {α : Type} {Q : α → sProp (MT nD τ sig Unit (Elt F) ℕ UU ℕ)} (K : GSem nD τ sig → ℕ) (c : Dev nD)
local notation "wp₀" => wp frame (wpE (defs₀ (F := F)) 𝒱₀ (c : Thread nD τ) none) Set.univ

/-- A wait on a DMA semaphore: the payload comes. -/
theorem wp_wt (i : DmaSem sig) (r : ℕ) (l : List (DmaSem sig)) (P : sProp (MT nD τ sig Unit (Elt F) ℕ UU ℕ))
    (hi : 3 ≤ i.val ∧ (r = 0 ∨ (r = 1 ∧ 27 ≤ i.val))) (hl : ∀ q ∈ l, lvl i.val < lvl q.val) (hP : pay I c i.val r = P)
    {sem : DmaSem sig} (hsem : sem = i)
    {sp sp' : Space} {s s' : Shape} {e e' : EltTy} {src : Memref sig .tc sp' s' e'} {dst : Memref sig .tc sp s e} {hsrc hdst}
    (hN : dst.view.dmaCredit = amt i)
    {k : PUnit → Prog (TpuEff nD τ sig (Elt F) Λ₀ .tc) α} :
    iprop(Env I K c ∗ Fly c i r ∗ Ow c l)
      ⊢ iprop((Ow c l -∗ Don c i (r + 1) -∗ P -∗ wp₀ (k ⟨⟩) Q) -∗ wp₀ (.op (.waitDma2 sem src dst hsrc hdst) k) Q) := by
  subst hsem
  subst hP
  unfold Fly Ow Don
  iintro ⟨#HE, ⟨Hc, Hat, -⟩, ⟨%W, HO⟩⟩ Hk
  iapply (Rounds.wp_wait_rest_token 𝒱₀ ER (sched I) (c : Thread nD τ) none (κ := K (gd c sem)) (sm := .dma sem)
      (wpE_waitDma2_eq 𝒱₀ (c : Thread nD τ) none Set.univ) (Set.mem_univ _) () (O := owe c l) (W := W) (R := r) (m := 0) (T := ∅)
      ((Nat.zero_add _).trans (hN.trans (expect_dma I c sem r hi.2).symm))) $$ [Hc HO Hat]
  · isplitr; · iapply (Env_own I K c sem hi.1); iexact HE
    isplitl [Hc]; · rw [hN]; iexact Hc
    isplitl [HO]; · iexact HO
    isplitr; · iapply (mayWait c (.dma sem) l hl); iapply (Env_lev I K c); iexact HE
    iexact Hat
  iintro ⟨HO, Hat, #Hr, Hpay⟩
  ihave Hp := (Entails.of_eq (rest_dma I c sem r hi.2)) $$ Hpay
  iapply Hk $$ [HO] [Hat] [Hp]
  · iexists _; iexact HO
  · isplitl [Hat]; · iexact Hat
    iexact Hr
  · iexact Hp

/-- A local copy. -/
theorem wp_cp (i : DmaSem sig) (r : ℕ) (hi : 3 ≤ i.val ∧ (r = 0 ∨ (r = 1 ∧ 27 ≤ i.val)))
    {sem : DmaSem sig} (hsem : sem = i)
    {sp sp' : Space} {s : Shape} {e : EltTy} {src : Memref sig .tc sp s e} {dst : Memref sig .tc sp' s e} {hsrc hdst}
    {hty : DmaTarget.Typed (nD := nD) sp (.dma sem) (DmaTarget.here (p := .tc) dst)} (x : s.Idx → Elt F e)
    (hN : dst.view.amount (.dma i) = amt i)
    (hP : pay I c i.val r = iprop(own c dst.view fullShare x ∗ own c src.view fullShare x))
    {k : PUnit → Prog (TpuEff nD τ sig (Elt F) Λ₀ .tc) α} :
    iprop(Env I K c ∗ Cpy c i r ∗ any c dst.view ∗ own c src.view fullShare x)
      ⊢ iprop((Fly c i r -∗ wp₀ (k ⟨⟩) Q) -∗ wp₀ (.op (.enqueueDma src (.here dst) (.dma sem) hsrc hdst hty) k) Q) := by
  subst hsem
  unfold Fly Cpy Don
  iintro ⟨#HE, ⟨Htok, Hat, #Hr⟩, ⟨%f, Hd⟩, Hs⟩ Hk
  iapply (Rounds.wp_copy_pointsTo 𝒱₀ ER (sched I) (c : Thread nD τ) none (src := src) (dst := dst) (sem := .dma sem) (q := fullShare)
      (fs := src.view.rep x) (fd := f) (r := r) (d := false) (κ := K (gd c sem))
      (mem_duties I sem r c hi.2) () (amt sem) hN (amount_dma I c sem r false)
      (by
        rw [payload_dma, hP]
        exact BI.Laws.sep_mono_left (Entails.of_eq (own_of_copy (c : Thread nD τ) (c : Thread nD τ) src.view dst.view f x)))) $$ [Hs Hd Htok]
  · isplitr; · iapply (Env_own I K c sem hi.1); iexact HE
    isplitl [Hs]; · iexact Hs
    isplitl [Hd]; · iexact Hd
    isplitl [Htok]; · iexact Htok
    iexact Hr
  iintro Hc
  iapply Hk
  isplitl [Hc]; · iexact Hc
  isplitl [Hat]; · iexact Hat
  iexact Hr

/-- A remote copy to the next device: the departure is on its way, one landing less is owed. -/
theorem wp_sd (i j : DmaSem sig) (l : List (DmaSem sig)) (hi : 3 ≤ i.val ∧ 3 ≤ j.val ∧ j ∈ land)
    {c' : Dev nD} (hc' : c' = right c) {si sj : DmaSem sig} (hsi : si = i) (hsj : sj = j)
    {sp sp' : Space} {s : Shape} {e : EltTy} {src : Memref sig .tc sp s e} {dst : Memref sig .tc sp' s e} {hsc} {hsrc hdst}
    {hty : DmaTarget.Typed sp (.dma sj) (.remote (Dev.tc c') dst (.dma si) hsc)} (q : PosShare TreeShare) (x : s.Idx → Elt F e)
    (A : sProp (MT nD τ sig Unit (Elt F) ℕ UU ℕ)) (hA : A = own c src.view q x)
    (hN : dst.view.amount (.dma j) = amt i) (hN' : amt j = amt i)
    (hP : pay I c i.val 0 = A) (hP' : pay I (right c) j.val 0 = own (right c) dst.view fullShare x)
    {k : PUnit → Prog (TpuEff nD τ sig (Elt F) Λ₀ .tc) α} :
    iprop(Env I K c ∗ opn (right c) ∗ Snd c i j ∗ A ∗ any (right c) dst.view ∗ Ow c (j :: l))
      ⊢ iprop((Fly c i 0 -∗ Ow c l -∗ wp₀ (k ⟨⟩) Q) -∗ wp₀ (.op (.enqueueDma src (.remote (Dev.tc c') dst (.dma si) hsc) (.dma sj) hsrc hdst hty) k) Q) := by
  subst hc'
  subst hsi
  subst hsj
  subst hA
  unfold Fly Snd Don Ow
  iintro ⟨#HE, #Hop, ⟨Ht1, Ht2, Hat, #Hr⟩, Hs, ⟨%f, Hd⟩, ⟨%W, HO⟩⟩ Hk
  iapply (Rounds.wp_send_pointsTo 𝒱₀ ER (sched I) (c : Thread nD τ) none (c' := ((right c : Dev nD) : Thread nD τ)) (src := src) (dst := dst)
      (sS := .dma si) (sem := .dma sj) (q := q) (fs := src.view.rep x) (κ₁ := K (gd c si)) (κ₂ := K (gd (right c) sj))
      (r₁ := 0) (r₂ := 0) (d₁ := false) (d₂ := false) (fd := f)
      (mem_duties I si 0 c (.inl rfl)) (mem_duties I sj 0 (right c) (.inl rfl))
      () () (amt si) hN (amount_dma I c si 0 false) ((amount_dma I (right c) sj 0 false).trans hN') (O₀ := owe c (sj :: l)) (owe c l) (by rw [← hN']; rfl) (W := W)
      (Entails.of_eq ((payload_dma I c si 0 false).trans hP).symm)
      (by
        rw [payload_dma, hP']
        exact Entails.of_eq (own_of_copy (c : Thread nD τ) ((right c : Dev nD) : Thread nD τ) src.view dst.view f x))) $$ [Hs Hd HO Ht1 Ht2]
  · isplitr; · iapply (Env_own I K c si hi.1); iexact HE
    isplitr; · iapply (Env_nbr I K c sj hi.2.1); iexact HE
    isplitl [Hs]; · iexact Hs
    isplitl [Hd]; · iexact Hd
    isplitl [HO]; · iexact HO
    isplitl [Ht1]; · iexact Ht1
    isplitr; · iexact Hr
    isplitl [Ht2]; · iexact Ht2
    iapply (opn_at (right c) sj hi.2.2); iexact Hop
  iintro ⟨Hc, HO⟩
  iapply Hk $$ [Hc Hat] [HO]
  · isplitl [Hc]; · iexact Hc
    isplitl [Hat]; · iexact Hat
    iexact Hr
  · iexists W; iexact HO

end Step

end Cert.Moe

end
-- ==== Proof.Chunk.lean ====
/-
  Blocks of a buffer: a block in halves, a buffer in blocks, and stores at a value under another name.
-/
module

public import proofs.«01_k».proof.Proof.Proto

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Stores -/

section Step
variable {α : Type} {Q : α → sProp (MT nD τ sig Unit (Elt F) ℕ UU ℕ)} (c : Dev nD)
local notation "wp₀" => wp frame (wpE (defs₀ (F := F)) 𝒱₀ (c : Thread nD τ) none) Set.univ
variable {cs : CoreSpace} {s : Shape} {e : EltTy}

theorem ld {m : Memref sig .tc cs s e} {off off' size : Fin s.rank → ℕ}
    {inb : ∀ a, off a + size a ≤ s.size a} {inb' : ∀ a, off' a + size a ≤ s.size a}
    {hl : m.view.LoadsAt (Rect.unit off size inb).toLoadRect}
    {k : ((Rect.unit off size inb).shape.Idx → Elt F e) → Prog (TpuEff nD τ sig (Elt F) Λ₀ .tc) α}
    {q : PosShare TreeShare} (x : (Rect.unit off' size inb').shape.Idx → Elt F e) (ho : off = off') :
    (own (c : Thread nD τ) (m.access (Rect.unit off' size inb')) q x : sProp 𝕄)
      ⊢ iprop((own (c : Thread nD τ) (m.access (Rect.unit off' size inb')) q x -∗ wp₀ (k x) Q)
        -∗ wp₀ (.op (.load m (Rect.unit off size inb).toLoadRect hl) k) Q) := wp_ld 𝒱₀ (c : Thread nD τ) none Set.univ x ho

theorem ldA {m : Memref sig .tc cs s e} {off off' size : Fin s.rank → ℕ}
    {inb : ∀ a, off a + size a ≤ s.size a} {inb' : ∀ a, off' a + size a ≤ s.size a}
    {hl : m.view.LoadsAt (Rect.unit off size inb).toLoadRect}
    {k : ((Rect.unit off size inb).shape.Idx → Elt F e) → Prog (TpuEff nD τ sig (Elt F) Λ₀ .tc) α}
    (ho : off = off') :
    (any (c : Thread nD τ) (m.access (Rect.unit off' size inb')) : sProp 𝕄)
      ⊢ iprop((∀ x, any (c : Thread nD τ) (m.access (Rect.unit off' size inb')) -∗ wp₀ (k x) Q)
        -∗ wp₀ (.op (.load m (Rect.unit off size inb).toLoadRect hl) k) Q) := wp_ldAny 𝒱₀ (c : Thread nD τ) none Set.univ ho

/-- A store whose value goes by another name. -/
theorem stA {m : Memref sig .tc cs s e} {off off' size : Fin s.rank → ℕ}
    {inb : ∀ a, off a + size a ≤ s.size a} {inb' : ∀ a, off' a + size a ≤ s.size a}
    {w : (Rect.unit off size inb).shape.Idx → Elt F e}
    {hx : (m.access (Rect.unit off size inb)).Stores Finset.univ} {hm}
    {k : PUnit → Prog (TpuEff nD τ sig (Elt F) Λ₀ .tc) α} (x : (Rect.unit off' size inb').shape.Idx → Elt F e) (ho : off = off') (hw : w = x) :
    (any (c : Thread nD τ) (m.access (Rect.unit off' size inb')) : sProp 𝕄)
      ⊢ iprop((own (c : Thread nD τ) (m.access (Rect.unit off' size inb')) fullShare x -∗ wp₀ (k ⟨⟩) Q)
        -∗ wp₀ (.op (.store m (Rect.unit off size inb) w Finset.univ hx hm) k) Q) := by
  subst ho; subst hw
  exact wp_st 𝒱₀ (c : Thread nD τ) none Set.univ rfl

/-- A store over a value. -/
theorem stO {m : Memref sig .tc cs s e} {off off' size : Fin s.rank → ℕ}
    {inb : ∀ a, off a + size a ≤ s.size a} {inb' : ∀ a, off' a + size a ≤ s.size a}
    {w : (Rect.unit off size inb).shape.Idx → Elt F e}
    {hx : (m.access (Rect.unit off size inb)).Stores Finset.univ} {hm}
    {k : PUnit → Prog (TpuEff nD τ sig (Elt F) Λ₀ .tc) α} {y : (Rect.unit off' size inb').shape.Idx → Elt F e}
    (x : (Rect.unit off' size inb').shape.Idx → Elt F e) (ho : off = off') (hw : w = x) :
    (own (c : Thread nD τ) (m.access (Rect.unit off' size inb')) fullShare y : sProp 𝕄)
      ⊢ iprop((own (c : Thread nD τ) (m.access (Rect.unit off' size inb')) fullShare x -∗ wp₀ (k ⟨⟩) Q)
        -∗ wp₀ (.op (.store m (Rect.unit off size inb) w Finset.univ hx hm) k) Q) :=
  (any_of_own _ _ _).trans (stA c x ho hw)

variable {s' : Shape}
theorem ldS {m : Memref sig .tc cs s e} {off size : Fin s.rank → ℕ}
    {inb : ∀ a, off a + size a ≤ s.size a} {hR} {hs : (Rect.unit off size inb).shape.Squeezes s'}
    {hl : m.view.LoadsAt (Rect.unit off size inb).toLoadRect}
    {k : ((Rect.unit off size inb).shape.Idx → Elt F e) → Prog (TpuEff nD τ sig (Elt F) Λ₀ .tc) α}
    {q : PosShare TreeShare} (x : s'.Idx → Elt F e) (hn : s'.ShapeCasts (Rect.unit off size inb).shape) :
    (own (c : Thread nD τ) ((m.slice (Rect.unit off size inb) hR).squeeze s' hs).view q x : sProp 𝕄)
      ⊢ iprop((own (c : Thread nD τ) ((m.slice (Rect.unit off size inb) hR).squeeze s' hs).view q x -∗ wp₀ (k (shapeCast (Rect.unit off size inb).shape x hn)) Q)
        -∗ wp₀ (.op (.load m (Rect.unit off size inb).toLoadRect hl) k) Q) := wp_ldS 𝒱₀ (c : Thread nD τ) none Set.univ x hn

theorem stS {m : Memref sig .tc cs s e} {off size : Fin s.rank → ℕ}
    {inb : ∀ a, off a + size a ≤ s.size a} {hR} {hs : (Rect.unit off size inb).shape.Squeezes s'}
    {w : (Rect.unit off size inb).shape.Idx → Elt F e}
    {hx : (m.access (Rect.unit off size inb)).Stores Finset.univ} {hm}
    {k : PUnit → Prog (TpuEff nD τ sig (Elt F) Λ₀ .tc) α} {y : s'.Idx → Elt F e} (x : s'.Idx → Elt F e) (hn : s'.ShapeCasts (Rect.unit off size inb).shape)
    (hw : w = shapeCast (Rect.unit off size inb).shape x hn) :
    (own (c : Thread nD τ) ((m.slice (Rect.unit off size inb) hR).squeeze s' hs).view fullShare y : sProp 𝕄)
      ⊢ iprop((own (c : Thread nD τ) ((m.slice (Rect.unit off size inb) hR).squeeze s' hs).view fullShare x -∗ wp₀ (k ⟨⟩) Q)
        -∗ wp₀ (.op (.store m (Rect.unit off size inb) w Finset.univ hx hm) k) Q) :=
  (any_of_own _ _ _).trans (wp_stS 𝒱₀ (c : Thread nD τ) none Set.univ x hn hw)

theorem ldW {m : Memref sig .tc cs s e} {off : Fin s.rank → ℕ}
    {inb : ∀ a, off a + s.size a ≤ s.size a}
    {hl : m.view.LoadsAt (Rect.unit off s.size inb).toLoadRect}
    {k : (s.Idx → Elt F e) → Prog (TpuEff nD τ sig (Elt F) Λ₀ .tc) α}
    {q : PosShare TreeShare} (x : s.Idx → Elt F e) :
    (own (c : Thread nD τ) m.view q x : sProp 𝕄)
      ⊢ iprop((own (c : Thread nD τ) m.view q x -∗ wp₀ (k x) Q)
        -∗ wp₀ (.op (.load m (Rect.unit off s.size inb).toLoadRect hl) k) Q) := wp_ldW 𝒱₀ (c : Thread nD τ) none Set.univ x

end Step

/-! ## A buffer in blocks -/

section Blocks
variable (c : Dev nD) {sp : Space} {s : Shape} {e : EltTy} (m : Memref sig .tc sp s e) {n : ℕ} (R : Fin n → Rect s)
  (hd : ∀ i i', i ≠ i' → Disjoint (m.access (R i)).set (m.access (R i')).set)
  (hc : Finset.univ.biUnion (fun i => (m.access (R i)).set) = m.view.set)
include hd hc

theorem own_blocks (q : PosShare TreeShare) (x : s.Idx → Elt F e) :
    (own (c : Thread nD τ) m.view q x : sProp 𝕄) = bigSep Finset.univ fun i => own (c : Thread nD τ) (m.access (R i)) q (fun j => x ((R i).emb j)) := by
  unfold own
  rw [← hc, pointsTo_biUnion Finset.univ _ (fun i _ i' _ h => hd i i' h)]
  refine bigSep_congr fun i _ => ?_
  refine own_of_read (c : Thread nD τ) (m.access (R i)) q _ _ ?_
  funext j
  rw [View.read_apply]
  have h := View.rep_emb m.view x ((R i).emb j)
  show _ = x ((R i).emb j)
  rw [show (m.access (R i)).emb j = m.view.emb ((R i).emb j) from rfl, h, cast_cast, cast_eq]

theorem any_blocks :
    (any (c : Thread nD τ) m.view : sProp 𝕄) ⊢ bigSep Finset.univ fun i => any (c : Thread nD τ) (m.access (R i)) := by
  iintro ⟨%f, H⟩
  iapply (show (m.view.loc (c : Thread nD τ) ↦[m.view.set]{fullShare} f : sProp 𝕄) ⊢ _ from by
    rw [← hc, pointsTo_biUnion Finset.univ _ (fun i _ i' _ h => hd i i' h)]
    have h : ∀ i, (m.view.loc (c : Thread nD τ) ↦[(m.access (R i)).set]{fullShare} f : sProp 𝕄) ⊢ any (c : Thread nD τ) (m.access (R i)) := by
      intro i; iintro H; iexists f; iexact H
    exact bigSep_mono fun i _ => h i)
  iexact H

theorem any_join :
    (bigSep Finset.univ fun i => any (c : Thread nD τ) (m.access (R i)) : sProp 𝕄) ⊢ any (c : Thread nD τ) m.view :=
  Idealize.ShloMosaic.Ring.pointsTo_sub_blocks_join_exists (ℓ := m.view.loc (c : Thread nD τ)) (fun i => (m.access (R i)).set) hd m.view.set hc (m.view.rep fun _ => Classical.arbitrary _)

end Blocks

end Cert.Moe

end
-- ==== Proof.Blocks.lean ====
/-
  The buffers in their blocks: rows and router slabs by the place they come from, slots, experts, halves.
-/
module

public import proofs.«01_k».proof.Proof.Chunk
public import Idealize.ShloMosaic.Lib.ValueLayout

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.ValueIdx

/-! ## Rectangles that tile -/

section Tile
variable {sp : Space} {s : Shape} {e : EltTy} (m : Memref sig .tc sp s e) {n : ℕ} (off : Fin n → Fin s.rank → ℕ) (size : Fin s.rank → ℕ)
  (inb : ∀ b a, off b a + size a ≤ s.size a)

theorem tile_disj (hs : ∀ b b', b ≠ b' → ∃ a, off b a + size a ≤ off b' a ∨ off b' a + size a ≤ off b a) (b b' : Fin n) (h : b ≠ b') :
    Disjoint (m.access (Rect.unit (off b) size (inb b))).set (m.access (Rect.unit (off b') size (inb b'))).set := by
  obtain ⟨a, ha⟩ := hs b b' h
  exact View.disjoint_slice_of_sep m.view _ _ a rfl rfl ha

theorem tile_cover (hc : ∀ i : s.Idx, ∃ b, ∀ a, off b a ≤ (i a).val ∧ (i a).val < off b a + size a) :
    Finset.univ.biUnion (fun b => (m.access (Rect.unit (off b) size (inb b))).set) = m.view.set := by
  ext i
  simp only [Finset.mem_biUnion, Finset.mem_univ, true_and, View.set, Finset.mem_map]
  constructor
  · rintro ⟨b, j, rfl⟩; exact ⟨(Rect.unit (off b) size (inb b)).emb j, rfl⟩
  · rintro ⟨k, rfl⟩
    obtain ⟨b, hb⟩ := hc k
    refine ⟨b, fun a => ⟨(k a).val - off b a, by have := hb a; show _ < size a; omega⟩, ?_⟩
    refine congrArg m.view.emb (funext fun a => Fin.ext ?_)
    have := hb a
    rw [Rect.emb_apply]
    show off b a + 1 * ((k a).val - off b a) = (k a).val
    omega
end Tile

theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem sep3 (Φ : Fin 3 → sProp 𝕄) : bigSep Finset.univ Φ = iprop(Φ 0 ∗ Φ 1 ∗ Φ 2) :=
  bigSep_univ_eq_bigSepL [0, 1, 2] (by decide) (by decide) Φ
theorem sep2 (Φ : Fin 2 → sProp 𝕄) : bigSep Finset.univ Φ = iprop(Φ 0 ∗ Φ 1) :=
  bigSep_univ_eq_bigSepL [0, 1] (by decide) (by decide) Φ

/-! ## The places along the ring -/

theorem org_inj (c : Dev nD) : ∀ b b' : Fin 4, b ≠ b' → org c b ≠ org c b' := by
  have h : ∀ (y : Fin 4) (b b' : Fin 4), b ≠ b' → (y.val + (4 - b.val)) % 4 ≠ (y.val + (4 - b'.val)) % 4 := by decide
  exact h ⟨yOf c, yOf_lt c⟩
theorem org_surj (c : Dev nD) (n : ℕ) (hn : n < 4) : ∃ b : Fin 4, org c b = n := by
  have h : ∀ (y n : Fin 4), ∃ b : Fin 4, (y.val + (4 - b.val)) % 4 = n.val := by decide
  exact h ⟨yOf c, yOf_lt c⟩ ⟨n, hn⟩
theorem atY_org : ∀ (c : Dev nD) (b : Fin 4), atY c ⟨org c b, org_lt c b⟩ = back b c := by decide +kernel

/-- The bound of a slab of the gathered router. -/
theorem inbSlab {n : ℕ} (h : n < 4) : ∀ a, (![n, 0, 0] : Fin 3 → ℕ) a + S1x4x1024.size a ≤ S4x4x1024.size a := by
  intro a; fin_cases a
  · show n + 1 ≤ 4; omega
  · show 0 + 4 ≤ 4; omega
  · show 0 + 1024 ≤ 1024; omega
/-- The gathered router's slab of place `n`. -/
abbrev rtR (n : ℕ) (h : n < 4) : Rect S4x4x1024 := Rect.unit (s := S4x4x1024) ![n, 0, 0] S1x4x1024.size (inbSlab h)

section Rows
variable (c : Dev nD) {sp : Space} (m : Memref sig .tc sp S1024x1024 .f32)

theorem rows_disj : ∀ b b' : Fin 4, b ≠ b' → Disjoint (m.access (rowR (org c b) (org_lt c b))).set (m.access (rowR (org c b') (org_lt c b'))).set :=
  tile_disj m (fun b : Fin 4 => ![256 * org c b, 0]) S256x1024.size (fun b => inbRow (org_lt c b)) fun b b' h => ⟨0, by
    have := org_inj c b b' h
    show 256 * org c b + 256 ≤ 256 * org c b' ∨ 256 * org c b' + 256 ≤ 256 * org c b
    omega⟩
theorem rows_cover : Finset.univ.biUnion (fun b : Fin 4 => (m.access (rowR (org c b) (org_lt c b))).set) = m.view.set :=
  tile_cover m (fun b : Fin 4 => ![256 * org c b, 0]) S256x1024.size (fun b => inbRow (org_lt c b)) fun i => by
    have h0 : (i 0).val < 1024 := (i 0).isLt
    have h1 : (i 1).val < 1024 := (i 1).isLt
    obtain ⟨b, hb⟩ := org_surj c ((i 0).val / 256) (by omega)
    refine ⟨b, fun a => ?_⟩
    fin_cases a
    · show 256 * org c b ≤ (i 0).val ∧ (i 0).val < 256 * org c b + 256
      omega
    · show 0 ≤ (i 1).val ∧ (i 1).val < 0 + 1024
      omega

theorem any_rows : (any (c : Thread nD τ) m.view : sProp 𝕄)
    ⊢ iprop(any (c : Thread nD τ) (m.access (rowR (org c 0) (org_lt c 0))) ∗ any (c : Thread nD τ) (m.access (rowR (org c 1) (org_lt c 1)))
      ∗ any (c : Thread nD τ) (m.access (rowR (org c 2) (org_lt c 2))) ∗ any (c : Thread nD τ) (m.access (rowR (org c 3) (org_lt c 3)))) :=
  (any_blocks c m (fun b : Fin 4 => rowR (org c b) (org_lt c b)) (rows_disj c m) (rows_cover c m)).trans (Entails.of_eq (sep4 _))
theorem rows_any : iprop(any (c : Thread nD τ) (m.access (rowR (org c 0) (org_lt c 0))) ∗ any (c : Thread nD τ) (m.access (rowR (org c 1) (org_lt c 1)))
      ∗ any (c : Thread nD τ) (m.access (rowR (org c 2) (org_lt c 2))) ∗ any (c : Thread nD τ) (m.access (rowR (org c 3) (org_lt c 3))))
    ⊢ (any (c : Thread nD τ) m.view : sProp 𝕄) :=
  (Entails.of_eq (sep4 (fun b : Fin 4 => any (c : Thread nD τ) (m.access (rowR (org c b) (org_lt c b))))).symm).trans
    (any_join c m (fun b : Fin 4 => rowR (org c b) (org_lt c b)) (rows_disj c m) (rows_cover c m))
end Rows

section Slabs
variable (c : Dev nD)

theorem slabs_disj : ∀ b b' : Fin 4, b ≠ b' → Disjoint (mRF.access (rtR (org c b) (org_lt c b))).set (mRF.access (rtR (org c b') (org_lt c b'))).set :=
  tile_disj mRF (fun b : Fin 4 => ![org c b, 0, 0]) S1x4x1024.size (fun b => inbSlab (org_lt c b)) fun b b' h => ⟨0, by
    have := org_inj c b b' h
    show org c b + 1 ≤ org c b' ∨ org c b' + 1 ≤ org c b
    omega⟩
theorem slabs_cover : Finset.univ.biUnion (fun b : Fin 4 => (mRF.access (rtR (org c b) (org_lt c b))).set) = mRF.view.set :=
  tile_cover mRF (fun b : Fin 4 => ![org c b, 0, 0]) S1x4x1024.size (fun b => inbSlab (org_lt c b)) fun i => by
    have h0 : (i 0).val < 4 := (i 0).isLt
    have h1 : (i 1).val < 4 := (i 1).isLt
    have h2 : (i 2).val < 1024 := (i 2).isLt
    obtain ⟨b, hb⟩ := org_surj c (i 0).val (by omega)
    refine ⟨b, fun a => ?_⟩
    fin_cases a
    · show org c b ≤ (i 0).val ∧ (i 0).val < org c b + 1
      omega
    · show 0 ≤ (i 1).val ∧ (i 1).val < 0 + 4
      omega
    · show 0 ≤ (i 2).val ∧ (i 2).val < 0 + 1024
      omega

theorem any_slabs : (any (c : Thread nD τ) mRF.view : sProp 𝕄)
    ⊢ iprop(any (c : Thread nD τ) (mRF.access (rtR (org c 0) (org_lt c 0))) ∗ any (c : Thread nD τ) (mRF.access (rtR (org c 1) (org_lt c 1)))
      ∗ any (c : Thread nD τ) (mRF.access (rtR (org c 2) (org_lt c 2))) ∗ any (c : Thread nD τ) (mRF.access (rtR (org c 3) (org_lt c 3)))) :=
  (any_blocks c mRF (fun b : Fin 4 => rtR (org c b) (org_lt c b)) (slabs_disj c) (slabs_cover c)).trans (Entails.of_eq (sep4 _))

/-- The four slabs of the router, gathered. -/
theorem slabs_own (I : Inp F) : iprop(own (c : Thread nD τ) (mRF.access (rtR (org c 0) (org_lt c 0))) fullShare (shapeCast S1x4x1024 (I.rt (back 0 c)) shapeCasts_S4x1024_S1x4x1024)
      ∗ own (c : Thread nD τ) (mRF.access (rtR (org c 1) (org_lt c 1))) fullShare (shapeCast S1x4x1024 (I.rt (back 1 c)) shapeCasts_S4x1024_S1x4x1024)
      ∗ own (c : Thread nD τ) (mRF.access (rtR (org c 2) (org_lt c 2))) fullShare (shapeCast S1x4x1024 (I.rt (back 2 c)) shapeCasts_S4x1024_S1x4x1024)
      ∗ own (c : Thread nD τ) (mRF.access (rtR (org c 3) (org_lt c 3))) fullShare (shapeCast S1x4x1024 (I.rt (back 3 c)) shapeCasts_S4x1024_S1x4x1024))
    ⊢ (own (c : Thread nD τ) mRF.view fullShare (I.RT4 c) : sProp 𝕄) := by
  have h := own_blocks c mRF (fun b : Fin 4 => rtR (org c b) (org_lt c b)) (slabs_disj c) (slabs_cover c) fullShare (I.RT4 c)
  rw [sep4] at h
  rw [h]
  have hk : ∀ b : Fin 4, shapeCast S1x4x1024 (I.rt (back b c)) shapeCasts_S4x1024_S1x4x1024 = fun j => I.RT4 c ((rtR (org c b) (org_lt c b)).emb j) := by
    intro b
    funext j
    obtain ⟨u, i, k, rfl⟩ : ∃ u i k, j = ix3 (n0 := 1) (n1 := 4) (n2 := 1024) u i k := ⟨_, _, _, eq_ix3 j⟩
    rw [shapeCast_ab_1ab_apply]
    have hu : u.val = 0 := by omega
    have e0 : (rtR (org c b) (org_lt c b)).emb (ix3 (n0 := 1) (n1 := 4) (n2 := 1024) u i k) = ix3 (n0 := 4) (n1 := 4) (n2 := 1024) ⟨org c b, org_lt c b⟩ i k := by
      funext a
      refine Fin.ext ?_
      rw [Rect.emb_apply]
      fin_cases a
      · show org c b + 1 * u.val = org c b; omega
      · show 0 + 1 * i.val = i.val; omega
      · show 0 + 1 * k.val = k.val; omega
    rw [e0]
    show _ = I.rt (atY c ⟨org c b, org_lt c b⟩) (ix2 i k)
    rw [atY_org]
  exact BIClass.sep_mono (Entails.of_eq (congrArg (fun x => (own (c : Thread nD τ) (mRF.access (rtR (org c 0) (org_lt c 0))) fullShare x : sProp 𝕄)) (hk 0)))
    (BIClass.sep_mono (Entails.of_eq (congrArg (fun x => (own (c : Thread nD τ) (mRF.access (rtR (org c 1) (org_lt c 1))) fullShare x : sProp 𝕄)) (hk 1)))
    (BIClass.sep_mono (Entails.of_eq (congrArg (fun x => (own (c : Thread nD τ) (mRF.access (rtR (org c 2) (org_lt c 2))) fullShare x : sProp 𝕄)) (hk 2)))
      (Entails.of_eq (congrArg (fun x => (own (c : Thread nD τ) (mRF.access (rtR (org c 3) (org_lt c 3))) fullShare x : sProp 𝕄)) (hk 3)))))
end Slabs

/-! ## Halves of 256 rows -/

section Half
variable (c : Dev nD) {sp : Space} (m : Memref sig .tc sp S1024x1024 .f32)

/-- A row of the first half among the 256, -/
def emT (i : S128x1024.Idx) : S256x1024.Idx := ix2 (n0 := 256) (n1 := 1024) ⟨(i 0).val, lt_of_lt_of_le (i 0).isLt (by decide)⟩ (i 1)
/-- and of the second. -/
def emB (i : S128x1024.Idx) : S256x1024.Idx := ix2 (n0 := 256) (n1 := 1024) ⟨(i 0).val + 128, Nat.lt_of_lt_of_le (Nat.add_lt_add_right (i 0).isLt 128) (by decide)⟩ (i 1)
theorem em_cover (i : S256x1024.Idx) : (∃ j, emT j = i) ∨ ∃ j, emB j = i := by
  have h0 : (i 0).val < 256 := (i 0).isLt
  rcases Nat.lt_or_ge (i 0).val 128 with h | h
  · refine .inl ⟨ix2 (n0 := 128) (n1 := 1024) ⟨(i 0).val, h⟩ (i 1), ?_⟩
    exact (eq_ix2 i).symm
  · refine .inr ⟨ix2 (n0 := 128) (n1 := 1024) ⟨(i 0).val - 128, by omega⟩ (i 1), ?_⟩
    conv_rhs => rw [eq_ix2 i]
    refine congrArg (fun z => ix2 (n0 := 256) (n1 := 1024) z (i 1)) (Fin.ext ?_)
    show (i 0).val - 128 + 128 = (i 0).val
    omega
theorem em_ne (j j' : S128x1024.Idx) : emT j ≠ emB j' := by
  intro h
  have h0 : (j 0).val = (j' 0).val + 128 := congrArg (fun z : S256x1024.Idx => (z 0).val) h
  have h1 : (j 0).val < 128 := (j 0).isLt
  omega
theorem join_top (a b : FVec F S128x1024 .f32) : (fun i => Inp.join a b (emT i)) = a := by
  funext i
  have h : ((emT i) 0).val < 128 := (i 0).isLt
  unfold Inp.join
  rw [dif_pos h]
  exact congrArg a (eq_ix2 i).symm
theorem join_bot (a b : FVec F S128x1024 .f32) : (fun i => Inp.join a b (emB i)) = b := by
  funext i
  have h : ¬ ((emB i) 0).val < 128 := by show ¬ (i 0).val + 128 < 128; omega
  unfold Inp.join
  rw [dif_neg h]
  refine congrArg b ?_
  conv_rhs => rw [eq_ix2 i]
  refine congrArg (fun z => ix2 (n0 := 128) (n1 := 1024) z (i 1)) (Fin.ext ?_)
  show (i 0).val + 128 - 128 = (i 0).val
  omega

theorem row_emT (n : ℕ) (h : n < 4) (i : S128x1024.Idx) : (rowR n h).emb (emT i) = (halfR n 0 h (by decide)).emb i := by
  funext a; refine Fin.ext ?_
  rw [Rect.emb_apply, Rect.emb_apply]
  fin_cases a
  · show 256 * n + 1 * (i 0).val = 256 * n + 0 + 1 * (i 0).val; omega
  · show 0 + 1 * (i 1).val = 0 + 1 * (i 1).val; rfl
theorem row_emB (n : ℕ) (h : n < 4) (i : S128x1024.Idx) : (rowR n h).emb (emB i) = (halfR n 128 h (by decide)).emb i := by
  funext a; refine Fin.ext ?_
  rw [Rect.emb_apply, Rect.emb_apply]
  fin_cases a
  · show 256 * n + 1 * ((i 0).val + 128) = 256 * n + 128 + 1 * (i 0).val; omega
  · show 0 + 1 * (i 1).val = 0 + 1 * (i 1).val; rfl

/-- 256 rows in two halves. -/
theorem row_split (n : ℕ) (h : n < 4) (q : PosShare TreeShare) (x : Vec F S256x1024 .f32) :
    (own (c : Thread nD τ) (m.access (rowR n h)) q x : sProp 𝕄)
      ⊢ iprop(own (c : Thread nD τ) (m.access (halfR n 0 h (by decide))) q (top x) ∗ own (c : Thread nD τ) (m.access (halfR n 128 h (by decide))) q (bot x)) :=
  (own_split (Ix := Unit) (Val := Elt F) (Name := ℕ) (U := UU) (Lvl := ℕ) (c : Thread nD τ) m.view (rowR n h) (halfR n 0 h (by decide)) (halfR n 128 h (by decide)) emT emB (row_emT n h) (row_emB n h) em_cover em_ne q x).1
/-- Two halves put together. -/
theorem row_join (n : ℕ) (h : n < 4) (q : PosShare TreeShare) (a b : FVec F S128x1024 .f32) :
    iprop(own (c : Thread nD τ) (m.access (halfR n 0 h (by decide))) q a ∗ own (c : Thread nD τ) (m.access (halfR n 128 h (by decide))) q b)
      ⊢ (own (c : Thread nD τ) (m.access (rowR n h)) q (Inp.join a b) : sProp 𝕄) := by
  have e := (own_split (Ix := Unit) (Val := Elt F) (Name := ℕ) (U := UU) (Lvl := ℕ) (c : Thread nD τ) m.view (rowR n h) (halfR n 0 h (by decide)) (halfR n 128 h (by decide)) emT emB (row_emT n h) (row_emB n h) em_cover em_ne q (Inp.join a b : Vec F S256x1024 .f32)).2
  refine BIBase.Entails.trans ?_ e
  exact BIClass.sep_mono (Entails.of_eq (congrArg (fun x : Vec F S128x1024 .f32 => (own (c : Thread nD τ) (m.access (halfR n 0 h (by decide))) q x : sProp 𝕄)) (join_top a b).symm))
    (Entails.of_eq (congrArg (fun x : Vec F S128x1024 .f32 => (own (c : Thread nD τ) (m.access (halfR n 128 h (by decide))) q x : sProp 𝕄)) (join_bot a b).symm))

/-- The places of the first and last rows of the last slot. -/
def slotT : S1x128x1024.Idx → S1x256x1024.Idx := fun i => ix3 (n0 := 1) (n1 := 256) (n2 := 1024) (i 0) ⟨(i 1).val, lt_of_lt_of_le (i 1).isLt (by decide)⟩ (i 2)
def slotB : S1x128x1024.Idx → S1x256x1024.Idx := fun i => ix3 (n0 := 1) (n1 := 256) (n2 := 1024) (i 0) ⟨(i 1).val + 128, Nat.lt_of_lt_of_le (Nat.add_lt_add_right (i 1).isLt 128) (by decide)⟩ (i 2)
/-- The last slot of the reduce-scatter is its two halves. -/
theorem rs_parts (x : Vec F S1x256x1024 .f32) :
    (own (c : Thread nD τ) (mRS.view.slice (Rect.unit (s := S3x256x1024) ![2, 0, 0] S1x256x1024.size inb_S3x256x1024_S1x256x1024_2_0_0)) fullShare x : sProp 𝕄)
      ⊣⊢ iprop(own (c : Thread nD τ) (mRS.view.slice (Rect.unit (s := S3x256x1024) ![2, 0, 0] S1x128x1024.size inb_S3x256x1024_S1x128x1024_2_0_0)) fullShare (fun i => x (slotT i))
        ∗ own (c : Thread nD τ) (mRS.view.slice (Rect.unit (s := S3x256x1024) ![2, 128, 0] S1x128x1024.size inb_S3x256x1024_S1x128x1024_2_128_0)) fullShare (fun i => x (slotB i))) :=
  own_split (Ix := Unit) (Val := Elt F) (Name := ℕ) (U := UU) (Lvl := ℕ) (c : Thread nD τ) mRS.view (Rect.unit (s := S3x256x1024) ![2, 0, 0] S1x256x1024.size inb_S3x256x1024_S1x256x1024_2_0_0)
    (Rect.unit (s := S3x256x1024) ![2, 0, 0] S1x128x1024.size inb_S3x256x1024_S1x128x1024_2_0_0)
    (Rect.unit (s := S3x256x1024) ![2, 128, 0] S1x128x1024.size inb_S3x256x1024_S1x128x1024_2_128_0)
    slotT
    slotB
    (fun i => by
      funext k; refine Fin.ext ?_
      rw [Rect.emb_apply, Rect.emb_apply]
      fin_cases k
      · rfl
      · rfl
      · rfl)
    (fun i => by
      funext k; refine Fin.ext ?_
      rw [Rect.emb_apply, Rect.emb_apply]
      fin_cases k
      · rfl
      · show 0 + 1 * ((i 1).val + 128) = 128 + 1 * (i 1).val; omega
      · rfl)
    (fun i => by
      have h1 : (i 1).val < 256 := (i 1).isLt
      rcases Nat.lt_or_ge (i 1).val 128 with h | h
      · exact .inl ⟨ix3 (n0 := 1) (n1 := 128) (n2 := 1024) (i 0) ⟨(i 1).val, h⟩ (i 2), (eq_ix3 i).symm⟩
      · refine .inr ⟨ix3 (n0 := 1) (n1 := 128) (n2 := 1024) (i 0) ⟨(i 1).val - 128, by omega⟩ (i 2), ?_⟩
        conv_rhs => rw [eq_ix3 i]
        refine congrArg (fun z => ix3 (n0 := 1) (n1 := 256) (n2 := 1024) (i 0) z (i 2)) (Fin.ext ?_)
        show (i 1).val - 128 + 128 = (i 1).val
        omega)
    (fun j j' h => by
      have h0 : (j 1).val = (j' 1).val + 128 := congrArg (fun z : S1x256x1024.Idx => (z 1).val) h
      have h1 : (j 1).val < 128 := (j 1).isLt
      omega)
    fullShare x
/-- The last slot of the partial sums that arrive, in its two halves. -/
theorem rs_join (a b : FVec F S128x1024 .f32) :
    iprop(own (c : Thread nD τ) rsS20.view fullShare a ∗ own (c : Thread nD τ) rsS21.view fullShare b)
      ⊢ (own (c : Thread nD τ) (mRS.access (Rect.unit (s := S3x256x1024) ![2, 0, 0] S1x256x1024.size inb_S3x256x1024_S1x256x1024_2_0_0)) fullShare
        (shapeCast S1x256x1024 (Inp.join a b : Vec F S256x1024 .f32) shapeCasts_S1x256x1024_S256x1024.symm) : sProp 𝕄) := by
  rw [own_squeeze (c : Thread nD τ) mRS _ _ _ shapeCasts_S128x1024_S1x128x1024, own_squeeze (c : Thread nD τ) mRS _ _ _ shapeCasts_S128x1024_S1x128x1024]
  have e := (rs_parts c (shapeCast S1x256x1024 (Inp.join a b : Vec F S256x1024 .f32) shapeCasts_S1x256x1024_S256x1024.symm)).2
  refine BIBase.Entails.trans ?_ e
  refine BIClass.sep_mono (Entails.of_eq (congrArg (fun x => (own (c : Thread nD τ) (mRS.view.slice _) fullShare x : sProp 𝕄)) ?_))
    (Entails.of_eq (congrArg (fun x => (own (c : Thread nD τ) (mRS.view.slice _) fullShare x : sProp 𝕄)) ?_))
  · funext j
    obtain ⟨u, i, k, rfl⟩ : ∃ u i k, j = ix3 (n0 := 1) (n1 := 128) (n2 := 1024) u i k := ⟨_, _, _, eq_ix3 j⟩
    exact (shapeCast_ab_1ab_apply a _ u i k).trans (((shapeCast_ab_1ab_apply (Inp.join a b) _ u _ k).trans (congrFun (join_top a b) (ix2 (n0 := 128) (n1 := 1024) i k))).symm)
  · funext j
    obtain ⟨u, i, k, rfl⟩ : ∃ u i k, j = ix3 (n0 := 1) (n1 := 128) (n2 := 1024) u i k := ⟨_, _, _, eq_ix3 j⟩
    exact (shapeCast_ab_1ab_apply b _ u i k).trans (((shapeCast_ab_1ab_apply (Inp.join a b) _ u _ k).trans (congrFun (join_bot a b) (ix2 (n0 := 128) (n1 := 1024) i k))).symm)
end Half

/-! ## Slots -/

section
variable (c : Dev nD)
abbrev agOff : Fin 3 → Fin 3 → ℕ := ![![0, 0, 0], ![1, 0, 0], ![2, 0, 0]]
theorem agInb : ∀ b a, agOff b a + S1x256x1024.size a ≤ S3x256x1024.size a := by
  intro b; fin_cases b
  · exact inb_S3x256x1024_S1x256x1024_0_0_0
  · exact inb_S3x256x1024_S1x256x1024_1_0_0
  · exact inb_S3x256x1024_S1x256x1024_2_0_0
theorem ag_disj : ∀ b b' : Fin 3, b ≠ b' → Disjoint (mAG.access (Rect.unit (agOff b) S1x256x1024.size (agInb b))).set (mAG.access (Rect.unit (agOff b') S1x256x1024.size (agInb b'))).set :=
  tile_disj mAG agOff S1x256x1024.size agInb (by decide)
theorem ag_cover : Finset.univ.biUnion (fun b => (mAG.access (Rect.unit (agOff b) S1x256x1024.size (agInb b))).set) = mAG.view.set :=
  tile_cover mAG agOff S1x256x1024.size agInb fun i => by
    have h0 : (i 0).val < 3 := (i 0).isLt
    have h1 : (i 1).val < 256 := (i 1).isLt
    have h2 : (i 2).val < 1024 := (i 2).isLt
    have h : ((i 0).val = 0) ∨ ((i 0).val = 1) ∨ ((i 0).val = 2) := by omega
    rcases h with h | h | h
    · refine ⟨0, ?_⟩
      intro a; fin_cases a
      · show 0 ≤ (i 0).val ∧ (i 0).val < 0 + 1; omega
      · show 0 ≤ (i 1).val ∧ (i 1).val < 0 + 256; omega
      · show 0 ≤ (i 2).val ∧ (i 2).val < 0 + 1024; omega
    · refine ⟨1, ?_⟩
      intro a; fin_cases a
      · show 1 ≤ (i 0).val ∧ (i 0).val < 1 + 1; omega
      · show 0 ≤ (i 1).val ∧ (i 1).val < 0 + 256; omega
      · show 0 ≤ (i 2).val ∧ (i 2).val < 0 + 1024; omega
    · refine ⟨2, ?_⟩
      intro a; fin_cases a
      · show 2 ≤ (i 0).val ∧ (i 0).val < 2 + 1; omega
      · show 0 ≤ (i 1).val ∧ (i 1).val < 0 + 256; omega
      · show 0 ≤ (i 2).val ∧ (i 2).val < 0 + 1024; omega
theorem ag_e0 : (any (c : Thread nD τ) agS0.view : sProp 𝕄) = any (c : Thread nD τ) (mAG.access (Rect.unit (agOff 0) S1x256x1024.size (agInb 0))) :=
  any_squeeze (c : Thread nD τ) mAG (Rect.unit (s := S3x256x1024) ![0, 0, 0] S1x256x1024.size inb_S3x256x1024_S1x256x1024_0_0_0) _ _
theorem ag_e1 : (any (c : Thread nD τ) agS1.view : sProp 𝕄) = any (c : Thread nD τ) (mAG.access (Rect.unit (agOff 1) S1x256x1024.size (agInb 1))) :=
  any_squeeze (c : Thread nD τ) mAG (Rect.unit (s := S3x256x1024) ![1, 0, 0] S1x256x1024.size inb_S3x256x1024_S1x256x1024_1_0_0) _ _
theorem ag_e2 : (any (c : Thread nD τ) agS2.view : sProp 𝕄) = any (c : Thread nD τ) (mAG.access (Rect.unit (agOff 2) S1x256x1024.size (agInb 2))) :=
  any_squeeze (c : Thread nD τ) mAG (Rect.unit (s := S3x256x1024) ![2, 0, 0] S1x256x1024.size inb_S3x256x1024_S1x256x1024_2_0_0) _ _
theorem ag_any : (any (c : Thread nD τ) mAG.view : sProp 𝕄) ⊢ iprop(any (c : Thread nD τ) agS0.view ∗ any (c : Thread nD τ) agS1.view ∗ any (c : Thread nD τ) agS2.view) := by
  have h : (any (c : Thread nD τ) mAG.view : sProp 𝕄) ⊢ iprop(any (c : Thread nD τ) (mAG.access (Rect.unit (agOff 0) S1x256x1024.size (agInb 0))) ∗ any (c : Thread nD τ) (mAG.access (Rect.unit (agOff 1) S1x256x1024.size (agInb 1))) ∗ any (c : Thread nD τ) (mAG.access (Rect.unit (agOff 2) S1x256x1024.size (agInb 2)))) := (any_blocks c mAG (fun b => Rect.unit (agOff b) S1x256x1024.size (agInb b)) (ag_disj) (ag_cover)).trans (Entails.of_eq (sep3 _))
  refine h.trans ?_
  iintro ⟨H0, H1, H2⟩
  isplitl [H0]
  · iapply (Entails.of_eq (ag_e0 (F := F) c).symm); iexact H0
  isplitl [H1]
  · iapply (Entails.of_eq (ag_e1 (F := F) c).symm); iexact H1
  iapply (Entails.of_eq (ag_e2 (F := F) c).symm); iexact H2
theorem any_ag : iprop(any (c : Thread nD τ) agS0.view ∗ any (c : Thread nD τ) agS1.view ∗ any (c : Thread nD τ) agS2.view) ⊢ (any (c : Thread nD τ) mAG.view : sProp 𝕄) := by
  have h : iprop(any (c : Thread nD τ) (mAG.access (Rect.unit (agOff 0) S1x256x1024.size (agInb 0))) ∗ any (c : Thread nD τ) (mAG.access (Rect.unit (agOff 1) S1x256x1024.size (agInb 1))) ∗ any (c : Thread nD τ) (mAG.access (Rect.unit (agOff 2) S1x256x1024.size (agInb 2)))) ⊢ (any (c : Thread nD τ) mAG.view : sProp 𝕄) := (Entails.of_eq (sep3 (fun b => any (c : Thread nD τ) (mAG.access (Rect.unit (agOff b) S1x256x1024.size (agInb b))))).symm).trans
    (any_join c mAG (fun b => Rect.unit (agOff b) S1x256x1024.size (agInb b)) (ag_disj) (ag_cover))
  refine BIBase.Entails.trans ?_ h
  iintro ⟨H0, H1, H2⟩
  isplitl [H0]
  · iapply (Entails.of_eq (ag_e0 (F := F) c)); iexact H0
  isplitl [H1]
  · iapply (Entails.of_eq (ag_e1 (F := F) c)); iexact H1
  iapply (Entails.of_eq (ag_e2 (F := F) c)); iexact H2
end

section
variable (c : Dev nD)
abbrev rgOff : Fin 3 → Fin 3 → ℕ := ![![0, 0, 0], ![1, 0, 0], ![2, 0, 0]]
theorem rgInb : ∀ b a, rgOff b a + S1x4x1024.size a ≤ S3x4x1024.size a := by
  intro b; fin_cases b
  · exact inb_S3x4x1024_S1x4x1024_0_0_0
  · exact inb_S3x4x1024_S1x4x1024_1_0_0
  · exact inb_S3x4x1024_S1x4x1024_2_0_0
theorem rg_disj : ∀ b b' : Fin 3, b ≠ b' → Disjoint (mRG.access (Rect.unit (rgOff b) S1x4x1024.size (rgInb b))).set (mRG.access (Rect.unit (rgOff b') S1x4x1024.size (rgInb b'))).set :=
  tile_disj mRG rgOff S1x4x1024.size rgInb (by decide)
theorem rg_cover : Finset.univ.biUnion (fun b => (mRG.access (Rect.unit (rgOff b) S1x4x1024.size (rgInb b))).set) = mRG.view.set :=
  tile_cover mRG rgOff S1x4x1024.size rgInb fun i => by
    have h0 : (i 0).val < 3 := (i 0).isLt
    have h1 : (i 1).val < 4 := (i 1).isLt
    have h2 : (i 2).val < 1024 := (i 2).isLt
    have h : ((i 0).val = 0) ∨ ((i 0).val = 1) ∨ ((i 0).val = 2) := by omega
    rcases h with h | h | h
    · refine ⟨0, ?_⟩
      intro a; fin_cases a
      · show 0 ≤ (i 0).val ∧ (i 0).val < 0 + 1; omega
      · show 0 ≤ (i 1).val ∧ (i 1).val < 0 + 4; omega
      · show 0 ≤ (i 2).val ∧ (i 2).val < 0 + 1024; omega
    · refine ⟨1, ?_⟩
      intro a; fin_cases a
      · show 1 ≤ (i 0).val ∧ (i 0).val < 1 + 1; omega
      · show 0 ≤ (i 1).val ∧ (i 1).val < 0 + 4; omega
      · show 0 ≤ (i 2).val ∧ (i 2).val < 0 + 1024; omega
    · refine ⟨2, ?_⟩
      intro a; fin_cases a
      · show 2 ≤ (i 0).val ∧ (i 0).val < 2 + 1; omega
      · show 0 ≤ (i 1).val ∧ (i 1).val < 0 + 4; omega
      · show 0 ≤ (i 2).val ∧ (i 2).val < 0 + 1024; omega
theorem rg_e0 : (any (c : Thread nD τ) rgS0.view : sProp 𝕄) = any (c : Thread nD τ) (mRG.access (Rect.unit (rgOff 0) S1x4x1024.size (rgInb 0))) :=
  any_squeeze (c : Thread nD τ) mRG (Rect.unit (s := S3x4x1024) ![0, 0, 0] S1x4x1024.size inb_S3x4x1024_S1x4x1024_0_0_0) _ _
theorem rg_e1 : (any (c : Thread nD τ) rgS1.view : sProp 𝕄) = any (c : Thread nD τ) (mRG.access (Rect.unit (rgOff 1) S1x4x1024.size (rgInb 1))) :=
  any_squeeze (c : Thread nD τ) mRG (Rect.unit (s := S3x4x1024) ![1, 0, 0] S1x4x1024.size inb_S3x4x1024_S1x4x1024_1_0_0) _ _
theorem rg_e2 : (any (c : Thread nD τ) rgS2.view : sProp 𝕄) = any (c : Thread nD τ) (mRG.access (Rect.unit (rgOff 2) S1x4x1024.size (rgInb 2))) :=
  any_squeeze (c : Thread nD τ) mRG (Rect.unit (s := S3x4x1024) ![2, 0, 0] S1x4x1024.size inb_S3x4x1024_S1x4x1024_2_0_0) _ _
theorem rg_any : (any (c : Thread nD τ) mRG.view : sProp 𝕄) ⊢ iprop(any (c : Thread nD τ) rgS0.view ∗ any (c : Thread nD τ) rgS1.view ∗ any (c : Thread nD τ) rgS2.view) := by
  have h : (any (c : Thread nD τ) mRG.view : sProp 𝕄) ⊢ iprop(any (c : Thread nD τ) (mRG.access (Rect.unit (rgOff 0) S1x4x1024.size (rgInb 0))) ∗ any (c : Thread nD τ) (mRG.access (Rect.unit (rgOff 1) S1x4x1024.size (rgInb 1))) ∗ any (c : Thread nD τ) (mRG.access (Rect.unit (rgOff 2) S1x4x1024.size (rgInb 2)))) := (any_blocks c mRG (fun b => Rect.unit (rgOff b) S1x4x1024.size (rgInb b)) (rg_disj) (rg_cover)).trans (Entails.of_eq (sep3 _))
  refine h.trans ?_
  iintro ⟨H0, H1, H2⟩
  isplitl [H0]
  · iapply (Entails.of_eq (rg_e0 (F := F) c).symm); iexact H0
  isplitl [H1]
  · iapply (Entails.of_eq (rg_e1 (F := F) c).symm); iexact H1
  iapply (Entails.of_eq (rg_e2 (F := F) c).symm); iexact H2
theorem any_rg : iprop(any (c : Thread nD τ) rgS0.view ∗ any (c : Thread nD τ) rgS1.view ∗ any (c : Thread nD τ) rgS2.view) ⊢ (any (c : Thread nD τ) mRG.view : sProp 𝕄) := by
  have h : iprop(any (c : Thread nD τ) (mRG.access (Rect.unit (rgOff 0) S1x4x1024.size (rgInb 0))) ∗ any (c : Thread nD τ) (mRG.access (Rect.unit (rgOff 1) S1x4x1024.size (rgInb 1))) ∗ any (c : Thread nD τ) (mRG.access (Rect.unit (rgOff 2) S1x4x1024.size (rgInb 2)))) ⊢ (any (c : Thread nD τ) mRG.view : sProp 𝕄) := (Entails.of_eq (sep3 (fun b => any (c : Thread nD τ) (mRG.access (Rect.unit (rgOff b) S1x4x1024.size (rgInb b))))).symm).trans
    (any_join c mRG (fun b => Rect.unit (rgOff b) S1x4x1024.size (rgInb b)) (rg_disj) (rg_cover))
  refine BIBase.Entails.trans ?_ h
  iintro ⟨H0, H1, H2⟩
  isplitl [H0]
  · iapply (Entails.of_eq (rg_e0 (F := F) c)); iexact H0
  isplitl [H1]
  · iapply (Entails.of_eq (rg_e1 (F := F) c)); iexact H1
  iapply (Entails.of_eq (rg_e2 (F := F) c)); iexact H2
end

section
variable (c : Dev nD)
abbrev rsOff : Fin 6 → Fin 3 → ℕ := ![![0, 0, 0], ![0, 128, 0], ![1, 0, 0], ![1, 128, 0], ![2, 0, 0], ![2, 128, 0]]
theorem rsInb : ∀ b a, rsOff b a + S1x128x1024.size a ≤ S3x256x1024.size a := by
  intro b; fin_cases b
  · exact inb_S3x256x1024_S1x128x1024_0_0_0
  · exact inb_S3x256x1024_S1x128x1024_0_128_0
  · exact inb_S3x256x1024_S1x128x1024_1_0_0
  · exact inb_S3x256x1024_S1x128x1024_1_128_0
  · exact inb_S3x256x1024_S1x128x1024_2_0_0
  · exact inb_S3x256x1024_S1x128x1024_2_128_0
theorem rs_disj : ∀ b b' : Fin 6, b ≠ b' → Disjoint (mRS.access (Rect.unit (rsOff b) S1x128x1024.size (rsInb b))).set (mRS.access (Rect.unit (rsOff b') S1x128x1024.size (rsInb b'))).set :=
  tile_disj mRS rsOff S1x128x1024.size rsInb (by decide)
theorem rs_cover : Finset.univ.biUnion (fun b => (mRS.access (Rect.unit (rsOff b) S1x128x1024.size (rsInb b))).set) = mRS.view.set :=
  tile_cover mRS rsOff S1x128x1024.size rsInb fun i => by
    have h0 : (i 0).val < 3 := (i 0).isLt
    have h1 : (i 1).val < 256 := (i 1).isLt
    have h2 : (i 2).val < 1024 := (i 2).isLt
    have h : ((i 0).val = 0 ∧ (i 1).val < 128) ∨ ((i 0).val = 0 ∧ 128 ≤ (i 1).val) ∨ ((i 0).val = 1 ∧ (i 1).val < 128) ∨ ((i 0).val = 1 ∧ 128 ≤ (i 1).val) ∨ ((i 0).val = 2 ∧ (i 1).val < 128) ∨ ((i 0).val = 2 ∧ 128 ≤ (i 1).val) := by omega
    rcases h with h | h | h | h | h | h
    · refine ⟨0, ?_⟩
      intro a; fin_cases a
      · show 0 ≤ (i 0).val ∧ (i 0).val < 0 + 1; omega
      · show 0 ≤ (i 1).val ∧ (i 1).val < 0 + 128; omega
      · show 0 ≤ (i 2).val ∧ (i 2).val < 0 + 1024; omega
    · refine ⟨1, ?_⟩
      intro a; fin_cases a
      · show 0 ≤ (i 0).val ∧ (i 0).val < 0 + 1; omega
      · show 128 ≤ (i 1).val ∧ (i 1).val < 128 + 128; omega
      · show 0 ≤ (i 2).val ∧ (i 2).val < 0 + 1024; omega
    · refine ⟨2, ?_⟩
      intro a; fin_cases a
      · show 1 ≤ (i 0).val ∧ (i 0).val < 1 + 1; omega
      · show 0 ≤ (i 1).val ∧ (i 1).val < 0 + 128; omega
      · show 0 ≤ (i 2).val ∧ (i 2).val < 0 + 1024; omega
    · refine ⟨3, ?_⟩
      intro a; fin_cases a
      · show 1 ≤ (i 0).val ∧ (i 0).val < 1 + 1; omega
      · show 128 ≤ (i 1).val ∧ (i 1).val < 128 + 128; omega
      · show 0 ≤ (i 2).val ∧ (i 2).val < 0 + 1024; omega
    · refine ⟨4, ?_⟩
      intro a; fin_cases a
      · show 2 ≤ (i 0).val ∧ (i 0).val < 2 + 1; omega
      · show 0 ≤ (i 1).val ∧ (i 1).val < 0 + 128; omega
      · show 0 ≤ (i 2).val ∧ (i 2).val < 0 + 1024; omega
    · refine ⟨5, ?_⟩
      intro a; fin_cases a
      · show 2 ≤ (i 0).val ∧ (i 0).val < 2 + 1; omega
      · show 128 ≤ (i 1).val ∧ (i 1).val < 128 + 128; omega
      · show 0 ≤ (i 2).val ∧ (i 2).val < 0 + 1024; omega
theorem rs_e0 : (any (c : Thread nD τ) rsS00.view : sProp 𝕄) = any (c : Thread nD τ) (mRS.access (Rect.unit (rsOff 0) S1x128x1024.size (rsInb 0))) :=
  any_squeeze (c : Thread nD τ) mRS (Rect.unit (s := S3x256x1024) ![0, 0, 0] S1x128x1024.size inb_S3x256x1024_S1x128x1024_0_0_0) _ _
theorem rs_e1 : (any (c : Thread nD τ) rsS01.view : sProp 𝕄) = any (c : Thread nD τ) (mRS.access (Rect.unit (rsOff 1) S1x128x1024.size (rsInb 1))) :=
  any_squeeze (c : Thread nD τ) mRS (Rect.unit (s := S3x256x1024) ![0, 128, 0] S1x128x1024.size inb_S3x256x1024_S1x128x1024_0_128_0) _ _
theorem rs_e2 : (any (c : Thread nD τ) rsS10.view : sProp 𝕄) = any (c : Thread nD τ) (mRS.access (Rect.unit (rsOff 2) S1x128x1024.size (rsInb 2))) :=
  any_squeeze (c : Thread nD τ) mRS (Rect.unit (s := S3x256x1024) ![1, 0, 0] S1x128x1024.size inb_S3x256x1024_S1x128x1024_1_0_0) _ _
theorem rs_e3 : (any (c : Thread nD τ) rsS11.view : sProp 𝕄) = any (c : Thread nD τ) (mRS.access (Rect.unit (rsOff 3) S1x128x1024.size (rsInb 3))) :=
  any_squeeze (c : Thread nD τ) mRS (Rect.unit (s := S3x256x1024) ![1, 128, 0] S1x128x1024.size inb_S3x256x1024_S1x128x1024_1_128_0) _ _
theorem rs_e4 : (any (c : Thread nD τ) rsS20.view : sProp 𝕄) = any (c : Thread nD τ) (mRS.access (Rect.unit (rsOff 4) S1x128x1024.size (rsInb 4))) :=
  any_squeeze (c : Thread nD τ) mRS (Rect.unit (s := S3x256x1024) ![2, 0, 0] S1x128x1024.size inb_S3x256x1024_S1x128x1024_2_0_0) _ _
theorem rs_e5 : (any (c : Thread nD τ) rsS21.view : sProp 𝕄) = any (c : Thread nD τ) (mRS.access (Rect.unit (rsOff 5) S1x128x1024.size (rsInb 5))) :=
  any_squeeze (c : Thread nD τ) mRS (Rect.unit (s := S3x256x1024) ![2, 128, 0] S1x128x1024.size inb_S3x256x1024_S1x128x1024_2_128_0) _ _
theorem rs_any : (any (c : Thread nD τ) mRS.view : sProp 𝕄) ⊢ iprop(any (c : Thread nD τ) rsS00.view ∗ any (c : Thread nD τ) rsS01.view ∗ any (c : Thread nD τ) rsS10.view ∗ any (c : Thread nD τ) rsS11.view ∗ any (c : Thread nD τ) rsS20.view ∗ any (c : Thread nD τ) rsS21.view) := by
  have h : (any (c : Thread nD τ) mRS.view : sProp 𝕄) ⊢ iprop(any (c : Thread nD τ) (mRS.access (Rect.unit (rsOff 0) S1x128x1024.size (rsInb 0))) ∗ any (c : Thread nD τ) (mRS.access (Rect.unit (rsOff 1) S1x128x1024.size (rsInb 1))) ∗ any (c : Thread nD τ) (mRS.access (Rect.unit (rsOff 2) S1x128x1024.size (rsInb 2))) ∗ any (c : Thread nD τ) (mRS.access (Rect.unit (rsOff 3) S1x128x1024.size (rsInb 3))) ∗ any (c : Thread nD τ) (mRS.access (Rect.unit (rsOff 4) S1x128x1024.size (rsInb 4))) ∗ any (c : Thread nD τ) (mRS.access (Rect.unit (rsOff 5) S1x128x1024.size (rsInb 5)))) := (any_blocks c mRS (fun b => Rect.unit (rsOff b) S1x128x1024.size (rsInb b)) (rs_disj) (rs_cover)).trans (Entails.of_eq (sep6 _))
  refine h.trans ?_
  iintro ⟨H0, H1, H2, H3, H4, H5⟩
  isplitl [H0]
  · iapply (Entails.of_eq (rs_e0 (F := F) c).symm); iexact H0
  isplitl [H1]
  · iapply (Entails.of_eq (rs_e1 (F := F) c).symm); iexact H1
  isplitl [H2]
  · iapply (Entails.of_eq (rs_e2 (F := F) c).symm); iexact H2
  isplitl [H3]
  · iapply (Entails.of_eq (rs_e3 (F := F) c).symm); iexact H3
  isplitl [H4]
  · iapply (Entails.of_eq (rs_e4 (F := F) c).symm); iexact H4
  iapply (Entails.of_eq (rs_e5 (F := F) c).symm); iexact H5
theorem any_rs : iprop(any (c : Thread nD τ) rsS00.view ∗ any (c : Thread nD τ) rsS01.view ∗ any (c : Thread nD τ) rsS10.view ∗ any (c : Thread nD τ) rsS11.view ∗ any (c : Thread nD τ) rsS20.view ∗ any (c : Thread nD τ) rsS21.view) ⊢ (any (c : Thread nD τ) mRS.view : sProp 𝕄) := by
  have h : iprop(any (c : Thread nD τ) (mRS.access (Rect.unit (rsOff 0) S1x128x1024.size (rsInb 0))) ∗ any (c : Thread nD τ) (mRS.access (Rect.unit (rsOff 1) S1x128x1024.size (rsInb 1))) ∗ any (c : Thread nD τ) (mRS.access (Rect.unit (rsOff 2) S1x128x1024.size (rsInb 2))) ∗ any (c : Thread nD τ) (mRS.access (Rect.unit (rsOff 3) S1x128x1024.size (rsInb 3))) ∗ any (c : Thread nD τ) (mRS.access (Rect.unit (rsOff 4) S1x128x1024.size (rsInb 4))) ∗ any (c : Thread nD τ) (mRS.access (Rect.unit (rsOff 5) S1x128x1024.size (rsInb 5)))) ⊢ (any (c : Thread nD τ) mRS.view : sProp 𝕄) := (Entails.of_eq (sep6 (fun b => any (c : Thread nD τ) (mRS.access (Rect.unit (rsOff b) S1x128x1024.size (rsInb b))))).symm).trans
    (any_join c mRS (fun b => Rect.unit (rsOff b) S1x128x1024.size (rsInb b)) (rs_disj) (rs_cover))
  refine BIBase.Entails.trans ?_ h
  iintro ⟨H0, H1, H2, H3, H4, H5⟩
  isplitl [H0]
  · iapply (Entails.of_eq (rs_e0 (F := F) c)); iexact H0
  isplitl [H1]
  · iapply (Entails.of_eq (rs_e1 (F := F) c)); iexact H1
  isplitl [H2]
  · iapply (Entails.of_eq (rs_e2 (F := F) c)); iexact H2
  isplitl [H3]
  · iapply (Entails.of_eq (rs_e3 (F := F) c)); iexact H3
  isplitl [H4]
  · iapply (Entails.of_eq (rs_e4 (F := F) c)); iexact H4
  iapply (Entails.of_eq (rs_e5 (F := F) c)); iexact H5
end

section
variable (c : Dev nD)
abbrev v1Off : Fin 2 → Fin 3 → ℕ := ![![0, 0, 0], ![1, 0, 0]]
theorem v1Inb : ∀ b a, v1Off b a + S1x1024x2048.size a ≤ S2x1024x2048.size a := by
  intro b; fin_cases b
  · exact inb_S2x1024x2048_S1x1024x2048_0_0_0
  · exact inb_S2x1024x2048_S1x1024x2048_1_0_0
theorem v1_disj : ∀ b b' : Fin 2, b ≠ b' → Disjoint (mV1.access (Rect.unit (v1Off b) S1x1024x2048.size (v1Inb b))).set (mV1.access (Rect.unit (v1Off b') S1x1024x2048.size (v1Inb b'))).set :=
  tile_disj mV1 v1Off S1x1024x2048.size v1Inb (by decide)
theorem v1_cover : Finset.univ.biUnion (fun b => (mV1.access (Rect.unit (v1Off b) S1x1024x2048.size (v1Inb b))).set) = mV1.view.set :=
  tile_cover mV1 v1Off S1x1024x2048.size v1Inb fun i => by
    have h0 : (i 0).val < 2 := (i 0).isLt
    have h1 : (i 1).val < 1024 := (i 1).isLt
    have h2 : (i 2).val < 2048 := (i 2).isLt
    have h : ((i 0).val = 0) ∨ ((i 0).val = 1) := by omega
    rcases h with h | h
    · refine ⟨0, ?_⟩
      intro a; fin_cases a
      · show 0 ≤ (i 0).val ∧ (i 0).val < 0 + 1; omega
      · show 0 ≤ (i 1).val ∧ (i 1).val < 0 + 1024; omega
      · show 0 ≤ (i 2).val ∧ (i 2).val < 0 + 2048; omega
    · refine ⟨1, ?_⟩
      intro a; fin_cases a
      · show 1 ≤ (i 0).val ∧ (i 0).val < 1 + 1; omega
      · show 0 ≤ (i 1).val ∧ (i 1).val < 0 + 1024; omega
      · show 0 ≤ (i 2).val ∧ (i 2).val < 0 + 2048; omega
theorem v1_e0 : (any (c : Thread nD τ) v1S0.view : sProp 𝕄) = any (c : Thread nD τ) (mV1.access (Rect.unit (v1Off 0) S1x1024x2048.size (v1Inb 0))) :=
  any_squeeze (c : Thread nD τ) mV1 (Rect.unit (s := S2x1024x2048) ![0, 0, 0] S1x1024x2048.size inb_S2x1024x2048_S1x1024x2048_0_0_0) _ _
theorem v1_e1 : (any (c : Thread nD τ) v1S1.view : sProp 𝕄) = any (c : Thread nD τ) (mV1.access (Rect.unit (v1Off 1) S1x1024x2048.size (v1Inb 1))) :=
  any_squeeze (c : Thread nD τ) mV1 (Rect.unit (s := S2x1024x2048) ![1, 0, 0] S1x1024x2048.size inb_S2x1024x2048_S1x1024x2048_1_0_0) _ _
theorem v1_any : (any (c : Thread nD τ) mV1.view : sProp 𝕄) ⊢ iprop(any (c : Thread nD τ) v1S0.view ∗ any (c : Thread nD τ) v1S1.view) := by
  have h : (any (c : Thread nD τ) mV1.view : sProp 𝕄) ⊢ iprop(any (c : Thread nD τ) (mV1.access (Rect.unit (v1Off 0) S1x1024x2048.size (v1Inb 0))) ∗ any (c : Thread nD τ) (mV1.access (Rect.unit (v1Off 1) S1x1024x2048.size (v1Inb 1)))) := (any_blocks c mV1 (fun b => Rect.unit (v1Off b) S1x1024x2048.size (v1Inb b)) (v1_disj) (v1_cover)).trans (Entails.of_eq (sep2 _))
  refine h.trans ?_
  iintro ⟨H0, H1⟩
  isplitl [H0]
  · iapply (Entails.of_eq (v1_e0 (F := F) c).symm); iexact H0
  iapply (Entails.of_eq (v1_e1 (F := F) c).symm); iexact H1
theorem any_v1 : iprop(any (c : Thread nD τ) v1S0.view ∗ any (c : Thread nD τ) v1S1.view) ⊢ (any (c : Thread nD τ) mV1.view : sProp 𝕄) := by
  have h : iprop(any (c : Thread nD τ) (mV1.access (Rect.unit (v1Off 0) S1x1024x2048.size (v1Inb 0))) ∗ any (c : Thread nD τ) (mV1.access (Rect.unit (v1Off 1) S1x1024x2048.size (v1Inb 1)))) ⊢ (any (c : Thread nD τ) mV1.view : sProp 𝕄) := (Entails.of_eq (sep2 (fun b => any (c : Thread nD τ) (mV1.access (Rect.unit (v1Off b) S1x1024x2048.size (v1Inb b))))).symm).trans
    (any_join c mV1 (fun b => Rect.unit (v1Off b) S1x1024x2048.size (v1Inb b)) (v1_disj) (v1_cover))
  refine BIBase.Entails.trans ?_ h
  iintro ⟨H0, H1⟩
  isplitl [H0]
  · iapply (Entails.of_eq (v1_e0 (F := F) c)); iexact H0
  iapply (Entails.of_eq (v1_e1 (F := F) c)); iexact H1
end

section
variable (c : Dev nD)
abbrev v2Off : Fin 2 → Fin 3 → ℕ := ![![0, 0, 0], ![1, 0, 0]]
theorem v2Inb : ∀ b a, v2Off b a + S1x2048x1024.size a ≤ S2x2048x1024.size a := by
  intro b; fin_cases b
  · exact inb_S2x2048x1024_S1x2048x1024_0_0_0
  · exact inb_S2x2048x1024_S1x2048x1024_1_0_0
theorem v2_disj : ∀ b b' : Fin 2, b ≠ b' → Disjoint (mV2.access (Rect.unit (v2Off b) S1x2048x1024.size (v2Inb b))).set (mV2.access (Rect.unit (v2Off b') S1x2048x1024.size (v2Inb b'))).set :=
  tile_disj mV2 v2Off S1x2048x1024.size v2Inb (by decide)
theorem v2_cover : Finset.univ.biUnion (fun b => (mV2.access (Rect.unit (v2Off b) S1x2048x1024.size (v2Inb b))).set) = mV2.view.set :=
  tile_cover mV2 v2Off S1x2048x1024.size v2Inb fun i => by
    have h0 : (i 0).val < 2 := (i 0).isLt
    have h1 : (i 1).val < 2048 := (i 1).isLt
    have h2 : (i 2).val < 1024 := (i 2).isLt
    have h : ((i 0).val = 0) ∨ ((i 0).val = 1) := by omega
    rcases h with h | h
    · refine ⟨0, ?_⟩
      intro a; fin_cases a
      · show 0 ≤ (i 0).val ∧ (i 0).val < 0 + 1; omega
      · show 0 ≤ (i 1).val ∧ (i 1).val < 0 + 2048; omega
      · show 0 ≤ (i 2).val ∧ (i 2).val < 0 + 1024; omega
    · refine ⟨1, ?_⟩
      intro a; fin_cases a
      · show 1 ≤ (i 0).val ∧ (i 0).val < 1 + 1; omega
      · show 0 ≤ (i 1).val ∧ (i 1).val < 0 + 2048; omega
      · show 0 ≤ (i 2).val ∧ (i 2).val < 0 + 1024; omega
theorem v2_e0 : (any (c : Thread nD τ) v2S0.view : sProp 𝕄) = any (c : Thread nD τ) (mV2.access (Rect.unit (v2Off 0) S1x2048x1024.size (v2Inb 0))) :=
  any_squeeze (c : Thread nD τ) mV2 (Rect.unit (s := S2x2048x1024) ![0, 0, 0] S1x2048x1024.size inb_S2x2048x1024_S1x2048x1024_0_0_0) _ _
theorem v2_e1 : (any (c : Thread nD τ) v2S1.view : sProp 𝕄) = any (c : Thread nD τ) (mV2.access (Rect.unit (v2Off 1) S1x2048x1024.size (v2Inb 1))) :=
  any_squeeze (c : Thread nD τ) mV2 (Rect.unit (s := S2x2048x1024) ![1, 0, 0] S1x2048x1024.size inb_S2x2048x1024_S1x2048x1024_1_0_0) _ _
theorem v2_any : (any (c : Thread nD τ) mV2.view : sProp 𝕄) ⊢ iprop(any (c : Thread nD τ) v2S0.view ∗ any (c : Thread nD τ) v2S1.view) := by
  have h : (any (c : Thread nD τ) mV2.view : sProp 𝕄) ⊢ iprop(any (c : Thread nD τ) (mV2.access (Rect.unit (v2Off 0) S1x2048x1024.size (v2Inb 0))) ∗ any (c : Thread nD τ) (mV2.access (Rect.unit (v2Off 1) S1x2048x1024.size (v2Inb 1)))) := (any_blocks c mV2 (fun b => Rect.unit (v2Off b) S1x2048x1024.size (v2Inb b)) (v2_disj) (v2_cover)).trans (Entails.of_eq (sep2 _))
  refine h.trans ?_
  iintro ⟨H0, H1⟩
  isplitl [H0]
  · iapply (Entails.of_eq (v2_e0 (F := F) c).symm); iexact H0
  iapply (Entails.of_eq (v2_e1 (F := F) c).symm); iexact H1
theorem any_v2 : iprop(any (c : Thread nD τ) v2S0.view ∗ any (c : Thread nD τ) v2S1.view) ⊢ (any (c : Thread nD τ) mV2.view : sProp 𝕄) := by
  have h : iprop(any (c : Thread nD τ) (mV2.access (Rect.unit (v2Off 0) S1x2048x1024.size (v2Inb 0))) ∗ any (c : Thread nD τ) (mV2.access (Rect.unit (v2Off 1) S1x2048x1024.size (v2Inb 1)))) ⊢ (any (c : Thread nD τ) mV2.view : sProp 𝕄) := (Entails.of_eq (sep2 (fun b => any (c : Thread nD τ) (mV2.access (Rect.unit (v2Off b) S1x2048x1024.size (v2Inb b))))).symm).trans
    (any_join c mV2 (fun b => Rect.unit (v2Off b) S1x2048x1024.size (v2Inb b)) (v2_disj) (v2_cover))
  refine BIBase.Entails.trans ?_ h
  iintro ⟨H0, H1⟩
  isplitl [H0]
  · iapply (Entails.of_eq (v2_e0 (F := F) c)); iexact H0
  iapply (Entails.of_eq (v2_e1 (F := F) c)); iexact H1
end

section
variable (c : Dev nD)
abbrev w1Off : Fin 4 → Fin 3 → ℕ := ![![0, 0, 0], ![1, 0, 0], ![2, 0, 0], ![3, 0, 0]]
theorem w1Inb : ∀ b a, w1Off b a + S1x1024x2048.size a ≤ S4x1024x2048.size a := by
  intro b; fin_cases b
  · exact inb_S4x1024x2048_S1x1024x2048_0_0_0
  · exact inb_S4x1024x2048_S1x1024x2048_1_0_0
  · exact inb_S4x1024x2048_S1x1024x2048_2_0_0
  · exact inb_S4x1024x2048_S1x1024x2048_3_0_0
theorem w1_disj : ∀ b b' : Fin 4, b ≠ b' → Disjoint (mW1.access (Rect.unit (w1Off b) S1x1024x2048.size (w1Inb b))).set (mW1.access (Rect.unit (w1Off b') S1x1024x2048.size (w1Inb b'))).set :=
  tile_disj mW1 w1Off S1x1024x2048.size w1Inb (by decide)
theorem w1_cover : Finset.univ.biUnion (fun b => (mW1.access (Rect.unit (w1Off b) S1x1024x2048.size (w1Inb b))).set) = mW1.view.set :=
  tile_cover mW1 w1Off S1x1024x2048.size w1Inb fun i => by
    have h0 : (i 0).val < 4 := (i 0).isLt
    have h1 : (i 1).val < 1024 := (i 1).isLt
    have h2 : (i 2).val < 2048 := (i 2).isLt
    have h : ((i 0).val = 0) ∨ ((i 0).val = 1) ∨ ((i 0).val = 2) ∨ ((i 0).val = 3) := by omega
    rcases h with h | h | h | h
    · refine ⟨0, ?_⟩
      intro a; fin_cases a
      · show 0 ≤ (i 0).val ∧ (i 0).val < 0 + 1; omega
      · show 0 ≤ (i 1).val ∧ (i 1).val < 0 + 1024; omega
      · show 0 ≤ (i 2).val ∧ (i 2).val < 0 + 2048; omega
    · refine ⟨1, ?_⟩
      intro a; fin_cases a
      · show 1 ≤ (i 0).val ∧ (i 0).val < 1 + 1; omega
      · show 0 ≤ (i 1).val ∧ (i 1).val < 0 + 1024; omega
      · show 0 ≤ (i 2).val ∧ (i 2).val < 0 + 2048; omega
    · refine ⟨2, ?_⟩
      intro a; fin_cases a
      · show 2 ≤ (i 0).val ∧ (i 0).val < 2 + 1; omega
      · show 0 ≤ (i 1).val ∧ (i 1).val < 0 + 1024; omega
      · show 0 ≤ (i 2).val ∧ (i 2).val < 0 + 2048; omega
    · refine ⟨3, ?_⟩
      intro a; fin_cases a
      · show 3 ≤ (i 0).val ∧ (i 0).val < 3 + 1; omega
      · show 0 ≤ (i 1).val ∧ (i 1).val < 0 + 1024; omega
      · show 0 ≤ (i 2).val ∧ (i 2).val < 0 + 2048; omega
theorem w1_e0 (q : PosShare TreeShare) (x : Vec F S1024x2048 .f32) : (own (c : Thread nD τ) w1E0.view q x : sProp 𝕄)
    = own (c : Thread nD τ) (mW1.access (Rect.unit (s := S4x1024x2048) (w1Off 0) S1x1024x2048.size (w1Inb 0))) q (shapeCast S1x1024x2048 x shapeCasts_S1x1024x2048_S1024x2048.symm) :=
  own_squeeze (c : Thread nD τ) mW1 (Rect.unit (s := S4x1024x2048) ![0, 0, 0] S1x1024x2048.size inb_S4x1024x2048_S1x1024x2048_0_0_0) _ _ _ q x
theorem w1_e1 (q : PosShare TreeShare) (x : Vec F S1024x2048 .f32) : (own (c : Thread nD τ) w1E1.view q x : sProp 𝕄)
    = own (c : Thread nD τ) (mW1.access (Rect.unit (s := S4x1024x2048) (w1Off 1) S1x1024x2048.size (w1Inb 1))) q (shapeCast S1x1024x2048 x shapeCasts_S1x1024x2048_S1024x2048.symm) :=
  own_squeeze (c : Thread nD τ) mW1 (Rect.unit (s := S4x1024x2048) ![1, 0, 0] S1x1024x2048.size inb_S4x1024x2048_S1x1024x2048_1_0_0) _ _ _ q x
theorem w1_e2 (q : PosShare TreeShare) (x : Vec F S1024x2048 .f32) : (own (c : Thread nD τ) w1E2.view q x : sProp 𝕄)
    = own (c : Thread nD τ) (mW1.access (Rect.unit (s := S4x1024x2048) (w1Off 2) S1x1024x2048.size (w1Inb 2))) q (shapeCast S1x1024x2048 x shapeCasts_S1x1024x2048_S1024x2048.symm) :=
  own_squeeze (c : Thread nD τ) mW1 (Rect.unit (s := S4x1024x2048) ![2, 0, 0] S1x1024x2048.size inb_S4x1024x2048_S1x1024x2048_2_0_0) _ _ _ q x
theorem w1_e3 (q : PosShare TreeShare) (x : Vec F S1024x2048 .f32) : (own (c : Thread nD τ) w1E3.view q x : sProp 𝕄)
    = own (c : Thread nD τ) (mW1.access (Rect.unit (s := S4x1024x2048) (w1Off 3) S1x1024x2048.size (w1Inb 3))) q (shapeCast S1x1024x2048 x shapeCasts_S1x1024x2048_S1024x2048.symm) :=
  own_squeeze (c : Thread nD τ) mW1 (Rect.unit (s := S4x1024x2048) ![3, 0, 0] S1x1024x2048.size inb_S4x1024x2048_S1x1024x2048_3_0_0) _ _ _ q x

/-- The weights whole are the experts' one by one. -/
theorem w1_own (I : Inp F) (q : PosShare TreeShare) : (own (c : Thread nD τ) mW1.view q (I.w1 c) : sProp 𝕄) = iprop(own (c : Thread nD τ) w1E0.view q (I.W1 c 0) ∗ own (c : Thread nD τ) w1E1.view q (I.W1 c 1) ∗ own (c : Thread nD τ) w1E2.view q (I.W1 c 2) ∗ own (c : Thread nD τ) w1E3.view q (I.W1 c 3)) := by
  have h := own_blocks c mW1 (fun b => Rect.unit (w1Off b) S1x1024x2048.size (w1Inb b)) w1_disj w1_cover q (I.w1 c)
  rw [sep4] at h
  have hk : ∀ b : Fin 4, shapeCast S1x1024x2048 (I.W1 c b) shapeCasts_S1x1024x2048_S1024x2048.symm = fun j => I.w1 c ((Rect.unit (s := S4x1024x2048) (w1Off b) S1x1024x2048.size (w1Inb b)).emb j) := by
    intro b
    funext j
    obtain ⟨u, i, k, rfl⟩ : ∃ u i k, j = ix3 (n0 := 1) (n1 := 1024) (n2 := 2048) u i k := ⟨_, _, _, eq_ix3 j⟩
    rw [shapeCast_ab_1ab_apply]
    have hu : u.val = 0 := by omega
    refine congrArg (I.w1 c) (Eq.symm ?_)
    funext a
    refine Fin.ext ?_
    rw [Rect.emb_apply]
    fin_cases a
    · show w1Off b 0 + 1 * u.val = b.val
      rw [hu]; fin_cases b <;> rfl
    · show w1Off b 1 + 1 * i.val = i.val
      have : w1Off b 1 = 0 := by fin_cases b <;> rfl
      omega
    · show w1Off b 2 + 1 * k.val = k.val
      have : w1Off b 2 = 0 := by fin_cases b <;> rfl
      omega
  have e0 : (own (c : Thread nD τ) w1E0.view q (I.W1 c 0) : sProp 𝕄) = own (c : Thread nD τ) (mW1.access (Rect.unit (s := S4x1024x2048) (w1Off 0) S1x1024x2048.size (w1Inb 0))) q fun j => I.w1 c ((Rect.unit (s := S4x1024x2048) (w1Off 0) S1x1024x2048.size (w1Inb 0)).emb j) :=
    (w1_e0 c q (I.W1 c 0)).trans (congrArg (fun x : Vec F S1x1024x2048 .f32 => (own (c : Thread nD τ) (mW1.access (Rect.unit (s := S4x1024x2048) (w1Off 0) S1x1024x2048.size (w1Inb 0))) q x : sProp 𝕄)) (hk 0))
  have e1 : (own (c : Thread nD τ) w1E1.view q (I.W1 c 1) : sProp 𝕄) = own (c : Thread nD τ) (mW1.access (Rect.unit (s := S4x1024x2048) (w1Off 1) S1x1024x2048.size (w1Inb 1))) q fun j => I.w1 c ((Rect.unit (s := S4x1024x2048) (w1Off 1) S1x1024x2048.size (w1Inb 1)).emb j) :=
    (w1_e1 c q (I.W1 c 1)).trans (congrArg (fun x : Vec F S1x1024x2048 .f32 => (own (c : Thread nD τ) (mW1.access (Rect.unit (s := S4x1024x2048) (w1Off 1) S1x1024x2048.size (w1Inb 1))) q x : sProp 𝕄)) (hk 1))
  have e2 : (own (c : Thread nD τ) w1E2.view q (I.W1 c 2) : sProp 𝕄) = own (c : Thread nD τ) (mW1.access (Rect.unit (s := S4x1024x2048) (w1Off 2) S1x1024x2048.size (w1Inb 2))) q fun j => I.w1 c ((Rect.unit (s := S4x1024x2048) (w1Off 2) S1x1024x2048.size (w1Inb 2)).emb j) :=
    (w1_e2 c q (I.W1 c 2)).trans (congrArg (fun x : Vec F S1x1024x2048 .f32 => (own (c : Thread nD τ) (mW1.access (Rect.unit (s := S4x1024x2048) (w1Off 2) S1x1024x2048.size (w1Inb 2))) q x : sProp 𝕄)) (hk 2))
  have e3 : (own (c : Thread nD τ) w1E3.view q (I.W1 c 3) : sProp 𝕄) = own (c : Thread nD τ) (mW1.access (Rect.unit (s := S4x1024x2048) (w1Off 3) S1x1024x2048.size (w1Inb 3))) q fun j => I.w1 c ((Rect.unit (s := S4x1024x2048) (w1Off 3) S1x1024x2048.size (w1Inb 3)).emb j) :=
    (w1_e3 c q (I.W1 c 3)).trans (congrArg (fun x : Vec F S1x1024x2048 .f32 => (own (c : Thread nD τ) (mW1.access (Rect.unit (s := S4x1024x2048) (w1Off 3) S1x1024x2048.size (w1Inb 3))) q x : sProp 𝕄)) (hk 3))
  rw [e0, e1, e2, e3]
  exact h
end

section
variable (c : Dev nD)
abbrev w2Off : Fin 4 → Fin 3 → ℕ := ![![0, 0, 0], ![1, 0, 0], ![2, 0, 0], ![3, 0, 0]]
theorem w2Inb : ∀ b a, w2Off b a + S1x2048x1024.size a ≤ S4x2048x1024.size a := by
  intro b; fin_cases b
  · exact inb_S4x2048x1024_S1x2048x1024_0_0_0
  · exact inb_S4x2048x1024_S1x2048x1024_1_0_0
  · exact inb_S4x2048x1024_S1x2048x1024_2_0_0
  · exact inb_S4x2048x1024_S1x2048x1024_3_0_0
theorem w2_disj : ∀ b b' : Fin 4, b ≠ b' → Disjoint (mW2.access (Rect.unit (w2Off b) S1x2048x1024.size (w2Inb b))).set (mW2.access (Rect.unit (w2Off b') S1x2048x1024.size (w2Inb b'))).set :=
  tile_disj mW2 w2Off S1x2048x1024.size w2Inb (by decide)
theorem w2_cover : Finset.univ.biUnion (fun b => (mW2.access (Rect.unit (w2Off b) S1x2048x1024.size (w2Inb b))).set) = mW2.view.set :=
  tile_cover mW2 w2Off S1x2048x1024.size w2Inb fun i => by
    have h0 : (i 0).val < 4 := (i 0).isLt
    have h1 : (i 1).val < 2048 := (i 1).isLt
    have h2 : (i 2).val < 1024 := (i 2).isLt
    have h : ((i 0).val = 0) ∨ ((i 0).val = 1) ∨ ((i 0).val = 2) ∨ ((i 0).val = 3) := by omega
    rcases h with h | h | h | h
    · refine ⟨0, ?_⟩
      intro a; fin_cases a
      · show 0 ≤ (i 0).val ∧ (i 0).val < 0 + 1; omega
      · show 0 ≤ (i 1).val ∧ (i 1).val < 0 + 2048; omega
      · show 0 ≤ (i 2).val ∧ (i 2).val < 0 + 1024; omega
    · refine ⟨1, ?_⟩
      intro a; fin_cases a
      · show 1 ≤ (i 0).val ∧ (i 0).val < 1 + 1; omega
      · show 0 ≤ (i 1).val ∧ (i 1).val < 0 + 2048; omega
      · show 0 ≤ (i 2).val ∧ (i 2).val < 0 + 1024; omega
    · refine ⟨2, ?_⟩
      intro a; fin_cases a
      · show 2 ≤ (i 0).val ∧ (i 0).val < 2 + 1; omega
      · show 0 ≤ (i 1).val ∧ (i 1).val < 0 + 2048; omega
      · show 0 ≤ (i 2).val ∧ (i 2).val < 0 + 1024; omega
    · refine ⟨3, ?_⟩
      intro a; fin_cases a
      · show 3 ≤ (i 0).val ∧ (i 0).val < 3 + 1; omega
      · show 0 ≤ (i 1).val ∧ (i 1).val < 0 + 2048; omega
      · show 0 ≤ (i 2).val ∧ (i 2).val < 0 + 1024; omega
theorem w2_e0 (q : PosShare TreeShare) (x : Vec F S2048x1024 .f32) : (own (c : Thread nD τ) w2E0.view q x : sProp 𝕄)
    = own (c : Thread nD τ) (mW2.access (Rect.unit (s := S4x2048x1024) (w2Off 0) S1x2048x1024.size (w2Inb 0))) q (shapeCast S1x2048x1024 x shapeCasts_S1x2048x1024_S2048x1024.symm) :=
  own_squeeze (c : Thread nD τ) mW2 (Rect.unit (s := S4x2048x1024) ![0, 0, 0] S1x2048x1024.size inb_S4x2048x1024_S1x2048x1024_0_0_0) _ _ _ q x
theorem w2_e1 (q : PosShare TreeShare) (x : Vec F S2048x1024 .f32) : (own (c : Thread nD τ) w2E1.view q x : sProp 𝕄)
    = own (c : Thread nD τ) (mW2.access (Rect.unit (s := S4x2048x1024) (w2Off 1) S1x2048x1024.size (w2Inb 1))) q (shapeCast S1x2048x1024 x shapeCasts_S1x2048x1024_S2048x1024.symm) :=
  own_squeeze (c : Thread nD τ) mW2 (Rect.unit (s := S4x2048x1024) ![1, 0, 0] S1x2048x1024.size inb_S4x2048x1024_S1x2048x1024_1_0_0) _ _ _ q x
theorem w2_e2 (q : PosShare TreeShare) (x : Vec F S2048x1024 .f32) : (own (c : Thread nD τ) w2E2.view q x : sProp 𝕄)
    = own (c : Thread nD τ) (mW2.access (Rect.unit (s := S4x2048x1024) (w2Off 2) S1x2048x1024.size (w2Inb 2))) q (shapeCast S1x2048x1024 x shapeCasts_S1x2048x1024_S2048x1024.symm) :=
  own_squeeze (c : Thread nD τ) mW2 (Rect.unit (s := S4x2048x1024) ![2, 0, 0] S1x2048x1024.size inb_S4x2048x1024_S1x2048x1024_2_0_0) _ _ _ q x
theorem w2_e3 (q : PosShare TreeShare) (x : Vec F S2048x1024 .f32) : (own (c : Thread nD τ) w2E3.view q x : sProp 𝕄)
    = own (c : Thread nD τ) (mW2.access (Rect.unit (s := S4x2048x1024) (w2Off 3) S1x2048x1024.size (w2Inb 3))) q (shapeCast S1x2048x1024 x shapeCasts_S1x2048x1024_S2048x1024.symm) :=
  own_squeeze (c : Thread nD τ) mW2 (Rect.unit (s := S4x2048x1024) ![3, 0, 0] S1x2048x1024.size inb_S4x2048x1024_S1x2048x1024_3_0_0) _ _ _ q x

/-- The weights whole are the experts' one by one. -/
theorem w2_own (I : Inp F) (q : PosShare TreeShare) : (own (c : Thread nD τ) mW2.view q (I.w2 c) : sProp 𝕄) = iprop(own (c : Thread nD τ) w2E0.view q (I.W2 c 0) ∗ own (c : Thread nD τ) w2E1.view q (I.W2 c 1) ∗ own (c : Thread nD τ) w2E2.view q (I.W2 c 2) ∗ own (c : Thread nD τ) w2E3.view q (I.W2 c 3)) := by
  have h := own_blocks c mW2 (fun b => Rect.unit (w2Off b) S1x2048x1024.size (w2Inb b)) w2_disj w2_cover q (I.w2 c)
  rw [sep4] at h
  have hk : ∀ b : Fin 4, shapeCast S1x2048x1024 (I.W2 c b) shapeCasts_S1x2048x1024_S2048x1024.symm = fun j => I.w2 c ((Rect.unit (s := S4x2048x1024) (w2Off b) S1x2048x1024.size (w2Inb b)).emb j) := by
    intro b
    funext j
    obtain ⟨u, i, k, rfl⟩ : ∃ u i k, j = ix3 (n0 := 1) (n1 := 2048) (n2 := 1024) u i k := ⟨_, _, _, eq_ix3 j⟩
    rw [shapeCast_ab_1ab_apply]
    have hu : u.val = 0 := by omega
    refine congrArg (I.w2 c) (Eq.symm ?_)
    funext a
    refine Fin.ext ?_
    rw [Rect.emb_apply]
    fin_cases a
    · show w2Off b 0 + 1 * u.val = b.val
      rw [hu]; fin_cases b <;> rfl
    · show w2Off b 1 + 1 * i.val = i.val
      have : w2Off b 1 = 0 := by fin_cases b <;> rfl
      omega
    · show w2Off b 2 + 1 * k.val = k.val
      have : w2Off b 2 = 0 := by fin_cases b <;> rfl
      omega
  have e0 : (own (c : Thread nD τ) w2E0.view q (I.W2 c 0) : sProp 𝕄) = own (c : Thread nD τ) (mW2.access (Rect.unit (s := S4x2048x1024) (w2Off 0) S1x2048x1024.size (w2Inb 0))) q fun j => I.w2 c ((Rect.unit (s := S4x2048x1024) (w2Off 0) S1x2048x1024.size (w2Inb 0)).emb j) :=
    (w2_e0 c q (I.W2 c 0)).trans (congrArg (fun x : Vec F S1x2048x1024 .f32 => (own (c : Thread nD τ) (mW2.access (Rect.unit (s := S4x2048x1024) (w2Off 0) S1x2048x1024.size (w2Inb 0))) q x : sProp 𝕄)) (hk 0))
  have e1 : (own (c : Thread nD τ) w2E1.view q (I.W2 c 1) : sProp 𝕄) = own (c : Thread nD τ) (mW2.access (Rect.unit (s := S4x2048x1024) (w2Off 1) S1x2048x1024.size (w2Inb 1))) q fun j => I.w2 c ((Rect.unit (s := S4x2048x1024) (w2Off 1) S1x2048x1024.size (w2Inb 1)).emb j) :=
    (w2_e1 c q (I.W2 c 1)).trans (congrArg (fun x : Vec F S1x2048x1024 .f32 => (own (c : Thread nD τ) (mW2.access (Rect.unit (s := S4x2048x1024) (w2Off 1) S1x2048x1024.size (w2Inb 1))) q x : sProp 𝕄)) (hk 1))
  have e2 : (own (c : Thread nD τ) w2E2.view q (I.W2 c 2) : sProp 𝕄) = own (c : Thread nD τ) (mW2.access (Rect.unit (s := S4x2048x1024) (w2Off 2) S1x2048x1024.size (w2Inb 2))) q fun j => I.w2 c ((Rect.unit (s := S4x2048x1024) (w2Off 2) S1x2048x1024.size (w2Inb 2)).emb j) :=
    (w2_e2 c q (I.W2 c 2)).trans (congrArg (fun x : Vec F S1x2048x1024 .f32 => (own (c : Thread nD τ) (mW2.access (Rect.unit (s := S4x2048x1024) (w2Off 2) S1x2048x1024.size (w2Inb 2))) q x : sProp 𝕄)) (hk 2))
  have e3 : (own (c : Thread nD τ) w2E3.view q (I.W2 c 3) : sProp 𝕄) = own (c : Thread nD τ) (mW2.access (Rect.unit (s := S4x2048x1024) (w2Off 3) S1x2048x1024.size (w2Inb 3))) q fun j => I.w2 c ((Rect.unit (s := S4x2048x1024) (w2Off 3) S1x2048x1024.size (w2Inb 3)).emb j) :=
    (w2_e3 c q (I.W2 c 3)).trans (congrArg (fun x : Vec F S1x2048x1024 .f32 => (own (c : Thread nD τ) (mW2.access (Rect.unit (s := S4x2048x1024) (w2Off 3) S1x2048x1024.size (w2Inb 3))) q x : sProp 𝕄)) (hk 3))
  rw [e0, e1, e2, e3]
  exact h
end

end Cert.Moe

end
-- ==== Proof.Vals.lean ====
/-
  The values the kernel stores and hands on, named.
-/
module

public import proofs.«01_k».proof.Proof.Proto
public import Idealize.ShloMosaic.Lib.Pipeline.Value

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

theorem pv_1 (I : Inp F) (c : Dev nD) : k0_pay1 (I.x c) = (I.x c) := by
  simp only [k0_pay1, shapeCast_shapeCast, shapeCast_self]
  try rfl

theorem pv_2 (I : Inp F) (c : Dev nD) : k0_pay2 (I.rt c) = (shapeCast S1x4x1024 (I.rt (back 0 c)) shapeCasts_S1x4x1024_S4x1024.symm) := by
  simp only [k0_pay2, shapeCast_shapeCast, shapeCast_self]
  try rfl

theorem pv_3 (I : Inp F) (c : Dev nD) : k0_pay3 (shapeCast S1x4x1024 (I.rt (back 0 c)) shapeCasts_S1x4x1024_S4x1024.symm) = (shapeCast S1x4x1024 (I.rt (back 0 c)) shapeCasts_S1x4x1024_S4x1024.symm) := by
  simp only [k0_pay3, shapeCast_shapeCast, shapeCast_self]
  try rfl

theorem pv_4 (I : Inp F) (c : Dev nD) : k0_pay4 (shapeCast S1x4x1024 (I.rt (back 1 c)) shapeCasts_S1x4x1024_S4x1024.symm) = (shapeCast S1x4x1024 (I.rt (back 1 c)) shapeCasts_S1x4x1024_S4x1024.symm) := by
  simp only [k0_pay4, shapeCast_shapeCast, shapeCast_self]
  try rfl

theorem pv_5 (I : Inp F) (c : Dev nD) : k0_pay5 (shapeCast S1x4x1024 (I.rt (back 2 c)) shapeCasts_S1x4x1024_S4x1024.symm) = (shapeCast S1x4x1024 (I.rt (back 2 c)) shapeCasts_S1x4x1024_S4x1024.symm) := by
  simp only [k0_pay5, shapeCast_shapeCast, shapeCast_self]
  try rfl

theorem pv_6 (I : Inp F) (c : Dev nD) : k0_pay6 (shapeCast S1x4x1024 (I.rt (back 3 c)) shapeCasts_S1x4x1024_S4x1024.symm) = (shapeCast S1x4x1024 (I.rt (back 3 c)) shapeCasts_S1x4x1024_S4x1024.symm) := by
  simp only [k0_pay6, shapeCast_shapeCast, shapeCast_self]
  try rfl

theorem pv_7 (I : Inp F) (c : Dev nD) : k0_pay7 (I.RT4 c) = (I.RT c) := by
  simp only [k0_pay7, shapeCast_shapeCast, shapeCast_self]
  try rfl

theorem pv_8 (I : Inp F) (c : Dev nD) : k0_pay8 (I.x c) = (I.xk c 0) := by
  simp only [k0_pay8, shapeCast_shapeCast, shapeCast_self]
  try rfl

theorem pv_11 (I : Inp F) (c : Dev nD) : k0_pay11 (I.RT c) (I.x c) = (ex1 (I.RT c) (I.xk c 0)) := by
  simp only [k0_pay8, k0_pay9, k0_pay10, k0_pay11, shapeCast_shapeCast, shapeCast_self]
  try rfl

theorem pv_14 (I : Inp F) (c : Dev nD) : k0_pay14 (I.RT c) (I.x c) = (ex2 (I.RT c) (I.xk c 0)) := by
  simp only [k0_pay8, k0_pay9, k0_pay10, k0_pay11, k0_pay12, k0_pay13, k0_pay14, shapeCast_shapeCast, shapeCast_self]
  try rfl

theorem pv_15 (I : Inp F) (c : Dev nD) : k0_pay15 (I.RT c) (I.x c) = (ratio (I.RT c) (I.xk c 0)) := by
  simp only [k0_pay8, k0_pay9, k0_pay10, k0_pay11, k0_pay12, k0_pay13, k0_pay15, shapeCast_shapeCast, shapeCast_self]
  try rfl

theorem pv_16 (I : Inp F) (c : Dev nD) : k0_pay16 (I.RT c) (I.x c) = (sc1 (I.RT c) (I.xk c 0)) := by
  simp only [k0_pay8, k0_pay9, k0_pay10, k0_pay11, k0_pay12, k0_pay13, k0_pay15, k0_pay16, shapeCast_shapeCast, shapeCast_self]
  try rfl

theorem pv_17 (I : Inp F) (c : Dev nD) : k0_pay17 (ratio (I.RT c) (I.xk c 0)) (Scalar.ofBits .f32 0x3F800000#32) = (sc2 (I.RT c) (I.xk c 0)) := by
  simp only [k0_pay17, shapeCast_shapeCast, shapeCast_self]
  try rfl

theorem pv_18 (I : Inp F) (c : Dev nD) : k0_pay18 (yWord c) (I.xk c 0) (ex1 (I.RT c) (I.xk c 0)) (ex2 (I.RT c) (I.xk c 0)) (ratio (I.RT c) (I.xk c 0)) (sc1 (I.RT c) (I.xk c 0)) (Scalar.ofBits .f32 0x3F800000#32) (shapeCast S1x1024x2048 (I.W1 c 0) shapeCasts_S1x1024x2048_S1024x2048.symm) (shapeCast S1x2048x1024 (I.W2 c 0) shapeCasts_S1x2048x1024_S2048x1024.symm) = (I.acc1 c 0) := by
  simp only [k0_pay17, k0_pay18, shapeCast_shapeCast, shapeCast_self]
  try rfl

theorem pv_19 (I : Inp F) (c : Dev nD) : k0_pay19 (yWord c) (ex1 (I.RT c) (I.xk c 0)) (ex2 (I.RT c) (I.xk c 0)) (ratio (I.RT c) (I.xk c 0)) (sc1 (I.RT c) (I.xk c 0)) (Scalar.ofBits .f32 0x3F800000#32) = (weight (exNo (yWord c) 1#32) (ex1 (I.RT c) (I.xk c 0)) (ex2 (I.RT c) (I.xk c 0)) (sc1 (I.RT c) (I.xk c 0)) (sc2 (I.RT c) (I.xk c 0))) := by
  simp only [k0_pay17, k0_pay19, shapeCast_shapeCast, shapeCast_self]
  try rfl

theorem pv_20 (I : Inp F) (c : Dev nD) : k0_pay20 (I.xk c 0) (weight (exNo (yWord c) 1#32) (ex1 (I.RT c) (I.xk c 0)) (ex2 (I.RT c) (I.xk c 0)) (sc1 (I.RT c) (I.xk c 0)) (sc2 (I.RT c) (I.xk c 0))) (shapeCast S1x1024x2048 (I.W1 c 1) shapeCasts_S1x1024x2048_S1024x2048.symm) (shapeCast S1x2048x1024 (I.W2 c 1) shapeCasts_S1x2048x1024_S2048x1024.symm) (I.acc1 c 0) = (I.acc2 c 0) := by
  simp only [k0_pay20, shapeCast_shapeCast, shapeCast_self]
  try rfl

theorem pv_21 (I : Inp F) (c : Dev nD) : k0_pay21 (shapeCast S1x256x1024 (I.xk c 1) shapeCasts_S1x256x1024_S256x1024.symm) = (I.xk c 1) := by
  simp only [k0_pay21, shapeCast_shapeCast, shapeCast_self]
  try rfl

theorem pv_22 (I : Inp F) (c : Dev nD) : k0_pay22 (I.xk c 1) = (I.xk c 1) := by
  simp only [k0_pay22, shapeCast_shapeCast, shapeCast_self]
  try rfl

theorem pv_25 (I : Inp F) (c : Dev nD) : k0_pay25 (I.RT c) (I.xk c 1) = (ex1 (I.RT c) (I.xk c 1)) := by
  simp only [k0_pay23, k0_pay24, k0_pay25, shapeCast_shapeCast, shapeCast_self]
  try rfl

theorem pv_28 (I : Inp F) (c : Dev nD) : k0_pay28 (I.RT c) (I.xk c 1) = (ex2 (I.RT c) (I.xk c 1)) := by
  simp only [k0_pay23, k0_pay24, k0_pay25, k0_pay26, k0_pay27, k0_pay28, shapeCast_shapeCast, shapeCast_self]
  try rfl

theorem pv_29 (I : Inp F) (c : Dev nD) : k0_pay29 (I.RT c) (I.xk c 1) = (ratio (I.RT c) (I.xk c 1)) := by
  simp only [k0_pay23, k0_pay24, k0_pay25, k0_pay26, k0_pay27, k0_pay29, shapeCast_shapeCast, shapeCast_self]
  try rfl

theorem pv_30 (I : Inp F) (c : Dev nD) : k0_pay30 (I.RT c) (I.xk c 1) = (addf ones (ratio (I.RT c) (I.xk c 1))) := by
  simp only [k0_pay23, k0_pay24, k0_pay25, k0_pay26, k0_pay27, k0_pay29, k0_pay30, shapeCast_shapeCast, shapeCast_self]
  try rfl

theorem pv_31 (I : Inp F) (c : Dev nD) : k0_pay31 (addf ones (ratio (I.RT c) (I.xk c 1))) (Scalar.ofBits .f32 0x3F800000#32) = (sc1 (I.RT c) (I.xk c 1)) := by
  simp only [k0_pay31, shapeCast_shapeCast, shapeCast_self]
  try rfl

theorem pv_32 (I : Inp F) (c : Dev nD) : k0_pay32 (ratio (I.RT c) (I.xk c 1)) = (sc2 (I.RT c) (I.xk c 1)) := by
  simp only [k0_pay32, shapeCast_shapeCast, shapeCast_self]
  try rfl

theorem pv_33 (I : Inp F) (c : Dev nD) : k0_pay33 (yWord c) (I.xk c 1) (ex1 (I.RT c) (I.xk c 1)) (ex2 (I.RT c) (I.xk c 1)) (ratio (I.RT c) (I.xk c 1)) (addf ones (ratio (I.RT c) (I.xk c 1))) (Scalar.ofBits .f32 0x3F800000#32) (shapeCast S1x1024x2048 (I.W1 c 0) shapeCasts_S1x1024x2048_S1024x2048.symm) (shapeCast S1x2048x1024 (I.W2 c 0) shapeCasts_S1x2048x1024_S2048x1024.symm) = (I.acc1 c 1) := by
  simp only [k0_pay31, k0_pay32, k0_pay33, shapeCast_shapeCast, shapeCast_self]
  try rfl

theorem pv_34 (I : Inp F) (c : Dev nD) : k0_pay34 (yWord c) (ex1 (I.RT c) (I.xk c 1)) (addf ones (ratio (I.RT c) (I.xk c 1))) (Scalar.ofBits .f32 0x3F800000#32) = (mulf (sc1 (I.RT c) (I.xk c 1)) (sitofp .f32 (extui 32 (cmpi .eq (ex1 (I.RT c) (I.xk c 1)) (broadcast S256x1 (exNo (yWord c) 1#32))) natLt_1_32))) := by
  simp only [k0_pay31, k0_pay34, shapeCast_shapeCast, shapeCast_self]
  try rfl

theorem pv_35 (I : Inp F) (c : Dev nD) : k0_pay35 (yWord c) (ex2 (I.RT c) (I.xk c 1)) = (extui 32 (cmpi .eq (ex2 (I.RT c) (I.xk c 1)) (broadcast S256x1 (exNo (yWord c) 1#32))) natLt_1_32) := by
  simp only [k0_pay35, shapeCast_shapeCast, shapeCast_self]
  try rfl

theorem pv_36 (I : Inp F) (c : Dev nD) : k0_pay36 (I.xk c 1) (sc2 (I.RT c) (I.xk c 1)) (mulf (sc1 (I.RT c) (I.xk c 1)) (sitofp .f32 (extui 32 (cmpi .eq (ex1 (I.RT c) (I.xk c 1)) (broadcast S256x1 (exNo (yWord c) 1#32))) natLt_1_32))) (extui 32 (cmpi .eq (ex2 (I.RT c) (I.xk c 1)) (broadcast S256x1 (exNo (yWord c) 1#32))) natLt_1_32) (shapeCast S1x1024x2048 (I.W1 c 1) shapeCasts_S1x1024x2048_S1024x2048.symm) (shapeCast S1x2048x1024 (I.W2 c 1) shapeCasts_S1x2048x1024_S2048x1024.symm) (I.acc1 c 1) = (I.acc2 c 1) := by
  simp only [k0_pay36, shapeCast_shapeCast, shapeCast_self]
  try rfl

theorem pv_37 (I : Inp F) (c : Dev nD) : k0_pay37 (shapeCast S1x256x1024 (I.xk c 2) shapeCasts_S1x256x1024_S256x1024.symm) = (I.xk c 2) := by
  simp only [k0_pay37, shapeCast_shapeCast, shapeCast_self]
  try rfl

theorem pv_38 (I : Inp F) (c : Dev nD) : k0_pay38 (I.xk c 2) = (I.xk c 2) := by
  simp only [k0_pay38, shapeCast_shapeCast, shapeCast_self]
  try rfl

theorem pv_40 (I : Inp F) (c : Dev nD) : k0_pay40 (I.RT c) (I.xk c 2) = (rmax (gates (I.RT c) (I.xk c 2))) := by
  simp only [k0_pay39, k0_pay40, shapeCast_shapeCast, shapeCast_self]
  try rfl

theorem pv_41 (I : Inp F) (c : Dev nD) : k0_pay41 (I.RT c) (I.xk c 2) = (ex1 (I.RT c) (I.xk c 2)) := by
  simp only [k0_pay39, k0_pay40, k0_pay41, shapeCast_shapeCast, shapeCast_self]
  try rfl

theorem pv_42 (I : Inp F) (c : Dev nD) : k0_pay42 (I.RT c) (I.xk c 2) = (masked (gates (I.RT c) (I.xk c 2))) := by
  simp only [k0_pay39, k0_pay40, k0_pay41, k0_pay42, shapeCast_shapeCast, shapeCast_self]
  try rfl

theorem pv_43 (I : Inp F) (c : Dev nD) : k0_pay43 (I.RT c) (I.xk c 2) = (rmax (masked (gates (I.RT c) (I.xk c 2)))) := by
  simp only [k0_pay39, k0_pay40, k0_pay41, k0_pay42, k0_pay43, shapeCast_shapeCast, shapeCast_self]
  try rfl

theorem pv_44 (I : Inp F) (c : Dev nD) : k0_pay44 (I.RT c) (I.xk c 2) = (broadcastTo S256x16 (rmax (masked (gates (I.RT c) (I.xk c 2)))) broadcasts_S256x1_S256x16) := by
  simp only [k0_pay39, k0_pay40, k0_pay41, k0_pay42, k0_pay43, k0_pay44, shapeCast_shapeCast, shapeCast_self]
  try rfl

theorem pv_45 (I : Inp F) (c : Dev nD) : k0_pay45 ids (masked (gates (I.RT c) (I.xk c 2))) (broadcastTo S256x16 (rmax (masked (gates (I.RT c) (I.xk c 2)))) broadcasts_S256x1_S256x16) = (ex2 (I.RT c) (I.xk c 2)) := by
  simp only [k0_pay45, shapeCast_shapeCast, shapeCast_self]
  try rfl

theorem pv_47 (I : Inp F) (c : Dev nD) : k0_pay47 (rmax (gates (I.RT c) (I.xk c 2))) (rmax (masked (gates (I.RT c) (I.xk c 2)))) = (sc1 (I.RT c) (I.xk c 2)) := by
  simp only [k0_pay46, k0_pay47, shapeCast_shapeCast, shapeCast_self]
  try rfl

theorem pv_48 (I : Inp F) (c : Dev nD) : k0_pay48 (rmax (gates (I.RT c) (I.xk c 2))) (rmax (masked (gates (I.RT c) (I.xk c 2)))) = (sc2 (I.RT c) (I.xk c 2)) := by
  simp only [k0_pay46, k0_pay48, shapeCast_shapeCast, shapeCast_self]
  try rfl

theorem pv_49 (I : Inp F) (c : Dev nD) : k0_pay49 (yWord c) (I.xk c 2) ids (rmax (gates (I.RT c) (I.xk c 2))) (ex1 (I.RT c) (I.xk c 2)) (masked (gates (I.RT c) (I.xk c 2))) (rmax (masked (gates (I.RT c) (I.xk c 2)))) (broadcastTo S256x16 (rmax (masked (gates (I.RT c) (I.xk c 2)))) broadcasts_S256x1_S256x16) (shapeCast S1x1024x2048 (I.W1 c 0) shapeCasts_S1x1024x2048_S1024x2048.symm) (shapeCast S1x2048x1024 (I.W2 c 0) shapeCasts_S1x2048x1024_S2048x1024.symm) = (I.acc1 c 2) := by
  simp only [k0_pay45, k0_pay46, k0_pay47, k0_pay48, k0_pay49, shapeCast_shapeCast, shapeCast_self]
  try rfl

theorem pv_50 (I : Inp F) (c : Dev nD) : k0_pay50 (yWord c) (I.xk c 2) (ex1 (I.RT c) (I.xk c 2)) (ex2 (I.RT c) (I.xk c 2)) (sc1 (I.RT c) (I.xk c 2)) (sc2 (I.RT c) (I.xk c 2)) (shapeCast S1x1024x2048 (I.W1 c 1) shapeCasts_S1x1024x2048_S1024x2048.symm) (shapeCast S1x2048x1024 (I.W2 c 1) shapeCasts_S1x2048x1024_S2048x1024.symm) (I.acc1 c 2) = (I.acc2 c 2) := by
  simp only [k0_pay50, shapeCast_shapeCast, shapeCast_self]
  try rfl

theorem pv_51 (I : Inp F) (c : Dev nD) : k0_pay51 (shapeCast S1x256x1024 (I.xk c 3) shapeCasts_S1x256x1024_S256x1024.symm) = (I.xk c 3) := by
  simp only [k0_pay51, shapeCast_shapeCast, shapeCast_self]
  try rfl

theorem pv_52 (I : Inp F) (c : Dev nD) : k0_pay52 (I.xk c 3) = (I.xk c 3) := by
  simp only [k0_pay52, shapeCast_shapeCast, shapeCast_self]
  try rfl

theorem pv_55 (I : Inp F) (c : Dev nD) : k0_pay55 (I.RT c) (I.xk c 3) = (ex1 (I.RT c) (I.xk c 3)) := by
  simp only [k0_pay53, k0_pay54, k0_pay55, shapeCast_shapeCast, shapeCast_self]
  try rfl

theorem pv_58 (I : Inp F) (c : Dev nD) : k0_pay58 (I.RT c) (I.xk c 3) = (ex2 (I.RT c) (I.xk c 3)) := by
  simp only [k0_pay53, k0_pay54, k0_pay55, k0_pay56, k0_pay57, k0_pay58, shapeCast_shapeCast, shapeCast_self]
  try rfl

theorem pv_59 (I : Inp F) (c : Dev nD) : k0_pay59 (I.RT c) (I.xk c 3) = (ratio (I.RT c) (I.xk c 3)) := by
  simp only [k0_pay53, k0_pay54, k0_pay55, k0_pay56, k0_pay57, k0_pay59, shapeCast_shapeCast, shapeCast_self]
  try rfl

theorem pv_60 (I : Inp F) (c : Dev nD) : k0_pay60 (I.RT c) (I.xk c 3) = (addf ones (ratio (I.RT c) (I.xk c 3))) := by
  simp only [k0_pay53, k0_pay54, k0_pay55, k0_pay56, k0_pay57, k0_pay59, k0_pay60, shapeCast_shapeCast, shapeCast_self]
  try rfl

theorem pv_61 (I : Inp F) (c : Dev nD) : k0_pay61 (F := F) = ones := by
  simp only [k0_pay61, shapeCast_shapeCast, shapeCast_self]
  try rfl

theorem pv_62 (I : Inp F) (c : Dev nD) : k0_pay62 (addf ones (ratio (I.RT c) (I.xk c 3))) ones = (sc1 (I.RT c) (I.xk c 3)) := by
  simp only [k0_pay62, shapeCast_shapeCast, shapeCast_self]
  try rfl

theorem pv_63 (I : Inp F) (c : Dev nD) : k0_pay63 (ratio (I.RT c) (I.xk c 3)) = (sc2 (I.RT c) (I.xk c 3)) := by
  simp only [k0_pay63, shapeCast_shapeCast, shapeCast_self]
  try rfl

theorem pv_64 (I : Inp F) (c : Dev nD) : k0_pay64 (yWord c) (I.xk c 3) (ex1 (I.RT c) (I.xk c 3)) (ex2 (I.RT c) (I.xk c 3)) (ratio (I.RT c) (I.xk c 3)) (addf ones (ratio (I.RT c) (I.xk c 3))) ones (shapeCast S1x1024x2048 (I.W1 c 0) shapeCasts_S1x1024x2048_S1024x2048.symm) (shapeCast S1x2048x1024 (I.W2 c 0) shapeCasts_S1x2048x1024_S2048x1024.symm) = (I.acc1 c 3) := by
  simp only [k0_pay62, k0_pay63, k0_pay64, shapeCast_shapeCast, shapeCast_self]
  try rfl

theorem pv_65 (I : Inp F) (c : Dev nD) : k0_pay65 (yWord c) (I.xk c 3) (ex1 (I.RT c) (I.xk c 3)) (ex2 (I.RT c) (I.xk c 3)) (sc1 (I.RT c) (I.xk c 3)) (sc2 (I.RT c) (I.xk c 3)) (shapeCast S1x1024x2048 (I.W1 c 1) shapeCasts_S1x1024x2048_S1024x2048.symm) (shapeCast S1x2048x1024 (I.W2 c 1) shapeCasts_S1x2048x1024_S2048x1024.symm) (I.acc1 c 3) = (I.acc2 c 3) := by
  simp only [k0_pay65, shapeCast_shapeCast, shapeCast_self]
  try rfl

theorem pv_66 (I : Inp F) (c : Dev nD) : k0_pay66 (I.acc2 c 3) = (I.acc2 c 3) := by
  simp only [k0_pay66, shapeCast_shapeCast, shapeCast_self]
  try rfl

theorem pv_67 (I : Inp F) (c : Dev nD) : k0_pay67 (yWord c) (ex1 (I.RT c) (I.xk c 1)) (ex2 (I.RT c) (I.xk c 1)) (sc1 (I.RT c) (I.xk c 1)) (sc2 (I.RT c) (I.xk c 1)) (I.xk c 1) (shapeCast S1x1024x2048 (I.W1 c 2) shapeCasts_S1x1024x2048_S1024x2048.symm) (shapeCast S1x2048x1024 (I.W2 c 2) shapeCasts_S1x2048x1024_S2048x1024.symm) = (I.ctr c 1 2 2#32) := by
  simp only [k0_pay67, shapeCast_shapeCast, shapeCast_self]
  try rfl

theorem pv_68 (I : Inp F) (c : Dev nD) : k0_pay68 (I.ctr c 1 2 2#32) (I.acc2 c 1) = (I.acc3 c 1) := by
  simp only [k0_pay68, shapeCast_shapeCast, shapeCast_self]
  try rfl

theorem pv_69 (I : Inp F) (c : Dev nD) : k0_pay69 (yWord c) (ex1 (I.RT c) (I.xk c 2)) (ex2 (I.RT c) (I.xk c 2)) (sc1 (I.RT c) (I.xk c 2)) (sc2 (I.RT c) (I.xk c 2)) = (weight (exNo (yWord c) 2#32) (ex1 (I.RT c) (I.xk c 2)) (ex2 (I.RT c) (I.xk c 2)) (sc1 (I.RT c) (I.xk c 2)) (sc2 (I.RT c) (I.xk c 2))) := by
  simp only [k0_pay69, shapeCast_shapeCast, shapeCast_self]
  try rfl

theorem pv_70 (I : Inp F) (c : Dev nD) : k0_pay70 (I.xk c 2) (shapeCast S1x1024x2048 (I.W1 c 2) shapeCasts_S1x1024x2048_S1024x2048.symm) = (matmul dot_S256x1024_S1024x2048_S256x2048_1_0_0_1_n_n none (I.xk c 2) (I.W1 c 2) (constant S256x2048 .f32 0x00000000#32)) := by
  simp only [k0_pay70, shapeCast_shapeCast, shapeCast_self]
  try rfl

theorem pv_71 (I : Inp F) (c : Dev nD) : k0_pay71 (weight (exNo (yWord c) 2#32) (ex1 (I.RT c) (I.xk c 2)) (ex2 (I.RT c) (I.xk c 2)) (sc1 (I.RT c) (I.xk c 2)) (sc2 (I.RT c) (I.xk c 2))) (matmul dot_S256x1024_S1024x2048_S256x2048_1_0_0_1_n_n none (I.xk c 2) (I.W1 c 2) (constant S256x2048 .f32 0x00000000#32)) (Scalar.ofBits .f32 0x00000000#32) (shapeCast S1x2048x1024 (I.W2 c 2) shapeCasts_S1x2048x1024_S2048x1024.symm) (I.acc2 c 2) = (I.acc3 c 2) := by
  simp only [k0_pay71, shapeCast_shapeCast, shapeCast_self]
  try rfl

theorem pv_72 (I : Inp F) (c : Dev nD) : k0_pay72 (yWord c) (ex1 (I.RT c) (I.xk c 3)) (sc1 (I.RT c) (I.xk c 3)) = (mulf (sc1 (I.RT c) (I.xk c 3)) (sitofp .f32 (extui 32 (cmpi .eq (ex1 (I.RT c) (I.xk c 3)) (broadcast S256x1 (exNo (yWord c) 2#32))) natLt_1_32))) := by
  simp only [k0_pay72, shapeCast_shapeCast, shapeCast_self]
  try rfl

theorem pv_73 (I : Inp F) (c : Dev nD) : k0_pay73 (yWord c) = (broadcast S256x1 (exNo (yWord c) 2#32)) := by
  simp only [k0_pay73, shapeCast_shapeCast, shapeCast_self]
  try rfl

theorem pv_74 (I : Inp F) (c : Dev nD) : k0_pay74 (ex2 (I.RT c) (I.xk c 3)) (sc2 (I.RT c) (I.xk c 3)) (I.xk c 3) (mulf (sc1 (I.RT c) (I.xk c 3)) (sitofp .f32 (extui 32 (cmpi .eq (ex1 (I.RT c) (I.xk c 3)) (broadcast S256x1 (exNo (yWord c) 2#32))) natLt_1_32))) (broadcast S256x1 (exNo (yWord c) 2#32)) (shapeCast S1x1024x2048 (I.W1 c 2) shapeCasts_S1x1024x2048_S1024x2048.symm) (shapeCast S1x2048x1024 (I.W2 c 2) shapeCasts_S1x2048x1024_S2048x1024.symm) (I.acc2 c 3) = (I.acc3 c 3) := by
  simp only [k0_pay74, shapeCast_shapeCast, shapeCast_self]
  try rfl

theorem pv_75 (I : Inp F) (c : Dev nD) : k0_pay75 (yWord c) (ex1 (I.RT c) (I.xk c 0)) (ex2 (I.RT c) (I.xk c 0)) (sc1 (I.RT c) (I.xk c 0)) (sc2 (I.RT c) (I.xk c 0)) (I.x c) (shapeCast S1x1024x2048 (I.W1 c 2) shapeCasts_S1x1024x2048_S1024x2048.symm) (shapeCast S1x2048x1024 (I.W2 c 2) shapeCasts_S1x2048x1024_S2048x1024.symm) (I.acc2 c 0) = (I.acc3 c 0) := by
  simp only [k0_pay75, shapeCast_shapeCast, shapeCast_self]
  try rfl

theorem pv_76 (I : Inp F) (c : Dev nD) : k0_pay76 (yWord c) (ex1 (I.RT c) (I.xk c 1)) (ex2 (I.RT c) (I.xk c 1)) (sc1 (I.RT c) (I.xk c 1)) (sc2 (I.RT c) (I.xk c 1)) = (weight0 (exNo (yWord c) 3#32) (ex1 (I.RT c) (I.xk c 1)) (ex2 (I.RT c) (I.xk c 1)) (sc1 (I.RT c) (I.xk c 1)) (sc2 (I.RT c) (I.xk c 1))) := by
  simp only [k0_pay76, shapeCast_shapeCast, shapeCast_self]
  try rfl

theorem pv_77 (I : Inp F) (c : Dev nD) : k0_pay77 (weight0 (exNo (yWord c) 3#32) (ex1 (I.RT c) (I.xk c 1)) (ex2 (I.RT c) (I.xk c 1)) (sc1 (I.RT c) (I.xk c 1)) (sc2 (I.RT c) (I.xk c 1))) (top (I.xk c 1)) (shapeCast S1x1024x2048 (I.W1 c 3) shapeCasts_S1x1024x2048_S1024x2048.symm) (shapeCast S1x2048x1024 (I.W2 c 3) shapeCasts_S1x2048x1024_S2048x1024.symm) (top (I.acc3 c 1)) = (I.snT c 0) := by
  simp only [k0_pay77, shapeCast_shapeCast, shapeCast_self]
  try rfl

theorem pv_78 (I : Inp F) (c : Dev nD) : k0_pay78 (yWord c) (ex1 (I.RT c) (I.xk c 1)) (ex2 (I.RT c) (I.xk c 1)) (sc1 (I.RT c) (I.xk c 1)) (sc2 (I.RT c) (I.xk c 1)) (bot (I.xk c 1)) (shapeCast S1x1024x2048 (I.W1 c 3) shapeCasts_S1x1024x2048_S1024x2048.symm) (shapeCast S1x2048x1024 (I.W2 c 3) shapeCasts_S1x2048x1024_S2048x1024.symm) = (partH (bot (I.xk c 1)) (I.W1 c 3) (I.W2 c 3) (weight1 (exNo (yWord c) 3#32) (ex1 (I.RT c) (I.xk c 1)) (ex2 (I.RT c) (I.xk c 1)) (sc1 (I.RT c) (I.xk c 1)) (sc2 (I.RT c) (I.xk c 1)))) := by
  simp only [k0_pay78, shapeCast_shapeCast, shapeCast_self]
  try rfl

theorem pv_79 (I : Inp F) (c : Dev nD) : k0_pay79 (partH (bot (I.xk c 1)) (I.W1 c 3) (I.W2 c 3) (weight1 (exNo (yWord c) 3#32) (ex1 (I.RT c) (I.xk c 1)) (ex2 (I.RT c) (I.xk c 1)) (sc1 (I.RT c) (I.xk c 1)) (sc2 (I.RT c) (I.xk c 1)))) (bot (I.acc3 c 1)) = (I.snB c 0) := by
  simp only [k0_pay79, shapeCast_shapeCast, shapeCast_self]
  try rfl

theorem pv_80 (I : Inp F) (c : Dev nD) : k0_pay80 (yWord c) (ex1 (I.RT c) (I.xk c 2)) (ex2 (I.RT c) (I.xk c 2)) (sc1 (I.RT c) (I.xk c 2)) (sc2 (I.RT c) (I.xk c 2)) (top (I.xk c 2)) (shapeCast S1x1024x2048 (I.W1 c 3) shapeCasts_S1x1024x2048_S1024x2048.symm) (shapeCast S1x2048x1024 (I.W2 c 3) shapeCasts_S1x2048x1024_S2048x1024.symm) (top (I.acc3 c 2)) = (I.accT c 2) := by
  simp only [k0_pay80, shapeCast_shapeCast, shapeCast_self]
  try rfl

theorem pv_81 (I : Inp F) (c : Dev nD) : k0_pay81 (I.accT c 2) = (I.accT c 2) := by
  simp only [k0_pay81, shapeCast_shapeCast, shapeCast_self]
  try rfl

theorem pv_82 (I : Inp F) (c : Dev nD) : k0_pay82 (shapeCast S1x128x1024 (I.rsT 0 c) shapeCasts_S1x128x1024_S128x1024.symm) (I.accT c 2) = (shapeCast S1x128x1024 (I.snT c 1) shapeCasts_S1x128x1024_S128x1024.symm) := by
  simp only [k0_pay82, shapeCast_shapeCast, shapeCast_self]
  try rfl

theorem pv_83 (I : Inp F) (c : Dev nD) : k0_pay83 (yWord c) (ex1 (I.RT c) (I.xk c 2)) (ex2 (I.RT c) (I.xk c 2)) (sc1 (I.RT c) (I.xk c 2)) (sc2 (I.RT c) (I.xk c 2)) = (weight1 (exNo (yWord c) 3#32) (ex1 (I.RT c) (I.xk c 2)) (ex2 (I.RT c) (I.xk c 2)) (sc1 (I.RT c) (I.xk c 2)) (sc2 (I.RT c) (I.xk c 2))) := by
  simp only [k0_pay83, shapeCast_shapeCast, shapeCast_self]
  try rfl

theorem pv_84 (I : Inp F) (c : Dev nD) : k0_pay84 (bot (I.xk c 2)) (shapeCast S1x1024x2048 (I.W1 c 3) shapeCasts_S1x1024x2048_S1024x2048.symm) = (maximumf (matmul dot_S128x1024_S1024x2048_S128x2048_1_0_0_1_n_n none (bot (I.xk c 2)) (I.W1 c 3) (constant S128x2048 .f32 0x00000000#32)) (broadcast S128x2048 (Scalar.ofBits .f32 0x00000000#32))) := by
  simp only [k0_pay84, shapeCast_shapeCast, shapeCast_self]
  try rfl

theorem pv_85 (I : Inp F) (c : Dev nD) : k0_pay85 (weight1 (exNo (yWord c) 3#32) (ex1 (I.RT c) (I.xk c 2)) (ex2 (I.RT c) (I.xk c 2)) (sc1 (I.RT c) (I.xk c 2)) (sc2 (I.RT c) (I.xk c 2))) (maximumf (matmul dot_S128x1024_S1024x2048_S128x2048_1_0_0_1_n_n none (bot (I.xk c 2)) (I.W1 c 3) (constant S128x2048 .f32 0x00000000#32)) (broadcast S128x2048 (Scalar.ofBits .f32 0x00000000#32))) (shapeCast S1x2048x1024 (I.W2 c 3) shapeCasts_S1x2048x1024_S2048x1024.symm) (bot (I.acc3 c 2)) = (I.accB c 2) := by
  simp only [k0_pay85, shapeCast_shapeCast, shapeCast_self]
  try rfl

theorem pv_86 (I : Inp F) (c : Dev nD) : k0_pay86 (shapeCast S1x128x1024 (I.rsB 0 c) shapeCasts_S1x128x1024_S128x1024.symm) = (I.rsB 0 c) := by
  simp only [k0_pay86, shapeCast_shapeCast, shapeCast_self]
  try rfl

theorem pv_87 (I : Inp F) (c : Dev nD) : k0_pay87 (I.rsB 0 c) (I.accB c 2) = (shapeCast S1x128x1024 (I.snB c 1) shapeCasts_S1x128x1024_S128x1024.symm) := by
  simp only [k0_pay87, shapeCast_shapeCast, shapeCast_self]
  try rfl

theorem pv_88 (I : Inp F) (c : Dev nD) : k0_pay88 (ex1 (I.RT c) (I.xk c 3)) (ex2 (I.RT c) (I.xk c 3)) (sc1 (I.RT c) (I.xk c 3)) (sc2 (I.RT c) (I.xk c 3)) (Scalar.muli (yWord c) 4#32) (3#32) (top (I.xk c 3)) (shapeCast S1x1024x2048 (I.W1 c 3) shapeCasts_S1x1024x2048_S1024x2048.symm) (shapeCast S1x2048x1024 (I.W2 c 3) shapeCasts_S1x2048x1024_S2048x1024.symm) (top (I.acc3 c 3)) = (I.accT c 3) := by
  simp only [k0_pay88, shapeCast_shapeCast, shapeCast_self]
  try rfl

theorem pv_89 (I : Inp F) (c : Dev nD) : k0_pay89 (shapeCast S1x128x1024 (I.rsT 1 c) shapeCasts_S1x128x1024_S128x1024.symm) (I.accT c 3) = (shapeCast S1x128x1024 (I.snT c 2) shapeCasts_S1x128x1024_S128x1024.symm) := by
  simp only [k0_pay89, shapeCast_shapeCast, shapeCast_self]
  try rfl

theorem pv_90 (I : Inp F) (c : Dev nD) : k0_pay90 (bot (I.xk c 3)) (shapeCast S1x1024x2048 (I.W1 c 3) shapeCasts_S1x1024x2048_S1024x2048.symm) (shapeCast S1x2048x1024 (I.W2 c 3) shapeCasts_S1x2048x1024_S2048x1024.symm) = (matmul dot_S128x2048_S2048x1024_S128x1024_1_0_0_1_n_n none (maximumf (matmul dot_S128x1024_S1024x2048_S128x2048_1_0_0_1_n_n none (bot (I.xk c 3)) (I.W1 c 3) (constant S128x2048 .f32 0x00000000#32)) (broadcast S128x2048 (Scalar.ofBits .f32 0x00000000#32))) (I.W2 c 3) (constant S128x1024 .f32 0x00000000#32)) := by
  simp only [k0_pay90, shapeCast_shapeCast, shapeCast_self]
  try rfl

theorem pv_91 (I : Inp F) (c : Dev nD) : k0_pay91 (yWord c) (ex1 (I.RT c) (I.xk c 3)) (ex2 (I.RT c) (I.xk c 3)) (sc1 (I.RT c) (I.xk c 3)) (sc2 (I.RT c) (I.xk c 3)) = (broadcastTo S128x1024 (weight1 (exNo (yWord c) 3#32) (ex1 (I.RT c) (I.xk c 3)) (ex2 (I.RT c) (I.xk c 3)) (sc1 (I.RT c) (I.xk c 3)) (sc2 (I.RT c) (I.xk c 3))) broadcasts_S128x1_S128x1024) := by
  simp only [k0_pay91, shapeCast_shapeCast, shapeCast_self]
  try rfl

theorem pv_92 (I : Inp F) (c : Dev nD) : k0_pay92 (matmul dot_S128x2048_S2048x1024_S128x1024_1_0_0_1_n_n none (maximumf (matmul dot_S128x1024_S1024x2048_S128x2048_1_0_0_1_n_n none (bot (I.xk c 3)) (I.W1 c 3) (constant S128x2048 .f32 0x00000000#32)) (broadcast S128x2048 (Scalar.ofBits .f32 0x00000000#32))) (I.W2 c 3) (constant S128x1024 .f32 0x00000000#32)) (broadcastTo S128x1024 (weight1 (exNo (yWord c) 3#32) (ex1 (I.RT c) (I.xk c 3)) (ex2 (I.RT c) (I.xk c 3)) (sc1 (I.RT c) (I.xk c 3)) (sc2 (I.RT c) (I.xk c 3))) broadcasts_S128x1_S128x1024) (bot (I.acc3 c 3)) = (I.accB c 3) := by
  simp only [k0_pay92, shapeCast_shapeCast, shapeCast_self]
  try rfl

theorem pv_93 (I : Inp F) (c : Dev nD) : k0_pay93 (shapeCast S1x128x1024 (I.rsB 1 c) shapeCasts_S1x128x1024_S128x1024.symm) (I.accB c 3) = (I.snB c 2) := by
  simp only [k0_pay93, shapeCast_shapeCast, shapeCast_self]
  try rfl

theorem pv_94 (I : Inp F) (c : Dev nD) : k0_pay94 (I.snB c 2) = (shapeCast S1x128x1024 (I.snB c 2) shapeCasts_S1x128x1024_S128x1024.symm) := by
  simp only [k0_pay94, shapeCast_shapeCast, shapeCast_self]
  try rfl

theorem pv_95 (I : Inp F) (c : Dev nD) : k0_pay95 (yWord c) (ex1 (I.RT c) (I.xk c 0)) (ex2 (I.RT c) (I.xk c 0)) (sc1 (I.RT c) (I.xk c 0)) (sc2 (I.RT c) (I.xk c 0)) = (weight0 (exNo (yWord c) 3#32) (ex1 (I.RT c) (I.xk c 0)) (ex2 (I.RT c) (I.xk c 0)) (sc1 (I.RT c) (I.xk c 0)) (sc2 (I.RT c) (I.xk c 0))) := by
  simp only [k0_pay95, shapeCast_shapeCast, shapeCast_self]
  try rfl

theorem pv_96 (I : Inp F) (c : Dev nD) : k0_pay96 (weight0 (exNo (yWord c) 3#32) (ex1 (I.RT c) (I.xk c 0)) (ex2 (I.RT c) (I.xk c 0)) (sc1 (I.RT c) (I.xk c 0)) (sc2 (I.RT c) (I.xk c 0))) (top (I.x c)) (shapeCast S1x1024x2048 (I.W1 c 3) shapeCasts_S1x1024x2048_S1024x2048.symm) (shapeCast S1x2048x1024 (I.W2 c 3) shapeCasts_S1x2048x1024_S2048x1024.symm) (top (I.acc3 c 0)) = (I.accT c 0) := by
  simp only [k0_pay96, shapeCast_shapeCast, shapeCast_self]
  try rfl

theorem pv_97 (I : Inp F) (c : Dev nD) : k0_pay97 (yWord c) (ex1 (I.RT c) (I.xk c 0)) (ex2 (I.RT c) (I.xk c 0)) (sc1 (I.RT c) (I.xk c 0)) (sc2 (I.RT c) (I.xk c 0)) = (weight1 (exNo (yWord c) 3#32) (ex1 (I.RT c) (I.xk c 0)) (ex2 (I.RT c) (I.xk c 0)) (sc1 (I.RT c) (I.xk c 0)) (sc2 (I.RT c) (I.xk c 0))) := by
  simp only [k0_pay97, shapeCast_shapeCast, shapeCast_self]
  try rfl

theorem pv_98 (I : Inp F) (c : Dev nD) : k0_pay98 (weight1 (exNo (yWord c) 3#32) (ex1 (I.RT c) (I.xk c 0)) (ex2 (I.RT c) (I.xk c 0)) (sc1 (I.RT c) (I.xk c 0)) (sc2 (I.RT c) (I.xk c 0))) (bot (I.x c)) (shapeCast S1x1024x2048 (I.W1 c 3) shapeCasts_S1x1024x2048_S1024x2048.symm) (shapeCast S1x2048x1024 (I.W2 c 3) shapeCasts_S1x2048x1024_S2048x1024.symm) (bot (I.acc3 c 0)) = (I.accB c 0) := by
  simp only [k0_pay98, shapeCast_shapeCast, shapeCast_self]
  try rfl

theorem pv_99 (I : Inp F) (c : Dev nD) : k0_pay99 (shapeCast S1x256x1024 (Inp.join (I.rsT 2 c) (I.rsB 2 c) : Vec F S256x1024 .f32) shapeCasts_S1x256x1024_S256x1024.symm) (Inp.join (I.accT c 0) (I.accB c 0)) = (I.out c) := by
  simp only [k0_pay99, shapeCast_shapeCast, shapeCast_self]
  try rfl

end Cert.Moe

end
-- ==== Proof.Pays.lean ====
/-
  What each copy counts and hands over.
-/
module

public import proofs.«01_k».proof.Proof.Proto

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

theorem own_off (c : Thread nD τ) {sp : Space} {s : Shape} {e : EltTy} {m : Memref sig c.2.kind sp s e} {off off' size : Fin s.rank → ℕ}
    {inb : ∀ a, off a + size a ≤ s.size a} {inb' : ∀ a, off' a + size a ≤ s.size a} (h : off = off') {hst}
    (q : PosShare TreeShare) (x : (Rect.unit off size inb).shape.Idx → Elt F e) :
    (own c (m.access (Rect.unit off' size inb')) q x : sProp 𝕄) = own c (m.slice (Rect.unit off size inb) hst).view q x := by
  subst h; rfl

/-! ## The rows of the sums that depart -/

theorem acc_half_0 (c : Dev nD) (x : FVec F S128x1024 .f32) :
    (own (c : Thread nD τ) (mAcc.access (halfR (org c 1) 0 (org_lt c 1) (by decide))) fullShare x : sProp 𝕄) = own (c : Thread nD τ) (mAcc.slice (Rect.unit (s := S1024x1024) (k0_off6 c 0#32) S128x1024.size (k0_off6_inb c 0)) (fun _ => rfl)).view fullShare x :=
  own_off (c : Thread nD τ) (m := mAcc) (off := k0_off6 c 0#32) (off' := ![256 * org c 1 + 0, 0]) (size := S128x1024.size) (inb := k0_off6_inb c 0)
    (inb' := inbHalf (org_lt c 1) (by decide)) (hst := fun _ => rfl) (off_6_0 c) fullShare x

theorem acc_half_1 (c : Dev nD) (x : FVec F S128x1024 .f32) :
    (own (c : Thread nD τ) (mAcc.access (halfR (org c 1) 128 (org_lt c 1) (by decide))) fullShare x : sProp 𝕄) = own (c : Thread nD τ) (mAcc.slice (Rect.unit (s := S1024x1024) (k0_off6 c 128#32) S128x1024.size (k0_off6_inb c 1)) (fun _ => rfl)).view fullShare x :=
  own_off (c : Thread nD τ) (m := mAcc) (off := k0_off6 c 128#32) (off' := ![256 * org c 1 + 128, 0]) (size := S128x1024.size) (inb := k0_off6_inb c 1)
    (inb' := inbHalf (org_lt c 1) (by decide)) (hst := fun _ => rfl) (off_6_1 c) fullShare x

/-! ## Amounts -/

theorem amt_view_3 : agS0.view.amount (.dma 6) = amt 3 := by unfold amt; rfl
theorem amt_same_3 : amt 6 = amt 3 := by unfold amt; rfl
theorem amt_view_9 : rgS0.view.amount (.dma 12) = amt 9 := by unfold amt; rfl
theorem amt_same_9 : amt 12 = amt 9 := by unfold amt; rfl
theorem amt_view_10 : rgS1.view.amount (.dma 13) = amt 10 := by unfold amt; rfl
theorem amt_same_10 : amt 13 = amt 10 := by unfold amt; rfl
theorem amt_view_11 : rgS2.view.amount (.dma 14) = amt 11 := by unfold amt; rfl
theorem amt_same_11 : amt 14 = amt 11 := by unfold amt; rfl
theorem amt_view_4 : agS1.view.amount (.dma 7) = amt 4 := by unfold amt; rfl
theorem amt_same_4 : amt 7 = amt 4 := by unfold amt; rfl
theorem amt_view_5 : agS2.view.amount (.dma 8) = amt 5 := by unfold amt; rfl
theorem amt_same_5 : amt 8 = amt 5 := by unfold amt; rfl
theorem amt_view_15 (c : Dev nD) : rsS00.view.amount (.dma 21) = amt 15 := by unfold amt; rfl
theorem amt_same_15 : amt 21 = amt 15 := by unfold amt; rfl
theorem amt_view_16 (c : Dev nD) : rsS01.view.amount (.dma 22) = amt 16 := by unfold amt; rfl
theorem amt_same_16 : amt 22 = amt 16 := by unfold amt; rfl
theorem amt_view_17 : rsS10.view.amount (.dma 23) = amt 17 := by unfold amt; rfl
theorem amt_same_17 : amt 23 = amt 17 := by unfold amt; rfl
theorem amt_view_18 : rsS11.view.amount (.dma 24) = amt 18 := by unfold amt; rfl
theorem amt_same_18 : amt 24 = amt 18 := by unfold amt; rfl
theorem amt_view_19 : rsS20.view.amount (.dma 25) = amt 19 := by unfold amt; rfl
theorem amt_same_19 : amt 25 = amt 19 := by unfold amt; rfl
theorem amt_view_20 : rsS21.view.amount (.dma 26) = amt 20 := by unfold amt; rfl
theorem amt_same_20 : amt 26 = amt 20 := by unfold amt; rfl

/-! ## What the payments are -/

theorem pay_9_0 (c : Dev nD) : pay I c 9 0 = own (c : Thread nD τ) mRT.view fullShare (I.rt c) := by unfold pay; rfl
theorem pay_12_0 (c : Dev nD) : pay I c 12 0 = own (c : Thread nD τ) rgS0.view fullShare (I.rt (back 1 c)) := by unfold pay; rfl
theorem pay_10_0 (c : Dev nD) : pay I c 10 0 = own (c : Thread nD τ) rgS0.view fullShare (I.rt (back 1 c)) := by unfold pay; rfl
theorem pay_13_0 (c : Dev nD) : pay I c 13 0 = own (c : Thread nD τ) rgS1.view fullShare (I.rt (back 2 c)) := by unfold pay; rfl
theorem pay_11_0 (c : Dev nD) : pay I c 11 0 = own (c : Thread nD τ) rgS1.view fullShare (I.rt (back 2 c)) := by unfold pay; rfl
theorem pay_14_0 (c : Dev nD) : pay I c 14 0 = own (c : Thread nD τ) rgS2.view fullShare (I.rt (back 3 c)) := by unfold pay; rfl
theorem pay_3_0 (c : Dev nD) : pay I c 3 0 = own (c : Thread nD τ) mX.view fullShare.left (I.x c) := by unfold pay; rfl
theorem pay_6_0 (c : Dev nD) : pay I c 6 0 = own (c : Thread nD τ) agS0.view fullShare (I.xk c 1) := by unfold pay; rfl
theorem pay_4_0 (c : Dev nD) : pay I c 4 0 = own (c : Thread nD τ) agS0.view fullShare.left (I.xk c 1) := by unfold pay; rfl
theorem pay_7_0 (c : Dev nD) : pay I c 7 0 = own (c : Thread nD τ) agS1.view fullShare (I.xk c 2) := by unfold pay; rfl
theorem pay_5_0 (c : Dev nD) : pay I c 5 0 = own (c : Thread nD τ) agS1.view fullShare.left (I.xk c 2) := by unfold pay; rfl
theorem pay_8_0 (c : Dev nD) : pay I c 8 0 = own (c : Thread nD τ) agS2.view fullShare (I.xk c 3) := by unfold pay; rfl
theorem pay_21_0 (c : Dev nD) : pay I c 21 0 = own (c : Thread nD τ) rsS00.view fullShare (I.rsT 0 c) := by unfold pay; rfl
theorem pay_22_0 (c : Dev nD) : pay I c 22 0 = own (c : Thread nD τ) rsS01.view fullShare (I.rsB 0 c) := by unfold pay; rfl
theorem pay_23_0 (c : Dev nD) : pay I c 23 0 = own (c : Thread nD τ) rsS10.view fullShare (I.rsT 1 c) := by unfold pay; rfl
theorem pay_24_0 (c : Dev nD) : pay I c 24 0 = own (c : Thread nD τ) rsS11.view fullShare (I.rsB 1 c) := by unfold pay; rfl
theorem pay_25_0 (c : Dev nD) : pay I c 25 0 = own (c : Thread nD τ) rsS20.view fullShare (I.rsT 2 c) := by unfold pay; rfl
theorem pay_26_0 (c : Dev nD) : pay I c 26 0 = own (c : Thread nD τ) rsS21.view fullShare (I.rsB 2 c) := by unfold pay; rfl
theorem pay_15_0 (c : Dev nD) : pay I c 15 0 = own (c : Thread nD τ) (mAcc.access (halfR (org c 1) 0 (org_lt c 1) (by decide))) fullShare (I.snT c 0) := by unfold pay; rfl
theorem pay_16_0 (c : Dev nD) : pay I c 16 0 = own (c : Thread nD τ) (mAcc.access (halfR (org c 1) 128 (org_lt c 1) (by decide))) fullShare (I.snB c 0) := by unfold pay; rfl
theorem pay_17_0 (c : Dev nD) : pay I c 17 0 = own (c : Thread nD τ) rsS00.view fullShare (I.snT c 1) := by unfold pay; rfl
theorem pay_18_0 (c : Dev nD) : pay I c 18 0 = own (c : Thread nD τ) rsS01.view fullShare (I.snB c 1) := by unfold pay; rfl
theorem pay_19_0 (c : Dev nD) : pay I c 19 0 = own (c : Thread nD τ) rsS10.view fullShare (I.snT c 2) := by unfold pay; rfl
theorem pay_20_0 (c : Dev nD) : pay I c 20 0 = own (c : Thread nD τ) rsS11.view fullShare (I.snB c 2) := by unfold pay; rfl
theorem pay_27_0 (c : Dev nD) : pay I c 27 0 = iprop(own (c : Thread nD τ) v1S0.view fullShare (I.W1 c 0) ∗ own (c : Thread nD τ) w1E0.view fullShare (I.W1 c 0)) := by unfold pay; rfl
theorem pay_29_0 (c : Dev nD) : pay I c 29 0 = iprop(own (c : Thread nD τ) v2S0.view fullShare (I.W2 c 0) ∗ own (c : Thread nD τ) w2E0.view fullShare (I.W2 c 0)) := by unfold pay; rfl
theorem pay_28_0 (c : Dev nD) : pay I c 28 0 = iprop(own (c : Thread nD τ) v1S1.view fullShare (I.W1 c 1) ∗ own (c : Thread nD τ) w1E1.view fullShare (I.W1 c 1)) := by unfold pay; rfl
theorem pay_30_0 (c : Dev nD) : pay I c 30 0 = iprop(own (c : Thread nD τ) v2S1.view fullShare (I.W2 c 1) ∗ own (c : Thread nD τ) w2E1.view fullShare (I.W2 c 1)) := by unfold pay; rfl
theorem pay_27_1 (c : Dev nD) : pay I c 27 1 = iprop(own (c : Thread nD τ) v1S0.view fullShare (I.W1 c 2) ∗ own (c : Thread nD τ) w1E2.view fullShare (I.W1 c 2)) := by unfold pay; rfl
theorem pay_29_1 (c : Dev nD) : pay I c 29 1 = iprop(own (c : Thread nD τ) v2S0.view fullShare (I.W2 c 2) ∗ own (c : Thread nD τ) w2E2.view fullShare (I.W2 c 2)) := by unfold pay; rfl
theorem pay_28_1 (c : Dev nD) : pay I c 28 1 = iprop(own (c : Thread nD τ) v1S1.view fullShare (I.W1 c 3) ∗ own (c : Thread nD τ) w1E3.view fullShare (I.W1 c 3)) := by unfold pay; rfl
theorem pay_30_1 (c : Dev nD) : pay I c 30 1 = iprop(own (c : Thread nD τ) v2S1.view fullShare (I.W2 c 3) ∗ own (c : Thread nD τ) w2E3.view fullShare (I.W2 c 3)) := by unfold pay; rfl
theorem land_6 (c : Dev nD) : pay I (right c) 6 0 = own (right c : Thread nD τ) agS0.view fullShare (I.x c) := by
  rw [pay_6_0]; unfold Inp.xk; rw [back_right]; rfl
theorem land_12 (c : Dev nD) : pay I (right c) 12 0 = own (right c : Thread nD τ) rgS0.view fullShare (I.rt c) := by
  rw [pay_12_0]; rw [back_right]; rfl
theorem land_13 (c : Dev nD) : pay I (right c) 13 0 = own (right c : Thread nD τ) rgS1.view fullShare (I.rt (back 1 c)) := by
  rw [pay_13_0]; rw [back_right]
theorem land_14 (c : Dev nD) : pay I (right c) 14 0 = own (right c : Thread nD τ) rgS2.view fullShare (I.rt (back 2 c)) := by
  rw [pay_14_0]; rw [back_right]
theorem land_7 (c : Dev nD) : pay I (right c) 7 0 = own (right c : Thread nD τ) agS1.view fullShare (I.xk c 1) := by
  rw [pay_7_0]; unfold Inp.xk; rw [back_right]
theorem land_8 (c : Dev nD) : pay I (right c) 8 0 = own (right c : Thread nD τ) agS2.view fullShare (I.xk c 2) := by
  rw [pay_8_0]; unfold Inp.xk; rw [back_right]
theorem land_21 (c : Dev nD) : pay I (right c) 21 0 = own (right c : Thread nD τ) rsS00.view fullShare (I.snT c 0) := by
  rw [pay_21_0]; rw [Inp.rsT_right]
theorem land_22 (c : Dev nD) : pay I (right c) 22 0 = own (right c : Thread nD τ) rsS01.view fullShare (I.snB c 0) := by
  rw [pay_22_0]; rw [Inp.rsB_right]
theorem land_23 (c : Dev nD) : pay I (right c) 23 0 = own (right c : Thread nD τ) rsS10.view fullShare (I.snT c 1) := by
  rw [pay_23_0]; rw [Inp.rsT_right]
theorem land_24 (c : Dev nD) : pay I (right c) 24 0 = own (right c : Thread nD τ) rsS11.view fullShare (I.snB c 1) := by
  rw [pay_24_0]; rw [Inp.rsB_right]
theorem land_25 (c : Dev nD) : pay I (right c) 25 0 = own (right c : Thread nD τ) rsS20.view fullShare (I.snT c 2) := by
  rw [pay_25_0]; rw [Inp.rsT_right]
theorem land_26 (c : Dev nD) : pay I (right c) 26 0 = own (right c : Thread nD τ) rsS21.view fullShare (I.snB c 2) := by
  rw [pay_26_0]; rw [Inp.rsB_right]

end Cert.Moe

end
-- ==== Proof.Copies.lean ====
/-
  Each copy of the kernel, as a step over what is held.
-/
module

public import proofs.«01_k».proof.Proof.Pays

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

section Step
variable {α : Type} {Q : α → sProp (MT nD τ sig Unit (Elt F) ℕ UU ℕ)} (K : GSem nD τ sig → ℕ) (c : Dev nD)
local notation "wp₀" => wp frame (wpE (defs₀ (F := F)) 𝒱₀ (c : Thread nD τ) none) Set.univ

/-! ## Remote copies -/

theorem snd3 {hsc hsrc hdst hty} {k : PUnit → Prog (TpuEff nD τ sig (Elt F) Λ₀ .tc) α} :
    iprop(Env I K c ∗ opn (right c) ∗ Snd c 3 6 ∗ own (c : Thread nD τ) mX.view fullShare.left (I.x c) ∗ any (right c : Thread nD τ) agS0.view ∗ Ow c [6, 12, 13, 14, 7, 8, 21, 22, 23, 24, 25, 26])
      ⊢ iprop((Fly c 3 0 -∗ Ow c [12, 13, 14, 7, 8, 21, 22, 23, 24, 25, 26] -∗ wp₀ (k ⟨⟩) Q)
        -∗ wp₀ (.op (.enqueueDma mX (.remote (Dev.tc (⟨k0_dev3 c, k0_dev3_lt c⟩ : Dev nD)) agS0 (.dma 3) hsc) (.dma 6) hsrc hdst hty) k) Q) :=
  by
  refine wp_sd I K c (src := mX) (dst := agS0) 3 6 [12, 13, 14, 7, 8, 21, 22, 23, 24, 25, 26] ?_ (dev_3 c) ?_ ?_ fullShare.left (I.x c) _ ?_ ?_ ?_ ?_ ?_
  · exact ⟨by decide, by decide, by decide⟩
  · rfl
  · rfl
  · exact rfl
  · exact amt_view_3
  · exact amt_same_3
  · exact pay_3_0 I c
  · exact land_6 I c

theorem snd9 {hsc hsrc hdst hty} {k : PUnit → Prog (TpuEff nD τ sig (Elt F) Λ₀ .tc) α} :
    iprop(Env I K c ∗ opn (right c) ∗ Snd c 9 12 ∗ own (c : Thread nD τ) mRT.view fullShare (I.rt c) ∗ any (right c : Thread nD τ) rgS0.view ∗ Ow c [12, 13, 14, 7, 8, 21, 22, 23, 24, 25, 26])
      ⊢ iprop((Fly c 9 0 -∗ Ow c [13, 14, 7, 8, 21, 22, 23, 24, 25, 26] -∗ wp₀ (k ⟨⟩) Q)
        -∗ wp₀ (.op (.enqueueDma mRT (.remote (Dev.tc (⟨k0_dev4 c, k0_dev4_lt c⟩ : Dev nD)) rgS0 (.dma 9) hsc) (.dma 12) hsrc hdst hty) k) Q) :=
  by
  refine wp_sd I K c (src := mRT) (dst := rgS0) 9 12 [13, 14, 7, 8, 21, 22, 23, 24, 25, 26] ?_ (dev_4 c) ?_ ?_ fullShare (I.rt c) _ ?_ ?_ ?_ ?_ ?_
  · exact ⟨by decide, by decide, by decide⟩
  · rfl
  · rfl
  · exact rfl
  · exact amt_view_9
  · exact amt_same_9
  · exact pay_9_0 I c
  · exact land_12 I c

theorem snd10 {hsc hsrc hdst hty} {k : PUnit → Prog (TpuEff nD τ sig (Elt F) Λ₀ .tc) α} :
    iprop(Env I K c ∗ opn (right c) ∗ Snd c 10 13 ∗ own (c : Thread nD τ) rgS0.view fullShare (I.rt (back 1 c)) ∗ any (right c : Thread nD τ) rgS1.view ∗ Ow c [13, 14, 7, 8, 21, 22, 23, 24, 25, 26])
      ⊢ iprop((Fly c 10 0 -∗ Ow c [14, 7, 8, 21, 22, 23, 24, 25, 26] -∗ wp₀ (k ⟨⟩) Q)
        -∗ wp₀ (.op (.enqueueDma rgS0 (.remote (Dev.tc (⟨k0_dev5 c, k0_dev5_lt c⟩ : Dev nD)) rgS1 (.dma 10) hsc) (.dma 13) hsrc hdst hty) k) Q) :=
  by
  refine wp_sd I K c (src := rgS0) (dst := rgS1) 10 13 [14, 7, 8, 21, 22, 23, 24, 25, 26] ?_ (dev_5 c) ?_ ?_ fullShare (I.rt (back 1 c)) _ ?_ ?_ ?_ ?_ ?_
  · exact ⟨by decide, by decide, by decide⟩
  · rfl
  · rfl
  · exact rfl
  · exact amt_view_10
  · exact amt_same_10
  · exact pay_10_0 I c
  · exact land_13 I c

theorem snd11 {hsc hsrc hdst hty} {k : PUnit → Prog (TpuEff nD τ sig (Elt F) Λ₀ .tc) α} :
    iprop(Env I K c ∗ opn (right c) ∗ Snd c 11 14 ∗ own (c : Thread nD τ) rgS1.view fullShare (I.rt (back 2 c)) ∗ any (right c : Thread nD τ) rgS2.view ∗ Ow c [14, 7, 8, 21, 22, 23, 24, 25, 26])
      ⊢ iprop((Fly c 11 0 -∗ Ow c [7, 8, 21, 22, 23, 24, 25, 26] -∗ wp₀ (k ⟨⟩) Q)
        -∗ wp₀ (.op (.enqueueDma rgS1 (.remote (Dev.tc (⟨k0_dev6 c, k0_dev6_lt c⟩ : Dev nD)) rgS2 (.dma 11) hsc) (.dma 14) hsrc hdst hty) k) Q) :=
  by
  refine wp_sd I K c (src := rgS1) (dst := rgS2) 11 14 [7, 8, 21, 22, 23, 24, 25, 26] ?_ (dev_6 c) ?_ ?_ fullShare (I.rt (back 2 c)) _ ?_ ?_ ?_ ?_ ?_
  · exact ⟨by decide, by decide, by decide⟩
  · rfl
  · rfl
  · exact rfl
  · exact amt_view_11
  · exact amt_same_11
  · exact pay_11_0 I c
  · exact land_14 I c

theorem snd4 {hsc hsrc hdst hty} {k : PUnit → Prog (TpuEff nD τ sig (Elt F) Λ₀ .tc) α} :
    iprop(Env I K c ∗ opn (right c) ∗ Snd c 4 7 ∗ own (c : Thread nD τ) agS0.view fullShare.left (I.xk c 1) ∗ any (right c : Thread nD τ) agS1.view ∗ Ow c [7, 8, 21, 22, 23, 24, 25, 26])
      ⊢ iprop((Fly c 4 0 -∗ Ow c [8, 21, 22, 23, 24, 25, 26] -∗ wp₀ (k ⟨⟩) Q)
        -∗ wp₀ (.op (.enqueueDma agS0 (.remote (Dev.tc (⟨k0_dev7 c, k0_dev7_lt c⟩ : Dev nD)) agS1 (.dma 4) hsc) (.dma 7) hsrc hdst hty) k) Q) :=
  by
  refine wp_sd I K c (src := agS0) (dst := agS1) 4 7 [8, 21, 22, 23, 24, 25, 26] ?_ (dev_7 c) ?_ ?_ fullShare.left (I.xk c 1) _ ?_ ?_ ?_ ?_ ?_
  · exact ⟨by decide, by decide, by decide⟩
  · rfl
  · rfl
  · exact rfl
  · exact amt_view_4
  · exact amt_same_4
  · exact pay_4_0 I c
  · exact land_7 I c

theorem snd5 {hsc hsrc hdst hty} {k : PUnit → Prog (TpuEff nD τ sig (Elt F) Λ₀ .tc) α} :
    iprop(Env I K c ∗ opn (right c) ∗ Snd c 5 8 ∗ own (c : Thread nD τ) agS1.view fullShare.left (I.xk c 2) ∗ any (right c : Thread nD τ) agS2.view ∗ Ow c [8, 21, 22, 23, 24, 25, 26])
      ⊢ iprop((Fly c 5 0 -∗ Ow c [21, 22, 23, 24, 25, 26] -∗ wp₀ (k ⟨⟩) Q)
        -∗ wp₀ (.op (.enqueueDma agS1 (.remote (Dev.tc (⟨k0_dev8 c, k0_dev8_lt c⟩ : Dev nD)) agS2 (.dma 5) hsc) (.dma 8) hsrc hdst hty) k) Q) :=
  by
  refine wp_sd I K c (src := agS1) (dst := agS2) 5 8 [21, 22, 23, 24, 25, 26] ?_ (dev_8 c) ?_ ?_ fullShare.left (I.xk c 2) _ ?_ ?_ ?_ ?_ ?_
  · exact ⟨by decide, by decide, by decide⟩
  · rfl
  · rfl
  · exact rfl
  · exact amt_view_5
  · exact amt_same_5
  · exact pay_5_0 I c
  · exact land_8 I c

theorem snd15 {hsc hsrc hdst hty} {k : PUnit → Prog (TpuEff nD τ sig (Elt F) Λ₀ .tc) α} :
    iprop(Env I K c ∗ opn (right c) ∗ Snd c 15 21 ∗ own (c : Thread nD τ) (mAcc.access (halfR (org c 1) 0 (org_lt c 1) (by decide))) fullShare (I.snT c 0) ∗ any (right c : Thread nD τ) rsS00.view ∗ Ow c [21, 22, 23, 24, 25, 26])
      ⊢ iprop((Fly c 15 0 -∗ Ow c [22, 23, 24, 25, 26] -∗ wp₀ (k ⟨⟩) Q)
        -∗ wp₀ (.op (.enqueueDma (mAcc.slice (Rect.unit (s := S1024x1024) (k0_off6 c 0#32) S128x1024.size (k0_off6_inb c 0)) (fun _ => rfl)) (.remote (Dev.tc (⟨k0_dev9 c, k0_dev9_lt c⟩ : Dev nD)) rsS00 (.dma 15) hsc) (.dma 21) hsrc hdst hty) k) Q) :=
  by
  refine wp_sd I K c (src := (mAcc.slice (Rect.unit (s := S1024x1024) (k0_off6 c 0#32) S128x1024.size (k0_off6_inb c 0)) (fun _ => rfl))) (dst := rsS00) 15 21 [22, 23, 24, 25, 26] ?_ (dev_9 c) ?_ ?_ fullShare (I.snT c 0) _ ?_ ?_ ?_ ?_ ?_
  · exact ⟨by decide, by decide, by decide⟩
  · rfl
  · rfl
  · exact acc_half_0 c (I.snT c 0)
  · exact amt_view_15 c
  · exact amt_same_15
  · exact pay_15_0 I c
  · exact land_21 I c

theorem snd16 {hsc hsrc hdst hty} {k : PUnit → Prog (TpuEff nD τ sig (Elt F) Λ₀ .tc) α} :
    iprop(Env I K c ∗ opn (right c) ∗ Snd c 16 22 ∗ own (c : Thread nD τ) (mAcc.access (halfR (org c 1) 128 (org_lt c 1) (by decide))) fullShare (I.snB c 0) ∗ any (right c : Thread nD τ) rsS01.view ∗ Ow c [22, 23, 24, 25, 26])
      ⊢ iprop((Fly c 16 0 -∗ Ow c [23, 24, 25, 26] -∗ wp₀ (k ⟨⟩) Q)
        -∗ wp₀ (.op (.enqueueDma (mAcc.slice (Rect.unit (s := S1024x1024) (k0_off6 c 128#32) S128x1024.size (k0_off6_inb c 1)) (fun _ => rfl)) (.remote (Dev.tc (⟨k0_dev10 c, k0_dev10_lt c⟩ : Dev nD)) rsS01 (.dma 16) hsc) (.dma 22) hsrc hdst hty) k) Q) :=
  by
  refine wp_sd I K c (src := (mAcc.slice (Rect.unit (s := S1024x1024) (k0_off6 c 128#32) S128x1024.size (k0_off6_inb c 1)) (fun _ => rfl))) (dst := rsS01) 16 22 [23, 24, 25, 26] ?_ (dev_10 c) ?_ ?_ fullShare (I.snB c 0) _ ?_ ?_ ?_ ?_ ?_
  · exact ⟨by decide, by decide, by decide⟩
  · rfl
  · rfl
  · exact acc_half_1 c (I.snB c 0)
  · exact amt_view_16 c
  · exact amt_same_16
  · exact pay_16_0 I c
  · exact land_22 I c

theorem snd17 {hsc hsrc hdst hty} {k : PUnit → Prog (TpuEff nD τ sig (Elt F) Λ₀ .tc) α} :
    iprop(Env I K c ∗ opn (right c) ∗ Snd c 17 23 ∗ own (c : Thread nD τ) rsS00.view fullShare (I.snT c 1) ∗ any (right c : Thread nD τ) rsS10.view ∗ Ow c [23, 24, 25, 26])
      ⊢ iprop((Fly c 17 0 -∗ Ow c [24, 25, 26] -∗ wp₀ (k ⟨⟩) Q)
        -∗ wp₀ (.op (.enqueueDma rsS00 (.remote (Dev.tc (⟨k0_dev11 c, k0_dev11_lt c⟩ : Dev nD)) rsS10 (.dma 17) hsc) (.dma 23) hsrc hdst hty) k) Q) :=
  by
  refine wp_sd I K c (src := rsS00) (dst := rsS10) 17 23 [24, 25, 26] ?_ (dev_11 c) ?_ ?_ fullShare (I.snT c 1) _ ?_ ?_ ?_ ?_ ?_
  · exact ⟨by decide, by decide, by decide⟩
  · rfl
  · rfl
  · exact rfl
  · exact amt_view_17
  · exact amt_same_17
  · exact pay_17_0 I c
  · exact land_23 I c

theorem snd18 {hsc hsrc hdst hty} {k : PUnit → Prog (TpuEff nD τ sig (Elt F) Λ₀ .tc) α} :
    iprop(Env I K c ∗ opn (right c) ∗ Snd c 18 24 ∗ own (c : Thread nD τ) rsS01.view fullShare (I.snB c 1) ∗ any (right c : Thread nD τ) rsS11.view ∗ Ow c [24, 25, 26])
      ⊢ iprop((Fly c 18 0 -∗ Ow c [25, 26] -∗ wp₀ (k ⟨⟩) Q)
        -∗ wp₀ (.op (.enqueueDma rsS01 (.remote (Dev.tc (⟨k0_dev12 c, k0_dev12_lt c⟩ : Dev nD)) rsS11 (.dma 18) hsc) (.dma 24) hsrc hdst hty) k) Q) :=
  by
  refine wp_sd I K c (src := rsS01) (dst := rsS11) 18 24 [25, 26] ?_ (dev_12 c) ?_ ?_ fullShare (I.snB c 1) _ ?_ ?_ ?_ ?_ ?_
  · exact ⟨by decide, by decide, by decide⟩
  · rfl
  · rfl
  · exact rfl
  · exact amt_view_18
  · exact amt_same_18
  · exact pay_18_0 I c
  · exact land_24 I c

theorem snd19 {hsc hsrc hdst hty} {k : PUnit → Prog (TpuEff nD τ sig (Elt F) Λ₀ .tc) α} :
    iprop(Env I K c ∗ opn (right c) ∗ Snd c 19 25 ∗ own (c : Thread nD τ) rsS10.view fullShare (I.snT c 2) ∗ any (right c : Thread nD τ) rsS20.view ∗ Ow c [25, 26])
      ⊢ iprop((Fly c 19 0 -∗ Ow c [26] -∗ wp₀ (k ⟨⟩) Q)
        -∗ wp₀ (.op (.enqueueDma rsS10 (.remote (Dev.tc (⟨k0_dev13 c, k0_dev13_lt c⟩ : Dev nD)) rsS20 (.dma 19) hsc) (.dma 25) hsrc hdst hty) k) Q) :=
  by
  refine wp_sd I K c (src := rsS10) (dst := rsS20) 19 25 [26] ?_ (dev_13 c) ?_ ?_ fullShare (I.snT c 2) _ ?_ ?_ ?_ ?_ ?_
  · exact ⟨by decide, by decide, by decide⟩
  · rfl
  · rfl
  · exact rfl
  · exact amt_view_19
  · exact amt_same_19
  · exact pay_19_0 I c
  · exact land_25 I c

theorem snd20 {hsc hsrc hdst hty} {k : PUnit → Prog (TpuEff nD τ sig (Elt F) Λ₀ .tc) α} :
    iprop(Env I K c ∗ opn (right c) ∗ Snd c 20 26 ∗ own (c : Thread nD τ) rsS11.view fullShare (I.snB c 2) ∗ any (right c : Thread nD τ) rsS21.view ∗ Ow c [26])
      ⊢ iprop((Fly c 20 0 -∗ Ow c [] -∗ wp₀ (k ⟨⟩) Q)
        -∗ wp₀ (.op (.enqueueDma rsS11 (.remote (Dev.tc (⟨k0_dev14 c, k0_dev14_lt c⟩ : Dev nD)) rsS21 (.dma 20) hsc) (.dma 26) hsrc hdst hty) k) Q) :=
  by
  refine wp_sd I K c (src := rsS11) (dst := rsS21) 20 26 [] ?_ (dev_14 c) ?_ ?_ fullShare (I.snB c 2) _ ?_ ?_ ?_ ?_ ?_
  · exact ⟨by decide, by decide, by decide⟩
  · rfl
  · rfl
  · exact rfl
  · exact amt_view_20
  · exact amt_same_20
  · exact pay_20_0 I c
  · exact land_26 I c

/-! ## Local copies -/

theorem cpy27_0 {hsrc hdst hty} {k : PUnit → Prog (TpuEff nD τ sig (Elt F) Λ₀ .tc) α} :
    iprop(Env I K c ∗ Cpy c 27 0 ∗ any (c : Thread nD τ) v1S0.view ∗ own (c : Thread nD τ) w1E0.view fullShare (I.W1 c 0))
      ⊢ iprop((Fly c 27 0 -∗ wp₀ (k ⟨⟩) Q) -∗ wp₀ (.op (.enqueueDma w1E0 (.here v1S0) (.dma 27) hsrc hdst hty) k) Q) :=
  by
  refine wp_cp I K c (src := w1E0) (dst := v1S0) 27 0 ?_ ?_ _ ?_ ?_
  · decide
  · rfl
  · unfold amt; rfl
  · exact pay_27_0 I c

theorem cpy29_0 {hsrc hdst hty} {k : PUnit → Prog (TpuEff nD τ sig (Elt F) Λ₀ .tc) α} :
    iprop(Env I K c ∗ Cpy c 29 0 ∗ any (c : Thread nD τ) v2S0.view ∗ own (c : Thread nD τ) w2E0.view fullShare (I.W2 c 0))
      ⊢ iprop((Fly c 29 0 -∗ wp₀ (k ⟨⟩) Q) -∗ wp₀ (.op (.enqueueDma w2E0 (.here v2S0) (.dma 29) hsrc hdst hty) k) Q) :=
  by
  refine wp_cp I K c (src := w2E0) (dst := v2S0) 29 0 ?_ ?_ _ ?_ ?_
  · decide
  · rfl
  · unfold amt; rfl
  · exact pay_29_0 I c

theorem cpy28_0 {hsrc hdst hty} {k : PUnit → Prog (TpuEff nD τ sig (Elt F) Λ₀ .tc) α} :
    iprop(Env I K c ∗ Cpy c 28 0 ∗ any (c : Thread nD τ) v1S1.view ∗ own (c : Thread nD τ) w1E1.view fullShare (I.W1 c 1))
      ⊢ iprop((Fly c 28 0 -∗ wp₀ (k ⟨⟩) Q) -∗ wp₀ (.op (.enqueueDma w1E1 (.here v1S1) (.dma 28) hsrc hdst hty) k) Q) :=
  by
  refine wp_cp I K c (src := w1E1) (dst := v1S1) 28 0 ?_ ?_ _ ?_ ?_
  · decide
  · rfl
  · unfold amt; rfl
  · exact pay_28_0 I c

theorem cpy30_0 {hsrc hdst hty} {k : PUnit → Prog (TpuEff nD τ sig (Elt F) Λ₀ .tc) α} :
    iprop(Env I K c ∗ Cpy c 30 0 ∗ any (c : Thread nD τ) v2S1.view ∗ own (c : Thread nD τ) w2E1.view fullShare (I.W2 c 1))
      ⊢ iprop((Fly c 30 0 -∗ wp₀ (k ⟨⟩) Q) -∗ wp₀ (.op (.enqueueDma w2E1 (.here v2S1) (.dma 30) hsrc hdst hty) k) Q) :=
  by
  refine wp_cp I K c (src := w2E1) (dst := v2S1) 30 0 ?_ ?_ _ ?_ ?_
  · decide
  · rfl
  · unfold amt; rfl
  · exact pay_30_0 I c

theorem cpy27_1 {hsrc hdst hty} {k : PUnit → Prog (TpuEff nD τ sig (Elt F) Λ₀ .tc) α} :
    iprop(Env I K c ∗ Cpy c 27 1 ∗ any (c : Thread nD τ) v1S0.view ∗ own (c : Thread nD τ) w1E2.view fullShare (I.W1 c 2))
      ⊢ iprop((Fly c 27 1 -∗ wp₀ (k ⟨⟩) Q) -∗ wp₀ (.op (.enqueueDma w1E2 (.here v1S0) (.dma 27) hsrc hdst hty) k) Q) :=
  by
  refine wp_cp I K c (src := w1E2) (dst := v1S0) 27 1 ?_ ?_ _ ?_ ?_
  · decide
  · rfl
  · unfold amt; rfl
  · exact pay_27_1 I c

theorem cpy29_1 {hsrc hdst hty} {k : PUnit → Prog (TpuEff nD τ sig (Elt F) Λ₀ .tc) α} :
    iprop(Env I K c ∗ Cpy c 29 1 ∗ any (c : Thread nD τ) v2S0.view ∗ own (c : Thread nD τ) w2E2.view fullShare (I.W2 c 2))
      ⊢ iprop((Fly c 29 1 -∗ wp₀ (k ⟨⟩) Q) -∗ wp₀ (.op (.enqueueDma w2E2 (.here v2S0) (.dma 29) hsrc hdst hty) k) Q) :=
  by
  refine wp_cp I K c (src := w2E2) (dst := v2S0) 29 1 ?_ ?_ _ ?_ ?_
  · decide
  · rfl
  · unfold amt; rfl
  · exact pay_29_1 I c

theorem cpy28_1 {hsrc hdst hty} {k : PUnit → Prog (TpuEff nD τ sig (Elt F) Λ₀ .tc) α} :
    iprop(Env I K c ∗ Cpy c 28 1 ∗ any (c : Thread nD τ) v1S1.view ∗ own (c : Thread nD τ) w1E3.view fullShare (I.W1 c 3))
      ⊢ iprop((Fly c 28 1 -∗ wp₀ (k ⟨⟩) Q) -∗ wp₀ (.op (.enqueueDma w1E3 (.here v1S1) (.dma 28) hsrc hdst hty) k) Q) :=
  by
  refine wp_cp I K c (src := w1E3) (dst := v1S1) 28 1 ?_ ?_ _ ?_ ?_
  · decide
  · rfl
  · unfold amt; rfl
  · exact pay_28_1 I c

theorem cpy30_1 {hsrc hdst hty} {k : PUnit → Prog (TpuEff nD τ sig (Elt F) Λ₀ .tc) α} :
    iprop(Env I K c ∗ Cpy c 30 1 ∗ any (c : Thread nD τ) v2S1.view ∗ own (c : Thread nD τ) w2E3.view fullShare (I.W2 c 3))
      ⊢ iprop((Fly c 30 1 -∗ wp₀ (k ⟨⟩) Q) -∗ wp₀ (.op (.enqueueDma w2E3 (.here v2S1) (.dma 30) hsrc hdst hty) k) Q) :=
  by
  refine wp_cp I K c (src := w2E3) (dst := v2S1) 30 1 ?_ ?_ _ ?_ ?_
  · decide
  · rfl
  · unfold amt; rfl
  · exact pay_30_1 I c

end Step

end Cert.Moe

end
-- ==== Proof.Waits.lean ====
/-
  Each wait for a copy of the kernel, as a step over what is held.
-/
module

public import proofs.«01_k».proof.Proof.Pays

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

section Step
variable {α : Type} {Q : α → sProp (MT nD τ sig Unit (Elt F) ℕ UU ℕ)} (K : GSem nD τ sig → ℕ) (c : Dev nD)
local notation "wp₀" => wp frame (wpE (defs₀ (F := F)) 𝒱₀ (c : Thread nD τ) none) Set.univ

/-! ## Waits -/

theorem wt9_0 {sp' : Space} {s' : Shape} {e' : EltTy} {src : Memref sig .tc sp' s' e'} {hsrc hdst} {k : PUnit → Prog (TpuEff nD τ sig (Elt F) Λ₀ .tc) α} :
    iprop(Env I K c ∗ Fly c 9 0 ∗ Ow c [13, 14, 7, 8, 21, 22, 23, 24, 25, 26])
      ⊢ iprop((Ow c [13, 14, 7, 8, 21, 22, 23, 24, 25, 26] -∗ Don c 9 1 -∗ own (c : Thread nD τ) mRT.view fullShare (I.rt c) -∗ wp₀ (k ⟨⟩) Q) -∗ wp₀ (.op (.waitDma2 9 src mRT hsrc hdst) k) Q) :=
  by
  refine wp_wt I K c (dst := mRT) 9 0 [13, 14, 7, 8, 21, 22, 23, 24, 25, 26] (own (c : Thread nD τ) mRT.view fullShare (I.rt c)) ?_ ?_ ?_ ?_ ?_
  · decide
  · decide
  · exact pay_9_0 I c
  · rfl
  · unfold amt; rfl

theorem wt12_0 {sp' : Space} {s' : Shape} {e' : EltTy} {src : Memref sig .tc sp' s' e'} {hsrc hdst} {k : PUnit → Prog (TpuEff nD τ sig (Elt F) Λ₀ .tc) α} :
    iprop(Env I K c ∗ Fly c 12 0 ∗ Ow c [13, 14, 7, 8, 21, 22, 23, 24, 25, 26])
      ⊢ iprop((Ow c [13, 14, 7, 8, 21, 22, 23, 24, 25, 26] -∗ Don c 12 1 -∗ own (c : Thread nD τ) rgS0.view fullShare (I.rt (back 1 c)) -∗ wp₀ (k ⟨⟩) Q) -∗ wp₀ (.op (.waitDma2 12 src rgS0 hsrc hdst) k) Q) :=
  by
  refine wp_wt I K c (dst := rgS0) 12 0 [13, 14, 7, 8, 21, 22, 23, 24, 25, 26] (own (c : Thread nD τ) rgS0.view fullShare (I.rt (back 1 c))) ?_ ?_ ?_ ?_ ?_
  · decide
  · decide
  · exact pay_12_0 I c
  · rfl
  · unfold amt; rfl

theorem wt10_0 {sp' : Space} {s' : Shape} {e' : EltTy} {src : Memref sig .tc sp' s' e'} {hsrc hdst} {k : PUnit → Prog (TpuEff nD τ sig (Elt F) Λ₀ .tc) α} :
    iprop(Env I K c ∗ Fly c 10 0 ∗ Ow c [14, 7, 8, 21, 22, 23, 24, 25, 26])
      ⊢ iprop((Ow c [14, 7, 8, 21, 22, 23, 24, 25, 26] -∗ Don c 10 1 -∗ own (c : Thread nD τ) rgS0.view fullShare (I.rt (back 1 c)) -∗ wp₀ (k ⟨⟩) Q) -∗ wp₀ (.op (.waitDma2 10 src rgS0 hsrc hdst) k) Q) :=
  by
  refine wp_wt I K c (dst := rgS0) 10 0 [14, 7, 8, 21, 22, 23, 24, 25, 26] (own (c : Thread nD τ) rgS0.view fullShare (I.rt (back 1 c))) ?_ ?_ ?_ ?_ ?_
  · decide
  · decide
  · exact pay_10_0 I c
  · rfl
  · unfold amt; rfl

theorem wt13_0 {sp' : Space} {s' : Shape} {e' : EltTy} {src : Memref sig .tc sp' s' e'} {hsrc hdst} {k : PUnit → Prog (TpuEff nD τ sig (Elt F) Λ₀ .tc) α} :
    iprop(Env I K c ∗ Fly c 13 0 ∗ Ow c [14, 7, 8, 21, 22, 23, 24, 25, 26])
      ⊢ iprop((Ow c [14, 7, 8, 21, 22, 23, 24, 25, 26] -∗ Don c 13 1 -∗ own (c : Thread nD τ) rgS1.view fullShare (I.rt (back 2 c)) -∗ wp₀ (k ⟨⟩) Q) -∗ wp₀ (.op (.waitDma2 13 src rgS1 hsrc hdst) k) Q) :=
  by
  refine wp_wt I K c (dst := rgS1) 13 0 [14, 7, 8, 21, 22, 23, 24, 25, 26] (own (c : Thread nD τ) rgS1.view fullShare (I.rt (back 2 c))) ?_ ?_ ?_ ?_ ?_
  · decide
  · decide
  · exact pay_13_0 I c
  · rfl
  · unfold amt; rfl

theorem wt11_0 {sp' : Space} {s' : Shape} {e' : EltTy} {src : Memref sig .tc sp' s' e'} {hsrc hdst} {k : PUnit → Prog (TpuEff nD τ sig (Elt F) Λ₀ .tc) α} :
    iprop(Env I K c ∗ Fly c 11 0 ∗ Ow c [7, 8, 21, 22, 23, 24, 25, 26])
      ⊢ iprop((Ow c [7, 8, 21, 22, 23, 24, 25, 26] -∗ Don c 11 1 -∗ own (c : Thread nD τ) rgS1.view fullShare (I.rt (back 2 c)) -∗ wp₀ (k ⟨⟩) Q) -∗ wp₀ (.op (.waitDma2 11 src rgS1 hsrc hdst) k) Q) :=
  by
  refine wp_wt I K c (dst := rgS1) 11 0 [7, 8, 21, 22, 23, 24, 25, 26] (own (c : Thread nD τ) rgS1.view fullShare (I.rt (back 2 c))) ?_ ?_ ?_ ?_ ?_
  · decide
  · decide
  · exact pay_11_0 I c
  · rfl
  · unfold amt; rfl

theorem wt14_0 {sp' : Space} {s' : Shape} {e' : EltTy} {src : Memref sig .tc sp' s' e'} {hsrc hdst} {k : PUnit → Prog (TpuEff nD τ sig (Elt F) Λ₀ .tc) α} :
    iprop(Env I K c ∗ Fly c 14 0 ∗ Ow c [7, 8, 21, 22, 23, 24, 25, 26])
      ⊢ iprop((Ow c [7, 8, 21, 22, 23, 24, 25, 26] -∗ Don c 14 1 -∗ own (c : Thread nD τ) rgS2.view fullShare (I.rt (back 3 c)) -∗ wp₀ (k ⟨⟩) Q) -∗ wp₀ (.op (.waitDma2 14 src rgS2 hsrc hdst) k) Q) :=
  by
  refine wp_wt I K c (dst := rgS2) 14 0 [7, 8, 21, 22, 23, 24, 25, 26] (own (c : Thread nD τ) rgS2.view fullShare (I.rt (back 3 c))) ?_ ?_ ?_ ?_ ?_
  · decide
  · decide
  · exact pay_14_0 I c
  · rfl
  · unfold amt; rfl

theorem wt3_0 {sp' : Space} {s' : Shape} {e' : EltTy} {src : Memref sig .tc sp' s' e'} {hsrc hdst} {k : PUnit → Prog (TpuEff nD τ sig (Elt F) Λ₀ .tc) α} :
    iprop(Env I K c ∗ Fly c 3 0 ∗ Ow c [7, 8, 21, 22, 23, 24, 25, 26])
      ⊢ iprop((Ow c [7, 8, 21, 22, 23, 24, 25, 26] -∗ Don c 3 1 -∗ own (c : Thread nD τ) mX.view fullShare.left (I.x c) -∗ wp₀ (k ⟨⟩) Q) -∗ wp₀ (.op (.waitDma2 3 src mX hsrc hdst) k) Q) :=
  by
  refine wp_wt I K c (dst := mX) 3 0 [7, 8, 21, 22, 23, 24, 25, 26] (own (c : Thread nD τ) mX.view fullShare.left (I.x c)) ?_ ?_ ?_ ?_ ?_
  · decide
  · decide
  · exact pay_3_0 I c
  · rfl
  · unfold amt; rfl

theorem wt6_0 {sp' : Space} {s' : Shape} {e' : EltTy} {src : Memref sig .tc sp' s' e'} {hsrc hdst} {k : PUnit → Prog (TpuEff nD τ sig (Elt F) Λ₀ .tc) α} :
    iprop(Env I K c ∗ Fly c 6 0 ∗ Ow c [7, 8, 21, 22, 23, 24, 25, 26])
      ⊢ iprop((Ow c [7, 8, 21, 22, 23, 24, 25, 26] -∗ Don c 6 1 -∗ own (c : Thread nD τ) agS0.view fullShare (I.xk c 1) -∗ wp₀ (k ⟨⟩) Q) -∗ wp₀ (.op (.waitDma2 6 src agS0 hsrc hdst) k) Q) :=
  by
  refine wp_wt I K c (dst := agS0) 6 0 [7, 8, 21, 22, 23, 24, 25, 26] (own (c : Thread nD τ) agS0.view fullShare (I.xk c 1)) ?_ ?_ ?_ ?_ ?_
  · decide
  · decide
  · exact pay_6_0 I c
  · rfl
  · unfold amt; rfl

theorem wt4_0 {sp' : Space} {s' : Shape} {e' : EltTy} {src : Memref sig .tc sp' s' e'} {hsrc hdst} {k : PUnit → Prog (TpuEff nD τ sig (Elt F) Λ₀ .tc) α} :
    iprop(Env I K c ∗ Fly c 4 0 ∗ Ow c [8, 21, 22, 23, 24, 25, 26])
      ⊢ iprop((Ow c [8, 21, 22, 23, 24, 25, 26] -∗ Don c 4 1 -∗ own (c : Thread nD τ) agS0.view fullShare.left (I.xk c 1) -∗ wp₀ (k ⟨⟩) Q) -∗ wp₀ (.op (.waitDma2 4 src agS0 hsrc hdst) k) Q) :=
  by
  refine wp_wt I K c (dst := agS0) 4 0 [8, 21, 22, 23, 24, 25, 26] (own (c : Thread nD τ) agS0.view fullShare.left (I.xk c 1)) ?_ ?_ ?_ ?_ ?_
  · decide
  · decide
  · exact pay_4_0 I c
  · rfl
  · unfold amt; rfl

theorem wt7_0 {sp' : Space} {s' : Shape} {e' : EltTy} {src : Memref sig .tc sp' s' e'} {hsrc hdst} {k : PUnit → Prog (TpuEff nD τ sig (Elt F) Λ₀ .tc) α} :
    iprop(Env I K c ∗ Fly c 7 0 ∗ Ow c [8, 21, 22, 23, 24, 25, 26])
      ⊢ iprop((Ow c [8, 21, 22, 23, 24, 25, 26] -∗ Don c 7 1 -∗ own (c : Thread nD τ) agS1.view fullShare (I.xk c 2) -∗ wp₀ (k ⟨⟩) Q) -∗ wp₀ (.op (.waitDma2 7 src agS1 hsrc hdst) k) Q) :=
  by
  refine wp_wt I K c (dst := agS1) 7 0 [8, 21, 22, 23, 24, 25, 26] (own (c : Thread nD τ) agS1.view fullShare (I.xk c 2)) ?_ ?_ ?_ ?_ ?_
  · decide
  · decide
  · exact pay_7_0 I c
  · rfl
  · unfold amt; rfl

theorem wt5_0 {sp' : Space} {s' : Shape} {e' : EltTy} {src : Memref sig .tc sp' s' e'} {hsrc hdst} {k : PUnit → Prog (TpuEff nD τ sig (Elt F) Λ₀ .tc) α} :
    iprop(Env I K c ∗ Fly c 5 0 ∗ Ow c [21, 22, 23, 24, 25, 26])
      ⊢ iprop((Ow c [21, 22, 23, 24, 25, 26] -∗ Don c 5 1 -∗ own (c : Thread nD τ) agS1.view fullShare.left (I.xk c 2) -∗ wp₀ (k ⟨⟩) Q) -∗ wp₀ (.op (.waitDma2 5 src agS1 hsrc hdst) k) Q) :=
  by
  refine wp_wt I K c (dst := agS1) 5 0 [21, 22, 23, 24, 25, 26] (own (c : Thread nD τ) agS1.view fullShare.left (I.xk c 2)) ?_ ?_ ?_ ?_ ?_
  · decide
  · decide
  · exact pay_5_0 I c
  · rfl
  · unfold amt; rfl

theorem wt8_0 {sp' : Space} {s' : Shape} {e' : EltTy} {src : Memref sig .tc sp' s' e'} {hsrc hdst} {k : PUnit → Prog (TpuEff nD τ sig (Elt F) Λ₀ .tc) α} :
    iprop(Env I K c ∗ Fly c 8 0 ∗ Ow c [21, 22, 23, 24, 25, 26])
      ⊢ iprop((Ow c [21, 22, 23, 24, 25, 26] -∗ Don c 8 1 -∗ own (c : Thread nD τ) agS2.view fullShare (I.xk c 3) -∗ wp₀ (k ⟨⟩) Q) -∗ wp₀ (.op (.waitDma2 8 src agS2 hsrc hdst) k) Q) :=
  by
  refine wp_wt I K c (dst := agS2) 8 0 [21, 22, 23, 24, 25, 26] (own (c : Thread nD τ) agS2.view fullShare (I.xk c 3)) ?_ ?_ ?_ ?_ ?_
  · decide
  · decide
  · exact pay_8_0 I c
  · rfl
  · unfold amt; rfl

theorem wt21_0 {sp' : Space} {s' : Shape} {e' : EltTy} {src : Memref sig .tc sp' s' e'} {hsrc hdst} {k : PUnit → Prog (TpuEff nD τ sig (Elt F) Λ₀ .tc) α} :
    iprop(Env I K c ∗ Fly c 21 0 ∗ Ow c [23, 24, 25, 26])
      ⊢ iprop((Ow c [23, 24, 25, 26] -∗ Don c 21 1 -∗ own (c : Thread nD τ) rsS00.view fullShare (I.rsT 0 c) -∗ wp₀ (k ⟨⟩) Q) -∗ wp₀ (.op (.waitDma2 21 src rsS00 hsrc hdst) k) Q) :=
  by
  refine wp_wt I K c (dst := rsS00) 21 0 [23, 24, 25, 26] (own (c : Thread nD τ) rsS00.view fullShare (I.rsT 0 c)) ?_ ?_ ?_ ?_ ?_
  · decide
  · decide
  · exact pay_21_0 I c
  · rfl
  · unfold amt; rfl

theorem wt22_0 {sp' : Space} {s' : Shape} {e' : EltTy} {src : Memref sig .tc sp' s' e'} {hsrc hdst} {k : PUnit → Prog (TpuEff nD τ sig (Elt F) Λ₀ .tc) α} :
    iprop(Env I K c ∗ Fly c 22 0 ∗ Ow c [24, 25, 26])
      ⊢ iprop((Ow c [24, 25, 26] -∗ Don c 22 1 -∗ own (c : Thread nD τ) rsS01.view fullShare (I.rsB 0 c) -∗ wp₀ (k ⟨⟩) Q) -∗ wp₀ (.op (.waitDma2 22 src rsS01 hsrc hdst) k) Q) :=
  by
  refine wp_wt I K c (dst := rsS01) 22 0 [24, 25, 26] (own (c : Thread nD τ) rsS01.view fullShare (I.rsB 0 c)) ?_ ?_ ?_ ?_ ?_
  · decide
  · decide
  · exact pay_22_0 I c
  · rfl
  · unfold amt; rfl

theorem wt23_0 {sp' : Space} {s' : Shape} {e' : EltTy} {src : Memref sig .tc sp' s' e'} {hsrc hdst} {k : PUnit → Prog (TpuEff nD τ sig (Elt F) Λ₀ .tc) α} :
    iprop(Env I K c ∗ Fly c 23 0 ∗ Ow c [25, 26])
      ⊢ iprop((Ow c [25, 26] -∗ Don c 23 1 -∗ own (c : Thread nD τ) rsS10.view fullShare (I.rsT 1 c) -∗ wp₀ (k ⟨⟩) Q) -∗ wp₀ (.op (.waitDma2 23 src rsS10 hsrc hdst) k) Q) :=
  by
  refine wp_wt I K c (dst := rsS10) 23 0 [25, 26] (own (c : Thread nD τ) rsS10.view fullShare (I.rsT 1 c)) ?_ ?_ ?_ ?_ ?_
  · decide
  · decide
  · exact pay_23_0 I c
  · rfl
  · unfold amt; rfl

theorem wt24_0 {sp' : Space} {s' : Shape} {e' : EltTy} {src : Memref sig .tc sp' s' e'} {hsrc hdst} {k : PUnit → Prog (TpuEff nD τ sig (Elt F) Λ₀ .tc) α} :
    iprop(Env I K c ∗ Fly c 24 0 ∗ Ow c [26])
      ⊢ iprop((Ow c [26] -∗ Don c 24 1 -∗ own (c : Thread nD τ) rsS11.view fullShare (I.rsB 1 c) -∗ wp₀ (k ⟨⟩) Q) -∗ wp₀ (.op (.waitDma2 24 src rsS11 hsrc hdst) k) Q) :=
  by
  refine wp_wt I K c (dst := rsS11) 24 0 [26] (own (c : Thread nD τ) rsS11.view fullShare (I.rsB 1 c)) ?_ ?_ ?_ ?_ ?_
  · decide
  · decide
  · exact pay_24_0 I c
  · rfl
  · unfold amt; rfl

theorem wt25_0 {sp' : Space} {s' : Shape} {e' : EltTy} {src : Memref sig .tc sp' s' e'} {hsrc hdst} {k : PUnit → Prog (TpuEff nD τ sig (Elt F) Λ₀ .tc) α} :
    iprop(Env I K c ∗ Fly c 25 0 ∗ Ow c [])
      ⊢ iprop((Ow c [] -∗ Don c 25 1 -∗ own (c : Thread nD τ) rsS20.view fullShare (I.rsT 2 c) -∗ wp₀ (k ⟨⟩) Q) -∗ wp₀ (.op (.waitDma2 25 src rsS20 hsrc hdst) k) Q) :=
  by
  refine wp_wt I K c (dst := rsS20) 25 0 [] (own (c : Thread nD τ) rsS20.view fullShare (I.rsT 2 c)) ?_ ?_ ?_ ?_ ?_
  · decide
  · decide
  · exact pay_25_0 I c
  · rfl
  · unfold amt; rfl

theorem wt26_0 {sp' : Space} {s' : Shape} {e' : EltTy} {src : Memref sig .tc sp' s' e'} {hsrc hdst} {k : PUnit → Prog (TpuEff nD τ sig (Elt F) Λ₀ .tc) α} :
    iprop(Env I K c ∗ Fly c 26 0 ∗ Ow c [])
      ⊢ iprop((Ow c [] -∗ Don c 26 1 -∗ own (c : Thread nD τ) rsS21.view fullShare (I.rsB 2 c) -∗ wp₀ (k ⟨⟩) Q) -∗ wp₀ (.op (.waitDma2 26 src rsS21 hsrc hdst) k) Q) :=
  by
  refine wp_wt I K c (dst := rsS21) 26 0 [] (own (c : Thread nD τ) rsS21.view fullShare (I.rsB 2 c)) ?_ ?_ ?_ ?_ ?_
  · decide
  · decide
  · exact pay_26_0 I c
  · rfl
  · unfold amt; rfl

theorem wt15_0 {sp' : Space} {s' : Shape} {e' : EltTy} {src : Memref sig .tc sp' s' e'} {hsrc hdst} {k : PUnit → Prog (TpuEff nD τ sig (Elt F) Λ₀ .tc) α} :
    iprop(Env I K c ∗ Fly c 15 0 ∗ Ow c [])
      ⊢ iprop((Ow c [] -∗ Don c 15 1 -∗ own (c : Thread nD τ) (mAcc.access (halfR (org c 1) 0 (org_lt c 1) (by decide))) fullShare (I.snT c 0) -∗ wp₀ (k ⟨⟩) Q) -∗ wp₀ (.op (.waitDma2 15 src (mAcc.slice (Rect.unit (s := S1024x1024) (k0_off6 c 0#32) S128x1024.size (k0_off6_inb c 0)) (fun _ => rfl)) hsrc hdst) k) Q) :=
  by
  refine wp_wt I K c (dst := (mAcc.slice (Rect.unit (s := S1024x1024) (k0_off6 c 0#32) S128x1024.size (k0_off6_inb c 0)) (fun _ => rfl))) 15 0 [] (own (c : Thread nD τ) (mAcc.access (halfR (org c 1) 0 (org_lt c 1) (by decide))) fullShare (I.snT c 0)) ?_ ?_ ?_ ?_ ?_
  · decide
  · decide
  · exact pay_15_0 I c
  · rfl
  · unfold amt; exact View.dmaCredit_closed _ S128x1024 rfl mAcc.view.buf rfl _ rfl

theorem wt16_0 {sp' : Space} {s' : Shape} {e' : EltTy} {src : Memref sig .tc sp' s' e'} {hsrc hdst} {k : PUnit → Prog (TpuEff nD τ sig (Elt F) Λ₀ .tc) α} :
    iprop(Env I K c ∗ Fly c 16 0 ∗ Ow c [])
      ⊢ iprop((Ow c [] -∗ Don c 16 1 -∗ own (c : Thread nD τ) (mAcc.access (halfR (org c 1) 128 (org_lt c 1) (by decide))) fullShare (I.snB c 0) -∗ wp₀ (k ⟨⟩) Q) -∗ wp₀ (.op (.waitDma2 16 src (mAcc.slice (Rect.unit (s := S1024x1024) (k0_off6 c 128#32) S128x1024.size (k0_off6_inb c 1)) (fun _ => rfl)) hsrc hdst) k) Q) :=
  by
  refine wp_wt I K c (dst := (mAcc.slice (Rect.unit (s := S1024x1024) (k0_off6 c 128#32) S128x1024.size (k0_off6_inb c 1)) (fun _ => rfl))) 16 0 [] (own (c : Thread nD τ) (mAcc.access (halfR (org c 1) 128 (org_lt c 1) (by decide))) fullShare (I.snB c 0)) ?_ ?_ ?_ ?_ ?_
  · decide
  · decide
  · exact pay_16_0 I c
  · rfl
  · unfold amt; exact View.dmaCredit_closed _ S128x1024 rfl mAcc.view.buf rfl _ rfl

theorem wt17_0 {sp' : Space} {s' : Shape} {e' : EltTy} {src : Memref sig .tc sp' s' e'} {hsrc hdst} {k : PUnit → Prog (TpuEff nD τ sig (Elt F) Λ₀ .tc) α} :
    iprop(Env I K c ∗ Fly c 17 0 ∗ Ow c [])
      ⊢ iprop((Ow c [] -∗ Don c 17 1 -∗ own (c : Thread nD τ) rsS00.view fullShare (I.snT c 1) -∗ wp₀ (k ⟨⟩) Q) -∗ wp₀ (.op (.waitDma2 17 src rsS00 hsrc hdst) k) Q) :=
  by
  refine wp_wt I K c (dst := rsS00) 17 0 [] (own (c : Thread nD τ) rsS00.view fullShare (I.snT c 1)) ?_ ?_ ?_ ?_ ?_
  · decide
  · decide
  · exact pay_17_0 I c
  · rfl
  · unfold amt; rfl

theorem wt18_0 {sp' : Space} {s' : Shape} {e' : EltTy} {src : Memref sig .tc sp' s' e'} {hsrc hdst} {k : PUnit → Prog (TpuEff nD τ sig (Elt F) Λ₀ .tc) α} :
    iprop(Env I K c ∗ Fly c 18 0 ∗ Ow c [])
      ⊢ iprop((Ow c [] -∗ Don c 18 1 -∗ own (c : Thread nD τ) rsS01.view fullShare (I.snB c 1) -∗ wp₀ (k ⟨⟩) Q) -∗ wp₀ (.op (.waitDma2 18 src rsS01 hsrc hdst) k) Q) :=
  by
  refine wp_wt I K c (dst := rsS01) 18 0 [] (own (c : Thread nD τ) rsS01.view fullShare (I.snB c 1)) ?_ ?_ ?_ ?_ ?_
  · decide
  · decide
  · exact pay_18_0 I c
  · rfl
  · unfold amt; rfl

theorem wt19_0 {sp' : Space} {s' : Shape} {e' : EltTy} {src : Memref sig .tc sp' s' e'} {hsrc hdst} {k : PUnit → Prog (TpuEff nD τ sig (Elt F) Λ₀ .tc) α} :
    iprop(Env I K c ∗ Fly c 19 0 ∗ Ow c [])
      ⊢ iprop((Ow c [] -∗ Don c 19 1 -∗ own (c : Thread nD τ) rsS10.view fullShare (I.snT c 2) -∗ wp₀ (k ⟨⟩) Q) -∗ wp₀ (.op (.waitDma2 19 src rsS10 hsrc hdst) k) Q) :=
  by
  refine wp_wt I K c (dst := rsS10) 19 0 [] (own (c : Thread nD τ) rsS10.view fullShare (I.snT c 2)) ?_ ?_ ?_ ?_ ?_
  · decide
  · decide
  · exact pay_19_0 I c
  · rfl
  · unfold amt; rfl

theorem wt20_0 {sp' : Space} {s' : Shape} {e' : EltTy} {src : Memref sig .tc sp' s' e'} {hsrc hdst} {k : PUnit → Prog (TpuEff nD τ sig (Elt F) Λ₀ .tc) α} :
    iprop(Env I K c ∗ Fly c 20 0 ∗ Ow c [])
      ⊢ iprop((Ow c [] -∗ Don c 20 1 -∗ own (c : Thread nD τ) rsS11.view fullShare (I.snB c 2) -∗ wp₀ (k ⟨⟩) Q) -∗ wp₀ (.op (.waitDma2 20 src rsS11 hsrc hdst) k) Q) :=
  by
  refine wp_wt I K c (dst := rsS11) 20 0 [] (own (c : Thread nD τ) rsS11.view fullShare (I.snB c 2)) ?_ ?_ ?_ ?_ ?_
  · decide
  · decide
  · exact pay_20_0 I c
  · rfl
  · unfold amt; rfl

theorem wt27_0 {sp' : Space} {s' : Shape} {e' : EltTy} {src : Memref sig .tc sp' s' e'} {hsrc hdst} {k : PUnit → Prog (TpuEff nD τ sig (Elt F) Λ₀ .tc) α} :
    iprop(Env I K c ∗ Fly c 27 0 ∗ Ow c [7, 8, 21, 22, 23, 24, 25, 26])
      ⊢ iprop((Ow c [7, 8, 21, 22, 23, 24, 25, 26] -∗ Don c 27 1 -∗ iprop(own (c : Thread nD τ) v1S0.view fullShare (I.W1 c 0) ∗ own (c : Thread nD τ) w1E0.view fullShare (I.W1 c 0)) -∗ wp₀ (k ⟨⟩) Q) -∗ wp₀ (.op (.waitDma2 27 src v1S0 hsrc hdst) k) Q) :=
  by
  refine wp_wt I K c (dst := v1S0) 27 0 [7, 8, 21, 22, 23, 24, 25, 26] iprop(own (c : Thread nD τ) v1S0.view fullShare (I.W1 c 0) ∗ own (c : Thread nD τ) w1E0.view fullShare (I.W1 c 0)) ?_ ?_ ?_ ?_ ?_
  · decide
  · decide
  · exact pay_27_0 I c
  · rfl
  · unfold amt; rfl

theorem wt29_0 {sp' : Space} {s' : Shape} {e' : EltTy} {src : Memref sig .tc sp' s' e'} {hsrc hdst} {k : PUnit → Prog (TpuEff nD τ sig (Elt F) Λ₀ .tc) α} :
    iprop(Env I K c ∗ Fly c 29 0 ∗ Ow c [7, 8, 21, 22, 23, 24, 25, 26])
      ⊢ iprop((Ow c [7, 8, 21, 22, 23, 24, 25, 26] -∗ Don c 29 1 -∗ iprop(own (c : Thread nD τ) v2S0.view fullShare (I.W2 c 0) ∗ own (c : Thread nD τ) w2E0.view fullShare (I.W2 c 0)) -∗ wp₀ (k ⟨⟩) Q) -∗ wp₀ (.op (.waitDma2 29 src v2S0 hsrc hdst) k) Q) :=
  by
  refine wp_wt I K c (dst := v2S0) 29 0 [7, 8, 21, 22, 23, 24, 25, 26] iprop(own (c : Thread nD τ) v2S0.view fullShare (I.W2 c 0) ∗ own (c : Thread nD τ) w2E0.view fullShare (I.W2 c 0)) ?_ ?_ ?_ ?_ ?_
  · decide
  · decide
  · exact pay_29_0 I c
  · rfl
  · unfold amt; rfl

theorem wt28_0 {sp' : Space} {s' : Shape} {e' : EltTy} {src : Memref sig .tc sp' s' e'} {hsrc hdst} {k : PUnit → Prog (TpuEff nD τ sig (Elt F) Λ₀ .tc) α} :
    iprop(Env I K c ∗ Fly c 28 0 ∗ Ow c [7, 8, 21, 22, 23, 24, 25, 26])
      ⊢ iprop((Ow c [7, 8, 21, 22, 23, 24, 25, 26] -∗ Don c 28 1 -∗ iprop(own (c : Thread nD τ) v1S1.view fullShare (I.W1 c 1) ∗ own (c : Thread nD τ) w1E1.view fullShare (I.W1 c 1)) -∗ wp₀ (k ⟨⟩) Q) -∗ wp₀ (.op (.waitDma2 28 src v1S1 hsrc hdst) k) Q) :=
  by
  refine wp_wt I K c (dst := v1S1) 28 0 [7, 8, 21, 22, 23, 24, 25, 26] iprop(own (c : Thread nD τ) v1S1.view fullShare (I.W1 c 1) ∗ own (c : Thread nD τ) w1E1.view fullShare (I.W1 c 1)) ?_ ?_ ?_ ?_ ?_
  · decide
  · decide
  · exact pay_28_0 I c
  · rfl
  · unfold amt; rfl

theorem wt30_0 {sp' : Space} {s' : Shape} {e' : EltTy} {src : Memref sig .tc sp' s' e'} {hsrc hdst} {k : PUnit → Prog (TpuEff nD τ sig (Elt F) Λ₀ .tc) α} :
    iprop(Env I K c ∗ Fly c 30 0 ∗ Ow c [7, 8, 21, 22, 23, 24, 25, 26])
      ⊢ iprop((Ow c [7, 8, 21, 22, 23, 24, 25, 26] -∗ Don c 30 1 -∗ iprop(own (c : Thread nD τ) v2S1.view fullShare (I.W2 c 1) ∗ own (c : Thread nD τ) w2E1.view fullShare (I.W2 c 1)) -∗ wp₀ (k ⟨⟩) Q) -∗ wp₀ (.op (.waitDma2 30 src v2S1 hsrc hdst) k) Q) :=
  by
  refine wp_wt I K c (dst := v2S1) 30 0 [7, 8, 21, 22, 23, 24, 25, 26] iprop(own (c : Thread nD τ) v2S1.view fullShare (I.W2 c 1) ∗ own (c : Thread nD τ) w2E1.view fullShare (I.W2 c 1)) ?_ ?_ ?_ ?_ ?_
  · decide
  · decide
  · exact pay_30_0 I c
  · rfl
  · unfold amt; rfl

theorem wt27_1 {sp' : Space} {s' : Shape} {e' : EltTy} {src : Memref sig .tc sp' s' e'} {hsrc hdst} {k : PUnit → Prog (TpuEff nD τ sig (Elt F) Λ₀ .tc) α} :
    iprop(Env I K c ∗ Fly c 27 1 ∗ Ow c [21, 22, 23, 24, 25, 26])
      ⊢ iprop((Ow c [21, 22, 23, 24, 25, 26] -∗ Don c 27 2 -∗ iprop(own (c : Thread nD τ) v1S0.view fullShare (I.W1 c 2) ∗ own (c : Thread nD τ) w1E2.view fullShare (I.W1 c 2)) -∗ wp₀ (k ⟨⟩) Q) -∗ wp₀ (.op (.waitDma2 27 src v1S0 hsrc hdst) k) Q) :=
  by
  refine wp_wt I K c (dst := v1S0) 27 1 [21, 22, 23, 24, 25, 26] iprop(own (c : Thread nD τ) v1S0.view fullShare (I.W1 c 2) ∗ own (c : Thread nD τ) w1E2.view fullShare (I.W1 c 2)) ?_ ?_ ?_ ?_ ?_
  · decide
  · decide
  · exact pay_27_1 I c
  · rfl
  · unfold amt; rfl

theorem wt29_1 {sp' : Space} {s' : Shape} {e' : EltTy} {src : Memref sig .tc sp' s' e'} {hsrc hdst} {k : PUnit → Prog (TpuEff nD τ sig (Elt F) Λ₀ .tc) α} :
    iprop(Env I K c ∗ Fly c 29 1 ∗ Ow c [21, 22, 23, 24, 25, 26])
      ⊢ iprop((Ow c [21, 22, 23, 24, 25, 26] -∗ Don c 29 2 -∗ iprop(own (c : Thread nD τ) v2S0.view fullShare (I.W2 c 2) ∗ own (c : Thread nD τ) w2E2.view fullShare (I.W2 c 2)) -∗ wp₀ (k ⟨⟩) Q) -∗ wp₀ (.op (.waitDma2 29 src v2S0 hsrc hdst) k) Q) :=
  by
  refine wp_wt I K c (dst := v2S0) 29 1 [21, 22, 23, 24, 25, 26] iprop(own (c : Thread nD τ) v2S0.view fullShare (I.W2 c 2) ∗ own (c : Thread nD τ) w2E2.view fullShare (I.W2 c 2)) ?_ ?_ ?_ ?_ ?_
  · decide
  · decide
  · exact pay_29_1 I c
  · rfl
  · unfold amt; rfl

theorem wt28_1 {sp' : Space} {s' : Shape} {e' : EltTy} {src : Memref sig .tc sp' s' e'} {hsrc hdst} {k : PUnit → Prog (TpuEff nD τ sig (Elt F) Λ₀ .tc) α} :
    iprop(Env I K c ∗ Fly c 28 1 ∗ Ow c [21, 22, 23, 24, 25, 26])
      ⊢ iprop((Ow c [21, 22, 23, 24, 25, 26] -∗ Don c 28 2 -∗ iprop(own (c : Thread nD τ) v1S1.view fullShare (I.W1 c 3) ∗ own (c : Thread nD τ) w1E3.view fullShare (I.W1 c 3)) -∗ wp₀ (k ⟨⟩) Q) -∗ wp₀ (.op (.waitDma2 28 src v1S1 hsrc hdst) k) Q) :=
  by
  refine wp_wt I K c (dst := v1S1) 28 1 [21, 22, 23, 24, 25, 26] iprop(own (c : Thread nD τ) v1S1.view fullShare (I.W1 c 3) ∗ own (c : Thread nD τ) w1E3.view fullShare (I.W1 c 3)) ?_ ?_ ?_ ?_ ?_
  · decide
  · decide
  · exact pay_28_1 I c
  · rfl
  · unfold amt; rfl

theorem wt30_1 {sp' : Space} {s' : Shape} {e' : EltTy} {src : Memref sig .tc sp' s' e'} {hsrc hdst} {k : PUnit → Prog (TpuEff nD τ sig (Elt F) Λ₀ .tc) α} :
    iprop(Env I K c ∗ Fly c 30 1 ∗ Ow c [21, 22, 23, 24, 25, 26])
      ⊢ iprop((Ow c [21, 22, 23, 24, 25, 26] -∗ Don c 30 2 -∗ iprop(own (c : Thread nD τ) v2S1.view fullShare (I.W2 c 3) ∗ own (c : Thread nD τ) w2E3.view fullShare (I.W2 c 3)) -∗ wp₀ (k ⟨⟩) Q) -∗ wp₀ (.op (.waitDma2 30 src v2S1 hsrc hdst) k) Q) :=
  by
  refine wp_wt I K c (dst := v2S1) 30 1 [21, 22, 23, 24, 25, 26] iprop(own (c : Thread nD τ) v2S1.view fullShare (I.W2 c 3) ∗ own (c : Thread nD τ) w2E3.view fullShare (I.W2 c 3)) ?_ ?_ ?_ ?_ ?_
  · decide
  · decide
  · exact pay_30_1 I c
  · rfl
  · unfold amt; rfl

end Step

end Cert.Moe

end
-- ==== Proof.Barrier.lean ====
/-
  The barrier's signals and its wait, and a semaphore taken back once nothing more is paid on it.
-/
module

public import proofs.«01_k».proof.Proof.Proto

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F)

/-- What device `c` holds for the barrier: two payments, and its place. -/
def Bar (c : Dev nD) : sProp 𝕄 :=
  iprop(dutyTok ER (gb (left c)) 0 false ∗ dutyTok ER (gb (right c)) 0 true ∗ cred (tallyAt (gb c) () 2) ∗ atPos ER (gb c) 0 ∅ 0)
/-- What device `c` owes at the launch. -/
def Ow₀ (c : Dev nD) : sProp 𝕄 := iprop(∃ W, owes (c : Thread nD τ) (O₀ c) W)

theorem lv_order : ∀ q ∈ order, 1 < lvl q.val := by decide

section Step
variable {α : Type} {Q : α → sProp (MT nD τ sig Unit (Elt F) ℕ UU ℕ)} (K : GSem nD τ sig → ℕ) (c : Dev nD)
local notation "wp₀" => wp frame (wpE (defs₀ (F := F)) 𝒱₀ (c : Thread nD τ) none) Set.univ

/-- The barrier: the landing buffers go to the previous device, and those of the next device come. -/
theorem wp_barrier {k : PUnit → Prog (TpuEff nD τ sig (Elt F) Λ₀ .tc) α} :
    iprop(Env I K c ∗ Bar c ∗ lend c ∗ opn c ∗ Ow₀ c)
      ⊢ iprop((lend (right c) -∗ opn (right c) -∗ Ow c order -∗ atPos ER (gb c) 1 ∅ 0 -∗ wp₀ (k ⟨⟩) Q)
        -∗ wp₀ (.op (.semSignal (⟨k0_dev1 c, k0_dev1_lt c⟩ : Dev nD) barS (1#32).toInt) fun _ =>
          .op (.semSignal (⟨k0_dev2 c, k0_dev2_lt c⟩ : Dev nD) barS (1#32).toInt) fun _ => .op (.semWait barS (2#32).toInt) k) Q) := by
  rw [dev_1 c, dev_2 c]
  unfold Bar Ow₀ Ow
  iintro ⟨#HE, ⟨HtL, HtR, Hc, Hat⟩, Hl, #Ho, ⟨%W, HO⟩⟩ Hk
  unfold Env
  icases HE with ⟨#Hlev, #HIb, #HIl, #HIr, #HrL, #HrR, -, -⟩
  iapply (Rounds.wp_signal 𝒱₀ ER (sched I) (c : Thread nD τ) none (dst := ((left c : Dev nD) : Thread nD τ)) (sem := barS) (r := 0) (d := false) (κ := K (gb (left c)))
      (k' := 1) (by rw [duties_bar]; decide) rfl () (owe c order + tallyAt (gb (right c)) () 1) rfl) $$ [HO HtL Hl]
  · isplitr; · iexact HIl
    isplitl [HO]; · iexact HO
    isplitl [HtL]; · iexact HtL
    isplitl [Hl]
    · ihave Hp : barPay (F := F) c $$ [Hl]
      · unfold barPay
        isplitl [Hl]; · iexact Hl
        iexact Ho
      iapply (Entails.of_eq (show barPay (F := F) c = (sched I).payload (gb (left c)) 0 false from by
        show barPay c = barPay (right (left c)); rw [right_left]))
      iexact Hp
    · iexact HrL
  iintro HO
  iapply (Rounds.wp_signal 𝒱₀ ER (sched I) (c : Thread nD τ) none (dst := ((right c : Dev nD) : Thread nD τ)) (sem := barS) (r := 0) (d := true) (κ := K (gb (right c)))
      (k' := 1) (by rw [duties_bar]; decide) rfl () (owe c order) rfl) $$ [HO HtR]
  · isplitr; · iexact HIr
    isplitl [HO]; · iexact HO
    isplitl [HtR]; · iexact HtR
    isplitr
    · istop; exact Affine.affine
    · iexact HrR
  iintro HO
  iapply (Rounds.wp_wait_rest_token 𝒱₀ ER (sched I) (c : Thread nD τ) none (κ := K (gb c)) (sm := .reg barS) (k' := 2)
      (wpE_semWait_eq 𝒱₀ (c : Thread nD τ) none Set.univ) (Set.mem_univ _) () (O := owe c order) (W := W) (R := 0) (m := 0) (T := ∅)
      ((Nat.zero_add 2).trans (expect_bar I c).symm)) $$ [Hc HO Hat]
  · isplitr; · iexact HIb
    isplitl [Hc]; · iexact Hc
    isplitl [HO]; · iexact HO
    isplitr; · iapply (mayWait c (.reg barS) order lv_order); iexact Hlev
    iexact Hat
  iintro ⟨HO, Hat, -, Hpay⟩
  ihave Hp := (Entails.of_eq (rest_bar I c)) $$ Hpay
  unfold barPay
  icases Hp with ⟨⟨Hl, #Ho'⟩, -⟩
  iapply Hk $$ [Hl] [] [HO] [Hat]
  · iexact Hl
  · iexact Ho'
  · iexists _; iexact HO
  · iexact Hat

end Step

/-- A semaphore on which nothing more is paid is taken back at zero. -/
theorem close_dma (K : GSem nD τ sig → ℕ) (c : Dev nD) (q : DmaSem sig) (h3 : 3 ≤ q.val) (h : q.val < 27) :
    iprop(Env I K c ∗ Don c q 1) ⊢ (|={Set.univ}=> semVal (gd c q) 0 : sProp 𝕄) := by
  unfold Don
  iintro ⟨#HE, H, -⟩
  iapply (Rounds.cell_close ER (sched I) (Set.mem_univ (K (gd c q))) id (duties_dma_later I c q h))
  isplitr; · iapply (Env_own I K c q h3); iexact HE
  iexact H
theorem close_dma2 (K : GSem nD τ sig → ℕ) (c : Dev nD) (q : DmaSem sig) (h3 : 3 ≤ q.val) :
    iprop(Env I K c ∗ Don c q 2) ⊢ (|={Set.univ}=> semVal (gd c q) 0 : sProp 𝕄) := by
  unfold Don
  iintro ⟨#HE, H, -⟩
  iapply (Rounds.cell_close ER (sched I) (Set.mem_univ (K (gd c q))) id (duties_dma_later2 I c q))
  isplitr; · iapply (Env_own I K c q h3); iexact HE
  iexact H
theorem close_bar (K : GSem nD τ sig → ℕ) (c : Dev nD) :
    iprop(Env I K c ∗ atPos ER (gb c) 1 ∅ 0) ⊢ (|={Set.univ}=> semVal (gb c) 0 : sProp 𝕄) := by
  iintro ⟨#HE, H⟩
  iapply (Rounds.cell_close ER (sched I) (Set.mem_univ (K (gb c))) id (duties_bar_later I c))
  isplitr
  · unfold Env
    icases HE with ⟨-, #HIb, -⟩
    iexact HIb
  iexact H

end Cert.Moe

end
-- ==== Proof.Step.lean ====
/-
  The last step of a part, and the result buffer as a whole.
-/
module

public import proofs.«01_k».proof.Proof.Blocks
public import proofs.«01_k».proof.Proof.Vals
public import proofs.«01_k».proof.Proof.Copies
public import proofs.«01_k».proof.Proof.Waits
public import proofs.«01_k».proof.Proof.Barrier

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Step
variable {α : Type} {Q : α → sProp (MT nD τ sig Unit (Elt F) ℕ UU ℕ)} (c : Dev nD)
local notation "wp₀" => wp frame (wpE (defs₀ (F := F)) 𝒱₀ (c : Thread nD τ) none) Set.univ

/-- A part returns its result, by whatever name. -/
theorem fin {r r' : α} (h : r = r') : Q r' ⊢ wp₀ (.ret r) Q := by
  subst h; rw [wp_ret]; exact fupd_intro

/-- A queue's duty and its finished copy make it ready for the next. -/
theorem cpy_intro (q : DmaSem sig) : iprop(dutyTok ER (gd c q) 1 false ∗ Don (F := F) c q 1) ⊢ Cpy c q 1 := .rfl

variable {cs : CoreSpace} {s : Shape} {e : EltTy} {m : Memref sig .tc cs s e} {off : Fin s.rank → ℕ}
  {inb : ∀ a, off a + s.size a ≤ s.size a}

theorem any_full : (any (c : Thread nD τ) (m.access (Rect.unit off s.size inb)) : sProp 𝕄) = any (c : Thread nD τ) m.view := by
  have hs : (m.access (Rect.unit off s.size inb)).set = m.view.set := by
    show (Finset.univ.map ⟨fun j => m.view.emb ((Rect.unit off s.size inb).emb j), _⟩) = Finset.univ.map ⟨m.view.emb, _⟩
    simp only [Rect.emb_unit_full]
  unfold any
  rw [hs]

/-- A load of a whole buffer of any contents. -/
theorem ldAW {hl : m.view.LoadsAt (Rect.unit off s.size inb).toLoadRect}
    {k : (s.Idx → Elt F e) → Prog (TpuEff nD τ sig (Elt F) Λ₀ .tc) α} :
    (any (c : Thread nD τ) m.view : sProp 𝕄)
      ⊢ iprop((∀ x, any (c : Thread nD τ) m.view -∗ wp₀ (k x) Q)
        -∗ wp₀ (.op (.load m (Rect.unit off s.size inb).toLoadRect hl) k) Q) := by
  rw [← any_full c (m := m) (off := off) (inb := inb)]
  exact ldA c rfl

/-- A store over a whole buffer. -/
theorem stAW {w : s.Idx → Elt F e} {hx : (m.access (Rect.unit off s.size inb)).Stores Finset.univ} {hm}
    {k : PUnit → Prog (TpuEff nD τ sig (Elt F) Λ₀ .tc) α} (x : s.Idx → Elt F e) (hw : w = x) :
    (any (c : Thread nD τ) m.view : sProp 𝕄)
      ⊢ iprop((own (c : Thread nD τ) m.view fullShare x -∗ wp₀ (k ⟨⟩) Q)
        -∗ wp₀ (.op (.store m (Rect.unit off s.size inb) w Finset.univ hx hm) k) Q) := by
  rw [← any_full c (m := m) (off := off) (inb := inb), ← own_full (c : Thread nD τ) m.view inb fullShare x]
  exact stA c x rfl hw
end Step

end Cert.Moe

end
-- ==== Proof.PartsA.lean ====
/-
  Parts of the kernel, each as a step over what is held: the copies of the rows and of the router.
-/
module

public import proofs.«01_k».proof.Proof.Step

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Step
variable (I : Inp F) (K : GSem nD τ sig → ℕ) (c : Dev nD)
local notation "wp₀" => wp frame (wpE (defs₀ (F := F)) 𝒱₀ (c : Thread nD τ) none) Set.univ

theorem any_words {Q : (Σ' (d0 : Dev nD) (v2 : BitVec 32) (v5 : BitVec 32) (v8 : BitVec 32) (v19 : BitVec 32) (v31 : Sems sig S_) (v33 : BitVec 32), BitVec 32) → sProp 𝕄} (a2 a8 a19 a33 a34 : BitVec 32) :
    iprop(∀ v2 : BitVec 32, ∀ v8 : BitVec 32, ∀ v19 : BitVec 32, ∀ v33 : BitVec 32, ∀ v34 : BitVec 32, Q ⟨c, v2, yWord c, v8, v19, SemArray.scalar (sig.barrier 0 rfl), v33, v34⟩)
      ⊢ wp₀ (.ret ⟨c, a2, yWord c, a8, a19, SemArray.scalar (sig.barrier 0 rfl), a33, a34⟩) Q := by
  iintro H
  iapply (fin c rfl)
  iapply H

theorem part_1 {Q : (Σ' (d0 : Dev nD) (v2 : BitVec 32) (v5 : BitVec 32) (v8 : BitVec 32) (v19 : BitVec 32) (v31 : Sems sig S_) (v33 : BitVec 32), BitVec 32) → sProp 𝕄} :
    iprop(∀ v2 : BitVec 32, ∀ v8 : BitVec 32, ∀ v19 : BitVec 32, ∀ v33 : BitVec 32, ∀ v34 : BitVec 32, Q ⟨c, v2, yWord c, v8, v19, SemArray.scalar (sig.barrier 0 rfl), v33, v34⟩)
      ⊢ wp₀ (k0_part1 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15) Q := by
  rw [k0_part1_eq_skeleton]
  simp only [k0_part1_skel, Prog.lift, Prog.bind_op, Prog.bind_ret, wp_deviceId]
  exact any_words c _ _ _ _ _

theorem part_2 {v2 : BitVec 32} {v8 : BitVec 32} {v19 : BitVec 32} {v33 : BitVec 32} {v34 : BitVec 32} {Q : (PUnit) → sProp 𝕄} :
    iprop(Env I K c ∗ opn c ∗ Bar c ∗ lend c ∗ Ow₀ c ∗ Cpy c 27 0 ∗ own (c : Thread nD τ) w1E0.view fullShare (I.W1 c 0) ∗ any (c : Thread nD τ) v1S0.view ∗ Cpy c 29 0 ∗ own (c : Thread nD τ) w2E0.view fullShare (I.W2 c 0) ∗ any (c : Thread nD τ) v2S0.view)
      ⊢ iprop((opn (right c) -∗ any (right c : Thread nD τ) agS0.view -∗ any (right c : Thread nD τ) agS1.view -∗ any (right c : Thread nD τ) agS2.view -∗ any (right c : Thread nD τ) rgS0.view -∗ any (right c : Thread nD τ) rgS1.view -∗ any (right c : Thread nD τ) rgS2.view -∗ any (right c : Thread nD τ) rsS00.view -∗ any (right c : Thread nD τ) rsS01.view -∗ any (right c : Thread nD τ) rsS10.view -∗ any (right c : Thread nD τ) rsS11.view -∗ any (right c : Thread nD τ) rsS20.view -∗ any (right c : Thread nD τ) rsS21.view -∗ Ow c [6, 12, 13, 14, 7, 8, 21, 22, 23, 24, 25, 26] -∗ atPos ER (gb c) 1 ∅ 0 -∗ Fly c 27 0 -∗ Fly c 29 0 -∗ Q ⟨⟩) -∗ wp₀ (k0_part2 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 (SemArray.scalar (sig.barrier 0 rfl)) v33 v34) Q) := by
  rw [k0_part2_eq_skeleton]
  simp only [k0_part2_skel, Prog.lift, Prog.bind_op, Prog.bind_ret, Prog.bind_pure, semSignalWord, semWaitWord]
  iintro ⟨#HE, #Hopn0, HBar, HLend, HOw0, HCpy27x0, Hw10, Hv10, HCpy29x0, Hw20, Hv20⟩ Hk
  iapply (wp_barrier I K c) $$ [HBar HLend HOw0]
  · isplitr; · iexact HE
    isplitl [HBar]; · iexact HBar
    isplitl [HLend]; · iexact HLend
    isplitr; · iexact Hopn0
    iexact HOw0
  iintro HL #Hopn HOW HAtb
  unfold lend
  icases HL with ⟨Hrxag0, Hrxag1, Hrxag2, Hrxrg0, Hrxrg1, Hrxrg2, Hrxrs00, Hrxrs01, Hrxrs10, Hrxrs11, Hrxrs20, Hrxrs21⟩
  iapply (cpy27_0 I K c) $$ [HCpy27x0 Hv10 Hw10]
  · isplitr; · iexact HE
    isplitl [HCpy27x0]; · iexact HCpy27x0
    isplitl [Hv10]; · iexact Hv10
    iexact Hw10
  iintro HFly27x0
  iapply (cpy29_0 I K c) $$ [HCpy29x0 Hv20 Hw20]
  · isplitr; · iexact HE
    isplitl [HCpy29x0]; · iexact HCpy29x0
    isplitl [Hv20]; · iexact Hv20
    iexact Hw20
  iintro HFly29x0
  iapply (fin c (r' := ⟨⟩) (rfl))
  iapply Hk $$ [] [Hrxag0] [Hrxag1] [Hrxag2] [Hrxrg0] [Hrxrg1] [Hrxrg2] [Hrxrs00] [Hrxrs01] [Hrxrs10] [Hrxrs11] [Hrxrs20] [Hrxrs21] [HOW] [HAtb] [HFly27x0] [HFly29x0]
  · iexact Hopn
  · iexact Hrxag0
  · iexact Hrxag1
  · iexact Hrxag2
  · iexact Hrxrg0
  · iexact Hrxrg1
  · iexact Hrxrg2
  · iexact Hrxrs00
  · iexact Hrxrs01
  · iexact Hrxrs10
  · iexact Hrxrs11
  · iexact Hrxrs20
  · iexact Hrxrs21
  · iexact HOW
  · iexact HAtb
  · iexact HFly27x0
  · iexact HFly29x0

theorem part_3 {v2 : BitVec 32} {v8 : BitVec 32} {v19 : BitVec 32} {Q : (FVec F S1x4x1024 .f32) → sProp 𝕄} :
    iprop(Env I K c ∗ opn (right c) ∗ Cpy c 28 0 ∗ own (c : Thread nD τ) w1E1.view fullShare (I.W1 c 1) ∗ any (c : Thread nD τ) v1S1.view ∗ Cpy c 30 0 ∗ own (c : Thread nD τ) w2E1.view fullShare (I.W2 c 1) ∗ any (c : Thread nD τ) v2S1.view ∗ Snd c 3 6 ∗ own (c : Thread nD τ) mX.view fullShare.left (I.x c) ∗ any (right c : Thread nD τ) agS0.view ∗ Ow c [6, 12, 13, 14, 7, 8, 21, 22, 23, 24, 25, 26] ∗ own (c : Thread nD τ) mX.view fullShare.right (I.x c) ∗ any (c : Thread nD τ) (mXF.access (rowR (org c 0) (org_lt c 0))) ∗ own (c : Thread nD τ) mRT.view fullShare (I.rt c) ∗ any (c : Thread nD τ) (mRF.access (rtR (org c 0) (org_lt c 0))))
      ⊢ iprop((own (c : Thread nD τ) mX.view fullShare.right (I.x c) -∗ own (c : Thread nD τ) mRT.view fullShare (I.rt c) -∗ own (c : Thread nD τ) (mXF.access (rowR (org c 0) (org_lt c 0))) fullShare (I.x c) -∗ any (c : Thread nD τ) (mRF.access (rtR (org c 0) (org_lt c 0))) -∗ Ow c [12, 13, 14, 7, 8, 21, 22, 23, 24, 25, 26] -∗ Fly c 28 0 -∗ Fly c 30 0 -∗ Fly c 3 0 -∗ Q (shapeCast S1x4x1024 (I.rt (back 0 c)) shapeCasts_S1x4x1024_S4x1024.symm)) -∗ wp₀ (k0_part3 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19) Q) := by
  rw [k0_part3_eq_skeleton]
  simp only [k0_part3_skel, Prog.lift, Prog.bind_op, Prog.bind_ret, Prog.bind_pure, semSignalWord, semWaitWord]
  iintro ⟨#HE, #Hopn, HCpy28x0, Hw11, Hv11, HCpy30x0, Hw21, Hv21, HSnd3x6, HXL, Hrxag0, HOW, HXR, Hxf0, HRTi, Hrf0⟩ Hk
  iapply (cpy28_0 I K c) $$ [HCpy28x0 Hv11 Hw11]
  · isplitr; · iexact HE
    isplitl [HCpy28x0]; · iexact HCpy28x0
    isplitl [Hv11]; · iexact Hv11
    iexact Hw11
  iintro HFly28x0
  iapply (cpy30_0 I K c) $$ [HCpy30x0 Hv21 Hw21]
  · isplitr; · iexact HE
    isplitl [HCpy30x0]; · iexact HCpy30x0
    isplitl [Hv21]; · iexact Hv21
    iexact Hw21
  iintro HFly30x0
  iapply (snd3 I K c) $$ [HSnd3x6 HXL Hrxag0 HOW]
  · isplitr; · iexact HE
    isplitr; · iexact Hopn
    isplitl [HSnd3x6]; · iexact HSnd3x6
    isplitl [HXL]; · iexact HXL
    isplitl [Hrxag0]; · iexact Hrxag0
    iexact HOW
  iintro HFly3x0 HOW
  iapply (ldW (c := c) (m := mX) (I.x c)) $$ HXR
  iintro HXR
  iapply (ldA c (off_1 c)) $$ Hxf0
  iintro %v84 Hxf0
  iapply (stA c (I.x c) (off_1 c) (pv_1 I c)) $$ Hxf0
  iintro Hxf0
  iapply (ldW (c := c) (m := mRT) (I.rt c)) $$ HRTi
  iintro HRTi
  iapply (ldA c (off_2 c)) $$ Hrf0
  iintro %v91 Hrf0
  iapply (fin c (r' := (shapeCast S1x4x1024 (I.rt (back 0 c)) shapeCasts_S1x4x1024_S4x1024.symm)) (show ((k0_pay2 (I.rt c)) : (FVec F S1x4x1024 .f32)) = (shapeCast S1x4x1024 (I.rt (back 0 c)) shapeCasts_S1x4x1024_S4x1024.symm) by rw [pv_2 I c]))
  iapply Hk $$ [HXR] [HRTi] [Hxf0] [Hrf0] [HOW] [HFly28x0] [HFly30x0] [HFly3x0]
  · iexact HXR
  · iexact HRTi
  · iexact Hxf0
  · iexact Hrf0
  · iexact HOW
  · iexact HFly28x0
  · iexact HFly30x0
  · iexact HFly3x0

theorem part_4 {v2 : BitVec 32} {v8 : BitVec 32} {v19 : BitVec 32} {Q : (Σ' (v121 : BitVec 32), BitVec 32) → sProp 𝕄} :
    iprop(Env I K c ∗ opn (right c) ∗ any (c : Thread nD τ) (mRF.access (rtR (org c 0) (org_lt c 0))) ∗ Snd c 9 12 ∗ own (c : Thread nD τ) mRT.view fullShare (I.rt c) ∗ any (right c : Thread nD τ) rgS0.view ∗ Ow c [12, 13, 14, 7, 8, 21, 22, 23, 24, 25, 26] ∗ Fly c 12 0)
      ⊢ iprop((own (c : Thread nD τ) (mRF.access (rtR (org c 0) (org_lt c 0))) fullShare (shapeCast S1x4x1024 (I.rt (back 0 c)) shapeCasts_S1x4x1024_S4x1024.symm) -∗ Ow c [13, 14, 7, 8, 21, 22, 23, 24, 25, 26] -∗ Don c 9 1 -∗ own (c : Thread nD τ) mRT.view fullShare (I.rt c) -∗ Don c 12 1 -∗ own (c : Thread nD τ) rgS0.view fullShare (I.rt (back 1 c)) -∗ Q (⟨(Scalar.subi (Scalar.addi (yWord c) 4#32) 1#32), 0#32⟩ : (Σ' (v121 : BitVec 32), BitVec 32))) -∗ wp₀ (k0_part4 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19 ((shapeCast S1x4x1024 (I.rt (back 0 c)) shapeCasts_S1x4x1024_S4x1024.symm))) Q) := by
  rw [k0_part4_eq_skeleton]
  simp only [k0_part4_skel, Prog.lift, Prog.bind_op, Prog.bind_ret, Prog.bind_pure, semSignalWord, semWaitWord]
  iintro ⟨#HE, #Hopn, Hrf0, HSnd9x12, HRTi, Hrxrg0, HOW, HFly12x0⟩ Hk
  iapply (stA c (shapeCast S1x4x1024 (I.rt (back 0 c)) shapeCasts_S1x4x1024_S4x1024.symm) (off_2 c) (pv_3 I c)) $$ Hrf0
  iintro Hrf0
  iapply (snd9 I K c) $$ [HSnd9x12 HRTi Hrxrg0 HOW]
  · isplitr; · iexact HE
    isplitr; · iexact Hopn
    isplitl [HSnd9x12]; · iexact HSnd9x12
    isplitl [HRTi]; · iexact HRTi
    isplitl [Hrxrg0]; · iexact Hrxrg0
    iexact HOW
  iintro HFly9x0 HOW
  iapply (wt9_0 I K c) $$ [HFly9x0 HOW]
  · isplitr; · iexact HE
    isplitl [HFly9x0]; · iexact HFly9x0
    iexact HOW
  iintro HOW HDon9x1 HRTi
  iapply (wt12_0 I K c) $$ [HFly12x0 HOW]
  · isplitr; · iexact HE
    isplitl [HFly12x0]; · iexact HFly12x0
    iexact HOW
  iintro HOW HDon12x1 Hrg0
  iapply (fin c (r' := (⟨(Scalar.subi (Scalar.addi (yWord c) 4#32) 1#32), 0#32⟩ : (Σ' (v121 : BitVec 32), BitVec 32))) (rfl))
  iapply Hk $$ [Hrf0] [HOW] [HDon9x1] [HRTi] [HDon12x1] [Hrg0]
  · iexact Hrf0
  · iexact HOW
  · iexact HDon9x1
  · iexact HRTi
  · iexact HDon12x1
  · iexact Hrg0

theorem part_5 {v2 : BitVec 32} {v8 : BitVec 32} {v19 : BitVec 32} {v121 : BitVec 32} {c0_i32_94 : BitVec 32} {Q : (PUnit) → sProp 𝕄} :
    iprop(Env I K c ∗ opn (right c) ∗ own (c : Thread nD τ) rgS0.view fullShare (I.rt (back 1 c)) ∗ any (c : Thread nD τ) (mRF.access (rtR (org c 1) (org_lt c 1))) ∗ Snd c 10 13 ∗ any (right c : Thread nD τ) rgS1.view ∗ Ow c [13, 14, 7, 8, 21, 22, 23, 24, 25, 26])
      ⊢ iprop((own (c : Thread nD τ) (mRF.access (rtR (org c 1) (org_lt c 1))) fullShare (shapeCast S1x4x1024 (I.rt (back 1 c)) shapeCasts_S1x4x1024_S4x1024.symm) -∗ Ow c [14, 7, 8, 21, 22, 23, 24, 25, 26] -∗ Fly c 10 0 -∗ Q ⟨⟩) -∗ wp₀ (k0_part5 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v121 c0_i32_94) Q) := by
  rw [k0_part5_eq_skeleton]
  simp only [k0_part5_skel, Prog.lift, Prog.bind_op, Prog.bind_ret, Prog.bind_pure, semSignalWord, semWaitWord]
  iintro ⟨#HE, #Hopn, Hrg0, Hrf1, HSnd10x13, Hrxrg1, HOW⟩ Hk
  iapply (ldS c (m := mRG) (off := ![0, 0, 0]) (size := S1x4x1024.size) (inb := inb_S3x4x1024_S1x4x1024_0_0_0) (hs := squeezes_S1x4x1024_S4x1024) (hR := fun _ => rfl) (I.rt (back 1 c)) shapeCasts_S1x4x1024_S4x1024.symm) $$ Hrg0
  iintro Hrg0
  iapply (ldA c (off_3_0 c)) $$ Hrf1
  iintro %v137 Hrf1
  iapply (stA c (shapeCast S1x4x1024 (I.rt (back 1 c)) shapeCasts_S1x4x1024_S4x1024.symm) (off_3_0 c) (pv_4 I c)) $$ Hrf1
  iintro Hrf1
  iapply (snd10 I K c) $$ [HSnd10x13 Hrg0 Hrxrg1 HOW]
  · isplitr; · iexact HE
    isplitr; · iexact Hopn
    isplitl [HSnd10x13]; · iexact HSnd10x13
    isplitl [Hrg0]; · iexact Hrg0
    isplitl [Hrxrg1]; · iexact Hrxrg1
    iexact HOW
  iintro HFly10x0 HOW
  iapply (fin c (r' := ⟨⟩) (rfl))
  iapply Hk $$ [Hrf1] [HOW] [HFly10x0]
  · iexact Hrf1
  · iexact HOW
  · iexact HFly10x0

theorem part_6 {v2 : BitVec 32} {v8 : BitVec 32} {v19 : BitVec 32} {Q : (BitVec 32) → sProp 𝕄} :
    iprop(Env I K c ∗ Fly c 10 0 ∗ Ow c [14, 7, 8, 21, 22, 23, 24, 25, 26] ∗ Fly c 13 0)
      ⊢ iprop((Ow c [14, 7, 8, 21, 22, 23, 24, 25, 26] -∗ Don c 10 1 -∗ own (c : Thread nD τ) rgS0.view fullShare (I.rt (back 1 c)) -∗ Don c 13 1 -∗ own (c : Thread nD τ) rgS1.view fullShare (I.rt (back 2 c)) -∗ Q (Scalar.select (Scalar.andi (Scalar.xori (Scalar.cmpi .slt (Scalar.remsi (Scalar.subi (Scalar.subi (Scalar.addi (yWord c) 4#32) 1#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.subi (Scalar.addi (yWord c) 4#32) 1#32) 1#32) (Scalar.select (Scalar.cmpi .eq 4#32 0#32) 1#32 4#32)) 0#32)) (Scalar.addi (Scalar.remsi (Scalar.subi (Scalar.subi (Scalar.addi (yWord c) 4#32) 1#32) 1#32) (Scalar.select (Scalar.cmpi .eq 4#32 0#32) 1#32 4#32)) (Scalar.select (Scalar.cmpi .eq 4#32 0#32) 1#32 4#32)) (Scalar.remsi (Scalar.subi (Scalar.subi (Scalar.addi (yWord c) 4#32) 1#32) 1#32) (Scalar.select (Scalar.cmpi .eq 4#32 0#32) 1#32 4#32)))) -∗ wp₀ (k0_part6 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 v2 ((yWord c)) v8 v19) Q) := by
  rw [k0_part6_eq_skeleton]
  simp only [k0_part6_skel, Prog.lift, Prog.bind_op, Prog.bind_ret, Prog.bind_pure, semSignalWord, semWaitWord]
  iintro ⟨#HE, HFly10x0, HOW, HFly13x0⟩ Hk
  iapply (wt10_0 I K c) $$ [HFly10x0 HOW]
  · isplitr; · iexact HE
    isplitl [HFly10x0]; · iexact HFly10x0
    iexact HOW
  iintro HOW HDon10x1 Hrg0
  iapply (wt13_0 I K c) $$ [HFly13x0 HOW]
  · isplitr; · iexact HE
    isplitl [HFly13x0]; · iexact HFly13x0
    iexact HOW
  iintro HOW HDon13x1 Hrg1
  iapply (fin c (r' := (Scalar.select (Scalar.andi (Scalar.xori (Scalar.cmpi .slt (Scalar.remsi (Scalar.subi (Scalar.subi (Scalar.addi (yWord c) 4#32) 1#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.subi (Scalar.addi (yWord c) 4#32) 1#32) 1#32) (Scalar.select (Scalar.cmpi .eq 4#32 0#32) 1#32 4#32)) 0#32)) (Scalar.addi (Scalar.remsi (Scalar.subi (Scalar.subi (Scalar.addi (yWord c) 4#32) 1#32) 1#32) (Scalar.select (Scalar.cmpi .eq 4#32 0#32) 1#32 4#32)) (Scalar.select (Scalar.cmpi .eq 4#32 0#32) 1#32 4#32)) (Scalar.remsi (Scalar.subi (Scalar.subi (Scalar.addi (yWord c) 4#32) 1#32) 1#32) (Scalar.select (Scalar.cmpi .eq 4#32 0#32) 1#32 4#32)))) (rfl))
  iapply Hk $$ [HOW] [HDon10x1] [Hrg0] [HDon13x1] [Hrg1]
  · iexact HOW
  · iexact HDon10x1
  · iexact Hrg0
  · iexact HDon13x1
  · iexact Hrg1

theorem part_7 {v2 : BitVec 32} {v8 : BitVec 32} {v19 : BitVec 32} {v184 : BitVec 32} {Q : (PUnit) → sProp 𝕄} :
    iprop(Env I K c ∗ opn (right c) ∗ own (c : Thread nD τ) rgS1.view fullShare (I.rt (back 2 c)) ∗ any (c : Thread nD τ) (mRF.access (rtR (org c 2) (org_lt c 2))) ∗ Snd c 11 14 ∗ any (right c : Thread nD τ) rgS2.view ∗ Ow c [14, 7, 8, 21, 22, 23, 24, 25, 26])
      ⊢ iprop((own (c : Thread nD τ) (mRF.access (rtR (org c 2) (org_lt c 2))) fullShare (shapeCast S1x4x1024 (I.rt (back 2 c)) shapeCasts_S1x4x1024_S4x1024.symm) -∗ Ow c [7, 8, 21, 22, 23, 24, 25, 26] -∗ Don c 11 1 -∗ own (c : Thread nD τ) rgS1.view fullShare (I.rt (back 2 c)) -∗ Q ⟨⟩) -∗ wp₀ (k0_part7 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v184) Q) := by
  rw [k0_part7_eq_skeleton]
  simp only [k0_part7_skel, Prog.lift, Prog.bind_op, Prog.bind_ret, Prog.bind_pure, semSignalWord, semWaitWord]
  iintro ⟨#HE, #Hopn, Hrg1, Hrf2, HSnd11x14, Hrxrg2, HOW⟩ Hk
  iapply (ldS c (m := mRG) (off := ![1, 0, 0]) (size := S1x4x1024.size) (inb := inb_S3x4x1024_S1x4x1024_1_0_0) (hs := squeezes_S1x4x1024_S4x1024) (hR := fun _ => rfl) (I.rt (back 2 c)) shapeCasts_S1x4x1024_S4x1024.symm) $$ Hrg1
  iintro Hrg1
  iapply (ldA c (off_3_1 c)) $$ Hrf2
  iintro %v189 Hrf2
  iapply (stA c (shapeCast S1x4x1024 (I.rt (back 2 c)) shapeCasts_S1x4x1024_S4x1024.symm) (off_3_1 c) (pv_5 I c)) $$ Hrf2
  iintro Hrf2
  iapply (snd11 I K c) $$ [HSnd11x14 Hrg1 Hrxrg2 HOW]
  · isplitr; · iexact HE
    isplitr; · iexact Hopn
    isplitl [HSnd11x14]; · iexact HSnd11x14
    isplitl [Hrg1]; · iexact Hrg1
    isplitl [Hrxrg2]; · iexact Hrxrg2
    iexact HOW
  iintro HFly11x0 HOW
  iapply (wt11_0 I K c) $$ [HFly11x0 HOW]
  · isplitr; · iexact HE
    isplitl [HFly11x0]; · iexact HFly11x0
    iexact HOW
  iintro HOW HDon11x1 Hrg1
  iapply (fin c (r' := ⟨⟩) (rfl))
  iapply Hk $$ [Hrf2] [HOW] [HDon11x1] [Hrg1]
  · iexact Hrf2
  · iexact HOW
  · iexact HDon11x1
  · iexact Hrg1

theorem part_8 {v2 : BitVec 32} {v8 : BitVec 32} {v19 : BitVec 32} {Q : (Vec F S4x4x1024 .f32) → sProp 𝕄} :
    iprop(Env I K c ∗ Fly c 14 0 ∗ Ow c [7, 8, 21, 22, 23, 24, 25, 26] ∗ any (c : Thread nD τ) (mRF.access (rtR (org c 3) (org_lt c 3))) ∗ own (c : Thread nD τ) (mRF.access (rtR (org c 0) (org_lt c 0))) fullShare (shapeCast S1x4x1024 (I.rt (back 0 c)) shapeCasts_S1x4x1024_S4x1024.symm) ∗ own (c : Thread nD τ) (mRF.access (rtR (org c 1) (org_lt c 1))) fullShare (shapeCast S1x4x1024 (I.rt (back 1 c)) shapeCasts_S1x4x1024_S4x1024.symm) ∗ own (c : Thread nD τ) (mRF.access (rtR (org c 2) (org_lt c 2))) fullShare (shapeCast S1x4x1024 (I.rt (back 2 c)) shapeCasts_S1x4x1024_S4x1024.symm))
      ⊢ iprop((Ow c [7, 8, 21, 22, 23, 24, 25, 26] -∗ Don c 14 1 -∗ own (c : Thread nD τ) rgS2.view fullShare (I.rt (back 3 c)) -∗ own (c : Thread nD τ) mRF.view fullShare (I.RT4 c) -∗ Q (I.RT4 c)) -∗ wp₀ (k0_part8 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19) Q) := by
  rw [k0_part8_eq_skeleton]
  simp only [k0_part8_skel, Prog.lift, Prog.bind_op, Prog.bind_ret, Prog.bind_pure, semSignalWord, semWaitWord]
  iintro ⟨#HE, HFly14x0, HOW, Hrf3, Hrf0, Hrf1, Hrf2⟩ Hk
  iapply (wt14_0 I K c) $$ [HFly14x0 HOW]
  · isplitr; · iexact HE
    isplitl [HFly14x0]; · iexact HFly14x0
    iexact HOW
  iintro HOW HDon14x1 Hrg2
  iapply (ldS c (m := mRG) (off := ![2, 0, 0]) (size := S1x4x1024.size) (inb := inb_S3x4x1024_S1x4x1024_2_0_0) (hs := squeezes_S1x4x1024_S4x1024) (hR := fun _ => rfl) (I.rt (back 3 c)) shapeCasts_S1x4x1024_S4x1024.symm) $$ Hrg2
  iintro Hrg2
  iapply (ldA c (off_3_2 c)) $$ Hrf3
  iintro %v241 Hrf3
  iapply (stA c (shapeCast S1x4x1024 (I.rt (back 3 c)) shapeCasts_S1x4x1024_S4x1024.symm) (off_3_2 c) (pv_6 I c)) $$ Hrf3
  iintro Hrf3
  ihave HRF := (slabs_own c I) $$ [Hrf0 Hrf1 Hrf2 Hrf3]
  · isplitl [Hrf0]; · iexact Hrf0
    isplitl [Hrf1]; · iexact Hrf1
    isplitl [Hrf2]; · iexact Hrf2
    iexact Hrf3
  iapply (ldW (c := c) (m := mRF) (I.RT4 c)) $$ HRF
  iintro HRF
  iapply (fin c (r' := (I.RT4 c)) (rfl))
  iapply Hk $$ [HOW] [HDon14x1] [Hrg2] [HRF]
  · iexact HOW
  · iexact HDon14x1
  · iexact Hrg2
  · iexact HRF

theorem part_9  {Q : (Σ' (v245 : FVec F S16x1024 .f32), Vec F S256x1024 .f32) → sProp 𝕄} :
    iprop(Env I K c ∗ Fly c 27 0 ∗ Ow c [7, 8, 21, 22, 23, 24, 25, 26] ∗ Fly c 29 0 ∗ Fly c 28 0 ∗ Fly c 30 0 ∗ own (c : Thread nD τ) mX.view fullShare.right (I.x c))
      ⊢ iprop((own (c : Thread nD τ) mX.view fullShare.right (I.x c) -∗ Ow c [7, 8, 21, 22, 23, 24, 25, 26] -∗ Don c 27 1 -∗ own (c : Thread nD τ) v1S0.view fullShare (I.W1 c 0) -∗ own (c : Thread nD τ) w1E0.view fullShare (I.W1 c 0) -∗ Don c 29 1 -∗ own (c : Thread nD τ) v2S0.view fullShare (I.W2 c 0) -∗ own (c : Thread nD τ) w2E0.view fullShare (I.W2 c 0) -∗ Don c 28 1 -∗ own (c : Thread nD τ) v1S1.view fullShare (I.W1 c 1) -∗ own (c : Thread nD τ) w1E1.view fullShare (I.W1 c 1) -∗ Don c 30 1 -∗ own (c : Thread nD τ) v2S1.view fullShare (I.W2 c 1) -∗ own (c : Thread nD τ) w2E1.view fullShare (I.W2 c 1) -∗ Q (⟨(I.RT c), (I.x c)⟩ : (Σ' (v245 : FVec F S16x1024 .f32), Vec F S256x1024 .f32))) -∗ wp₀ (k0_part9 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 ((I.RT4 c))) Q) := by
  rw [k0_part9_eq_skeleton]
  simp only [k0_part9_skel, Prog.lift, Prog.bind_op, Prog.bind_ret, Prog.bind_pure, semSignalWord, semWaitWord]
  iintro ⟨#HE, HFly27x0, HOW, HFly29x0, HFly28x0, HFly30x0, HXR⟩ Hk
  iapply (wt27_0 I K c) $$ [HFly27x0 HOW]
  · isplitr; · iexact HE
    isplitl [HFly27x0]; · iexact HFly27x0
    iexact HOW
  iintro HOW HDon27x1 ⟨Hv10, Hw10⟩
  iapply (wt29_0 I K c) $$ [HFly29x0 HOW]
  · isplitr; · iexact HE
    isplitl [HFly29x0]; · iexact HFly29x0
    iexact HOW
  iintro HOW HDon29x1 ⟨Hv20, Hw20⟩
  iapply (wt28_0 I K c) $$ [HFly28x0 HOW]
  · isplitr; · iexact HE
    isplitl [HFly28x0]; · iexact HFly28x0
    iexact HOW
  iintro HOW HDon28x1 ⟨Hv11, Hw11⟩
  iapply (wt30_0 I K c) $$ [HFly30x0 HOW]
  · isplitr; · iexact HE
    isplitl [HFly30x0]; · iexact HFly30x0
    iexact HOW
  iintro HOW HDon30x1 ⟨Hv21, Hw21⟩
  iapply (ldW (c := c) (m := mX) (I.x c)) $$ HXR
  iintro HXR
  iapply (fin c (r' := (⟨(I.RT c), (I.x c)⟩ : (Σ' (v245 : FVec F S16x1024 .f32), Vec F S256x1024 .f32))) (show (⟨(k0_pay7 (I.RT4 c)), (I.x c)⟩ : (Σ' (v245 : FVec F S16x1024 .f32), Vec F S256x1024 .f32)) = (⟨(I.RT c), (I.x c)⟩ : (Σ' (v245 : FVec F S16x1024 .f32), Vec F S256x1024 .f32)) by rw [pv_7 I c]))
  iapply Hk $$ [HXR] [HOW] [HDon27x1] [Hv10] [Hw10] [HDon29x1] [Hv20] [Hw20] [HDon28x1] [Hv11] [Hw11] [HDon30x1] [Hv21] [Hw21]
  · iexact HXR
  · iexact HOW
  · iexact HDon27x1
  · iexact Hv10
  · iexact Hw10
  · iexact HDon29x1
  · iexact Hv20
  · iexact Hw20
  · iexact HDon28x1
  · iexact Hv11
  · iexact Hw11
  · iexact HDon30x1
  · iexact Hv21
  · iexact Hw21

theorem part_10  {Q : (Σ' (v271 : FVec F S256x1024 .f32) (v283 : BitVec 32) (v293 : IVec S256x1 32) (v305 : IVec S256x1 32) (v307 : FVec F S256x1 .f32) (v311 : FVec F S256x1 .f32), F .f32) → sProp 𝕄} :
    iprop(Env I K c)
      ⊢ iprop((Q (⟨(I.xk c 0), (Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))), (ex1 (I.RT c) (I.xk c 0)), (ex2 (I.RT c) (I.xk c 0)), (ratio (I.RT c) (I.xk c 0)), (sc1 (I.RT c) (I.xk c 0)), (Scalar.ofBits .f32 0x3F800000#32)⟩ : (Σ' (v271 : FVec F S256x1024 .f32) (v283 : BitVec 32) (v293 : IVec S256x1 32) (v305 : IVec S256x1 32) (v307 : FVec F S256x1 .f32) (v311 : FVec F S256x1 .f32), F .f32))) -∗ wp₀ (k0_part10 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 ((yWord c)) ((I.RT c)) ((I.x c))) Q) := by
  rw [k0_part10_eq_skeleton]
  simp only [k0_part10_skel, Prog.lift, Prog.bind_op, Prog.bind_ret, Prog.bind_pure, semSignalWord, semWaitWord]
  iintro #HE Hk
  iapply (fin c (r' := (⟨(I.xk c 0), (Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))), (ex1 (I.RT c) (I.xk c 0)), (ex2 (I.RT c) (I.xk c 0)), (ratio (I.RT c) (I.xk c 0)), (sc1 (I.RT c) (I.xk c 0)), (Scalar.ofBits .f32 0x3F800000#32)⟩ : (Σ' (v271 : FVec F S256x1024 .f32) (v283 : BitVec 32) (v293 : IVec S256x1 32) (v305 : IVec S256x1 32) (v307 : FVec F S256x1 .f32) (v311 : FVec F S256x1 .f32), F .f32))) (show (⟨(k0_pay8 (I.x c)), (Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))), (k0_pay11 (I.RT c) (I.x c)), (k0_pay14 (I.RT c) (I.x c)), (k0_pay15 (I.RT c) (I.x c)), (k0_pay16 (I.RT c) (I.x c)), (Scalar.ofBits .f32 0x3F800000#32)⟩ : (Σ' (v271 : FVec F S256x1024 .f32) (v283 : BitVec 32) (v293 : IVec S256x1 32) (v305 : IVec S256x1 32) (v307 : FVec F S256x1 .f32) (v311 : FVec F S256x1 .f32), F .f32)) = (⟨(I.xk c 0), (Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))), (ex1 (I.RT c) (I.xk c 0)), (ex2 (I.RT c) (I.xk c 0)), (ratio (I.RT c) (I.xk c 0)), (sc1 (I.RT c) (I.xk c 0)), (Scalar.ofBits .f32 0x3F800000#32)⟩ : (Σ' (v271 : FVec F S256x1024 .f32) (v283 : BitVec 32) (v293 : IVec S256x1 32) (v305 : IVec S256x1 32) (v307 : FVec F S256x1 .f32) (v311 : FVec F S256x1 .f32), F .f32)) by rw [pv_8 I c]; try rw [pv_11 I c]; try rw [pv_14 I c]; try rw [pv_15 I c]; try rw [pv_16 I c]))
  iexact Hk

end Step

end Cert.Moe

end
-- ==== Proof.PartsB.lean ====
/-
  Parts of the kernel, each as a step over what is held: the first two experts of the first chunks.
-/
module

public import proofs.«01_k».proof.Proof.Step

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Step
variable (I : Inp F) (K : GSem nD τ sig → ℕ) (c : Dev nD)
local notation "wp₀" => wp frame (wpE (defs₀ (F := F)) 𝒱₀ (c : Thread nD τ) none) Set.univ

theorem part_11 {v283 : BitVec 32} {Q : (Σ' (v314 : FVec F S256x1 .f32), FVec F S256x1 .f32) → sProp 𝕄} :
    iprop(Env I K c ∗ own (c : Thread nD τ) v1S0.view fullShare (I.W1 c 0) ∗ own (c : Thread nD τ) v2S0.view fullShare (I.W2 c 0) ∗ any (c : Thread nD τ) (mAcc.access (rowR (org c 0) (org_lt c 0))))
      ⊢ iprop((own (c : Thread nD τ) (mAcc.access (rowR (org c 0) (org_lt c 0))) fullShare (I.acc1 c 0) -∗ own (c : Thread nD τ) v1S0.view fullShare (I.W1 c 0) -∗ own (c : Thread nD τ) v2S0.view fullShare (I.W2 c 0) -∗ Q (⟨(sc2 (I.RT c) (I.xk c 0)), (weight (exNo (yWord c) 1#32) (ex1 (I.RT c) (I.xk c 0)) (ex2 (I.RT c) (I.xk c 0)) (sc1 (I.RT c) (I.xk c 0)) (sc2 (I.RT c) (I.xk c 0)))⟩ : (Σ' (v314 : FVec F S256x1 .f32), FVec F S256x1 .f32))) -∗ wp₀ (k0_part11 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.xk c 0)) v283 ((ex1 (I.RT c) (I.xk c 0))) ((ex2 (I.RT c) (I.xk c 0))) ((ratio (I.RT c) (I.xk c 0))) ((sc1 (I.RT c) (I.xk c 0))) ((Scalar.ofBits .f32 0x3F800000#32))) Q) := by
  rw [k0_part11_eq_skeleton]
  simp only [k0_part11_skel, Prog.lift, Prog.bind_op, Prog.bind_ret, Prog.bind_pure, semSignalWord, semWaitWord]
  iintro ⟨#HE, Hv10, Hv20, Hac0⟩ Hk
  iapply (ldS c (m := mV1) (off := ![0, 0, 0]) (size := S1x1024x2048.size) (inb := inb_S2x1024x2048_S1x1024x2048_0_0_0) (hs := squeezes_S1x1024x2048_S1024x2048) (hR := fun _ => rfl) (I.W1 c 0) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 0) shapeCasts_S1x2048x1024_S2048x1024.symm) $$ Hv20
  iintro Hv20
  iapply (ldA c (off_4_0 c)) $$ Hac0
  iintro %v340 Hac0
  iapply (stA c (I.acc1 c 0) (off_4_0 c) (pv_18 I c)) $$ Hac0
  iintro Hac0
  iapply (fin c (r' := (⟨(sc2 (I.RT c) (I.xk c 0)), (weight (exNo (yWord c) 1#32) (ex1 (I.RT c) (I.xk c 0)) (ex2 (I.RT c) (I.xk c 0)) (sc1 (I.RT c) (I.xk c 0)) (sc2 (I.RT c) (I.xk c 0)))⟩ : (Σ' (v314 : FVec F S256x1 .f32), FVec F S256x1 .f32))) (show (⟨(k0_pay17 (ratio (I.RT c) (I.xk c 0)) (Scalar.ofBits .f32 0x3F800000#32)), (k0_pay19 (yWord c) (ex1 (I.RT c) (I.xk c 0)) (ex2 (I.RT c) (I.xk c 0)) (ratio (I.RT c) (I.xk c 0)) (sc1 (I.RT c) (I.xk c 0)) (Scalar.ofBits .f32 0x3F800000#32))⟩ : (Σ' (v314 : FVec F S256x1 .f32), FVec F S256x1 .f32)) = (⟨(sc2 (I.RT c) (I.xk c 0)), (weight (exNo (yWord c) 1#32) (ex1 (I.RT c) (I.xk c 0)) (ex2 (I.RT c) (I.xk c 0)) (sc1 (I.RT c) (I.xk c 0)) (sc2 (I.RT c) (I.xk c 0)))⟩ : (Σ' (v314 : FVec F S256x1 .f32), FVec F S256x1 .f32)) by rw [pv_17 I c]; try rw [pv_19 I c]))
  iapply Hk $$ [Hac0] [Hv10] [Hv20]
  · iexact Hac0
  · iexact Hv10
  · iexact Hv20

theorem part_12 {v2 : BitVec 32} {v8 : BitVec 32} {v19 : BitVec 32} {v283 : BitVec 32} {Q : (PUnit) → sProp 𝕄} :
    iprop(Env I K c ∗ own (c : Thread nD τ) v1S1.view fullShare (I.W1 c 1) ∗ own (c : Thread nD τ) v2S1.view fullShare (I.W2 c 1) ∗ own (c : Thread nD τ) (mAcc.access (rowR (org c 0) (org_lt c 0))) fullShare (I.acc1 c 0) ∗ Fly c 3 0 ∗ Ow c [7, 8, 21, 22, 23, 24, 25, 26])
      ⊢ iprop((own (c : Thread nD τ) (mAcc.access (rowR (org c 0) (org_lt c 0))) fullShare (I.acc2 c 0) -∗ Ow c [7, 8, 21, 22, 23, 24, 25, 26] -∗ own (c : Thread nD τ) v1S1.view fullShare (I.W1 c 1) -∗ own (c : Thread nD τ) v2S1.view fullShare (I.W2 c 1) -∗ Don c 3 1 -∗ own (c : Thread nD τ) mX.view fullShare.left (I.x c) -∗ Q ⟨⟩) -∗ wp₀ (k0_part12 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 ((I.xk c 0)) v283 ((weight (exNo (yWord c) 1#32) (ex1 (I.RT c) (I.xk c 0)) (ex2 (I.RT c) (I.xk c 0)) (sc1 (I.RT c) (I.xk c 0)) (sc2 (I.RT c) (I.xk c 0))))) Q) := by
  rw [k0_part12_eq_skeleton]
  simp only [k0_part12_skel, Prog.lift, Prog.bind_op, Prog.bind_ret, Prog.bind_pure, semSignalWord, semWaitWord]
  iintro ⟨#HE, Hv11, Hv21, Hac0, HFly3x0, HOW⟩ Hk
  iapply (ldS c (m := mV1) (off := ![1, 0, 0]) (size := S1x1024x2048.size) (inb := inb_S2x1024x2048_S1x1024x2048_1_0_0) (hs := squeezes_S1x1024x2048_S1024x2048) (hR := fun _ => rfl) (I.W1 c 1) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 1) shapeCasts_S1x2048x1024_S2048x1024.symm) $$ Hv21
  iintro Hv21
  iapply (ld c (I.acc1 c 0) (off_4_0 c)) $$ Hac0
  iintro Hac0
  iapply (ld c (I.acc1 c 0) (off_4_0 c)) $$ Hac0
  iintro Hac0
  iapply (stO c (I.acc2 c 0) (off_4_0 c) (pv_20 I c)) $$ Hac0
  iintro Hac0
  iapply (wt3_0 I K c) $$ [HFly3x0 HOW]
  · isplitr; · iexact HE
    isplitl [HFly3x0]; · iexact HFly3x0
    iexact HOW
  iintro HOW HDon3x1 HXL
  iapply (fin c (r' := ⟨⟩) (rfl))
  iapply Hk $$ [Hac0] [HOW] [Hv11] [Hv21] [HDon3x1] [HXL]
  · iexact Hac0
  · iexact HOW
  · iexact Hv11
  · iexact Hv21
  · iexact HDon3x1
  · iexact HXL

theorem part_13 {v2 : BitVec 32} {v8 : BitVec 32} {v19 : BitVec 32} {Q : (FVec F S256x1024 .f32) → sProp 𝕄} :
    iprop(Env I K c ∗ opn (right c) ∗ Fly c 6 0 ∗ Ow c [7, 8, 21, 22, 23, 24, 25, 26] ∗ Snd c 4 7 ∗ any (right c : Thread nD τ) agS1.view)
      ⊢ iprop((Ow c [8, 21, 22, 23, 24, 25, 26] -∗ Don c 6 1 -∗ own (c : Thread nD τ) agS0.view fullShare.right (I.xk c 1) -∗ Fly c 4 0 -∗ Q (I.xk c 1)) -∗ wp₀ (k0_part13 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19) Q) := by
  rw [k0_part13_eq_skeleton]
  simp only [k0_part13_skel, Prog.lift, Prog.bind_op, Prog.bind_ret, Prog.bind_pure, semSignalWord, semWaitWord]
  iintro ⟨#HE, #Hopn, HFly6x0, HOW, HSnd4x7, Hrxag1⟩ Hk
  iapply (wt6_0 I K c) $$ [HFly6x0 HOW]
  · isplitr; · iexact HE
    isplitl [HFly6x0]; · iexact HFly6x0
    iexact HOW
  iintro HOW HDon6x1 Hag0
  ihave Hs := (own_halves (c : Thread nD τ) agS0.view (I.xk c 1)).1 $$ Hag0
  icases Hs with ⟨Hag0L, Hag0R⟩
  iapply (snd4 I K c) $$ [HSnd4x7 Hag0L Hrxag1 HOW]
  · isplitr; · iexact HE
    isplitr; · iexact Hopn
    isplitl [HSnd4x7]; · iexact HSnd4x7
    isplitl [Hag0L]; · iexact Hag0L
    isplitl [Hrxag1]; · iexact Hrxag1
    iexact HOW
  iintro HFly4x0 HOW
  iapply (ldS c (m := mAG) (off := ![0, 0, 0]) (size := S1x256x1024.size) (inb := inb_S3x256x1024_S1x256x1024_0_0_0) (hs := squeezes_S1x256x1024_S256x1024) (hR := fun _ => rfl) (I.xk c 1) shapeCasts_S1x256x1024_S256x1024.symm) $$ Hag0R
  iintro Hag0R
  iapply (fin c (r' := (I.xk c 1)) (show ((k0_pay21 (shapeCast S1x256x1024 (I.xk c 1) shapeCasts_S1x256x1024_S256x1024.symm)) : (FVec F S256x1024 .f32)) = (I.xk c 1) by rw [pv_21 I c]))
  iapply Hk $$ [HOW] [HDon6x1] [Hag0R] [HFly4x0]
  · iexact HOW
  · iexact HDon6x1
  · iexact Hag0R
  · iexact HFly4x0

theorem part_14  {Q : (Σ' (v433 : BitVec 32) (v443 : IVec S256x1 32) (v455 : IVec S256x1 32) (v457 : FVec F S256x1 .f32) (v459 : FVec F S256x1 .f32), F .f32) → sProp 𝕄} :
    iprop(Env I K c ∗ any (c : Thread nD τ) (mXF.access (rowR (org c 1) (org_lt c 1))))
      ⊢ iprop((own (c : Thread nD τ) (mXF.access (rowR (org c 1) (org_lt c 1))) fullShare (I.xk c 1) -∗ Q (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (ex1 (I.RT c) (I.xk c 1)), (ex2 (I.RT c) (I.xk c 1)), (ratio (I.RT c) (I.xk c 1)), (addf ones (ratio (I.RT c) (I.xk c 1))), (Scalar.ofBits .f32 0x3F800000#32)⟩ : (Σ' (v433 : BitVec 32) (v443 : IVec S256x1 32) (v455 : IVec S256x1 32) (v457 : FVec F S256x1 .f32) (v459 : FVec F S256x1 .f32), F .f32))) -∗ wp₀ (k0_part14 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.RT c)) ((I.xk c 1))) Q) := by
  rw [k0_part14_eq_skeleton]
  simp only [k0_part14_skel, Prog.lift, Prog.bind_op, Prog.bind_ret, Prog.bind_pure, semSignalWord, semWaitWord]
  iintro ⟨#HE, Hxf1⟩ Hk
  iapply (ldA c (off_4_1 c)) $$ Hxf1
  iintro %v419 Hxf1
  iapply (stA c (I.xk c 1) (off_4_1 c) (pv_22 I c)) $$ Hxf1
  iintro Hxf1
  iapply (fin c (r' := (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (ex1 (I.RT c) (I.xk c 1)), (ex2 (I.RT c) (I.xk c 1)), (ratio (I.RT c) (I.xk c 1)), (addf ones (ratio (I.RT c) (I.xk c 1))), (Scalar.ofBits .f32 0x3F800000#32)⟩ : (Σ' (v433 : BitVec 32) (v443 : IVec S256x1 32) (v455 : IVec S256x1 32) (v457 : FVec F S256x1 .f32) (v459 : FVec F S256x1 .f32), F .f32))) (show (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (k0_pay25 (I.RT c) (I.xk c 1)), (k0_pay28 (I.RT c) (I.xk c 1)), (k0_pay29 (I.RT c) (I.xk c 1)), (k0_pay30 (I.RT c) (I.xk c 1)), (Scalar.ofBits .f32 0x3F800000#32)⟩ : (Σ' (v433 : BitVec 32) (v443 : IVec S256x1 32) (v455 : IVec S256x1 32) (v457 : FVec F S256x1 .f32) (v459 : FVec F S256x1 .f32), F .f32)) = (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (ex1 (I.RT c) (I.xk c 1)), (ex2 (I.RT c) (I.xk c 1)), (ratio (I.RT c) (I.xk c 1)), (addf ones (ratio (I.RT c) (I.xk c 1))), (Scalar.ofBits .f32 0x3F800000#32)⟩ : (Σ' (v433 : BitVec 32) (v443 : IVec S256x1 32) (v455 : IVec S256x1 32) (v457 : FVec F S256x1 .f32) (v459 : FVec F S256x1 .f32), F .f32)) by rw [pv_25 I c]; try rw [pv_28 I c]; try rw [pv_29 I c]; try rw [pv_30 I c]))
  iapply Hk $$ [Hxf1]
  · iexact Hxf1

theorem part_15 {v433 : BitVec 32} {Q : (Σ' (v461 : FVec F S256x1 .f32) (v464 : FVec F S256x1 .f32) (v499 : FVec F S256x1 .f32), IVec S256x1 32) → sProp 𝕄} :
    iprop(Env I K c ∗ own (c : Thread nD τ) v1S0.view fullShare (I.W1 c 0) ∗ own (c : Thread nD τ) v2S0.view fullShare (I.W2 c 0) ∗ any (c : Thread nD τ) (mAcc.access (rowR (org c 1) (org_lt c 1))))
      ⊢ iprop((own (c : Thread nD τ) (mAcc.access (rowR (org c 1) (org_lt c 1))) fullShare (I.acc1 c 1) -∗ own (c : Thread nD τ) v1S0.view fullShare (I.W1 c 0) -∗ own (c : Thread nD τ) v2S0.view fullShare (I.W2 c 0) -∗ Q (⟨(sc1 (I.RT c) (I.xk c 1)), (sc2 (I.RT c) (I.xk c 1)), (mulf (sc1 (I.RT c) (I.xk c 1)) (sitofp .f32 (extui 32 (cmpi .eq (ex1 (I.RT c) (I.xk c 1)) (broadcast S256x1 (exNo (yWord c) 1#32))) natLt_1_32))), (extui 32 (cmpi .eq (ex2 (I.RT c) (I.xk c 1)) (broadcast S256x1 (exNo (yWord c) 1#32))) natLt_1_32)⟩ : (Σ' (v461 : FVec F S256x1 .f32) (v464 : FVec F S256x1 .f32) (v499 : FVec F S256x1 .f32), IVec S256x1 32))) -∗ wp₀ (k0_part15 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.xk c 1)) v433 ((ex1 (I.RT c) (I.xk c 1))) ((ex2 (I.RT c) (I.xk c 1))) ((ratio (I.RT c) (I.xk c 1))) ((addf ones (ratio (I.RT c) (I.xk c 1)))) ((Scalar.ofBits .f32 0x3F800000#32))) Q) := by
  rw [k0_part15_eq_skeleton]
  simp only [k0_part15_skel, Prog.lift, Prog.bind_op, Prog.bind_ret, Prog.bind_pure, semSignalWord, semWaitWord]
  iintro ⟨#HE, Hv10, Hv20, Hac1⟩ Hk
  iapply (ldS c (m := mV1) (off := ![0, 0, 0]) (size := S1x1024x2048.size) (inb := inb_S2x1024x2048_S1x1024x2048_0_0_0) (hs := squeezes_S1x1024x2048_S1024x2048) (hR := fun _ => rfl) (I.W1 c 0) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 0) shapeCasts_S1x2048x1024_S2048x1024.symm) $$ Hv20
  iintro Hv20
  iapply (ldA c (off_4_1 c)) $$ Hac1
  iintro %v490 Hac1
  iapply (stA c (I.acc1 c 1) (off_4_1 c) (pv_33 I c)) $$ Hac1
  iintro Hac1
  iapply (fin c (r' := (⟨(sc1 (I.RT c) (I.xk c 1)), (sc2 (I.RT c) (I.xk c 1)), (mulf (sc1 (I.RT c) (I.xk c 1)) (sitofp .f32 (extui 32 (cmpi .eq (ex1 (I.RT c) (I.xk c 1)) (broadcast S256x1 (exNo (yWord c) 1#32))) natLt_1_32))), (extui 32 (cmpi .eq (ex2 (I.RT c) (I.xk c 1)) (broadcast S256x1 (exNo (yWord c) 1#32))) natLt_1_32)⟩ : (Σ' (v461 : FVec F S256x1 .f32) (v464 : FVec F S256x1 .f32) (v499 : FVec F S256x1 .f32), IVec S256x1 32))) (show (⟨(k0_pay31 (addf ones (ratio (I.RT c) (I.xk c 1))) (Scalar.ofBits .f32 0x3F800000#32)), (k0_pay32 (ratio (I.RT c) (I.xk c 1))), (k0_pay34 (yWord c) (ex1 (I.RT c) (I.xk c 1)) (addf ones (ratio (I.RT c) (I.xk c 1))) (Scalar.ofBits .f32 0x3F800000#32)), (k0_pay35 (yWord c) (ex2 (I.RT c) (I.xk c 1)))⟩ : (Σ' (v461 : FVec F S256x1 .f32) (v464 : FVec F S256x1 .f32) (v499 : FVec F S256x1 .f32), IVec S256x1 32)) = (⟨(sc1 (I.RT c) (I.xk c 1)), (sc2 (I.RT c) (I.xk c 1)), (mulf (sc1 (I.RT c) (I.xk c 1)) (sitofp .f32 (extui 32 (cmpi .eq (ex1 (I.RT c) (I.xk c 1)) (broadcast S256x1 (exNo (yWord c) 1#32))) natLt_1_32))), (extui 32 (cmpi .eq (ex2 (I.RT c) (I.xk c 1)) (broadcast S256x1 (exNo (yWord c) 1#32))) natLt_1_32)⟩ : (Σ' (v461 : FVec F S256x1 .f32) (v464 : FVec F S256x1 .f32) (v499 : FVec F S256x1 .f32), IVec S256x1 32)) by rw [pv_31 I c]; try rw [pv_32 I c]; try rw [pv_34 I c]; try rw [pv_35 I c]))
  iapply Hk $$ [Hac1] [Hv10] [Hv20]
  · iexact Hac1
  · iexact Hv10
  · iexact Hv20

theorem part_16 {v2 : BitVec 32} {v433 : BitVec 32} {Q : (BitVec 32) → sProp 𝕄} :
    iprop(Env I K c ∗ own (c : Thread nD τ) v1S1.view fullShare (I.W1 c 1) ∗ own (c : Thread nD τ) v2S1.view fullShare (I.W2 c 1) ∗ own (c : Thread nD τ) (mAcc.access (rowR (org c 1) (org_lt c 1))) fullShare (I.acc1 c 1) ∗ Fly c 4 0 ∗ Ow c [8, 21, 22, 23, 24, 25, 26])
      ⊢ iprop((own (c : Thread nD τ) (mAcc.access (rowR (org c 1) (org_lt c 1))) fullShare (I.acc2 c 1) -∗ Ow c [8, 21, 22, 23, 24, 25, 26] -∗ own (c : Thread nD τ) v1S1.view fullShare (I.W1 c 1) -∗ own (c : Thread nD τ) v2S1.view fullShare (I.W2 c 1) -∗ Don c 4 1 -∗ own (c : Thread nD τ) agS0.view fullShare.left (I.xk c 1) -∗ Q (Scalar.addi 0#32 (Scalar.muli v2 16#32))) -∗ wp₀ (k0_part16 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((I.xk c 1)) v433 ((sc2 (I.RT c) (I.xk c 1))) ((mulf (sc1 (I.RT c) (I.xk c 1)) (sitofp .f32 (extui 32 (cmpi .eq (ex1 (I.RT c) (I.xk c 1)) (broadcast S256x1 (exNo (yWord c) 1#32))) natLt_1_32)))) ((extui 32 (cmpi .eq (ex2 (I.RT c) (I.xk c 1)) (broadcast S256x1 (exNo (yWord c) 1#32))) natLt_1_32))) Q) := by
  rw [k0_part16_eq_skeleton]
  simp only [k0_part16_skel, Prog.lift, Prog.bind_op, Prog.bind_ret, Prog.bind_pure, semSignalWord, semWaitWord]
  iintro ⟨#HE, Hv11, Hv21, Hac1, HFly4x0, HOW⟩ Hk
  iapply (ldS c (m := mV1) (off := ![1, 0, 0]) (size := S1x1024x2048.size) (inb := inb_S2x1024x2048_S1x1024x2048_1_0_0) (hs := squeezes_S1x1024x2048_S1024x2048) (hR := fun _ => rfl) (I.W1 c 1) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 1) shapeCasts_S1x2048x1024_S2048x1024.symm) $$ Hv21
  iintro Hv21
  iapply (ld c (I.acc1 c 1) (off_4_1 c)) $$ Hac1
  iintro Hac1
  iapply (ld c (I.acc1 c 1) (off_4_1 c)) $$ Hac1
  iintro Hac1
  iapply (stO c (I.acc2 c 1) (off_4_1 c) (pv_36 I c)) $$ Hac1
  iintro Hac1
  iapply (wt4_0 I K c) $$ [HFly4x0 HOW]
  · isplitr; · iexact HE
    isplitl [HFly4x0]; · iexact HFly4x0
    iexact HOW
  iintro HOW HDon4x1 Hag0L
  iapply (fin c (r' := (Scalar.addi 0#32 (Scalar.muli v2 16#32))) (rfl))
  iapply Hk $$ [Hac1] [HOW] [Hv11] [Hv21] [HDon4x1] [Hag0L]
  · iexact Hac1
  · iexact HOW
  · iexact Hv11
  · iexact Hv21
  · iexact HDon4x1
  · iexact Hag0L

theorem part_17 {v2 : BitVec 32} {v8 : BitVec 32} {v19 : BitVec 32} {v532 : BitVec 32} {Q : (Σ' (v558 : FVec F S256x1024 .f32) (v562 : BitVec 32) (v563 : BitVec 32), BitVec 32) → sProp 𝕄} :
    iprop(Env I K c ∗ opn (right c) ∗ Fly c 7 0 ∗ Ow c [8, 21, 22, 23, 24, 25, 26] ∗ Snd c 5 8 ∗ any (right c : Thread nD τ) agS2.view)
      ⊢ iprop((Ow c [21, 22, 23, 24, 25, 26] -∗ Don c 7 1 -∗ own (c : Thread nD τ) agS1.view fullShare.right (I.xk c 2) -∗ Fly c 5 0 -∗ Q (⟨(I.xk c 2), (Scalar.select (Scalar.cmpi .eq 4#32 0#32) 1#32 4#32), (Scalar.remsi (Scalar.subi (Scalar.addi (yWord c) 4#32) 2#32) (Scalar.select (Scalar.cmpi .eq 4#32 0#32) 1#32 4#32)), 0#32⟩ : (Σ' (v558 : FVec F S256x1024 .f32) (v562 : BitVec 32) (v563 : BitVec 32), BitVec 32))) -∗ wp₀ (k0_part17 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19 v532) Q) := by
  rw [k0_part17_eq_skeleton]
  simp only [k0_part17_skel, Prog.lift, Prog.bind_op, Prog.bind_ret, Prog.bind_pure, semSignalWord, semWaitWord]
  iintro ⟨#HE, #Hopn, HFly7x0, HOW, HSnd5x8, Hrxag2⟩ Hk
  iapply (wt7_0 I K c) $$ [HFly7x0 HOW]
  · isplitr; · iexact HE
    isplitl [HFly7x0]; · iexact HFly7x0
    iexact HOW
  iintro HOW HDon7x1 Hag1
  ihave Hs := (own_halves (c : Thread nD τ) agS1.view (I.xk c 2)).1 $$ Hag1
  icases Hs with ⟨Hag1L, Hag1R⟩
  iapply (snd5 I K c) $$ [HSnd5x8 Hag1L Hrxag2 HOW]
  · isplitr; · iexact HE
    isplitr; · iexact Hopn
    isplitl [HSnd5x8]; · iexact HSnd5x8
    isplitl [Hag1L]; · iexact Hag1L
    isplitl [Hrxag2]; · iexact Hrxag2
    iexact HOW
  iintro HFly5x0 HOW
  iapply (ldS c (m := mAG) (off := ![1, 0, 0]) (size := S1x256x1024.size) (inb := inb_S3x256x1024_S1x256x1024_1_0_0) (hs := squeezes_S1x256x1024_S256x1024) (hR := fun _ => rfl) (I.xk c 2) shapeCasts_S1x256x1024_S256x1024.symm) $$ Hag1R
  iintro Hag1R
  iapply (fin c (r' := (⟨(I.xk c 2), (Scalar.select (Scalar.cmpi .eq 4#32 0#32) 1#32 4#32), (Scalar.remsi (Scalar.subi (Scalar.addi (yWord c) 4#32) 2#32) (Scalar.select (Scalar.cmpi .eq 4#32 0#32) 1#32 4#32)), 0#32⟩ : (Σ' (v558 : FVec F S256x1024 .f32) (v562 : BitVec 32) (v563 : BitVec 32), BitVec 32))) (show (⟨(k0_pay37 (shapeCast S1x256x1024 (I.xk c 2) shapeCasts_S1x256x1024_S256x1024.symm)), (Scalar.select (Scalar.cmpi .eq 4#32 0#32) 1#32 4#32), (Scalar.remsi (Scalar.subi (Scalar.addi (yWord c) 4#32) 2#32) (Scalar.select (Scalar.cmpi .eq 4#32 0#32) 1#32 4#32)), 0#32⟩ : (Σ' (v558 : FVec F S256x1024 .f32) (v562 : BitVec 32) (v563 : BitVec 32), BitVec 32)) = (⟨(I.xk c 2), (Scalar.select (Scalar.cmpi .eq 4#32 0#32) 1#32 4#32), (Scalar.remsi (Scalar.subi (Scalar.addi (yWord c) 4#32) 2#32) (Scalar.select (Scalar.cmpi .eq 4#32 0#32) 1#32 4#32)), 0#32⟩ : (Σ' (v558 : FVec F S256x1024 .f32) (v562 : BitVec 32) (v563 : BitVec 32), BitVec 32)) by rw [pv_37 I c]))
  iapply Hk $$ [HOW] [HDon7x1] [Hag1R] [HFly5x0]
  · iexact HOW
  · iexact HDon7x1
  · iexact Hag1R
  · iexact HFly5x0

theorem part_18 {v562 : BitVec 32} {v563 : BitVec 32} {c0_i32_405 : BitVec 32} {Q : (Σ' (v587 : BitVec 32) (v589 : IVec S256x16 32) (v591 : FVec F S256x1 .f32) (v597 : IVec S256x1 32) (v601 : FVec F S256x16 .f32) (v603 : FVec F S256x1 .f32), FVec F S256x16 .f32) → sProp 𝕄} :
    iprop(Env I K c ∗ any (c : Thread nD τ) (mXF.access (rowR (org c 2) (org_lt c 2))))
      ⊢ iprop((own (c : Thread nD τ) (mXF.access (rowR (org c 2) (org_lt c 2))) fullShare (I.xk c 2) -∗ Q (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), ids, (rmax (gates (I.RT c) (I.xk c 2))), (ex1 (I.RT c) (I.xk c 2)), (masked (gates (I.RT c) (I.xk c 2))), (rmax (masked (gates (I.RT c) (I.xk c 2)))), (broadcastTo S256x16 (rmax (masked (gates (I.RT c) (I.xk c 2)))) broadcasts_S256x1_S256x16)⟩ : (Σ' (v587 : BitVec 32) (v589 : IVec S256x16 32) (v591 : FVec F S256x1 .f32) (v597 : IVec S256x1 32) (v601 : FVec F S256x16 .f32) (v603 : FVec F S256x1 .f32), FVec F S256x16 .f32))) -∗ wp₀ (k0_part18 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.RT c)) ((I.xk c 2)) v562 v563 c0_i32_405) Q) := by
  rw [k0_part18_eq_skeleton]
  simp only [k0_part18_skel, Prog.lift, Prog.bind_op, Prog.bind_ret, Prog.bind_pure, semSignalWord, semWaitWord]
  iintro ⟨#HE, Hxf2⟩ Hk
  iapply (ldA c (off_4_2 c)) $$ Hxf2
  iintro %v573 Hxf2
  iapply (stA c (I.xk c 2) (off_4_2 c) (pv_38 I c)) $$ Hxf2
  iintro Hxf2
  iapply (fin c (r' := (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), ids, (rmax (gates (I.RT c) (I.xk c 2))), (ex1 (I.RT c) (I.xk c 2)), (masked (gates (I.RT c) (I.xk c 2))), (rmax (masked (gates (I.RT c) (I.xk c 2)))), (broadcastTo S256x16 (rmax (masked (gates (I.RT c) (I.xk c 2)))) broadcasts_S256x1_S256x16)⟩ : (Σ' (v587 : BitVec 32) (v589 : IVec S256x16 32) (v591 : FVec F S256x1 .f32) (v597 : IVec S256x1 32) (v601 : FVec F S256x16 .f32) (v603 : FVec F S256x1 .f32), FVec F S256x16 .f32))) (show (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), ids, (k0_pay40 (I.RT c) (I.xk c 2)), (k0_pay41 (I.RT c) (I.xk c 2)), (k0_pay42 (I.RT c) (I.xk c 2)), (k0_pay43 (I.RT c) (I.xk c 2)), (k0_pay44 (I.RT c) (I.xk c 2))⟩ : (Σ' (v587 : BitVec 32) (v589 : IVec S256x16 32) (v591 : FVec F S256x1 .f32) (v597 : IVec S256x1 32) (v601 : FVec F S256x16 .f32) (v603 : FVec F S256x1 .f32), FVec F S256x16 .f32)) = (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), ids, (rmax (gates (I.RT c) (I.xk c 2))), (ex1 (I.RT c) (I.xk c 2)), (masked (gates (I.RT c) (I.xk c 2))), (rmax (masked (gates (I.RT c) (I.xk c 2)))), (broadcastTo S256x16 (rmax (masked (gates (I.RT c) (I.xk c 2)))) broadcasts_S256x1_S256x16)⟩ : (Σ' (v587 : BitVec 32) (v589 : IVec S256x16 32) (v591 : FVec F S256x1 .f32) (v597 : IVec S256x1 32) (v601 : FVec F S256x16 .f32) (v603 : FVec F S256x1 .f32), FVec F S256x16 .f32)) by rw [pv_40 I c]; try rw [pv_41 I c]; try rw [pv_42 I c]; try rw [pv_43 I c]; try rw [pv_44 I c]))
  iapply Hk $$ [Hxf2]
  · iexact Hxf2

theorem part_19 {v587 : BitVec 32} {Q : (Σ' (v609 : IVec S256x1 32) (v615 : FVec F S256x1 .f32) (v618 : FVec F S256x1 .f32), FVec F S256x1024 .f32) → sProp 𝕄} :
    iprop(Env I K c ∗ own (c : Thread nD τ) v1S0.view fullShare (I.W1 c 0) ∗ own (c : Thread nD τ) v2S0.view fullShare (I.W2 c 0) ∗ any (c : Thread nD τ) (mAcc.access (rowR (org c 2) (org_lt c 2))))
      ⊢ iprop((any (c : Thread nD τ) (mAcc.access (rowR (org c 2) (org_lt c 2))) -∗ own (c : Thread nD τ) v1S0.view fullShare (I.W1 c 0) -∗ own (c : Thread nD τ) v2S0.view fullShare (I.W2 c 0) -∗ Q (⟨(ex2 (I.RT c) (I.xk c 2)), (sc1 (I.RT c) (I.xk c 2)), (sc2 (I.RT c) (I.xk c 2)), (I.acc1 c 2)⟩ : (Σ' (v609 : IVec S256x1 32) (v615 : FVec F S256x1 .f32) (v618 : FVec F S256x1 .f32), FVec F S256x1024 .f32))) -∗ wp₀ (k0_part19 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.xk c 2)) v587 (ids) ((rmax (gates (I.RT c) (I.xk c 2)))) ((ex1 (I.RT c) (I.xk c 2))) ((masked (gates (I.RT c) (I.xk c 2)))) ((rmax (masked (gates (I.RT c) (I.xk c 2))))) ((broadcastTo S256x16 (rmax (masked (gates (I.RT c) (I.xk c 2)))) broadcasts_S256x1_S256x16))) Q) := by
  rw [k0_part19_eq_skeleton]
  simp only [k0_part19_skel, Prog.lift, Prog.bind_op, Prog.bind_ret, Prog.bind_pure, semSignalWord, semWaitWord]
  iintro ⟨#HE, Hv10, Hv20, Hac2⟩ Hk
  iapply (ldS c (m := mV1) (off := ![0, 0, 0]) (size := S1x1024x2048.size) (inb := inb_S2x1024x2048_S1x1024x2048_0_0_0) (hs := squeezes_S1x1024x2048_S1024x2048) (hR := fun _ => rfl) (I.W1 c 0) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 0) shapeCasts_S1x2048x1024_S2048x1024.symm) $$ Hv20
  iintro Hv20
  iapply (ldA c (off_4_2 c)) $$ Hac2
  iintro %v644 Hac2
  iapply (fin c (r' := (⟨(ex2 (I.RT c) (I.xk c 2)), (sc1 (I.RT c) (I.xk c 2)), (sc2 (I.RT c) (I.xk c 2)), (I.acc1 c 2)⟩ : (Σ' (v609 : IVec S256x1 32) (v615 : FVec F S256x1 .f32) (v618 : FVec F S256x1 .f32), FVec F S256x1024 .f32))) (show (⟨(k0_pay45 ids (masked (gates (I.RT c) (I.xk c 2))) (broadcastTo S256x16 (rmax (masked (gates (I.RT c) (I.xk c 2)))) broadcasts_S256x1_S256x16)), (k0_pay47 (rmax (gates (I.RT c) (I.xk c 2))) (rmax (masked (gates (I.RT c) (I.xk c 2))))), (k0_pay48 (rmax (gates (I.RT c) (I.xk c 2))) (rmax (masked (gates (I.RT c) (I.xk c 2))))), (k0_pay49 (yWord c) (I.xk c 2) ids (rmax (gates (I.RT c) (I.xk c 2))) (ex1 (I.RT c) (I.xk c 2)) (masked (gates (I.RT c) (I.xk c 2))) (rmax (masked (gates (I.RT c) (I.xk c 2)))) (broadcastTo S256x16 (rmax (masked (gates (I.RT c) (I.xk c 2)))) broadcasts_S256x1_S256x16) (shapeCast S1x1024x2048 (I.W1 c 0) shapeCasts_S1x1024x2048_S1024x2048.symm) (shapeCast S1x2048x1024 (I.W2 c 0) shapeCasts_S1x2048x1024_S2048x1024.symm))⟩ : (Σ' (v609 : IVec S256x1 32) (v615 : FVec F S256x1 .f32) (v618 : FVec F S256x1 .f32), FVec F S256x1024 .f32)) = (⟨(ex2 (I.RT c) (I.xk c 2)), (sc1 (I.RT c) (I.xk c 2)), (sc2 (I.RT c) (I.xk c 2)), (I.acc1 c 2)⟩ : (Σ' (v609 : IVec S256x1 32) (v615 : FVec F S256x1 .f32) (v618 : FVec F S256x1 .f32), FVec F S256x1024 .f32)) by rw [pv_45 I c]; try rw [pv_47 I c]; try rw [pv_48 I c]; try rw [pv_49 I c]))
  iapply Hk $$ [Hac2] [Hv10] [Hv20]
  · iexact Hac2
  · iexact Hv10
  · iexact Hv20

theorem part_20 {v587 : BitVec 32} {Q : (PUnit) → sProp 𝕄} :
    iprop(Env I K c ∗ any (c : Thread nD τ) (mAcc.access (rowR (org c 2) (org_lt c 2))) ∗ own (c : Thread nD τ) v1S1.view fullShare (I.W1 c 1) ∗ own (c : Thread nD τ) v2S1.view fullShare (I.W2 c 1))
      ⊢ iprop((own (c : Thread nD τ) (mAcc.access (rowR (org c 2) (org_lt c 2))) fullShare (I.acc2 c 2) -∗ own (c : Thread nD τ) v1S1.view fullShare (I.W1 c 1) -∗ own (c : Thread nD τ) v2S1.view fullShare (I.W2 c 1) -∗ Q ⟨⟩) -∗ wp₀ (k0_part20 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.xk c 2)) v587 ((ex1 (I.RT c) (I.xk c 2))) ((ex2 (I.RT c) (I.xk c 2))) ((sc1 (I.RT c) (I.xk c 2))) ((sc2 (I.RT c) (I.xk c 2))) ((I.acc1 c 2))) Q) := by
  rw [k0_part20_eq_skeleton]
  simp only [k0_part20_skel, Prog.lift, Prog.bind_op, Prog.bind_ret, Prog.bind_pure, semSignalWord, semWaitWord]
  iintro ⟨#HE, Hac2, Hv11, Hv21⟩ Hk
  iapply (stA c (I.acc1 c 2) (off_4_2 c) (Eq.refl (I.acc1 c 2))) $$ Hac2
  iintro Hac2
  iapply (ldS c (m := mV1) (off := ![1, 0, 0]) (size := S1x1024x2048.size) (inb := inb_S2x1024x2048_S1x1024x2048_1_0_0) (hs := squeezes_S1x1024x2048_S1024x2048) (hR := fun _ => rfl) (I.W1 c 1) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 1) shapeCasts_S1x2048x1024_S2048x1024.symm) $$ Hv21
  iintro Hv21
  iapply (ld c (I.acc1 c 2) (off_4_2 c)) $$ Hac2
  iintro Hac2
  iapply (ld c (I.acc1 c 2) (off_4_2 c)) $$ Hac2
  iintro Hac2
  iapply (stO c (I.acc2 c 2) (off_4_2 c) (pv_50 I c)) $$ Hac2
  iintro Hac2
  iapply (fin c (r' := ⟨⟩) (rfl))
  iapply Hk $$ [Hac2] [Hv11] [Hv21]
  · iexact Hac2
  · iexact Hv11
  · iexact Hv21

end Step

end Cert.Moe

end
-- ==== Proof.PartsC.lean ====
/-
  Parts of the kernel, each as a step over what is held: the third expert, and the last chunk.
-/
module

public import proofs.«01_k».proof.Proof.Step

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Step
variable (I : Inp F) (K : GSem nD τ sig → ℕ) (c : Dev nD)
local notation "wp₀" => wp frame (wpE (defs₀ (F := F)) 𝒱₀ (c : Thread nD τ) none) Set.univ

theorem part_21 {v2 : BitVec 32} {v8 : BitVec 32} {v19 : BitVec 32} {Q : (Σ' (v698 : FVec F S256x1024 .f32), Vec F S256x1024 .f32) → sProp 𝕄} :
    iprop(Env I K c ∗ Fly c 5 0 ∗ Ow c [21, 22, 23, 24, 25, 26] ∗ Fly c 8 0 ∗ any (c : Thread nD τ) (mXF.access (rowR (org c 3) (org_lt c 3))))
      ⊢ iprop((∀ v713 : Vec F S256x1024 .f32, any (c : Thread nD τ) (mXF.access (rowR (org c 3) (org_lt c 3))) -∗ Ow c [21, 22, 23, 24, 25, 26] -∗ Don c 5 1 -∗ own (c : Thread nD τ) agS1.view fullShare.left (I.xk c 2) -∗ Don c 8 1 -∗ own (c : Thread nD τ) agS2.view fullShare (I.xk c 3) -∗ Q (⟨(I.xk c 3), v713⟩ : (Σ' (v698 : FVec F S256x1024 .f32), Vec F S256x1024 .f32))) -∗ wp₀ (k0_part21 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19) Q) := by
  rw [k0_part21_eq_skeleton]
  simp only [k0_part21_skel, Prog.lift, Prog.bind_op, Prog.bind_ret, Prog.bind_pure, semSignalWord, semWaitWord]
  iintro ⟨#HE, HFly5x0, HOW, HFly8x0, Hxf3⟩ Hk
  iapply (wt5_0 I K c) $$ [HFly5x0 HOW]
  · isplitr; · iexact HE
    isplitl [HFly5x0]; · iexact HFly5x0
    iexact HOW
  iintro HOW HDon5x1 Hag1L
  iapply (wt8_0 I K c) $$ [HFly8x0 HOW]
  · isplitr; · iexact HE
    isplitl [HFly8x0]; · iexact HFly8x0
    iexact HOW
  iintro HOW HDon8x1 Hag2
  iapply (ldS c (m := mAG) (off := ![2, 0, 0]) (size := S1x256x1024.size) (inb := inb_S3x256x1024_S1x256x1024_2_0_0) (hs := squeezes_S1x256x1024_S256x1024) (hR := fun _ => rfl) (I.xk c 3) shapeCasts_S1x256x1024_S256x1024.symm) $$ Hag2
  iintro Hag2
  iapply (ldA c (off_4_3 c)) $$ Hxf3
  iintro %v713 Hxf3
  iapply (fin c (r' := (⟨(I.xk c 3), v713⟩ : (Σ' (v698 : FVec F S256x1024 .f32), Vec F S256x1024 .f32))) (show (⟨(k0_pay51 (shapeCast S1x256x1024 (I.xk c 3) shapeCasts_S1x256x1024_S256x1024.symm)), v713⟩ : (Σ' (v698 : FVec F S256x1024 .f32), Vec F S256x1024 .f32)) = (⟨(I.xk c 3), v713⟩ : (Σ' (v698 : FVec F S256x1024 .f32), Vec F S256x1024 .f32)) by rw [pv_51 I c]))
  iapply Hk $$ %v713 [Hxf3] [HOW] [HDon5x1] [Hag1L] [HDon8x1] [Hag2]
  · iexact Hxf3
  · iexact HOW
  · iexact HDon5x1
  · iexact Hag1L
  · iexact HDon8x1
  · iexact Hag2

theorem part_22 {v713 : Vec F S256x1024 .f32} {Q : (Σ' (v727 : BitVec 32) (v737 : IVec S256x1 32) (v749 : IVec S256x1 32) (v751 : FVec F S256x1 .f32) (v753 : FVec F S256x1 .f32), FVec F S256x1 .f32) → sProp 𝕄} :
    iprop(Env I K c ∗ any (c : Thread nD τ) (mXF.access (rowR (org c 3) (org_lt c 3))))
      ⊢ iprop((own (c : Thread nD τ) (mXF.access (rowR (org c 3) (org_lt c 3))) fullShare (I.xk c 3) -∗ Q (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (ex1 (I.RT c) (I.xk c 3)), (ex2 (I.RT c) (I.xk c 3)), (ratio (I.RT c) (I.xk c 3)), (addf ones (ratio (I.RT c) (I.xk c 3))), ones⟩ : (Σ' (v727 : BitVec 32) (v737 : IVec S256x1 32) (v749 : IVec S256x1 32) (v751 : FVec F S256x1 .f32) (v753 : FVec F S256x1 .f32), FVec F S256x1 .f32))) -∗ wp₀ (k0_part22 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.RT c)) ((I.xk c 3)) v713) Q) := by
  rw [k0_part22_eq_skeleton]
  simp only [k0_part22_skel, Prog.lift, Prog.bind_op, Prog.bind_ret, Prog.bind_pure, semSignalWord, semWaitWord]
  iintro ⟨#HE, Hxf3⟩ Hk
  iapply (stA c (I.xk c 3) (off_4_3 c) (pv_52 I c)) $$ Hxf3
  iintro Hxf3
  iapply (fin c (r' := (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (ex1 (I.RT c) (I.xk c 3)), (ex2 (I.RT c) (I.xk c 3)), (ratio (I.RT c) (I.xk c 3)), (addf ones (ratio (I.RT c) (I.xk c 3))), ones⟩ : (Σ' (v727 : BitVec 32) (v737 : IVec S256x1 32) (v749 : IVec S256x1 32) (v751 : FVec F S256x1 .f32) (v753 : FVec F S256x1 .f32), FVec F S256x1 .f32))) (show (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (k0_pay55 (I.RT c) (I.xk c 3)), (k0_pay58 (I.RT c) (I.xk c 3)), (k0_pay59 (I.RT c) (I.xk c 3)), (k0_pay60 (I.RT c) (I.xk c 3)), (k0_pay61 (F := F))⟩ : (Σ' (v727 : BitVec 32) (v737 : IVec S256x1 32) (v749 : IVec S256x1 32) (v751 : FVec F S256x1 .f32) (v753 : FVec F S256x1 .f32), FVec F S256x1 .f32)) = (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (ex1 (I.RT c) (I.xk c 3)), (ex2 (I.RT c) (I.xk c 3)), (ratio (I.RT c) (I.xk c 3)), (addf ones (ratio (I.RT c) (I.xk c 3))), ones⟩ : (Σ' (v727 : BitVec 32) (v737 : IVec S256x1 32) (v749 : IVec S256x1 32) (v751 : FVec F S256x1 .f32) (v753 : FVec F S256x1 .f32), FVec F S256x1 .f32)) by rw [pv_55 I c]; try rw [pv_58 I c]; try rw [pv_59 I c]; try rw [pv_60 I c]; try rw [pv_61 I c]))
  iapply Hk $$ [Hxf3]
  · iexact Hxf3

theorem part_23 {v727 : BitVec 32} {Q : (Σ' (v755 : FVec F S256x1 .f32), FVec F S256x1 .f32) → sProp 𝕄} :
    iprop(Env I K c ∗ own (c : Thread nD τ) v1S0.view fullShare (I.W1 c 0) ∗ own (c : Thread nD τ) v2S0.view fullShare (I.W2 c 0) ∗ any (c : Thread nD τ) (mAcc.access (rowR (org c 3) (org_lt c 3))))
      ⊢ iprop((own (c : Thread nD τ) (mAcc.access (rowR (org c 3) (org_lt c 3))) fullShare (I.acc1 c 3) -∗ own (c : Thread nD τ) v1S0.view fullShare (I.W1 c 0) -∗ own (c : Thread nD τ) v2S0.view fullShare (I.W2 c 0) -∗ Q (⟨(sc1 (I.RT c) (I.xk c 3)), (sc2 (I.RT c) (I.xk c 3))⟩ : (Σ' (v755 : FVec F S256x1 .f32), FVec F S256x1 .f32))) -∗ wp₀ (k0_part23 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.xk c 3)) v727 ((ex1 (I.RT c) (I.xk c 3))) ((ex2 (I.RT c) (I.xk c 3))) ((ratio (I.RT c) (I.xk c 3))) ((addf ones (ratio (I.RT c) (I.xk c 3)))) (ones)) Q) := by
  rw [k0_part23_eq_skeleton]
  simp only [k0_part23_skel, Prog.lift, Prog.bind_op, Prog.bind_ret, Prog.bind_pure, semSignalWord, semWaitWord]
  iintro ⟨#HE, Hv10, Hv20, Hac3⟩ Hk
  iapply (ldS c (m := mV1) (off := ![0, 0, 0]) (size := S1x1024x2048.size) (inb := inb_S2x1024x2048_S1x1024x2048_0_0_0) (hs := squeezes_S1x1024x2048_S1024x2048) (hR := fun _ => rfl) (I.W1 c 0) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 0) shapeCasts_S1x2048x1024_S2048x1024.symm) $$ Hv20
  iintro Hv20
  iapply (ldA c (off_4_3 c)) $$ Hac3
  iintro %v784 Hac3
  iapply (stA c (I.acc1 c 3) (off_4_3 c) (pv_64 I c)) $$ Hac3
  iintro Hac3
  iapply (fin c (r' := (⟨(sc1 (I.RT c) (I.xk c 3)), (sc2 (I.RT c) (I.xk c 3))⟩ : (Σ' (v755 : FVec F S256x1 .f32), FVec F S256x1 .f32))) (show (⟨(k0_pay62 (addf ones (ratio (I.RT c) (I.xk c 3))) ones), (k0_pay63 (ratio (I.RT c) (I.xk c 3)))⟩ : (Σ' (v755 : FVec F S256x1 .f32), FVec F S256x1 .f32)) = (⟨(sc1 (I.RT c) (I.xk c 3)), (sc2 (I.RT c) (I.xk c 3))⟩ : (Σ' (v755 : FVec F S256x1 .f32), FVec F S256x1 .f32)) by rw [pv_62 I c]; try rw [pv_63 I c]))
  iapply Hk $$ [Hac3] [Hv10] [Hv20]
  · iexact Hac3
  · iexact Hv10
  · iexact Hv20

theorem part_24 {v727 : BitVec 32} {Q : (Σ' (v825 : FVec F S256x1024 .f32), Vec F S256x1024 .f32) → sProp 𝕄} :
    iprop(Env I K c ∗ dutyTok ER (gd c 27) 1 false ∗ Don c 27 1 ∗ own (c : Thread nD τ) w1E2.view fullShare (I.W1 c 2) ∗ own (c : Thread nD τ) v1S0.view fullShare (I.W1 c 0) ∗ dutyTok ER (gd c 29) 1 false ∗ Don c 29 1 ∗ own (c : Thread nD τ) w2E2.view fullShare (I.W2 c 2) ∗ own (c : Thread nD τ) v2S0.view fullShare (I.W2 c 0) ∗ own (c : Thread nD τ) v1S1.view fullShare (I.W1 c 1) ∗ own (c : Thread nD τ) v2S1.view fullShare (I.W2 c 1) ∗ own (c : Thread nD τ) (mAcc.access (rowR (org c 3) (org_lt c 3))) fullShare (I.acc1 c 3))
      ⊢ iprop((own (c : Thread nD τ) (mAcc.access (rowR (org c 3) (org_lt c 3))) fullShare (I.acc1 c 3) -∗ own (c : Thread nD τ) v1S1.view fullShare (I.W1 c 1) -∗ own (c : Thread nD τ) v2S1.view fullShare (I.W2 c 1) -∗ Fly c 27 1 -∗ Fly c 29 1 -∗ Q (⟨(I.acc2 c 3), (I.acc1 c 3)⟩ : (Σ' (v825 : FVec F S256x1024 .f32), Vec F S256x1024 .f32))) -∗ wp₀ (k0_part24 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((I.xk c 3)) v727 ((ex1 (I.RT c) (I.xk c 3))) ((ex2 (I.RT c) (I.xk c 3))) ((sc1 (I.RT c) (I.xk c 3))) ((sc2 (I.RT c) (I.xk c 3)))) Q) := by
  rw [k0_part24_eq_skeleton]
  simp only [k0_part24_skel, Prog.lift, Prog.bind_op, Prog.bind_ret, Prog.bind_pure, semSignalWord, semWaitWord]
  iintro ⟨#HE, HTok27, HDon27x1, Hw12, Hv10, HTok29, HDon29x1, Hw22, Hv20, Hv11, Hv21, Hac3⟩ Hk
  ihave HCpy27x1 := (cpy_intro c 27) $$ [HTok27 HDon27x1]
  · isplitl [HTok27]; · iexact HTok27
    iexact HDon27x1
  ihave Hv10 := (any_of_own (c : Thread nD τ) v1S0.view (I.W1 c 0)) $$ Hv10
  iapply (cpy27_1 I K c) $$ [HCpy27x1 Hv10 Hw12]
  · isplitr; · iexact HE
    isplitl [HCpy27x1]; · iexact HCpy27x1
    isplitl [Hv10]; · iexact Hv10
    iexact Hw12
  iintro HFly27x1
  ihave HCpy29x1 := (cpy_intro c 29) $$ [HTok29 HDon29x1]
  · isplitl [HTok29]; · iexact HTok29
    iexact HDon29x1
  ihave Hv20 := (any_of_own (c : Thread nD τ) v2S0.view (I.W2 c 0)) $$ Hv20
  iapply (cpy29_1 I K c) $$ [HCpy29x1 Hv20 Hw22]
  · isplitr; · iexact HE
    isplitl [HCpy29x1]; · iexact HCpy29x1
    isplitl [Hv20]; · iexact Hv20
    iexact Hw22
  iintro HFly29x1
  iapply (ldS c (m := mV1) (off := ![1, 0, 0]) (size := S1x1024x2048.size) (inb := inb_S2x1024x2048_S1x1024x2048_1_0_0) (hs := squeezes_S1x1024x2048_S1024x2048) (hR := fun _ => rfl) (I.W1 c 1) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 1) shapeCasts_S1x2048x1024_S2048x1024.symm) $$ Hv21
  iintro Hv21
  iapply (ld c (I.acc1 c 3) (off_4_3 c)) $$ Hac3
  iintro Hac3
  iapply (ld c (I.acc1 c 3) (off_4_3 c)) $$ Hac3
  iintro Hac3
  iapply (fin c (r' := (⟨(I.acc2 c 3), (I.acc1 c 3)⟩ : (Σ' (v825 : FVec F S256x1024 .f32), Vec F S256x1024 .f32))) (show (⟨(k0_pay65 (yWord c) (I.xk c 3) (ex1 (I.RT c) (I.xk c 3)) (ex2 (I.RT c) (I.xk c 3)) (sc1 (I.RT c) (I.xk c 3)) (sc2 (I.RT c) (I.xk c 3)) (shapeCast S1x1024x2048 (I.W1 c 1) shapeCasts_S1x1024x2048_S1024x2048.symm) (shapeCast S1x2048x1024 (I.W2 c 1) shapeCasts_S1x2048x1024_S2048x1024.symm) (I.acc1 c 3)), (I.acc1 c 3)⟩ : (Σ' (v825 : FVec F S256x1024 .f32), Vec F S256x1024 .f32)) = (⟨(I.acc2 c 3), (I.acc1 c 3)⟩ : (Σ' (v825 : FVec F S256x1024 .f32), Vec F S256x1024 .f32)) by rw [pv_65 I c]))
  iapply Hk $$ [Hac3] [Hv11] [Hv21] [HFly27x1] [HFly29x1]
  · iexact Hac3
  · iexact Hv11
  · iexact Hv21
  · iexact HFly27x1
  · iexact HFly29x1

theorem part_25 {v828 : Vec F S256x1024 .f32} {Q : (BitVec 32) → sProp 𝕄} :
    iprop(Env I K c ∗ own (c : Thread nD τ) (mAcc.access (rowR (org c 3) (org_lt c 3))) fullShare (I.acc1 c 3) ∗ dutyTok ER (gd c 28) 1 false ∗ Don c 28 1 ∗ own (c : Thread nD τ) w1E3.view fullShare (I.W1 c 3) ∗ own (c : Thread nD τ) v1S1.view fullShare (I.W1 c 1) ∗ dutyTok ER (gd c 30) 1 false ∗ Don c 30 1 ∗ own (c : Thread nD τ) w2E3.view fullShare (I.W2 c 3) ∗ own (c : Thread nD τ) v2S1.view fullShare (I.W2 c 1) ∗ Fly c 27 1 ∗ Ow c [21, 22, 23, 24, 25, 26] ∗ Fly c 29 1)
      ⊢ iprop((own (c : Thread nD τ) (mAcc.access (rowR (org c 3) (org_lt c 3))) fullShare (I.acc2 c 3) -∗ Ow c [21, 22, 23, 24, 25, 26] -∗ Fly c 28 1 -∗ Fly c 30 1 -∗ Don c 27 2 -∗ own (c : Thread nD τ) v1S0.view fullShare (I.W1 c 2) -∗ own (c : Thread nD τ) w1E2.view fullShare (I.W1 c 2) -∗ Don c 29 2 -∗ own (c : Thread nD τ) v2S0.view fullShare (I.W2 c 2) -∗ own (c : Thread nD τ) w2E2.view fullShare (I.W2 c 2) -∗ Q 4#32) -∗ wp₀ (k0_part25 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((I.acc2 c 3)) v828) Q) := by
  rw [k0_part25_eq_skeleton]
  simp only [k0_part25_skel, Prog.lift, Prog.bind_op, Prog.bind_ret, Prog.bind_pure, semSignalWord, semWaitWord]
  iintro ⟨#HE, Hac3, HTok28, HDon28x1, Hw13, Hv11, HTok30, HDon30x1, Hw23, Hv21, HFly27x1, HOW, HFly29x1⟩ Hk
  iapply (stO c (I.acc2 c 3) (off_4_3 c) (pv_66 I c)) $$ Hac3
  iintro Hac3
  ihave HCpy28x1 := (cpy_intro c 28) $$ [HTok28 HDon28x1]
  · isplitl [HTok28]; · iexact HTok28
    iexact HDon28x1
  ihave Hv11 := (any_of_own (c : Thread nD τ) v1S1.view (I.W1 c 1)) $$ Hv11
  iapply (cpy28_1 I K c) $$ [HCpy28x1 Hv11 Hw13]
  · isplitr; · iexact HE
    isplitl [HCpy28x1]; · iexact HCpy28x1
    isplitl [Hv11]; · iexact Hv11
    iexact Hw13
  iintro HFly28x1
  ihave HCpy30x1 := (cpy_intro c 30) $$ [HTok30 HDon30x1]
  · isplitl [HTok30]; · iexact HTok30
    iexact HDon30x1
  ihave Hv21 := (any_of_own (c : Thread nD τ) v2S1.view (I.W2 c 1)) $$ Hv21
  iapply (cpy30_1 I K c) $$ [HCpy30x1 Hv21 Hw23]
  · isplitr; · iexact HE
    isplitl [HCpy30x1]; · iexact HCpy30x1
    isplitl [Hv21]; · iexact Hv21
    iexact Hw23
  iintro HFly30x1
  iapply (wt27_1 I K c) $$ [HFly27x1 HOW]
  · isplitr; · iexact HE
    isplitl [HFly27x1]; · iexact HFly27x1
    iexact HOW
  iintro HOW HDon27x2 ⟨Hv10, Hw12⟩
  iapply (wt29_1 I K c) $$ [HFly29x1 HOW]
  · isplitr; · iexact HE
    isplitl [HFly29x1]; · iexact HFly29x1
    iexact HOW
  iintro HOW HDon29x2 ⟨Hv20, Hw22⟩
  iapply (fin c (r' := 4#32) (rfl))
  iapply Hk $$ [Hac3] [HOW] [HFly28x1] [HFly30x1] [HDon27x2] [Hv10] [Hw12] [HDon29x2] [Hv20] [Hw22]
  · iexact Hac3
  · iexact HOW
  · iexact HFly28x1
  · iexact HFly30x1
  · iexact HDon27x2
  · iexact Hv10
  · iexact Hw12
  · iexact HDon29x2
  · iexact Hv20
  · iexact Hw22

theorem part_26 {c4_i32_580 : BitVec 32} {Q : (Σ' (v866 : BitVec 32) (v892 : FVec F S256x1024 .f32), BitVec 32) → sProp 𝕄} :
    iprop(Env I K c ∗ own (c : Thread nD τ) (mXF.access (rowR (org c 1) (org_lt c 1))) fullShare (I.xk c 1) ∗ own (c : Thread nD τ) v1S0.view fullShare (I.W1 c 2) ∗ own (c : Thread nD τ) v2S0.view fullShare (I.W2 c 2))
      ⊢ iprop((own (c : Thread nD τ) (mXF.access (rowR (org c 1) (org_lt c 1))) fullShare (I.xk c 1) -∗ own (c : Thread nD τ) v1S0.view fullShare (I.W1 c 2) -∗ own (c : Thread nD τ) v2S0.view fullShare (I.W2 c 2) -∗ Q (⟨(Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))), (I.ctr c 1 2 2#32), (Scalar.muli (Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))) 256#32)⟩ : (Σ' (v866 : BitVec 32) (v892 : FVec F S256x1024 .f32), BitVec 32))) -∗ wp₀ (k0_part26 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 1))) ((ex2 (I.RT c) (I.xk c 1))) ((sc1 (I.RT c) (I.xk c 1))) ((sc2 (I.RT c) (I.xk c 1))) c4_i32_580) Q) := by
  rw [k0_part26_eq_skeleton]
  simp only [k0_part26_skel, Prog.lift, Prog.bind_op, Prog.bind_ret, Prog.bind_pure, semSignalWord, semWaitWord]
  iintro ⟨#HE, Hxf1, Hv10, Hv20⟩ Hk
  iapply (ld c (I.xk c 1) (off_4_1 c)) $$ Hxf1
  iintro Hxf1
  iapply (ldS c (m := mV1) (off := ![0, 0, 0]) (size := S1x1024x2048.size) (inb := inb_S2x1024x2048_S1x1024x2048_0_0_0) (hs := squeezes_S1x1024x2048_S1024x2048) (hR := fun _ => rfl) (I.W1 c 2) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 2) shapeCasts_S1x2048x1024_S2048x1024.symm) $$ Hv20
  iintro Hv20
  iapply (fin c (r' := (⟨(Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))), (I.ctr c 1 2 2#32), (Scalar.muli (Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))) 256#32)⟩ : (Σ' (v866 : BitVec 32) (v892 : FVec F S256x1024 .f32), BitVec 32))) (show (⟨(Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))), (k0_pay67 (yWord c) (ex1 (I.RT c) (I.xk c 1)) (ex2 (I.RT c) (I.xk c 1)) (sc1 (I.RT c) (I.xk c 1)) (sc2 (I.RT c) (I.xk c 1)) (I.xk c 1) (shapeCast S1x1024x2048 (I.W1 c 2) shapeCasts_S1x1024x2048_S1024x2048.symm) (shapeCast S1x2048x1024 (I.W2 c 2) shapeCasts_S1x2048x1024_S2048x1024.symm)), (Scalar.muli (Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))) 256#32)⟩ : (Σ' (v866 : BitVec 32) (v892 : FVec F S256x1024 .f32), BitVec 32)) = (⟨(Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))), (I.ctr c 1 2 2#32), (Scalar.muli (Scalar.select (Scalar.andi (Scalar.xori (Scalar.cmpi .slt (Scalar.remsi (Scalar.subi (Scalar.addi (yWord c) c4_i32_580) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) c4_i32_580) 1#32) (Scalar.select (Scalar.cmpi .eq 4#32 0#32) 1#32 4#32)) 0#32)) (Scalar.addi (Scalar.remsi (Scalar.subi (Scalar.addi (yWord c) c4_i32_580) 1#32) (Scalar.select (Scalar.cmpi .eq 4#32 0#32) 1#32 4#32)) (Scalar.select (Scalar.cmpi .eq 4#32 0#32) 1#32 4#32)) (Scalar.remsi (Scalar.subi (Scalar.addi (yWord c) c4_i32_580) 1#32) (Scalar.select (Scalar.cmpi .eq 4#32 0#32) 1#32 4#32))) 256#32)⟩ : (Σ' (v866 : BitVec 32) (v892 : FVec F S256x1024 .f32), BitVec 32)) by rw [pv_67 I c]))
  iapply Hk $$ [Hxf1] [Hv10] [Hv20]
  · iexact Hxf1
  · iexact Hv10
  · iexact Hv20

theorem part_27 {v866 : BitVec 32} {v893 : BitVec 32} {Q : (Σ' (v913 : BitVec 32) (v929 : FVec F S256x1 .f32) (v932 : FVec F S256x2048 .f32), F .f32) → sProp 𝕄} :
    iprop(Env I K c ∗ own (c : Thread nD τ) (mAcc.access (rowR (org c 1) (org_lt c 1))) fullShare (I.acc2 c 1) ∗ own (c : Thread nD τ) (mXF.access (rowR (org c 2) (org_lt c 2))) fullShare (I.xk c 2) ∗ own (c : Thread nD τ) v1S0.view fullShare (I.W1 c 2))
      ⊢ iprop((own (c : Thread nD τ) (mAcc.access (rowR (org c 1) (org_lt c 1))) fullShare (I.acc3 c 1) -∗ own (c : Thread nD τ) (mXF.access (rowR (org c 2) (org_lt c 2))) fullShare (I.xk c 2) -∗ own (c : Thread nD τ) v1S0.view fullShare (I.W1 c 2) -∗ Q (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), (weight (exNo (yWord c) 2#32) (ex1 (I.RT c) (I.xk c 2)) (ex2 (I.RT c) (I.xk c 2)) (sc1 (I.RT c) (I.xk c 2)) (sc2 (I.RT c) (I.xk c 2))), (matmul dot_S256x1024_S1024x2048_S256x2048_1_0_0_1_n_n none (I.xk c 2) (I.W1 c 2) (constant S256x2048 .f32 0x00000000#32)), (Scalar.ofBits .f32 0x00000000#32)⟩ : (Σ' (v913 : BitVec 32) (v929 : FVec F S256x1 .f32) (v932 : FVec F S256x2048 .f32), F .f32))) -∗ wp₀ (k0_part27 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 2))) ((ex2 (I.RT c) (I.xk c 2))) ((sc1 (I.RT c) (I.xk c 2))) ((sc2 (I.RT c) (I.xk c 2))) v866 ((I.ctr c 1 2 2#32)) v893) Q) := by
  rw [k0_part27_eq_skeleton]
  simp only [k0_part27_skel, Prog.lift, Prog.bind_op, Prog.bind_ret, Prog.bind_pure, semSignalWord, semWaitWord]
  iintro ⟨#HE, Hac1, Hxf2, Hv10⟩ Hk
  iapply (ld c (I.acc2 c 1) (off_4_1 c)) $$ Hac1
  iintro Hac1
  iapply (ld c (I.acc2 c 1) (off_4_1 c)) $$ Hac1
  iintro Hac1
  iapply (stO c (I.acc3 c 1) (off_4_1 c) (pv_68 I c)) $$ Hac1
  iintro Hac1
  iapply (ld c (I.xk c 2) (off_4_2 c)) $$ Hxf2
  iintro Hxf2
  iapply (ldS c (m := mV1) (off := ![0, 0, 0]) (size := S1x1024x2048.size) (inb := inb_S2x1024x2048_S1x1024x2048_0_0_0) (hs := squeezes_S1x1024x2048_S1024x2048) (hR := fun _ => rfl) (I.W1 c 2) shapeCasts_S1x1024x2048_S1024x2048.symm) $$ Hv10
  iintro Hv10
  iapply (fin c (r' := (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), (weight (exNo (yWord c) 2#32) (ex1 (I.RT c) (I.xk c 2)) (ex2 (I.RT c) (I.xk c 2)) (sc1 (I.RT c) (I.xk c 2)) (sc2 (I.RT c) (I.xk c 2))), (matmul dot_S256x1024_S1024x2048_S256x2048_1_0_0_1_n_n none (I.xk c 2) (I.W1 c 2) (constant S256x2048 .f32 0x00000000#32)), (Scalar.ofBits .f32 0x00000000#32)⟩ : (Σ' (v913 : BitVec 32) (v929 : FVec F S256x1 .f32) (v932 : FVec F S256x2048 .f32), F .f32))) (show (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), (k0_pay69 (yWord c) (ex1 (I.RT c) (I.xk c 2)) (ex2 (I.RT c) (I.xk c 2)) (sc1 (I.RT c) (I.xk c 2)) (sc2 (I.RT c) (I.xk c 2))), (k0_pay70 (I.xk c 2) (shapeCast S1x1024x2048 (I.W1 c 2) shapeCasts_S1x1024x2048_S1024x2048.symm)), (Scalar.ofBits .f32 0x00000000#32)⟩ : (Σ' (v913 : BitVec 32) (v929 : FVec F S256x1 .f32) (v932 : FVec F S256x2048 .f32), F .f32)) = (⟨(Scalar.select (Scalar.andi (Scalar.xori (Scalar.cmpi .slt (Scalar.remsi (Scalar.subi (Scalar.addi (yWord c) 4#32) 2#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 2#32) (Scalar.select (Scalar.cmpi .eq 4#32 0#32) 1#32 4#32)) 0#32)) (Scalar.addi (Scalar.remsi (Scalar.subi (Scalar.addi (yWord c) 4#32) 2#32) (Scalar.select (Scalar.cmpi .eq 4#32 0#32) 1#32 4#32)) (Scalar.select (Scalar.cmpi .eq 4#32 0#32) 1#32 4#32)) (Scalar.remsi (Scalar.subi (Scalar.addi (yWord c) 4#32) 2#32) (Scalar.select (Scalar.cmpi .eq 4#32 0#32) 1#32 4#32))), (weight (exNo (yWord c) 2#32) (ex1 (I.RT c) (I.xk c 2)) (ex2 (I.RT c) (I.xk c 2)) (sc1 (I.RT c) (I.xk c 2)) (sc2 (I.RT c) (I.xk c 2))), (matmul dot_S256x1024_S1024x2048_S256x2048_1_0_0_1_n_n none (I.xk c 2) (I.W1 c 2) (constant S256x2048 .f32 0x00000000#32)), (Scalar.ofBits .f32 0x00000000#32)⟩ : (Σ' (v913 : BitVec 32) (v929 : FVec F S256x1 .f32) (v932 : FVec F S256x2048 .f32), F .f32)) by rw [pv_69 I c]; try rw [pv_70 I c]))
  iapply Hk $$ [Hac1] [Hxf2] [Hv10]
  · iexact Hac1
  · iexact Hxf2
  · iexact Hv10

theorem part_28 {v913 : BitVec 32} {Q : (Σ' (v960 : BitVec 32) (v963 : Vec F S256x1024 .f32) (v970 : FVec F S256x1 .f32), IVec S256x1 32) → sProp 𝕄} :
    iprop(Env I K c ∗ own (c : Thread nD τ) v2S0.view fullShare (I.W2 c 2) ∗ own (c : Thread nD τ) (mAcc.access (rowR (org c 2) (org_lt c 2))) fullShare (I.acc2 c 2) ∗ own (c : Thread nD τ) (mXF.access (rowR (org c 3) (org_lt c 3))) fullShare (I.xk c 3))
      ⊢ iprop((own (c : Thread nD τ) (mAcc.access (rowR (org c 2) (org_lt c 2))) fullShare (I.acc3 c 2) -∗ own (c : Thread nD τ) (mXF.access (rowR (org c 3) (org_lt c 3))) fullShare (I.xk c 3) -∗ own (c : Thread nD τ) v2S0.view fullShare (I.W2 c 2) -∗ Q (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (I.xk c 3), (mulf (sc1 (I.RT c) (I.xk c 3)) (sitofp .f32 (extui 32 (cmpi .eq (ex1 (I.RT c) (I.xk c 3)) (broadcast S256x1 (exNo (yWord c) 2#32))) natLt_1_32))), (broadcast S256x1 (exNo (yWord c) 2#32))⟩ : (Σ' (v960 : BitVec 32) (v963 : Vec F S256x1024 .f32) (v970 : FVec F S256x1 .f32), IVec S256x1 32))) -∗ wp₀ (k0_part28 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 3))) ((sc1 (I.RT c) (I.xk c 3))) v913 ((weight (exNo (yWord c) 2#32) (ex1 (I.RT c) (I.xk c 2)) (ex2 (I.RT c) (I.xk c 2)) (sc1 (I.RT c) (I.xk c 2)) (sc2 (I.RT c) (I.xk c 2)))) ((matmul dot_S256x1024_S1024x2048_S256x2048_1_0_0_1_n_n none (I.xk c 2) (I.W1 c 2) (constant S256x2048 .f32 0x00000000#32))) ((Scalar.ofBits .f32 0x00000000#32))) Q) := by
  rw [k0_part28_eq_skeleton]
  simp only [k0_part28_skel, Prog.lift, Prog.bind_op, Prog.bind_ret, Prog.bind_pure, semSignalWord, semWaitWord]
  iintro ⟨#HE, Hv20, Hac2, Hxf3⟩ Hk
  iapply (ldS c (m := mV2) (off := ![0, 0, 0]) (size := S1x2048x1024.size) (inb := inb_S2x2048x1024_S1x2048x1024_0_0_0) (hs := squeezes_S1x2048x1024_S2048x1024) (hR := fun _ => rfl) (I.W2 c 2) shapeCasts_S1x2048x1024_S2048x1024.symm) $$ Hv20
  iintro Hv20
  iapply (ld c (I.acc2 c 2) (off_4_2 c)) $$ Hac2
  iintro Hac2
  iapply (ld c (I.acc2 c 2) (off_4_2 c)) $$ Hac2
  iintro Hac2
  iapply (stO c (I.acc3 c 2) (off_4_2 c) (pv_71 I c)) $$ Hac2
  iintro Hac2
  iapply (ld c (I.xk c 3) (off_4_3 c)) $$ Hxf3
  iintro Hxf3
  iapply (fin c (r' := (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (I.xk c 3), (mulf (sc1 (I.RT c) (I.xk c 3)) (sitofp .f32 (extui 32 (cmpi .eq (ex1 (I.RT c) (I.xk c 3)) (broadcast S256x1 (exNo (yWord c) 2#32))) natLt_1_32))), (broadcast S256x1 (exNo (yWord c) 2#32))⟩ : (Σ' (v960 : BitVec 32) (v963 : Vec F S256x1024 .f32) (v970 : FVec F S256x1 .f32), IVec S256x1 32))) (show (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (I.xk c 3), (k0_pay72 (yWord c) (ex1 (I.RT c) (I.xk c 3)) (sc1 (I.RT c) (I.xk c 3))), (k0_pay73 (yWord c))⟩ : (Σ' (v960 : BitVec 32) (v963 : Vec F S256x1024 .f32) (v970 : FVec F S256x1 .f32), IVec S256x1 32)) = (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (I.xk c 3), (mulf (sc1 (I.RT c) (I.xk c 3)) (sitofp .f32 (extui 32 (cmpi .eq (ex1 (I.RT c) (I.xk c 3)) (broadcast S256x1 (exNo (yWord c) 2#32))) natLt_1_32))), (broadcast S256x1 (exNo (yWord c) 2#32))⟩ : (Σ' (v960 : BitVec 32) (v963 : Vec F S256x1024 .f32) (v970 : FVec F S256x1 .f32), IVec S256x1 32)) by rw [pv_72 I c]; try rw [pv_73 I c]))
  iapply Hk $$ [Hac2] [Hxf3] [Hv20]
  · iexact Hac2
  · iexact Hxf3
  · iexact Hv20

theorem part_29 {v960 : BitVec 32} {Q : (Σ' (v1007 : BitVec 32), BitVec 32) → sProp 𝕄} :
    iprop(Env I K c ∗ own (c : Thread nD τ) v1S0.view fullShare (I.W1 c 2) ∗ own (c : Thread nD τ) v2S0.view fullShare (I.W2 c 2) ∗ own (c : Thread nD τ) (mAcc.access (rowR (org c 3) (org_lt c 3))) fullShare (I.acc2 c 3))
      ⊢ iprop((own (c : Thread nD τ) (mAcc.access (rowR (org c 3) (org_lt c 3))) fullShare (I.acc3 c 3) -∗ own (c : Thread nD τ) v1S0.view fullShare (I.W1 c 2) -∗ own (c : Thread nD τ) v2S0.view fullShare (I.W2 c 2) -∗ Q (⟨(Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))), (Scalar.muli (Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))) 256#32)⟩ : (Σ' (v1007 : BitVec 32), BitVec 32))) -∗ wp₀ (k0_part29 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex2 (I.RT c) (I.xk c 3))) ((sc2 (I.RT c) (I.xk c 3))) v960 ((I.xk c 3)) ((mulf (sc1 (I.RT c) (I.xk c 3)) (sitofp .f32 (extui 32 (cmpi .eq (ex1 (I.RT c) (I.xk c 3)) (broadcast S256x1 (exNo (yWord c) 2#32))) natLt_1_32)))) ((broadcast S256x1 (exNo (yWord c) 2#32)))) Q) := by
  rw [k0_part29_eq_skeleton]
  simp only [k0_part29_skel, Prog.lift, Prog.bind_op, Prog.bind_ret, Prog.bind_pure, semSignalWord, semWaitWord]
  iintro ⟨#HE, Hv10, Hv20, Hac3⟩ Hk
  iapply (ldS c (m := mV1) (off := ![0, 0, 0]) (size := S1x1024x2048.size) (inb := inb_S2x1024x2048_S1x1024x2048_0_0_0) (hs := squeezes_S1x1024x2048_S1024x2048) (hR := fun _ => rfl) (I.W1 c 2) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 2) shapeCasts_S1x2048x1024_S2048x1024.symm) $$ Hv20
  iintro Hv20
  iapply (ld c (I.acc2 c 3) (off_4_3 c)) $$ Hac3
  iintro Hac3
  iapply (ld c (I.acc2 c 3) (off_4_3 c)) $$ Hac3
  iintro Hac3
  iapply (stO c (I.acc3 c 3) (off_4_3 c) (pv_74 I c)) $$ Hac3
  iintro Hac3
  iapply (fin c (r' := (⟨(Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))), (Scalar.muli (Scalar.select (Scalar.andi (Scalar.xori (Scalar.cmpi .slt (Scalar.remsi (Scalar.subi (Scalar.addi (yWord c) 4#32) 0#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 0#32) (Scalar.select (Scalar.cmpi .eq 4#32 0#32) 1#32 4#32)) 0#32)) (Scalar.addi (Scalar.remsi (Scalar.subi (Scalar.addi (yWord c) 4#32) 0#32) (Scalar.select (Scalar.cmpi .eq 4#32 0#32) 1#32 4#32)) (Scalar.select (Scalar.cmpi .eq 4#32 0#32) 1#32 4#32)) (Scalar.remsi (Scalar.subi (Scalar.addi (yWord c) 4#32) 0#32) (Scalar.select (Scalar.cmpi .eq 4#32 0#32) 1#32 4#32))) 256#32)⟩ : (Σ' (v1007 : BitVec 32), BitVec 32))) (rfl))
  iapply Hk $$ [Hac3] [Hv10] [Hv20]
  · iexact Hac3
  · iexact Hv10
  · iexact Hv20

theorem part_30 {v1007 : BitVec 32} {v1008 : BitVec 32} {Q : (PUnit) → sProp 𝕄} :
    iprop(Env I K c ∗ own (c : Thread nD τ) (mXF.access (rowR (org c 0) (org_lt c 0))) fullShare (I.x c) ∗ own (c : Thread nD τ) v1S0.view fullShare (I.W1 c 2) ∗ own (c : Thread nD τ) v2S0.view fullShare (I.W2 c 2) ∗ own (c : Thread nD τ) (mAcc.access (rowR (org c 0) (org_lt c 0))) fullShare (I.acc2 c 0))
      ⊢ iprop((own (c : Thread nD τ) (mXF.access (rowR (org c 0) (org_lt c 0))) fullShare (I.x c) -∗ own (c : Thread nD τ) (mAcc.access (rowR (org c 0) (org_lt c 0))) fullShare (I.acc3 c 0) -∗ own (c : Thread nD τ) v1S0.view fullShare (I.W1 c 2) -∗ own (c : Thread nD τ) v2S0.view fullShare (I.W2 c 2) -∗ Q ⟨⟩) -∗ wp₀ (k0_part30 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 0))) ((ex2 (I.RT c) (I.xk c 0))) ((sc1 (I.RT c) (I.xk c 0))) ((sc2 (I.RT c) (I.xk c 0))) v1007 v1008) Q) := by
  rw [k0_part30_eq_skeleton]
  simp only [k0_part30_skel, Prog.lift, Prog.bind_op, Prog.bind_ret, Prog.bind_pure, semSignalWord, semWaitWord]
  iintro ⟨#HE, Hxf0, Hv10, Hv20, Hac0⟩ Hk
  iapply (ld c (I.x c) (off_4_0 c)) $$ Hxf0
  iintro Hxf0
  iapply (ldS c (m := mV1) (off := ![0, 0, 0]) (size := S1x1024x2048.size) (inb := inb_S2x1024x2048_S1x1024x2048_0_0_0) (hs := squeezes_S1x1024x2048_S1024x2048) (hR := fun _ => rfl) (I.W1 c 2) shapeCasts_S1x1024x2048_S1024x2048.symm) $$ Hv10
  iintro Hv10
  iapply (ldS c (m := mV2) (off := ![0, 0, 0]) (size := S1x2048x1024.size) (inb := inb_S2x2048x1024_S1x2048x1024_0_0_0) (hs := squeezes_S1x2048x1024_S2048x1024) (hR := fun _ => rfl) (I.W2 c 2) shapeCasts_S1x2048x1024_S2048x1024.symm) $$ Hv20
  iintro Hv20
  iapply (ld c (I.acc2 c 0) (off_4_0 c)) $$ Hac0
  iintro Hac0
  iapply (ld c (I.acc2 c 0) (off_4_0 c)) $$ Hac0
  iintro Hac0
  iapply (stO c (I.acc3 c 0) (off_4_0 c) (pv_75 I c)) $$ Hac0
  iintro Hac0
  iapply (fin c (r' := ⟨⟩) (rfl))
  iapply Hk $$ [Hxf0] [Hac0] [Hv10] [Hv20]
  · iexact Hxf0
  · iexact Hac0
  · iexact Hv10
  · iexact Hv20

end Step

end Cert.Moe

end
-- ==== Proof.PartsD.lean ====
/-
  Parts of the kernel, each as a step over what is held: the fourth expert and the first sums sent.
-/
module

public import proofs.«01_k».proof.Proof.Step

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Step
variable (I : Inp F) (K : GSem nD τ sig → ℕ) (c : Dev nD)
local notation "wp₀" => wp frame (wpE (defs₀ (F := F)) 𝒱₀ (c : Thread nD τ) none) Set.univ

theorem part_31  {Q : (Σ' (v1066 : BitVec 32) (v1083 : FVec F S128x1 .f32), BitVec 32) → sProp 𝕄} :
    iprop(Env I K c ∗ Fly c 28 1 ∗ Ow c [21, 22, 23, 24, 25, 26] ∗ Fly c 30 1)
      ⊢ iprop((Ow c [21, 22, 23, 24, 25, 26] -∗ Don c 28 2 -∗ own (c : Thread nD τ) v1S1.view fullShare (I.W1 c 3) -∗ own (c : Thread nD τ) w1E3.view fullShare (I.W1 c 3) -∗ Don c 30 2 -∗ own (c : Thread nD τ) v2S1.view fullShare (I.W2 c 3) -∗ own (c : Thread nD τ) w2E3.view fullShare (I.W2 c 3) -∗ Q (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (weight0 (exNo (yWord c) 3#32) (ex1 (I.RT c) (I.xk c 1)) (ex2 (I.RT c) (I.xk c 1)) (sc1 (I.RT c) (I.xk c 1)) (sc2 (I.RT c) (I.xk c 1))), (Scalar.muli (Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))) 256#32)⟩ : (Σ' (v1066 : BitVec 32) (v1083 : FVec F S128x1 .f32), BitVec 32))) -∗ wp₀ (k0_part31 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 ((yWord c)) ((ex1 (I.RT c) (I.xk c 1))) ((ex2 (I.RT c) (I.xk c 1))) ((sc1 (I.RT c) (I.xk c 1))) ((sc2 (I.RT c) (I.xk c 1)))) Q) := by
  rw [k0_part31_eq_skeleton]
  simp only [k0_part31_skel, Prog.lift, Prog.bind_op, Prog.bind_ret, Prog.bind_pure, semSignalWord, semWaitWord]
  iintro ⟨#HE, HFly28x1, HOW, HFly30x1⟩ Hk
  iapply (wt28_1 I K c) $$ [HFly28x1 HOW]
  · isplitr; · iexact HE
    isplitl [HFly28x1]; · iexact HFly28x1
    iexact HOW
  iintro HOW HDon28x2 ⟨Hv11, Hw13⟩
  iapply (wt30_1 I K c) $$ [HFly30x1 HOW]
  · isplitr; · iexact HE
    isplitl [HFly30x1]; · iexact HFly30x1
    iexact HOW
  iintro HOW HDon30x2 ⟨Hv21, Hw23⟩
  iapply (fin c (r' := (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (weight0 (exNo (yWord c) 3#32) (ex1 (I.RT c) (I.xk c 1)) (ex2 (I.RT c) (I.xk c 1)) (sc1 (I.RT c) (I.xk c 1)) (sc2 (I.RT c) (I.xk c 1))), (Scalar.muli (Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))) 256#32)⟩ : (Σ' (v1066 : BitVec 32) (v1083 : FVec F S128x1 .f32), BitVec 32))) (show (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (k0_pay76 (yWord c) (ex1 (I.RT c) (I.xk c 1)) (ex2 (I.RT c) (I.xk c 1)) (sc1 (I.RT c) (I.xk c 1)) (sc2 (I.RT c) (I.xk c 1))), (Scalar.muli (Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))) 256#32)⟩ : (Σ' (v1066 : BitVec 32) (v1083 : FVec F S128x1 .f32), BitVec 32)) = (⟨(Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))), (weight0 (exNo (yWord c) 3#32) (ex1 (I.RT c) (I.xk c 1)) (ex2 (I.RT c) (I.xk c 1)) (sc1 (I.RT c) (I.xk c 1)) (sc2 (I.RT c) (I.xk c 1))), (Scalar.muli (Scalar.select (Scalar.andi (Scalar.xori (Scalar.cmpi .slt (Scalar.remsi (Scalar.subi (Scalar.addi (yWord c) 4#32) 1#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 1#32) (Scalar.select (Scalar.cmpi .eq 4#32 0#32) 1#32 4#32)) 0#32)) (Scalar.addi (Scalar.remsi (Scalar.subi (Scalar.addi (yWord c) 4#32) 1#32) (Scalar.select (Scalar.cmpi .eq 4#32 0#32) 1#32 4#32)) (Scalar.select (Scalar.cmpi .eq 4#32 0#32) 1#32 4#32)) (Scalar.remsi (Scalar.subi (Scalar.addi (yWord c) 4#32) 1#32) (Scalar.select (Scalar.cmpi .eq 4#32 0#32) 1#32 4#32))) 256#32)⟩ : (Σ' (v1066 : BitVec 32) (v1083 : FVec F S128x1 .f32), BitVec 32)) by rw [pv_76 I c]))
  iapply Hk $$ [HOW] [HDon28x2] [Hv11] [Hw13] [HDon30x2] [Hv21] [Hw23]
  · iexact HOW
  · iexact HDon28x2
  · iexact Hv11
  · iexact Hw13
  · iexact HDon30x2
  · iexact Hv21
  · iexact Hw23

theorem part_32 {v2 : BitVec 32} {v8 : BitVec 32} {v19 : BitVec 32} {v1066 : BitVec 32} {v1084 : BitVec 32} {Q : (Σ' (v1114 : BitVec 32), BitVec 32) → sProp 𝕄} :
    iprop(Env I K c ∗ own (c : Thread nD τ) (mXF.access (rowR (org c 1) (org_lt c 1))) fullShare (I.xk c 1) ∗ own (c : Thread nD τ) v1S1.view fullShare (I.W1 c 3) ∗ own (c : Thread nD τ) v2S1.view fullShare (I.W2 c 3) ∗ own (c : Thread nD τ) (mAcc.access (rowR (org c 1) (org_lt c 1))) fullShare (I.acc3 c 1))
      ⊢ iprop((own (c : Thread nD τ) v1S1.view fullShare (I.W1 c 3) -∗ own (c : Thread nD τ) v2S1.view fullShare (I.W2 c 3) -∗ own (c : Thread nD τ) (mXF.access (halfR (org c 1) 0 (org_lt c 1) (by decide))) fullShare (top (I.xk c 1)) -∗ own (c : Thread nD τ) (mXF.access (halfR (org c 1) 128 (org_lt c 1) (by decide))) fullShare (bot (I.xk c 1)) -∗ own (c : Thread nD τ) (mAcc.access (halfR (org c 1) 0 (org_lt c 1) (by decide))) fullShare (I.snT c 0) -∗ own (c : Thread nD τ) (mAcc.access (halfR (org c 1) 128 (org_lt c 1) (by decide))) fullShare (bot (I.acc3 c 1)) -∗ Q (⟨(Scalar.addi (Scalar.addi 0#32 (Scalar.muli v2 16#32)) (Scalar.muli v19 4#32)), (Scalar.muli v8 1#32)⟩ : (Σ' (v1114 : BitVec 32), BitVec 32))) -∗ wp₀ (k0_part32 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v1066 ((weight0 (exNo (yWord c) 3#32) (ex1 (I.RT c) (I.xk c 1)) (ex2 (I.RT c) (I.xk c 1)) (sc1 (I.RT c) (I.xk c 1)) (sc2 (I.RT c) (I.xk c 1)))) v1084) Q) := by
  rw [k0_part32_eq_skeleton]
  simp only [k0_part32_skel, Prog.lift, Prog.bind_op, Prog.bind_ret, Prog.bind_pure, semSignalWord, semWaitWord]
  iintro ⟨#HE, Hxf1, Hv11, Hv21, Hac1⟩ Hk
  ihave Hs := (row_split c mXF (org c 1) (org_lt c 1) fullShare (I.xk c 1)) $$ Hxf1
  icases Hs with ⟨Hxf1T, Hxf1B⟩
  iapply (ld c (top (I.xk c 1)) (off_5_1_0 c)) $$ Hxf1T
  iintro Hxf1T
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  ihave Hs := (row_split c mAcc (org c 1) (org_lt c 1) fullShare (I.acc3 c 1)) $$ Hac1
  icases Hs with ⟨Hac1T, Hac1B⟩
  iapply (ld c (top (I.acc3 c 1)) (off_5_1_0 c)) $$ Hac1T
  iintro Hac1T
  iapply (ld c (top (I.acc3 c 1)) (off_5_1_0 c)) $$ Hac1T
  iintro Hac1T
  iapply (stO c (I.snT c 0) (off_5_1_0 c) (pv_77 I c)) $$ Hac1T
  iintro Hac1T
  iapply (fin c (r' := (⟨(Scalar.addi (Scalar.addi 0#32 (Scalar.muli v2 16#32)) (Scalar.muli v19 4#32)), (Scalar.muli v8 1#32)⟩ : (Σ' (v1114 : BitVec 32), BitVec 32))) (rfl))
  iapply Hk $$ [Hv11] [Hv21] [Hxf1T] [Hxf1B] [Hac1T] [Hac1B]
  · iexact Hv11
  · iexact Hv21
  · iexact Hxf1T
  · iexact Hxf1B
  · iexact Hac1T
  · iexact Hac1B

theorem part_33 {v1066 : BitVec 32} {v1114 : BitVec 32} {v1115 : BitVec 32} {Q : (Σ' (v1154 : FVec F S128x1024 .f32) (v1155 : BitVec 32), BitVec 32) → sProp 𝕄} :
    iprop(Env I K c ∗ opn (right c) ∗ Snd c 15 21 ∗ own (c : Thread nD τ) (mAcc.access (halfR (org c 1) 0 (org_lt c 1) (by decide))) fullShare (I.snT c 0) ∗ any (right c : Thread nD τ) rsS00.view ∗ Ow c [21, 22, 23, 24, 25, 26] ∗ own (c : Thread nD τ) (mXF.access (halfR (org c 1) 128 (org_lt c 1) (by decide))) fullShare (bot (I.xk c 1)) ∗ own (c : Thread nD τ) v1S1.view fullShare (I.W1 c 3) ∗ own (c : Thread nD τ) v2S1.view fullShare (I.W2 c 3))
      ⊢ iprop((Ow c [22, 23, 24, 25, 26] -∗ own (c : Thread nD τ) v1S1.view fullShare (I.W1 c 3) -∗ own (c : Thread nD τ) v2S1.view fullShare (I.W2 c 3) -∗ own (c : Thread nD τ) (mXF.access (halfR (org c 1) 128 (org_lt c 1) (by decide))) fullShare (bot (I.xk c 1)) -∗ Fly c 15 0 -∗ Q (⟨(partH (bot (I.xk c 1)) (I.W1 c 3) (I.W2 c 3) (weight1 (exNo (yWord c) 3#32) (ex1 (I.RT c) (I.xk c 1)) (ex2 (I.RT c) (I.xk c 1)) (sc1 (I.RT c) (I.xk c 1)) (sc2 (I.RT c) (I.xk c 1)))), (Scalar.muli v1066 256#32), 128#32⟩ : (Σ' (v1154 : FVec F S128x1024 .f32) (v1155 : BitVec 32), BitVec 32))) -∗ wp₀ (k0_part33 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 1))) ((ex2 (I.RT c) (I.xk c 1))) ((sc1 (I.RT c) (I.xk c 1))) ((sc2 (I.RT c) (I.xk c 1))) v1066 v1114 v1115) Q) := by
  rw [k0_part33_eq_skeleton]
  simp only [k0_part33_skel, Prog.lift, Prog.bind_op, Prog.bind_ret, Prog.bind_pure, semSignalWord, semWaitWord]
  iintro ⟨#HE, #Hopn, HSnd15x21, Hac1T, Hrxrs00, HOW, Hxf1B, Hv11, Hv21⟩ Hk
  iapply (snd15 I K c) $$ [HSnd15x21 Hac1T Hrxrs00 HOW]
  · isplitr; · iexact HE
    isplitr; · iexact Hopn
    isplitl [HSnd15x21]; · iexact HSnd15x21
    isplitl [Hac1T]; · iexact Hac1T
    isplitl [Hrxrs00]; · iexact Hrxrs00
    iexact HOW
  iintro HFly15x0 HOW
  iapply (ld c (bot (I.xk c 1)) (off_5_1_1 c)) $$ Hxf1B
  iintro Hxf1B
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  iapply (fin c (r' := (⟨(partH (bot (I.xk c 1)) (I.W1 c 3) (I.W2 c 3) (weight1 (exNo (yWord c) 3#32) (ex1 (I.RT c) (I.xk c 1)) (ex2 (I.RT c) (I.xk c 1)) (sc1 (I.RT c) (I.xk c 1)) (sc2 (I.RT c) (I.xk c 1)))), (Scalar.muli v1066 256#32), 128#32⟩ : (Σ' (v1154 : FVec F S128x1024 .f32) (v1155 : BitVec 32), BitVec 32))) (show (⟨(k0_pay78 (yWord c) (ex1 (I.RT c) (I.xk c 1)) (ex2 (I.RT c) (I.xk c 1)) (sc1 (I.RT c) (I.xk c 1)) (sc2 (I.RT c) (I.xk c 1)) (bot (I.xk c 1)) (shapeCast S1x1024x2048 (I.W1 c 3) shapeCasts_S1x1024x2048_S1024x2048.symm) (shapeCast S1x2048x1024 (I.W2 c 3) shapeCasts_S1x2048x1024_S2048x1024.symm)), (Scalar.muli v1066 256#32), 128#32⟩ : (Σ' (v1154 : FVec F S128x1024 .f32) (v1155 : BitVec 32), BitVec 32)) = (⟨(partH (bot (I.xk c 1)) (I.W1 c 3) (I.W2 c 3) (weight1 (exNo (yWord c) 3#32) (ex1 (I.RT c) (I.xk c 1)) (ex2 (I.RT c) (I.xk c 1)) (sc1 (I.RT c) (I.xk c 1)) (sc2 (I.RT c) (I.xk c 1)))), (Scalar.muli v1066 256#32), 128#32⟩ : (Σ' (v1154 : FVec F S128x1024 .f32) (v1155 : BitVec 32), BitVec 32)) by rw [pv_78 I c]))
  iapply Hk $$ [HOW] [Hv11] [Hv21] [Hxf1B] [HFly15x0]
  · iexact HOW
  · iexact Hv11
  · iexact Hv21
  · iexact Hxf1B
  · iexact HFly15x0

theorem part_34 {v2 : BitVec 32} {v8 : BitVec 32} {v19 : BitVec 32} {v1066 : BitVec 32} {v1155 : BitVec 32} {c128_i32_750 : BitVec 32} {Q : (Σ' (v1184 : BitVec 32) (v1185 : BitVec 32) (v1186 : BitVec 1) (v1187 : BitVec 1), BitVec 32) → sProp 𝕄} :
    iprop(Env I K c ∗ opn (right c) ∗ own (c : Thread nD τ) (mAcc.access (halfR (org c 1) 128 (org_lt c 1) (by decide))) fullShare (bot (I.acc3 c 1)) ∗ Snd c 16 22 ∗ any (right c : Thread nD τ) rsS01.view ∗ Ow c [22, 23, 24, 25, 26])
      ⊢ iprop((Ow c [23, 24, 25, 26] -∗ Fly c 16 0 -∗ Q (⟨(Scalar.select (Scalar.cmpi .eq 4#32 0#32) 1#32 4#32), (Scalar.remsi (Scalar.subi (Scalar.addi (yWord c) 4#32) 2#32) (Scalar.select (Scalar.cmpi .eq 4#32 0#32) 1#32 4#32)), (Scalar.cmpi .ne (Scalar.remsi (Scalar.subi (Scalar.addi (yWord c) 4#32) 2#32) (Scalar.select (Scalar.cmpi .eq 4#32 0#32) 1#32 4#32)) 0#32), (Scalar.cmpi .slt (Scalar.remsi (Scalar.subi (Scalar.addi (yWord c) 4#32) 2#32) (Scalar.select (Scalar.cmpi .eq 4#32 0#32) 1#32 4#32)) 0#32), 0#32⟩ : (Σ' (v1184 : BitVec 32) (v1185 : BitVec 32) (v1186 : BitVec 1) (v1187 : BitVec 1), BitVec 32))) -∗ wp₀ (k0_part34 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19 v1066 ((partH (bot (I.xk c 1)) (I.W1 c 3) (I.W2 c 3) (weight1 (exNo (yWord c) 3#32) (ex1 (I.RT c) (I.xk c 1)) (ex2 (I.RT c) (I.xk c 1)) (sc1 (I.RT c) (I.xk c 1)) (sc2 (I.RT c) (I.xk c 1))))) v1155 c128_i32_750) Q) := by
  rw [k0_part34_eq_skeleton]
  simp only [k0_part34_skel, Prog.lift, Prog.bind_op, Prog.bind_ret, Prog.bind_pure, semSignalWord, semWaitWord]
  iintro ⟨#HE, #Hopn, Hac1B, HSnd16x22, Hrxrs01, HOW⟩ Hk
  iapply (ld c (bot (I.acc3 c 1)) (off_5_1_1 c)) $$ Hac1B
  iintro Hac1B
  iapply (ld c (bot (I.acc3 c 1)) (off_5_1_1 c)) $$ Hac1B
  iintro Hac1B
  iapply (stO c (I.snB c 0) (off_5_1_1 c) (pv_79 I c)) $$ Hac1B
  iintro Hac1B
  iapply (snd16 I K c) $$ [HSnd16x22 Hac1B Hrxrs01 HOW]
  · isplitr; · iexact HE
    isplitr; · iexact Hopn
    isplitl [HSnd16x22]; · iexact HSnd16x22
    isplitl [Hac1B]; · iexact Hac1B
    isplitl [Hrxrs01]; · iexact Hrxrs01
    iexact HOW
  iintro HFly16x0 HOW
  iapply (fin c (r' := (⟨(Scalar.select (Scalar.cmpi .eq 4#32 0#32) 1#32 4#32), (Scalar.remsi (Scalar.subi (Scalar.addi (yWord c) 4#32) 2#32) (Scalar.select (Scalar.cmpi .eq 4#32 0#32) 1#32 4#32)), (Scalar.cmpi .ne (Scalar.remsi (Scalar.subi (Scalar.addi (yWord c) 4#32) 2#32) (Scalar.select (Scalar.cmpi .eq 4#32 0#32) 1#32 4#32)) 0#32), (Scalar.cmpi .slt (Scalar.remsi (Scalar.subi (Scalar.addi (yWord c) 4#32) 2#32) (Scalar.select (Scalar.cmpi .eq 4#32 0#32) 1#32 4#32)) 0#32), 0#32⟩ : (Σ' (v1184 : BitVec 32) (v1185 : BitVec 32) (v1186 : BitVec 1) (v1187 : BitVec 1), BitVec 32))) (rfl))
  iapply Hk $$ [HOW] [HFly16x0]
  · iexact HOW
  · iexact HFly16x0

theorem part_35 {v1184 : BitVec 32} {v1185 : BitVec 32} {v1186 : BitVec 1} {v1187 : BitVec 1} {c0_i32_776 : BitVec 32} {Q : (Σ' (v1192 : BitVec 32) (v1228 : FVec F S128x1024 .f32), BitVec 32) → sProp 𝕄} :
    iprop(Env I K c ∗ own (c : Thread nD τ) (mXF.access (rowR (org c 2) (org_lt c 2))) fullShare (I.xk c 2) ∗ own (c : Thread nD τ) v1S1.view fullShare (I.W1 c 3) ∗ own (c : Thread nD τ) v2S1.view fullShare (I.W2 c 3) ∗ own (c : Thread nD τ) (mAcc.access (rowR (org c 2) (org_lt c 2))) fullShare (I.acc3 c 2))
      ⊢ iprop((own (c : Thread nD τ) v1S1.view fullShare (I.W1 c 3) -∗ own (c : Thread nD τ) v2S1.view fullShare (I.W2 c 3) -∗ own (c : Thread nD τ) (mXF.access (halfR (org c 2) 0 (org_lt c 2) (by decide))) fullShare (top (I.xk c 2)) -∗ own (c : Thread nD τ) (mXF.access (halfR (org c 2) 128 (org_lt c 2) (by decide))) fullShare (bot (I.xk c 2)) -∗ own (c : Thread nD τ) (mAcc.access (halfR (org c 2) 0 (org_lt c 2) (by decide))) fullShare (top (I.acc3 c 2)) -∗ own (c : Thread nD τ) (mAcc.access (halfR (org c 2) 128 (org_lt c 2) (by decide))) fullShare (bot (I.acc3 c 2)) -∗ Q (⟨(Scalar.select (Scalar.andi (Scalar.xori v1187 (Scalar.cmpi .slt v1184 c0_i32_776)) v1186) (Scalar.addi v1185 v1184) v1185), (I.accT c 2), (Scalar.muli (Scalar.select (Scalar.andi (Scalar.xori v1187 (Scalar.cmpi .slt v1184 c0_i32_776)) v1186) (Scalar.addi v1185 v1184) v1185) 256#32)⟩ : (Σ' (v1192 : BitVec 32) (v1228 : FVec F S128x1024 .f32), BitVec 32))) -∗ wp₀ (k0_part35 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 2))) ((ex2 (I.RT c) (I.xk c 2))) ((sc1 (I.RT c) (I.xk c 2))) ((sc2 (I.RT c) (I.xk c 2))) v1184 v1185 v1186 v1187 c0_i32_776) Q) := by
  rw [k0_part35_eq_skeleton]
  simp only [k0_part35_skel, Prog.lift, Prog.bind_op, Prog.bind_ret, Prog.bind_pure, semSignalWord, semWaitWord]
  iintro ⟨#HE, Hxf2, Hv11, Hv21, Hac2⟩ Hk
  ihave Hs := (row_split c mXF (org c 2) (org_lt c 2) fullShare (I.xk c 2)) $$ Hxf2
  icases Hs with ⟨Hxf2T, Hxf2B⟩
  iapply (ld c (top (I.xk c 2)) (off_5_2_0 c)) $$ Hxf2T
  iintro Hxf2T
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  ihave Hs := (row_split c mAcc (org c 2) (org_lt c 2) fullShare (I.acc3 c 2)) $$ Hac2
  icases Hs with ⟨Hac2T, Hac2B⟩
  iapply (ld c (top (I.acc3 c 2)) (off_5_2_0 c)) $$ Hac2T
  iintro Hac2T
  iapply (fin c (r' := (⟨(Scalar.select (Scalar.andi (Scalar.xori v1187 (Scalar.cmpi .slt v1184 c0_i32_776)) v1186) (Scalar.addi v1185 v1184) v1185), (I.accT c 2), (Scalar.muli (Scalar.select (Scalar.andi (Scalar.xori v1187 (Scalar.cmpi .slt v1184 c0_i32_776)) v1186) (Scalar.addi v1185 v1184) v1185) 256#32)⟩ : (Σ' (v1192 : BitVec 32) (v1228 : FVec F S128x1024 .f32), BitVec 32))) (show (⟨(Scalar.select (Scalar.andi (Scalar.xori v1187 (Scalar.cmpi .slt v1184 c0_i32_776)) v1186) (Scalar.addi v1185 v1184) v1185), (k0_pay80 (yWord c) (ex1 (I.RT c) (I.xk c 2)) (ex2 (I.RT c) (I.xk c 2)) (sc1 (I.RT c) (I.xk c 2)) (sc2 (I.RT c) (I.xk c 2)) (top (I.xk c 2)) (shapeCast S1x1024x2048 (I.W1 c 3) shapeCasts_S1x1024x2048_S1024x2048.symm) (shapeCast S1x2048x1024 (I.W2 c 3) shapeCasts_S1x2048x1024_S2048x1024.symm) (top (I.acc3 c 2))), (Scalar.muli (Scalar.select (Scalar.andi (Scalar.xori v1187 (Scalar.cmpi .slt v1184 c0_i32_776)) v1186) (Scalar.addi v1185 v1184) v1185) 256#32)⟩ : (Σ' (v1192 : BitVec 32) (v1228 : FVec F S128x1024 .f32), BitVec 32)) = (⟨(Scalar.select (Scalar.andi (Scalar.xori v1187 (Scalar.cmpi .slt v1184 c0_i32_776)) v1186) (Scalar.addi v1185 v1184) v1185), (I.accT c 2), (Scalar.muli (Scalar.select (Scalar.andi (Scalar.xori v1187 (Scalar.cmpi .slt v1184 c0_i32_776)) v1186) (Scalar.addi v1185 v1184) v1185) 256#32)⟩ : (Σ' (v1192 : BitVec 32) (v1228 : FVec F S128x1024 .f32), BitVec 32)) by rw [pv_80 I c]))
  iapply Hk $$ [Hv11] [Hv21] [Hxf2T] [Hxf2B] [Hac2T] [Hac2B]
  · iexact Hv11
  · iexact Hv21
  · iexact Hxf2T
  · iexact Hxf2B
  · iexact Hac2T
  · iexact Hac2B

theorem part_36 {v2 : BitVec 32} {v8 : BitVec 32} {v19 : BitVec 32} {v1192 : BitVec 32} {v1229 : BitVec 32} {Q : (BitVec 32) → sProp 𝕄} :
    iprop(Env I K c ∗ own (c : Thread nD τ) (mAcc.access (halfR (org c 2) 0 (org_lt c 2) (by decide))) fullShare (top (I.acc3 c 2)) ∗ Fly c 21 0 ∗ Ow c [23, 24, 25, 26])
      ⊢ iprop((Ow c [23, 24, 25, 26] -∗ own (c : Thread nD τ) (mAcc.access (halfR (org c 2) 0 (org_lt c 2) (by decide))) fullShare (I.accT c 2) -∗ Don c 21 1 -∗ own (c : Thread nD τ) rsS00.view fullShare (I.snT c 1) -∗ Q (Scalar.muli v2 16#32)) -∗ wp₀ (k0_part36 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v1192 ((I.accT c 2)) v1229) Q) := by
  rw [k0_part36_eq_skeleton]
  simp only [k0_part36_skel, Prog.lift, Prog.bind_op, Prog.bind_ret, Prog.bind_pure, semSignalWord, semWaitWord]
  iintro ⟨#HE, Hac2T, HFly21x0, HOW⟩ Hk
  iapply (ld c (top (I.acc3 c 2)) (off_5_2_0 c)) $$ Hac2T
  iintro Hac2T
  iapply (stO c (I.accT c 2) (off_5_2_0 c) (pv_81 I c)) $$ Hac2T
  iintro Hac2T
  iapply (wt21_0 I K c) $$ [HFly21x0 HOW]
  · isplitr; · iexact HE
    isplitl [HFly21x0]; · iexact HFly21x0
    iexact HOW
  iintro HOW HDon21x1 Hrs00
  iapply (ldS c (m := mRS) (off := ![0, 0, 0]) (size := S1x128x1024.size) (inb := inb_S3x256x1024_S1x128x1024_0_0_0) (hs := squeezes_S1x128x1024_S128x1024) (hR := fun _ => rfl) (I.rsT 0 c) shapeCasts_S1x128x1024_S128x1024.symm) $$ Hrs00
  iintro Hrs00
  iapply (ld c (I.accT c 2) (off_5_2_0 c)) $$ Hac2T
  iintro Hac2T
  iapply (ldS c (m := mRS) (off := ![0, 0, 0]) (size := S1x128x1024.size) (inb := inb_S3x256x1024_S1x128x1024_0_0_0) (hs := squeezes_S1x128x1024_S128x1024) (hR := fun _ => rfl) (I.rsT 0 c) shapeCasts_S1x128x1024_S128x1024.symm) $$ Hrs00
  iintro Hrs00
  iapply (stS c (m := mRS) (off := ![0, 0, 0]) (size := S1x128x1024.size) (inb := inb_S3x256x1024_S1x128x1024_0_0_0) (hs := squeezes_S1x128x1024_S128x1024) (hR := fun _ => rfl) (I.snT c 1) shapeCasts_S1x128x1024_S128x1024.symm (pv_82 I c)) $$ Hrs00
  iintro Hrs00
  iapply (fin c (r' := (Scalar.muli v2 16#32)) (rfl))
  iapply Hk $$ [HOW] [Hac2T] [HDon21x1] [Hrs00]
  · iexact HOW
  · iexact Hac2T
  · iexact HDon21x1
  · iexact Hrs00

theorem part_37 {v8 : BitVec 32} {v19 : BitVec 32} {v1192 : BitVec 32} {v1256 : BitVec 32} {Q : (Σ' (v1286 : FVec F S128x1 .f32), FVec F S128x2048 .f32) → sProp 𝕄} :
    iprop(Env I K c ∗ opn (right c) ∗ Snd c 17 23 ∗ own (c : Thread nD τ) rsS00.view fullShare (I.snT c 1) ∗ any (right c : Thread nD τ) rsS10.view ∗ Ow c [23, 24, 25, 26] ∗ own (c : Thread nD τ) (mXF.access (halfR (org c 2) 128 (org_lt c 2) (by decide))) fullShare (bot (I.xk c 2)) ∗ own (c : Thread nD τ) v1S1.view fullShare (I.W1 c 3))
      ⊢ iprop((Ow c [24, 25, 26] -∗ own (c : Thread nD τ) v1S1.view fullShare (I.W1 c 3) -∗ own (c : Thread nD τ) (mXF.access (halfR (org c 2) 128 (org_lt c 2) (by decide))) fullShare (bot (I.xk c 2)) -∗ Fly c 17 0 -∗ Q (⟨(weight1 (exNo (yWord c) 3#32) (ex1 (I.RT c) (I.xk c 2)) (ex2 (I.RT c) (I.xk c 2)) (sc1 (I.RT c) (I.xk c 2)) (sc2 (I.RT c) (I.xk c 2))), (maximumf (matmul dot_S128x1024_S1024x2048_S128x2048_1_0_0_1_n_n none (bot (I.xk c 2)) (I.W1 c 3) (constant S128x2048 .f32 0x00000000#32)) (broadcast S128x2048 (Scalar.ofBits .f32 0x00000000#32)))⟩ : (Σ' (v1286 : FVec F S128x1 .f32), FVec F S128x2048 .f32))) -∗ wp₀ (k0_part37 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) v8 v19 ((ex1 (I.RT c) (I.xk c 2))) ((ex2 (I.RT c) (I.xk c 2))) ((sc1 (I.RT c) (I.xk c 2))) ((sc2 (I.RT c) (I.xk c 2))) v1192 v1256) Q) := by
  rw [k0_part37_eq_skeleton]
  simp only [k0_part37_skel, Prog.lift, Prog.bind_op, Prog.bind_ret, Prog.bind_pure, semSignalWord, semWaitWord]
  iintro ⟨#HE, #Hopn, HSnd17x23, Hrs00, Hrxrs10, HOW, Hxf2B, Hv11⟩ Hk
  iapply (snd17 I K c) $$ [HSnd17x23 Hrs00 Hrxrs10 HOW]
  · isplitr; · iexact HE
    isplitr; · iexact Hopn
    isplitl [HSnd17x23]; · iexact HSnd17x23
    isplitl [Hrs00]; · iexact Hrs00
    isplitl [Hrxrs10]; · iexact Hrxrs10
    iexact HOW
  iintro HFly17x0 HOW
  iapply (ld c (bot (I.xk c 2)) (off_5_2_1 c)) $$ Hxf2B
  iintro Hxf2B
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (fin c (r' := (⟨(weight1 (exNo (yWord c) 3#32) (ex1 (I.RT c) (I.xk c 2)) (ex2 (I.RT c) (I.xk c 2)) (sc1 (I.RT c) (I.xk c 2)) (sc2 (I.RT c) (I.xk c 2))), (maximumf (matmul dot_S128x1024_S1024x2048_S128x2048_1_0_0_1_n_n none (bot (I.xk c 2)) (I.W1 c 3) (constant S128x2048 .f32 0x00000000#32)) (broadcast S128x2048 (Scalar.ofBits .f32 0x00000000#32)))⟩ : (Σ' (v1286 : FVec F S128x1 .f32), FVec F S128x2048 .f32))) (show (⟨(k0_pay83 (yWord c) (ex1 (I.RT c) (I.xk c 2)) (ex2 (I.RT c) (I.xk c 2)) (sc1 (I.RT c) (I.xk c 2)) (sc2 (I.RT c) (I.xk c 2))), (k0_pay84 (bot (I.xk c 2)) (shapeCast S1x1024x2048 (I.W1 c 3) shapeCasts_S1x1024x2048_S1024x2048.symm))⟩ : (Σ' (v1286 : FVec F S128x1 .f32), FVec F S128x2048 .f32)) = (⟨(weight1 (exNo (yWord c) 3#32) (ex1 (I.RT c) (I.xk c 2)) (ex2 (I.RT c) (I.xk c 2)) (sc1 (I.RT c) (I.xk c 2)) (sc2 (I.RT c) (I.xk c 2))), (maximumf (matmul dot_S128x1024_S1024x2048_S128x2048_1_0_0_1_n_n none (bot (I.xk c 2)) (I.W1 c 3) (constant S128x2048 .f32 0x00000000#32)) (broadcast S128x2048 (Scalar.ofBits .f32 0x00000000#32)))⟩ : (Σ' (v1286 : FVec F S128x1 .f32), FVec F S128x2048 .f32)) by rw [pv_83 I c]; try rw [pv_84 I c]))
  iapply Hk $$ [HOW] [Hv11] [Hxf2B] [HFly17x0]
  · iexact HOW
  · iexact Hv11
  · iexact Hxf2B
  · iexact HFly17x0

theorem part_38 {v2 : BitVec 32} {v8 : BitVec 32} {v19 : BitVec 32} {v1192 : BitVec 32} {Q : (Σ' (v1324 : FVec F S128x1024 .f32), Vec F S128x1024 .f32) → sProp 𝕄} :
    iprop(Env I K c ∗ own (c : Thread nD τ) v2S1.view fullShare (I.W2 c 3) ∗ own (c : Thread nD τ) (mAcc.access (halfR (org c 2) 128 (org_lt c 2) (by decide))) fullShare (bot (I.acc3 c 2)) ∗ Fly c 22 0 ∗ Ow c [24, 25, 26])
      ⊢ iprop((Ow c [24, 25, 26] -∗ own (c : Thread nD τ) v2S1.view fullShare (I.W2 c 3) -∗ own (c : Thread nD τ) (mAcc.access (halfR (org c 2) 128 (org_lt c 2) (by decide))) fullShare (I.accB c 2) -∗ Don c 22 1 -∗ own (c : Thread nD τ) rsS01.view fullShare (I.rsB 0 c) -∗ Q (⟨(I.rsB 0 c), (I.accB c 2)⟩ : (Σ' (v1324 : FVec F S128x1024 .f32), Vec F S128x1024 .f32))) -∗ wp₀ (k0_part38 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v1192 ((weight1 (exNo (yWord c) 3#32) (ex1 (I.RT c) (I.xk c 2)) (ex2 (I.RT c) (I.xk c 2)) (sc1 (I.RT c) (I.xk c 2)) (sc2 (I.RT c) (I.xk c 2)))) ((maximumf (matmul dot_S128x1024_S1024x2048_S128x2048_1_0_0_1_n_n none (bot (I.xk c 2)) (I.W1 c 3) (constant S128x2048 .f32 0x00000000#32)) (broadcast S128x2048 (Scalar.ofBits .f32 0x00000000#32))))) Q) := by
  rw [k0_part38_eq_skeleton]
  simp only [k0_part38_skel, Prog.lift, Prog.bind_op, Prog.bind_ret, Prog.bind_pure, semSignalWord, semWaitWord]
  iintro ⟨#HE, Hv21, Hac2B, HFly22x0, HOW⟩ Hk
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  iapply (ld c (bot (I.acc3 c 2)) (off_5_2_1 c)) $$ Hac2B
  iintro Hac2B
  iapply (ld c (bot (I.acc3 c 2)) (off_5_2_1 c)) $$ Hac2B
  iintro Hac2B
  iapply (stO c (I.accB c 2) (off_5_2_1 c) (pv_85 I c)) $$ Hac2B
  iintro Hac2B
  iapply (wt22_0 I K c) $$ [HFly22x0 HOW]
  · isplitr; · iexact HE
    isplitl [HFly22x0]; · iexact HFly22x0
    iexact HOW
  iintro HOW HDon22x1 Hrs01
  iapply (ldS c (m := mRS) (off := ![0, 128, 0]) (size := S1x128x1024.size) (inb := inb_S3x256x1024_S1x128x1024_0_128_0) (hs := squeezes_S1x128x1024_S128x1024) (hR := fun _ => rfl) (I.rsB 0 c) shapeCasts_S1x128x1024_S128x1024.symm) $$ Hrs01
  iintro Hrs01
  iapply (ld c (I.accB c 2) (off_5_2_1 c)) $$ Hac2B
  iintro Hac2B
  iapply (fin c (r' := (⟨(I.rsB 0 c), (I.accB c 2)⟩ : (Σ' (v1324 : FVec F S128x1024 .f32), Vec F S128x1024 .f32))) (show (⟨(k0_pay86 (shapeCast S1x128x1024 (I.rsB 0 c) shapeCasts_S1x128x1024_S128x1024.symm)), (I.accB c 2)⟩ : (Σ' (v1324 : FVec F S128x1024 .f32), Vec F S128x1024 .f32)) = (⟨(I.rsB 0 c), (I.accB c 2)⟩ : (Σ' (v1324 : FVec F S128x1024 .f32), Vec F S128x1024 .f32)) by rw [pv_86 I c]))
  iapply Hk $$ [HOW] [Hv21] [Hac2B] [HDon22x1] [Hrs01]
  · iexact HOW
  · iexact Hv21
  · iexact Hac2B
  · iexact HDon22x1
  · iexact Hrs01

theorem part_39 {v2 : BitVec 32} {v8 : BitVec 32} {v19 : BitVec 32} {Q : (Σ' (v1358 : BitVec 32) (v1359 : BitVec 32), BitVec 32) → sProp 𝕄} :
    iprop(Env I K c ∗ opn (right c) ∗ own (c : Thread nD τ) rsS01.view fullShare (I.rsB 0 c) ∗ Snd c 18 24 ∗ any (right c : Thread nD τ) rsS11.view ∗ Ow c [24, 25, 26])
      ⊢ iprop((Ow c [25, 26] -∗ Fly c 18 0 -∗ Q (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (Scalar.muli (yWord c) 4#32), 3#32⟩ : (Σ' (v1358 : BitVec 32) (v1359 : BitVec 32), BitVec 32))) -∗ wp₀ (k0_part39 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19 ((I.rsB 0 c)) ((I.accB c 2))) Q) := by
  rw [k0_part39_eq_skeleton]
  simp only [k0_part39_skel, Prog.lift, Prog.bind_op, Prog.bind_ret, Prog.bind_pure, semSignalWord, semWaitWord]
  iintro ⟨#HE, #Hopn, Hrs01, HSnd18x24, Hrxrs11, HOW⟩ Hk
  iapply (ldS c (m := mRS) (off := ![0, 128, 0]) (size := S1x128x1024.size) (inb := inb_S3x256x1024_S1x128x1024_0_128_0) (hs := squeezes_S1x128x1024_S128x1024) (hR := fun _ => rfl) (I.rsB 0 c) shapeCasts_S1x128x1024_S128x1024.symm) $$ Hrs01
  iintro Hrs01
  iapply (stS c (m := mRS) (off := ![0, 128, 0]) (size := S1x128x1024.size) (inb := inb_S3x256x1024_S1x128x1024_0_128_0) (hs := squeezes_S1x128x1024_S128x1024) (hR := fun _ => rfl) (I.snB c 1) shapeCasts_S1x128x1024_S128x1024.symm (pv_87 I c)) $$ Hrs01
  iintro Hrs01
  iapply (snd18 I K c) $$ [HSnd18x24 Hrs01 Hrxrs11 HOW]
  · isplitr; · iexact HE
    isplitr; · iexact Hopn
    isplitl [HSnd18x24]; · iexact HSnd18x24
    isplitl [Hrs01]; · iexact Hrs01
    isplitl [Hrxrs11]; · iexact Hrxrs11
    iexact HOW
  iintro HFly18x0 HOW
  iapply (fin c (r' := (⟨(Scalar.select (Scalar.andi (Scalar.xori (Scalar.cmpi .slt (Scalar.remsi (Scalar.subi (Scalar.addi (yWord c) 4#32) 3#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.subi (Scalar.addi (yWord c) 4#32) 3#32) (Scalar.select (Scalar.cmpi .eq 4#32 0#32) 1#32 4#32)) 0#32)) (Scalar.addi (Scalar.remsi (Scalar.subi (Scalar.addi (yWord c) 4#32) 3#32) (Scalar.select (Scalar.cmpi .eq 4#32 0#32) 1#32 4#32)) (Scalar.select (Scalar.cmpi .eq 4#32 0#32) 1#32 4#32)) (Scalar.remsi (Scalar.subi (Scalar.addi (yWord c) 4#32) 3#32) (Scalar.select (Scalar.cmpi .eq 4#32 0#32) 1#32 4#32))), (Scalar.muli (yWord c) 4#32), 3#32⟩ : (Σ' (v1358 : BitVec 32) (v1359 : BitVec 32), BitVec 32))) (rfl))
  iapply Hk $$ [HOW] [HFly18x0]
  · iexact HOW
  · iexact HFly18x0

end Step

end Cert.Moe

end
-- ==== Proof.PartsE.lean ====
/-
  Parts of the kernel, each as a step over what is held: the sums sent on, and the result.
-/
module

public import proofs.«01_k».proof.Proof.Step

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

section Step
variable (I : Inp F) (K : GSem nD τ sig → ℕ) (c : Dev nD)
local notation "wp₀" => wp frame (wpE (defs₀ (F := F)) 𝒱₀ (c : Thread nD τ) none) Set.univ

theorem part_40 {v1358 : BitVec 32} {Q : (PUnit) → sProp 𝕄} :
    iprop(Env I K c ∗ own (c : Thread nD τ) (mXF.access (rowR (org c 3) (org_lt c 3))) fullShare (I.xk c 3) ∗ own (c : Thread nD τ) v1S1.view fullShare (I.W1 c 3) ∗ own (c : Thread nD τ) v2S1.view fullShare (I.W2 c 3) ∗ own (c : Thread nD τ) (mAcc.access (rowR (org c 3) (org_lt c 3))) fullShare (I.acc3 c 3))
      ⊢ iprop((own (c : Thread nD τ) v1S1.view fullShare (I.W1 c 3) -∗ own (c : Thread nD τ) v2S1.view fullShare (I.W2 c 3) -∗ own (c : Thread nD τ) (mXF.access (halfR (org c 3) 0 (org_lt c 3) (by decide))) fullShare (top (I.xk c 3)) -∗ own (c : Thread nD τ) (mXF.access (halfR (org c 3) 128 (org_lt c 3) (by decide))) fullShare (bot (I.xk c 3)) -∗ own (c : Thread nD τ) (mAcc.access (halfR (org c 3) 0 (org_lt c 3) (by decide))) fullShare (I.accT c 3) -∗ own (c : Thread nD τ) (mAcc.access (halfR (org c 3) 128 (org_lt c 3) (by decide))) fullShare (bot (I.acc3 c 3)) -∗ Q ⟨⟩) -∗ wp₀ (k0_part40 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((ex1 (I.RT c) (I.xk c 3))) ((ex2 (I.RT c) (I.xk c 3))) ((sc1 (I.RT c) (I.xk c 3))) ((sc2 (I.RT c) (I.xk c 3))) v1358 ((Scalar.muli (yWord c) 4#32)) ((3#32))) Q) := by
  rw [k0_part40_eq_skeleton]
  simp only [k0_part40_skel, Prog.lift, Prog.bind_op, Prog.bind_ret, Prog.bind_pure, semSignalWord, semWaitWord]
  iintro ⟨#HE, Hxf3, Hv11, Hv21, Hac3⟩ Hk
  ihave Hs := (row_split c mXF (org c 3) (org_lt c 3) fullShare (I.xk c 3)) $$ Hxf3
  icases Hs with ⟨Hxf3T, Hxf3B⟩
  iapply (ld c (top (I.xk c 3)) (off_5_3_0 c)) $$ Hxf3T
  iintro Hxf3T
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  ihave Hs := (row_split c mAcc (org c 3) (org_lt c 3) fullShare (I.acc3 c 3)) $$ Hac3
  icases Hs with ⟨Hac3T, Hac3B⟩
  iapply (ld c (top (I.acc3 c 3)) (off_5_3_0 c)) $$ Hac3T
  iintro Hac3T
  iapply (ld c (top (I.acc3 c 3)) (off_5_3_0 c)) $$ Hac3T
  iintro Hac3T
  iapply (stO c (I.accT c 3) (off_5_3_0 c) (pv_88 I c)) $$ Hac3T
  iintro Hac3T
  iapply (fin c (r' := ⟨⟩) (rfl))
  iapply Hk $$ [Hv11] [Hv21] [Hxf3T] [Hxf3B] [Hac3T] [Hac3B]
  · iexact Hv11
  · iexact Hv21
  · iexact Hxf3T
  · iexact Hxf3B
  · iexact Hac3T
  · iexact Hac3B

theorem part_41 {v2 : BitVec 32} {v8 : BitVec 32} {v19 : BitVec 32} {v1358 : BitVec 32} {Q : (BitVec 32) → sProp 𝕄} :
    iprop(Env I K c ∗ Fly c 23 0 ∗ Ow c [25, 26] ∗ own (c : Thread nD τ) (mAcc.access (halfR (org c 3) 0 (org_lt c 3) (by decide))) fullShare (I.accT c 3))
      ⊢ iprop((Ow c [25, 26] -∗ own (c : Thread nD τ) (mAcc.access (halfR (org c 3) 0 (org_lt c 3) (by decide))) fullShare (I.accT c 3) -∗ Don c 23 1 -∗ own (c : Thread nD τ) rsS10.view fullShare (I.snT c 2) -∗ Q (Scalar.addi (Scalar.addi 0#32 (Scalar.muli v2 16#32)) (Scalar.muli v19 4#32))) -∗ wp₀ (k0_part41 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v1358) Q) := by
  rw [k0_part41_eq_skeleton]
  simp only [k0_part41_skel, Prog.lift, Prog.bind_op, Prog.bind_ret, Prog.bind_pure, semSignalWord, semWaitWord]
  iintro ⟨#HE, HFly23x0, HOW, Hac3T⟩ Hk
  iapply (wt23_0 I K c) $$ [HFly23x0 HOW]
  · isplitr; · iexact HE
    isplitl [HFly23x0]; · iexact HFly23x0
    iexact HOW
  iintro HOW HDon23x1 Hrs10
  iapply (ldS c (m := mRS) (off := ![1, 0, 0]) (size := S1x128x1024.size) (inb := inb_S3x256x1024_S1x128x1024_1_0_0) (hs := squeezes_S1x128x1024_S128x1024) (hR := fun _ => rfl) (I.rsT 1 c) shapeCasts_S1x128x1024_S128x1024.symm) $$ Hrs10
  iintro Hrs10
  iapply (ld c (I.accT c 3) (off_5_3_0 c)) $$ Hac3T
  iintro Hac3T
  iapply (ldS c (m := mRS) (off := ![1, 0, 0]) (size := S1x128x1024.size) (inb := inb_S3x256x1024_S1x128x1024_1_0_0) (hs := squeezes_S1x128x1024_S128x1024) (hR := fun _ => rfl) (I.rsT 1 c) shapeCasts_S1x128x1024_S128x1024.symm) $$ Hrs10
  iintro Hrs10
  iapply (stS c (m := mRS) (off := ![1, 0, 0]) (size := S1x128x1024.size) (inb := inb_S3x256x1024_S1x128x1024_1_0_0) (hs := squeezes_S1x128x1024_S128x1024) (hR := fun _ => rfl) (I.snT c 2) shapeCasts_S1x128x1024_S128x1024.symm (pv_89 I c)) $$ Hrs10
  iintro Hrs10
  iapply (fin c (r' := (Scalar.addi (Scalar.addi 0#32 (Scalar.muli v2 16#32)) (Scalar.muli v19 4#32))) (rfl))
  iapply Hk $$ [HOW] [Hac3T] [HDon23x1] [Hrs10]
  · iexact HOW
  · iexact Hac3T
  · iexact HDon23x1
  · iexact Hrs10

theorem part_42 {v8 : BitVec 32} {v1358 : BitVec 32} {v1426 : BitVec 32} {Q : (Σ' (v1465 : FVec F S128x1024 .f32), FVec F S128x1024 .f32) → sProp 𝕄} :
    iprop(Env I K c ∗ opn (right c) ∗ Snd c 19 25 ∗ own (c : Thread nD τ) rsS10.view fullShare (I.snT c 2) ∗ any (right c : Thread nD τ) rsS20.view ∗ Ow c [25, 26] ∗ own (c : Thread nD τ) (mXF.access (halfR (org c 3) 128 (org_lt c 3) (by decide))) fullShare (bot (I.xk c 3)) ∗ own (c : Thread nD τ) v1S1.view fullShare (I.W1 c 3) ∗ own (c : Thread nD τ) v2S1.view fullShare (I.W2 c 3))
      ⊢ iprop((Ow c [26] -∗ own (c : Thread nD τ) v1S1.view fullShare (I.W1 c 3) -∗ own (c : Thread nD τ) v2S1.view fullShare (I.W2 c 3) -∗ own (c : Thread nD τ) (mXF.access (halfR (org c 3) 128 (org_lt c 3) (by decide))) fullShare (bot (I.xk c 3)) -∗ Fly c 19 0 -∗ Q (⟨(matmul dot_S128x2048_S2048x1024_S128x1024_1_0_0_1_n_n none (maximumf (matmul dot_S128x1024_S1024x2048_S128x2048_1_0_0_1_n_n none (bot (I.xk c 3)) (I.W1 c 3) (constant S128x2048 .f32 0x00000000#32)) (broadcast S128x2048 (Scalar.ofBits .f32 0x00000000#32))) (I.W2 c 3) (constant S128x1024 .f32 0x00000000#32)), (broadcastTo S128x1024 (weight1 (exNo (yWord c) 3#32) (ex1 (I.RT c) (I.xk c 3)) (ex2 (I.RT c) (I.xk c 3)) (sc1 (I.RT c) (I.xk c 3)) (sc2 (I.RT c) (I.xk c 3))) broadcasts_S128x1_S128x1024)⟩ : (Σ' (v1465 : FVec F S128x1024 .f32), FVec F S128x1024 .f32))) -∗ wp₀ (k0_part42 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) v8 ((ex1 (I.RT c) (I.xk c 3))) ((ex2 (I.RT c) (I.xk c 3))) ((sc1 (I.RT c) (I.xk c 3))) ((sc2 (I.RT c) (I.xk c 3))) v1358 v1426) Q) := by
  rw [k0_part42_eq_skeleton]
  simp only [k0_part42_skel, Prog.lift, Prog.bind_op, Prog.bind_ret, Prog.bind_pure, semSignalWord, semWaitWord]
  iintro ⟨#HE, #Hopn, HSnd19x25, Hrs10, Hrxrs20, HOW, Hxf3B, Hv11, Hv21⟩ Hk
  iapply (snd19 I K c) $$ [HSnd19x25 Hrs10 Hrxrs20 HOW]
  · isplitr; · iexact HE
    isplitr; · iexact Hopn
    isplitl [HSnd19x25]; · iexact HSnd19x25
    isplitl [Hrs10]; · iexact Hrs10
    isplitl [Hrxrs20]; · iexact Hrxrs20
    iexact HOW
  iintro HFly19x0 HOW
  iapply (ld c (bot (I.xk c 3)) (off_5_3_1 c)) $$ Hxf3B
  iintro Hxf3B
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  iapply (fin c (r' := (⟨(matmul dot_S128x2048_S2048x1024_S128x1024_1_0_0_1_n_n none (maximumf (matmul dot_S128x1024_S1024x2048_S128x2048_1_0_0_1_n_n none (bot (I.xk c 3)) (I.W1 c 3) (constant S128x2048 .f32 0x00000000#32)) (broadcast S128x2048 (Scalar.ofBits .f32 0x00000000#32))) (I.W2 c 3) (constant S128x1024 .f32 0x00000000#32)), (broadcastTo S128x1024 (weight1 (exNo (yWord c) 3#32) (ex1 (I.RT c) (I.xk c 3)) (ex2 (I.RT c) (I.xk c 3)) (sc1 (I.RT c) (I.xk c 3)) (sc2 (I.RT c) (I.xk c 3))) broadcasts_S128x1_S128x1024)⟩ : (Σ' (v1465 : FVec F S128x1024 .f32), FVec F S128x1024 .f32))) (show (⟨(k0_pay90 (bot (I.xk c 3)) (shapeCast S1x1024x2048 (I.W1 c 3) shapeCasts_S1x1024x2048_S1024x2048.symm) (shapeCast S1x2048x1024 (I.W2 c 3) shapeCasts_S1x2048x1024_S2048x1024.symm)), (k0_pay91 (yWord c) (ex1 (I.RT c) (I.xk c 3)) (ex2 (I.RT c) (I.xk c 3)) (sc1 (I.RT c) (I.xk c 3)) (sc2 (I.RT c) (I.xk c 3)))⟩ : (Σ' (v1465 : FVec F S128x1024 .f32), FVec F S128x1024 .f32)) = (⟨(matmul dot_S128x2048_S2048x1024_S128x1024_1_0_0_1_n_n none (maximumf (matmul dot_S128x1024_S1024x2048_S128x2048_1_0_0_1_n_n none (bot (I.xk c 3)) (I.W1 c 3) (constant S128x2048 .f32 0x00000000#32)) (broadcast S128x2048 (Scalar.ofBits .f32 0x00000000#32))) (I.W2 c 3) (constant S128x1024 .f32 0x00000000#32)), (broadcastTo S128x1024 (weight1 (exNo (yWord c) 3#32) (ex1 (I.RT c) (I.xk c 3)) (ex2 (I.RT c) (I.xk c 3)) (sc1 (I.RT c) (I.xk c 3)) (sc2 (I.RT c) (I.xk c 3))) broadcasts_S128x1_S128x1024)⟩ : (Σ' (v1465 : FVec F S128x1024 .f32), FVec F S128x1024 .f32)) by rw [pv_90 I c]; try rw [pv_91 I c]))
  iapply Hk $$ [HOW] [Hv11] [Hv21] [Hxf3B] [HFly19x0]
  · iexact HOW
  · iexact Hv11
  · iexact Hv21
  · iexact Hxf3B
  · iexact HFly19x0

theorem part_43 {v2 : BitVec 32} {v8 : BitVec 32} {v19 : BitVec 32} {v1358 : BitVec 32} {Q : (FVec F S128x1024 .f32) → sProp 𝕄} :
    iprop(Env I K c ∗ own (c : Thread nD τ) (mAcc.access (halfR (org c 3) 128 (org_lt c 3) (by decide))) fullShare (bot (I.acc3 c 3)) ∗ Fly c 24 0 ∗ Ow c [26])
      ⊢ iprop((Ow c [26] -∗ own (c : Thread nD τ) (mAcc.access (halfR (org c 3) 128 (org_lt c 3) (by decide))) fullShare (I.accB c 3) -∗ Don c 24 1 -∗ own (c : Thread nD τ) rsS11.view fullShare (I.rsB 1 c) -∗ Q (I.snB c 2)) -∗ wp₀ (k0_part43 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 v8 v19 v1358 ((matmul dot_S128x2048_S2048x1024_S128x1024_1_0_0_1_n_n none (maximumf (matmul dot_S128x1024_S1024x2048_S128x2048_1_0_0_1_n_n none (bot (I.xk c 3)) (I.W1 c 3) (constant S128x2048 .f32 0x00000000#32)) (broadcast S128x2048 (Scalar.ofBits .f32 0x00000000#32))) (I.W2 c 3) (constant S128x1024 .f32 0x00000000#32))) ((broadcastTo S128x1024 (weight1 (exNo (yWord c) 3#32) (ex1 (I.RT c) (I.xk c 3)) (ex2 (I.RT c) (I.xk c 3)) (sc1 (I.RT c) (I.xk c 3)) (sc2 (I.RT c) (I.xk c 3))) broadcasts_S128x1_S128x1024))) Q) := by
  rw [k0_part43_eq_skeleton]
  simp only [k0_part43_skel, Prog.lift, Prog.bind_op, Prog.bind_ret, Prog.bind_pure, semSignalWord, semWaitWord]
  iintro ⟨#HE, Hac3B, HFly24x0, HOW⟩ Hk
  iapply (ld c (bot (I.acc3 c 3)) (off_5_3_1 c)) $$ Hac3B
  iintro Hac3B
  iapply (ld c (bot (I.acc3 c 3)) (off_5_3_1 c)) $$ Hac3B
  iintro Hac3B
  iapply (stO c (I.accB c 3) (off_5_3_1 c) (pv_92 I c)) $$ Hac3B
  iintro Hac3B
  iapply (wt24_0 I K c) $$ [HFly24x0 HOW]
  · isplitr; · iexact HE
    isplitl [HFly24x0]; · iexact HFly24x0
    iexact HOW
  iintro HOW HDon24x1 Hrs11
  iapply (ldS c (m := mRS) (off := ![1, 128, 0]) (size := S1x128x1024.size) (inb := inb_S3x256x1024_S1x128x1024_1_128_0) (hs := squeezes_S1x128x1024_S128x1024) (hR := fun _ => rfl) (I.rsB 1 c) shapeCasts_S1x128x1024_S128x1024.symm) $$ Hrs11
  iintro Hrs11
  iapply (ld c (I.accB c 3) (off_5_3_1 c)) $$ Hac3B
  iintro Hac3B
  iapply (fin c (r' := (I.snB c 2)) (show ((k0_pay93 (shapeCast S1x128x1024 (I.rsB 1 c) shapeCasts_S1x128x1024_S128x1024.symm) (I.accB c 3)) : (FVec F S128x1024 .f32)) = (I.snB c 2) by rw [pv_93 I c]))
  iapply Hk $$ [HOW] [Hac3B] [HDon24x1] [Hrs11]
  · iexact HOW
  · iexact Hac3B
  · iexact HDon24x1
  · iexact Hrs11

theorem part_44 {v2 : BitVec 32} {v8 : BitVec 32} {v19 : BitVec 32} {Q : (FVec F S128x1 .f32) → sProp 𝕄} :
    iprop(Env I K c ∗ opn (right c) ∗ own (c : Thread nD τ) rsS11.view fullShare (I.rsB 1 c) ∗ Snd c 20 26 ∗ any (right c : Thread nD τ) rsS21.view ∗ Ow c [26])
      ⊢ iprop((Ow c [] -∗ Fly c 20 0 -∗ Q (weight0 (exNo (yWord c) 3#32) (ex1 (I.RT c) (I.xk c 0)) (ex2 (I.RT c) (I.xk c 0)) (sc1 (I.RT c) (I.xk c 0)) (sc2 (I.RT c) (I.xk c 0)))) -∗ wp₀ (k0_part44 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19 ((ex1 (I.RT c) (I.xk c 0))) ((ex2 (I.RT c) (I.xk c 0))) ((sc1 (I.RT c) (I.xk c 0))) ((sc2 (I.RT c) (I.xk c 0))) ((I.snB c 2))) Q) := by
  rw [k0_part44_eq_skeleton]
  simp only [k0_part44_skel, Prog.lift, Prog.bind_op, Prog.bind_ret, Prog.bind_pure, semSignalWord, semWaitWord]
  iintro ⟨#HE, #Hopn, Hrs11, HSnd20x26, Hrxrs21, HOW⟩ Hk
  iapply (ldS c (m := mRS) (off := ![1, 128, 0]) (size := S1x128x1024.size) (inb := inb_S3x256x1024_S1x128x1024_1_128_0) (hs := squeezes_S1x128x1024_S128x1024) (hR := fun _ => rfl) (I.rsB 1 c) shapeCasts_S1x128x1024_S128x1024.symm) $$ Hrs11
  iintro Hrs11
  iapply (stS c (m := mRS) (off := ![1, 128, 0]) (size := S1x128x1024.size) (inb := inb_S3x256x1024_S1x128x1024_1_128_0) (hs := squeezes_S1x128x1024_S128x1024) (hR := fun _ => rfl) (I.snB c 2) shapeCasts_S1x128x1024_S128x1024.symm (pv_94 I c)) $$ Hrs11
  iintro Hrs11
  iapply (snd20 I K c) $$ [HSnd20x26 Hrs11 Hrxrs21 HOW]
  · isplitr; · iexact HE
    isplitr; · iexact Hopn
    isplitl [HSnd20x26]; · iexact HSnd20x26
    isplitl [Hrs11]; · iexact Hrs11
    isplitl [Hrxrs21]; · iexact Hrxrs21
    iexact HOW
  iintro HFly20x0 HOW
  iapply (fin c (r' := (weight0 (exNo (yWord c) 3#32) (ex1 (I.RT c) (I.xk c 0)) (ex2 (I.RT c) (I.xk c 0)) (sc1 (I.RT c) (I.xk c 0)) (sc2 (I.RT c) (I.xk c 0)))) (show ((k0_pay95 (yWord c) (ex1 (I.RT c) (I.xk c 0)) (ex2 (I.RT c) (I.xk c 0)) (sc1 (I.RT c) (I.xk c 0)) (sc2 (I.RT c) (I.xk c 0))) : (FVec F S128x1 .f32)) = (weight0 (exNo (yWord c) 3#32) (ex1 (I.RT c) (I.xk c 0)) (ex2 (I.RT c) (I.xk c 0)) (sc1 (I.RT c) (I.xk c 0)) (sc2 (I.RT c) (I.xk c 0))) by rw [pv_95 I c]))
  iapply Hk $$ [HOW] [HFly20x0]
  · iexact HOW
  · iexact HFly20x0

theorem part_45  {Q : (Σ' (v1573 : FVec F S128x1 .f32) (v1574 : BitVec 32), BitVec 32) → sProp 𝕄} :
    iprop(Env I K c ∗ own (c : Thread nD τ) (mXF.access (rowR (org c 0) (org_lt c 0))) fullShare (I.x c) ∗ own (c : Thread nD τ) v1S1.view fullShare (I.W1 c 3) ∗ own (c : Thread nD τ) v2S1.view fullShare (I.W2 c 3) ∗ own (c : Thread nD τ) (mAcc.access (rowR (org c 0) (org_lt c 0))) fullShare (I.acc3 c 0))
      ⊢ iprop((own (c : Thread nD τ) v1S1.view fullShare (I.W1 c 3) -∗ own (c : Thread nD τ) v2S1.view fullShare (I.W2 c 3) -∗ own (c : Thread nD τ) (mXF.access (halfR (org c 0) 0 (org_lt c 0) (by decide))) fullShare (top (I.x c)) -∗ own (c : Thread nD τ) (mXF.access (halfR (org c 0) 128 (org_lt c 0) (by decide))) fullShare (bot (I.x c)) -∗ own (c : Thread nD τ) (mAcc.access (halfR (org c 0) 0 (org_lt c 0) (by decide))) fullShare (I.accT c 0) -∗ own (c : Thread nD τ) (mAcc.access (halfR (org c 0) 128 (org_lt c 0) (by decide))) fullShare (bot (I.acc3 c 0)) -∗ Q (⟨(weight1 (exNo (yWord c) 3#32) (ex1 (I.RT c) (I.xk c 0)) (ex2 (I.RT c) (I.xk c 0)) (sc1 (I.RT c) (I.xk c 0)) (sc2 (I.RT c) (I.xk c 0))), (Scalar.muli (yWord c) 256#32), 128#32⟩ : (Σ' (v1573 : FVec F S128x1 .f32) (v1574 : BitVec 32), BitVec 32))) -∗ wp₀ (k0_part45 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c ((yWord c)) ((ex1 (I.RT c) (I.xk c 0))) ((ex2 (I.RT c) (I.xk c 0))) ((sc1 (I.RT c) (I.xk c 0))) ((sc2 (I.RT c) (I.xk c 0))) ((weight0 (exNo (yWord c) 3#32) (ex1 (I.RT c) (I.xk c 0)) (ex2 (I.RT c) (I.xk c 0)) (sc1 (I.RT c) (I.xk c 0)) (sc2 (I.RT c) (I.xk c 0))))) Q) := by
  rw [k0_part45_eq_skeleton]
  simp only [k0_part45_skel, Prog.lift, Prog.bind_op, Prog.bind_ret, Prog.bind_pure, semSignalWord, semWaitWord]
  iintro ⟨#HE, Hxf0, Hv11, Hv21, Hac0⟩ Hk
  ihave Hs := (row_split c mXF (org c 0) (org_lt c 0) fullShare (I.x c)) $$ Hxf0
  icases Hs with ⟨Hxf0T, Hxf0B⟩
  iapply (ld c (top (I.x c)) (off_7_0 c)) $$ Hxf0T
  iintro Hxf0T
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  ihave Hs := (row_split c mAcc (org c 0) (org_lt c 0) fullShare (I.acc3 c 0)) $$ Hac0
  icases Hs with ⟨Hac0T, Hac0B⟩
  iapply (ld c (top (I.acc3 c 0)) (off_7_0 c)) $$ Hac0T
  iintro Hac0T
  iapply (ld c (top (I.acc3 c 0)) (off_7_0 c)) $$ Hac0T
  iintro Hac0T
  iapply (stO c (I.accT c 0) (off_7_0 c) (pv_96 I c)) $$ Hac0T
  iintro Hac0T
  iapply (fin c (r' := (⟨(weight1 (exNo (yWord c) 3#32) (ex1 (I.RT c) (I.xk c 0)) (ex2 (I.RT c) (I.xk c 0)) (sc1 (I.RT c) (I.xk c 0)) (sc2 (I.RT c) (I.xk c 0))), (Scalar.muli (yWord c) 256#32), 128#32⟩ : (Σ' (v1573 : FVec F S128x1 .f32) (v1574 : BitVec 32), BitVec 32))) (show (⟨(k0_pay97 (yWord c) (ex1 (I.RT c) (I.xk c 0)) (ex2 (I.RT c) (I.xk c 0)) (sc1 (I.RT c) (I.xk c 0)) (sc2 (I.RT c) (I.xk c 0))), (Scalar.muli (yWord c) 256#32), 128#32⟩ : (Σ' (v1573 : FVec F S128x1 .f32) (v1574 : BitVec 32), BitVec 32)) = (⟨(weight1 (exNo (yWord c) 3#32) (ex1 (I.RT c) (I.xk c 0)) (ex2 (I.RT c) (I.xk c 0)) (sc1 (I.RT c) (I.xk c 0)) (sc2 (I.RT c) (I.xk c 0))), (Scalar.muli (yWord c) 256#32), 128#32⟩ : (Σ' (v1573 : FVec F S128x1 .f32) (v1574 : BitVec 32), BitVec 32)) by rw [pv_97 I c]))
  iapply Hk $$ [Hv11] [Hv21] [Hxf0T] [Hxf0B] [Hac0T] [Hac0B]
  · iexact Hv11
  · iexact Hv21
  · iexact Hxf0T
  · iexact Hxf0B
  · iexact Hac0T
  · iexact Hac0B

theorem part_46 {v2 : BitVec 32} {v8 : BitVec 32} {v19 : BitVec 32} {v1574 : BitVec 32} {c128_i32_1031 : BitVec 32} {Q : (PUnit) → sProp 𝕄} :
    iprop(Env I K c ∗ own (c : Thread nD τ) (mXF.access (halfR (org c 0) 128 (org_lt c 0) (by decide))) fullShare (bot (I.x c)) ∗ own (c : Thread nD τ) v1S1.view fullShare (I.W1 c 3) ∗ own (c : Thread nD τ) v2S1.view fullShare (I.W2 c 3) ∗ own (c : Thread nD τ) (mAcc.access (halfR (org c 0) 128 (org_lt c 0) (by decide))) fullShare (bot (I.acc3 c 0)))
      ⊢ iprop((own (c : Thread nD τ) v1S1.view fullShare (I.W1 c 3) -∗ own (c : Thread nD τ) v2S1.view fullShare (I.W2 c 3) -∗ own (c : Thread nD τ) (mXF.access (halfR (org c 0) 128 (org_lt c 0) (by decide))) fullShare (bot (I.x c)) -∗ own (c : Thread nD τ) (mAcc.access (halfR (org c 0) 128 (org_lt c 0) (by decide))) fullShare (I.accB c 0) -∗ Q ⟨⟩) -∗ wp₀ (k0_part46 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19 ((weight1 (exNo (yWord c) 3#32) (ex1 (I.RT c) (I.xk c 0)) (ex2 (I.RT c) (I.xk c 0)) (sc1 (I.RT c) (I.xk c 0)) (sc2 (I.RT c) (I.xk c 0)))) v1574 c128_i32_1031) Q) := by
  rw [k0_part46_eq_skeleton]
  simp only [k0_part46_skel, Prog.lift, Prog.bind_op, Prog.bind_ret, Prog.bind_pure, semSignalWord, semWaitWord]
  iintro ⟨#HE, Hxf0B, Hv11, Hv21, Hac0B⟩ Hk
  iapply (ld c (bot (I.x c)) (off_7_1 c)) $$ Hxf0B
  iintro Hxf0B
  iapply (ldS c (m := mV1) (off := ![1, 0, 0]) (size := S1x1024x2048.size) (inb := inb_S2x1024x2048_S1x1024x2048_1_0_0) (hs := squeezes_S1x1024x2048_S1024x2048) (hR := fun _ => rfl) (I.W1 c 3) shapeCasts_S1x1024x2048_S1024x2048.symm) $$ Hv11
  iintro Hv11
  iapply (ldS c (m := mV2) (off := ![1, 0, 0]) (size := S1x2048x1024.size) (inb := inb_S2x2048x1024_S1x2048x1024_1_0_0) (hs := squeezes_S1x2048x1024_S2048x1024) (hR := fun _ => rfl) (I.W2 c 3) shapeCasts_S1x2048x1024_S2048x1024.symm) $$ Hv21
  iintro Hv21
  iapply (ld c (bot (I.acc3 c 0)) (off_7_1 c)) $$ Hac0B
  iintro Hac0B
  iapply (ld c (bot (I.acc3 c 0)) (off_7_1 c)) $$ Hac0B
  iintro Hac0B
  iapply (stO c (I.accB c 0) (off_7_1 c) (pv_98 I c)) $$ Hac0B
  iintro Hac0B
  iapply (fin c (r' := ⟨⟩) (rfl))
  iapply Hk $$ [Hv11] [Hv21] [Hxf0B] [Hac0B]
  · iexact Hv11
  · iexact Hv21
  · iexact Hxf0B
  · iexact Hac0B

theorem part_47 {v2 : BitVec 32} {v8 : BitVec 32} {v19 : BitVec 32} {Q : (PUnit) → sProp 𝕄} :
    iprop(Env I K c ∗ Fly c 25 0 ∗ Ow c [] ∗ Fly c 26 0 ∗ own (c : Thread nD τ) (mAcc.access (halfR (org c 0) 0 (org_lt c 0) (by decide))) fullShare (I.accT c 0) ∗ own (c : Thread nD τ) (mAcc.access (halfR (org c 0) 128 (org_lt c 0) (by decide))) fullShare (I.accB c 0) ∗ any (c : Thread nD τ) mOut.view)
      ⊢ iprop((own (c : Thread nD τ) mOut.view fullShare (I.out c) -∗ Ow c [] -∗ Don c 25 1 -∗ Don c 26 1 -∗ own (c : Thread nD τ) (mRS.access (Rect.unit (s := S3x256x1024) ![2, 0, 0] S1x256x1024.size inb_S3x256x1024_S1x256x1024_2_0_0)) fullShare (shapeCast S1x256x1024 (Inp.join (I.rsT 2 c) (I.rsB 2 c) : Vec F S256x1024 .f32) shapeCasts_S1x256x1024_S256x1024.symm) -∗ own (c : Thread nD τ) (mAcc.access (rowR (org c 0) (org_lt c 0))) fullShare (Inp.join (I.accT c 0) (I.accB c 0)) -∗ Q ⟨⟩) -∗ wp₀ (k0_part47 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c v2 ((yWord c)) v8 v19) Q) := by
  rw [k0_part47_eq_skeleton]
  simp only [k0_part47_skel, Prog.lift, Prog.bind_op, Prog.bind_ret, Prog.bind_pure, semSignalWord, semWaitWord]
  iintro ⟨#HE, HFly25x0, HOW, HFly26x0, Hac0T, Hac0B, HOut⟩ Hk
  iapply (wt25_0 I K c) $$ [HFly25x0 HOW]
  · isplitr; · iexact HE
    isplitl [HFly25x0]; · iexact HFly25x0
    iexact HOW
  iintro HOW HDon25x1 Hrs20
  iapply (wt26_0 I K c) $$ [HFly26x0 HOW]
  · isplitr; · iexact HE
    isplitl [HFly26x0]; · iexact HFly26x0
    iexact HOW
  iintro HOW HDon26x1 Hrs21
  ihave HRS2 := (rs_join c (I.rsT 2 c) (I.rsB 2 c)) $$ [Hrs20 Hrs21]
  · isplitl [Hrs20]; · iexact Hrs20
    iexact Hrs21
  iapply (ld c (shapeCast S1x256x1024 (Inp.join (I.rsT 2 c) (I.rsB 2 c) : Vec F S256x1024 .f32) shapeCasts_S1x256x1024_S256x1024.symm) rfl) $$ HRS2
  iintro HRS2
  ihave Hac0 := (row_join c mAcc (org c 0) (org_lt c 0) fullShare (I.accT c 0) (I.accB c 0)) $$ [Hac0T Hac0B]
  · isplitl [Hac0T]; · iexact Hac0T
    iexact Hac0B
  iapply (ld c (Inp.join (I.accT c 0) (I.accB c 0)) (off_1 c)) $$ Hac0
  iintro Hac0
  iapply (ldAW c (m := mOut)) $$ HOut
  iintro %v1629 HOut
  iapply (stAW c (m := mOut) (I.out c) (pv_99 I c)) $$ HOut
  iintro HOut
  iapply (fin c (r' := ⟨⟩) (rfl))
  iapply Hk $$ [HOut] [HOW] [HDon25x1] [HDon26x1] [HRS2] [Hac0]
  · iexact HOut
  · iexact HOW
  · iexact HDon25x1
  · iexact HDon26x1
  · iexact HRS2
  · iexact Hac0

theorem part_48  {Q : (PUnit) → sProp 𝕄} :
    iprop(Env I K c ∗ Fly c 15 0 ∗ Ow c [] ∗ Fly c 16 0 ∗ Fly c 17 0 ∗ Fly c 18 0)
      ⊢ iprop((Ow c [] -∗ Don c 15 1 -∗ own (c : Thread nD τ) (mAcc.access (halfR (org c 1) 0 (org_lt c 1) (by decide))) fullShare (I.snT c 0) -∗ Don c 16 1 -∗ own (c : Thread nD τ) (mAcc.access (halfR (org c 1) 128 (org_lt c 1) (by decide))) fullShare (I.snB c 0) -∗ Don c 17 1 -∗ own (c : Thread nD τ) rsS00.view fullShare (I.snT c 1) -∗ Don c 18 1 -∗ own (c : Thread nD τ) rsS01.view fullShare (I.snB c 1) -∗ Q ⟨⟩) -∗ wp₀ (k0_part48 mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15 c) Q) := by
  rw [k0_part48_eq_skeleton]
  simp only [k0_part48_skel, Prog.lift, Prog.bind_op, Prog.bind_ret, Prog.bind_pure, semSignalWord, semWaitWord]
  iintro ⟨#HE, HFly15x0, HOW, HFly16x0, HFly17x0, HFly18x0⟩ Hk
  iapply (wt15_0 I K c) $$ [HFly15x0 HOW]
  · isplitr; · iexact HE
    isplitl [HFly15x0]; · iexact HFly15x0
    iexact HOW
  iintro HOW HDon15x1 Hac1T
  iapply (wt16_0 I K c) $$ [HFly16x0 HOW]
  · isplitr; · iexact HE
    isplitl [HFly16x0]; · iexact HFly16x0
    iexact HOW
  iintro HOW HDon16x1 Hac1B
  iapply (wt17_0 I K c) $$ [HFly17x0 HOW]
  · isplitr; · iexact HE
    isplitl [HFly17x0]; · iexact HFly17x0
    iexact HOW
  iintro HOW HDon17x1 Hrs00
  iapply (wt18_0 I K c) $$ [HFly18x0 HOW]
  · isplitr; · iexact HE
    isplitl [HFly18x0]; · iexact HFly18x0
    iexact HOW
  iintro HOW HDon18x1 Hrs01
  iapply (fin c (r' := ⟨⟩) (rfl))
  iapply Hk $$ [HOW] [HDon15x1] [Hac1T] [HDon16x1] [Hac1B] [HDon17x1] [Hrs00] [HDon18x1] [Hrs01]
  · iexact HOW
  · iexact HDon15x1
  · iexact Hac1T
  · iexact HDon16x1
  · iexact Hac1B
  · iexact HDon17x1
  · iexact Hrs00
  · iexact HDon18x1
  · iexact Hrs01

end Step

end Cert.Moe

end
-- ==== Proof.Body.lean ====
/-
  The kernel's parts one after another: what a device holds at the start, and what it holds at the end.
-/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (K : GSem nD τ sig → ℕ) (c : Dev nD)
local notation "wp₀" => wp frame (wpE (defs₀ (F := F)) 𝒱₀ (c : Thread nD τ) none) Set.univ

/-- What a device holds at the start. -/
def Start : sProp 𝕄 := iprop(Bar c ∗ lend c ∗ Ow₀ c ∗ own (c : Thread nD τ) mX.view fullShare.left (I.x c) ∗ own (c : Thread nD τ) mX.view fullShare.right (I.x c) ∗ own (c : Thread nD τ) mRT.view fullShare (I.rt c) ∗ any (c : Thread nD τ) mOut.view ∗ Snd c 3 6 ∗ Fly c 6 0 ∗ Snd c 9 12 ∗ Fly c 12 0 ∗ Snd c 10 13 ∗ Fly c 13 0 ∗ Snd c 11 14 ∗ Fly c 14 0 ∗ Snd c 4 7 ∗ Fly c 7 0 ∗ Snd c 5 8 ∗ Fly c 8 0 ∗ Snd c 15 21 ∗ Fly c 21 0 ∗ Snd c 16 22 ∗ Fly c 22 0 ∗ Snd c 17 23 ∗ Fly c 23 0 ∗ Snd c 18 24 ∗ Fly c 24 0 ∗ Snd c 19 25 ∗ Fly c 25 0 ∗ Snd c 20 26 ∗ Fly c 26 0 ∗ Cpy c 27 0 ∗ dutyTok ER (gd c 27) 1 false ∗ Cpy c 28 0 ∗ dutyTok ER (gd c 28) 1 false ∗ Cpy c 29 0 ∗ dutyTok ER (gd c 29) 1 false ∗ Cpy c 30 0 ∗ dutyTok ER (gd c 30) 1 false ∗ own (c : Thread nD τ) w1E0.view fullShare (I.W1 c 0) ∗ own (c : Thread nD τ) w2E0.view fullShare (I.W2 c 0) ∗ own (c : Thread nD τ) w1E1.view fullShare (I.W1 c 1) ∗ own (c : Thread nD τ) w2E1.view fullShare (I.W2 c 1) ∗ own (c : Thread nD τ) w1E2.view fullShare (I.W1 c 2) ∗ own (c : Thread nD τ) w2E2.view fullShare (I.W2 c 2) ∗ own (c : Thread nD τ) w1E3.view fullShare (I.W1 c 3) ∗ own (c : Thread nD τ) w2E3.view fullShare (I.W2 c 3) ∗ any (c : Thread nD τ) v1S0.view ∗ any (c : Thread nD τ) v2S0.view ∗ any (c : Thread nD τ) v1S1.view ∗ any (c : Thread nD τ) v2S1.view ∗ any (c : Thread nD τ) (mXF.access (rowR (org c 0) (org_lt c 0))) ∗ any (c : Thread nD τ) (mAcc.access (rowR (org c 0) (org_lt c 0))) ∗ any (c : Thread nD τ) (mRF.access (rtR (org c 0) (org_lt c 0))) ∗ any (c : Thread nD τ) (mXF.access (rowR (org c 1) (org_lt c 1))) ∗ any (c : Thread nD τ) (mAcc.access (rowR (org c 1) (org_lt c 1))) ∗ any (c : Thread nD τ) (mRF.access (rtR (org c 1) (org_lt c 1))) ∗ any (c : Thread nD τ) (mXF.access (rowR (org c 2) (org_lt c 2))) ∗ any (c : Thread nD τ) (mAcc.access (rowR (org c 2) (org_lt c 2))) ∗ any (c : Thread nD τ) (mRF.access (rtR (org c 2) (org_lt c 2))) ∗ any (c : Thread nD τ) (mXF.access (rowR (org c 3) (org_lt c 3))) ∗ any (c : Thread nD τ) (mAcc.access (rowR (org c 3) (org_lt c 3))) ∗ any (c : Thread nD τ) (mRF.access (rtR (org c 3) (org_lt c 3))))

/-- What it holds at the end. -/
def Finish : sProp 𝕄 := iprop(own (c : Thread nD τ) mX.view fullShare.right (I.x c) ∗ own (c : Thread nD τ) mOut.view fullShare (I.out c) ∗ Ow c [] ∗ atPos ER (gb c) 1 ∅ 0 ∗ Don c 9 1 ∗ own (c : Thread nD τ) mRT.view fullShare (I.rt c) ∗ Don c 12 1 ∗ Don c 10 1 ∗ own (c : Thread nD τ) rgS0.view fullShare (I.rt (back 1 c)) ∗ Don c 13 1 ∗ Don c 11 1 ∗ own (c : Thread nD τ) rgS1.view fullShare (I.rt (back 2 c)) ∗ Don c 14 1 ∗ own (c : Thread nD τ) rgS2.view fullShare (I.rt (back 3 c)) ∗ own (c : Thread nD τ) mRF.view fullShare (I.RT4 c) ∗ own (c : Thread nD τ) w1E0.view fullShare (I.W1 c 0) ∗ own (c : Thread nD τ) w2E0.view fullShare (I.W2 c 0) ∗ own (c : Thread nD τ) w1E1.view fullShare (I.W1 c 1) ∗ own (c : Thread nD τ) w2E1.view fullShare (I.W2 c 1) ∗ Don c 3 1 ∗ own (c : Thread nD τ) mX.view fullShare.left (I.x c) ∗ Don c 6 1 ∗ own (c : Thread nD τ) agS0.view fullShare.right (I.xk c 1) ∗ Don c 4 1 ∗ own (c : Thread nD τ) agS0.view fullShare.left (I.xk c 1) ∗ Don c 7 1 ∗ own (c : Thread nD τ) agS1.view fullShare.right (I.xk c 2) ∗ Don c 5 1 ∗ own (c : Thread nD τ) agS1.view fullShare.left (I.xk c 2) ∗ Don c 8 1 ∗ own (c : Thread nD τ) agS2.view fullShare (I.xk c 3) ∗ Don c 27 2 ∗ own (c : Thread nD τ) v1S0.view fullShare (I.W1 c 2) ∗ own (c : Thread nD τ) w1E2.view fullShare (I.W1 c 2) ∗ Don c 29 2 ∗ own (c : Thread nD τ) v2S0.view fullShare (I.W2 c 2) ∗ own (c : Thread nD τ) w2E2.view fullShare (I.W2 c 2) ∗ Don c 28 2 ∗ own (c : Thread nD τ) v1S1.view fullShare (I.W1 c 3) ∗ own (c : Thread nD τ) w1E3.view fullShare (I.W1 c 3) ∗ Don c 30 2 ∗ own (c : Thread nD τ) v2S1.view fullShare (I.W2 c 3) ∗ own (c : Thread nD τ) w2E3.view fullShare (I.W2 c 3) ∗ own (c : Thread nD τ) (mXF.access (halfR (org c 1) 0 (org_lt c 1) (by decide))) fullShare (top (I.xk c 1)) ∗ own (c : Thread nD τ) (mXF.access (halfR (org c 1) 128 (org_lt c 1) (by decide))) fullShare (bot (I.xk c 1)) ∗ own (c : Thread nD τ) (mXF.access (halfR (org c 2) 0 (org_lt c 2) (by decide))) fullShare (top (I.xk c 2)) ∗ own (c : Thread nD τ) (mXF.access (halfR (org c 2) 128 (org_lt c 2) (by decide))) fullShare (bot (I.xk c 2)) ∗ own (c : Thread nD τ) (mAcc.access (halfR (org c 2) 0 (org_lt c 2) (by decide))) fullShare (I.accT c 2) ∗ own (c : Thread nD τ) (mAcc.access (halfR (org c 2) 128 (org_lt c 2) (by decide))) fullShare (I.accB c 2) ∗ Don c 21 1 ∗ Don c 22 1 ∗ own (c : Thread nD τ) (mXF.access (halfR (org c 3) 0 (org_lt c 3) (by decide))) fullShare (top (I.xk c 3)) ∗ own (c : Thread nD τ) (mXF.access (halfR (org c 3) 128 (org_lt c 3) (by decide))) fullShare (bot (I.xk c 3)) ∗ own (c : Thread nD τ) (mAcc.access (halfR (org c 3) 0 (org_lt c 3) (by decide))) fullShare (I.accT c 3) ∗ own (c : Thread nD τ) (mAcc.access (halfR (org c 3) 128 (org_lt c 3) (by decide))) fullShare (I.accB c 3) ∗ Don c 23 1 ∗ Don c 24 1 ∗ own (c : Thread nD τ) (mXF.access (halfR (org c 0) 0 (org_lt c 0) (by decide))) fullShare (top (I.x c)) ∗ own (c : Thread nD τ) (mXF.access (halfR (org c 0) 128 (org_lt c 0) (by decide))) fullShare (bot (I.x c)) ∗ Don c 25 1 ∗ Don c 26 1 ∗ own (c : Thread nD τ) (mRS.access (Rect.unit (s := S3x256x1024) ![2, 0, 0] S1x256x1024.size inb_S3x256x1024_S1x256x1024_2_0_0)) fullShare (shapeCast S1x256x1024 (Inp.join (I.rsT 2 c) (I.rsB 2 c) : Vec F S256x1024 .f32) shapeCasts_S1x256x1024_S256x1024.symm) ∗ own (c : Thread nD τ) (mAcc.access (rowR (org c 0) (org_lt c 0))) fullShare (Inp.join (I.accT c 0) (I.accB c 0)) ∗ Don c 15 1 ∗ own (c : Thread nD τ) (mAcc.access (halfR (org c 1) 0 (org_lt c 1) (by decide))) fullShare (I.snT c 0) ∗ Don c 16 1 ∗ own (c : Thread nD τ) (mAcc.access (halfR (org c 1) 128 (org_lt c 1) (by decide))) fullShare (I.snB c 0) ∗ Don c 17 1 ∗ own (c : Thread nD τ) rsS00.view fullShare (I.snT c 1) ∗ Don c 18 1 ∗ own (c : Thread nD τ) rsS01.view fullShare (I.snB c 1) ∗ Don c 19 1 ∗ own (c : Thread nD τ) rsS10.view fullShare (I.snT c 2) ∗ Don c 20 1 ∗ own (c : Thread nD τ) rsS11.view fullShare (I.snB c 2))

/-- One part and what follows it. -/
theorem seq {α β : Type} {m : Prog (TpuEff nD τ sig (Elt F) Λ₀ .tc) α} {k : α → Prog (TpuEff nD τ sig (Elt F) Λ₀ .tc) β} {Q : β → sProp 𝕄} :
    wp₀ m (fun a => wp₀ (k a) Q) ⊢ wp₀ (m >>= k) Q := by rw [wp_bind]

theorem fin_unit {Q : PUnit → sProp 𝕄} : Q ⟨⟩ ⊢ wp₀ ((Prog.ret PUnit.unit).bind fun _ => Pure.pure PUnit.unit) Q := fin c rfl

theorem body {Q : PUnit → sProp 𝕄} :
    iprop(Env I K c ∗ opn c ∗ Start I c) ⊢ iprop((Finish I c -∗ Q ⟨⟩) -∗ wp₀ (cc0_body mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15) Q) := by
  rw [cc0_body_eq_skeleton]
  unfold cc0_body_skel Start
  rw [k0_part49_eq_skeleton]
  unfold k0_part49_skel
  iintro ⟨#HE, #Hopn0, HBar, HLend, HOw0, HXL, HXR, HRTi, HOut, HSnd3x6, HFly6x0, HSnd9x12, HFly12x0, HSnd10x13, HFly13x0, HSnd11x14, HFly14x0, HSnd4x7, HFly7x0, HSnd5x8, HFly8x0, HSnd15x21, HFly21x0, HSnd16x22, HFly22x0, HSnd17x23, HFly23x0, HSnd18x24, HFly24x0, HSnd19x25, HFly25x0, HSnd20x26, HFly26x0, HCpy27x0, HTok27, HCpy28x0, HTok28, HCpy29x0, HTok29, HCpy30x0, HTok30, Hw10, Hw20, Hw11, Hw21, Hw12, Hw22, Hw13, Hw23, Hv10, Hv20, Hv11, Hv21, Hxf0, Hac0, Hrf0, Hxf1, Hac1, Hrf1, Hxf2, Hac2, Hrf2, Hxf3, Hac3, Hrf3⟩ Hk
  iapply (seq (c := c))
  iapply (seq (c := c))
  iapply (part_1 c)
  iintro %v2 %v8 %v19 %v33 %v34
  iapply (seq (c := c))
  iapply (part_2 I K c) $$ [HBar HLend HOw0 HCpy27x0 Hw10 Hv10 HCpy29x0 Hw20 Hv20]
  · isplitr; · iexact HE
    isplitr; · iexact Hopn0
    isplitl [HBar]; · iexact HBar
    isplitl [HLend]; · iexact HLend
    isplitl [HOw0]; · iexact HOw0
    isplitl [HCpy27x0]; · iexact HCpy27x0
    isplitl [Hw10]; · iexact Hw10
    isplitl [Hv10]; · iexact Hv10
    isplitl [HCpy29x0]; · iexact HCpy29x0
    isplitl [Hw20]; · iexact Hw20
    iexact Hv20
  iintro #Hopn Hrxag0 Hrxag1 Hrxag2 Hrxrg0 Hrxrg1 Hrxrg2 Hrxrs00 Hrxrs01 Hrxrs10 Hrxrs11 Hrxrs20 Hrxrs21 HOW HAtb HFly27x0 HFly29x0
  iapply (seq (c := c))
  iapply (part_3 I K c) $$ [HCpy28x0 Hw11 Hv11 HCpy30x0 Hw21 Hv21 HSnd3x6 HXL Hrxag0 HOW HXR Hxf0 HRTi Hrf0]
  · isplitr; · iexact HE
    isplitr; · iexact Hopn
    isplitl [HCpy28x0]; · iexact HCpy28x0
    isplitl [Hw11]; · iexact Hw11
    isplitl [Hv11]; · iexact Hv11
    isplitl [HCpy30x0]; · iexact HCpy30x0
    isplitl [Hw21]; · iexact Hw21
    isplitl [Hv21]; · iexact Hv21
    isplitl [HSnd3x6]; · iexact HSnd3x6
    isplitl [HXL]; · iexact HXL
    isplitl [Hrxag0]; · iexact Hrxag0
    isplitl [HOW]; · iexact HOW
    isplitl [HXR]; · iexact HXR
    isplitl [Hxf0]; · iexact Hxf0
    isplitl [HRTi]; · iexact HRTi
    iexact Hrf0
  iintro HXR HRTi Hxf0 Hrf0 HOW HFly28x0 HFly30x0 HFly3x0
  iapply (seq (c := c))
  iapply (part_4 I K c) $$ [Hrf0 HSnd9x12 HRTi Hrxrg0 HOW HFly12x0]
  · isplitr; · iexact HE
    isplitr; · iexact Hopn
    isplitl [Hrf0]; · iexact Hrf0
    isplitl [HSnd9x12]; · iexact HSnd9x12
    isplitl [HRTi]; · iexact HRTi
    isplitl [Hrxrg0]; · iexact Hrxrg0
    isplitl [HOW]; · iexact HOW
    iexact HFly12x0
  iintro Hrf0 HOW HDon9x1 HRTi HDon12x1 Hrg0
  iapply (seq (c := c))
  iapply (part_5 I K c) $$ [Hrg0 Hrf1 HSnd10x13 Hrxrg1 HOW]
  · isplitr; · iexact HE
    isplitr; · iexact Hopn
    isplitl [Hrg0]; · iexact Hrg0
    isplitl [Hrf1]; · iexact Hrf1
    isplitl [HSnd10x13]; · iexact HSnd10x13
    isplitl [Hrxrg1]; · iexact Hrxrg1
    iexact HOW
  iintro Hrf1 HOW HFly10x0
  iapply (seq (c := c))
  iapply (part_6 I K c) $$ [HFly10x0 HOW HFly13x0]
  · isplitr; · iexact HE
    isplitl [HFly10x0]; · iexact HFly10x0
    isplitl [HOW]; · iexact HOW
    iexact HFly13x0
  iintro HOW HDon10x1 Hrg0 HDon13x1 Hrg1
  iapply (seq (c := c))
  iapply (part_7 I K c) $$ [Hrg1 Hrf2 HSnd11x14 Hrxrg2 HOW]
  · isplitr; · iexact HE
    isplitr; · iexact Hopn
    isplitl [Hrg1]; · iexact Hrg1
    isplitl [Hrf2]; · iexact Hrf2
    isplitl [HSnd11x14]; · iexact HSnd11x14
    isplitl [Hrxrg2]; · iexact Hrxrg2
    iexact HOW
  iintro Hrf2 HOW HDon11x1 Hrg1
  iapply (seq (c := c))
  iapply (part_8 I K c) $$ [HFly14x0 HOW Hrf3 Hrf0 Hrf1 Hrf2]
  · isplitr; · iexact HE
    isplitl [HFly14x0]; · iexact HFly14x0
    isplitl [HOW]; · iexact HOW
    isplitl [Hrf3]; · iexact Hrf3
    isplitl [Hrf0]; · iexact Hrf0
    isplitl [Hrf1]; · iexact Hrf1
    iexact Hrf2
  iintro HOW HDon14x1 Hrg2 HRF
  iapply (seq (c := c))
  iapply (part_9 I K c) $$ [HFly27x0 HOW HFly29x0 HFly28x0 HFly30x0 HXR]
  · isplitr; · iexact HE
    isplitl [HFly27x0]; · iexact HFly27x0
    isplitl [HOW]; · iexact HOW
    isplitl [HFly29x0]; · iexact HFly29x0
    isplitl [HFly28x0]; · iexact HFly28x0
    isplitl [HFly30x0]; · iexact HFly30x0
    iexact HXR
  iintro HXR HOW HDon27x1 Hv10 Hw10 HDon29x1 Hv20 Hw20 HDon28x1 Hv11 Hw11 HDon30x1 Hv21 Hw21
  iapply (seq (c := c))
  iapply (part_10 I K c) $$ []
  · iexact HE
  iapply (seq (c := c))
  iapply (part_11 I K c) $$ [Hv10 Hv20 Hac0]
  · isplitr; · iexact HE
    isplitl [Hv10]; · iexact Hv10
    isplitl [Hv20]; · iexact Hv20
    iexact Hac0
  iintro Hac0 Hv10 Hv20
  iapply (seq (c := c))
  iapply (part_12 I K c) $$ [Hv11 Hv21 Hac0 HFly3x0 HOW]
  · isplitr; · iexact HE
    isplitl [Hv11]; · iexact Hv11
    isplitl [Hv21]; · iexact Hv21
    isplitl [Hac0]; · iexact Hac0
    isplitl [HFly3x0]; · iexact HFly3x0
    iexact HOW
  iintro Hac0 HOW Hv11 Hv21 HDon3x1 HXL
  iapply (seq (c := c))
  iapply (part_13 I K c) $$ [HFly6x0 HOW HSnd4x7 Hrxag1]
  · isplitr; · iexact HE
    isplitr; · iexact Hopn
    isplitl [HFly6x0]; · iexact HFly6x0
    isplitl [HOW]; · iexact HOW
    isplitl [HSnd4x7]; · iexact HSnd4x7
    iexact Hrxag1
  iintro HOW HDon6x1 Hag0R HFly4x0
  iapply (seq (c := c))
  iapply (part_14 I K c) $$ [Hxf1]
  · isplitr; · iexact HE
    iexact Hxf1
  iintro Hxf1
  iapply (seq (c := c))
  iapply (part_15 I K c) $$ [Hv10 Hv20 Hac1]
  · isplitr; · iexact HE
    isplitl [Hv10]; · iexact Hv10
    isplitl [Hv20]; · iexact Hv20
    iexact Hac1
  iintro Hac1 Hv10 Hv20
  iapply (seq (c := c))
  iapply (part_16 I K c) $$ [Hv11 Hv21 Hac1 HFly4x0 HOW]
  · isplitr; · iexact HE
    isplitl [Hv11]; · iexact Hv11
    isplitl [Hv21]; · iexact Hv21
    isplitl [Hac1]; · iexact Hac1
    isplitl [HFly4x0]; · iexact HFly4x0
    iexact HOW
  iintro Hac1 HOW Hv11 Hv21 HDon4x1 Hag0L
  iapply (seq (c := c))
  iapply (part_17 I K c) $$ [HFly7x0 HOW HSnd5x8 Hrxag2]
  · isplitr; · iexact HE
    isplitr; · iexact Hopn
    isplitl [HFly7x0]; · iexact HFly7x0
    isplitl [HOW]; · iexact HOW
    isplitl [HSnd5x8]; · iexact HSnd5x8
    iexact Hrxag2
  iintro HOW HDon7x1 Hag1R HFly5x0
  iapply (seq (c := c))
  iapply (part_18 I K c) $$ [Hxf2]
  · isplitr; · iexact HE
    iexact Hxf2
  iintro Hxf2
  iapply (seq (c := c))
  iapply (part_19 I K c) $$ [Hv10 Hv20 Hac2]
  · isplitr; · iexact HE
    isplitl [Hv10]; · iexact Hv10
    isplitl [Hv20]; · iexact Hv20
    iexact Hac2
  iintro Hac2 Hv10 Hv20
  iapply (seq (c := c))
  iapply (part_20 I K c) $$ [Hac2 Hv11 Hv21]
  · isplitr; · iexact HE
    isplitl [Hac2]; · iexact Hac2
    isplitl [Hv11]; · iexact Hv11
    iexact Hv21
  iintro Hac2 Hv11 Hv21
  iapply (seq (c := c))
  iapply (part_21 I K c) $$ [HFly5x0 HOW HFly8x0 Hxf3]
  · isplitr; · iexact HE
    isplitl [HFly5x0]; · iexact HFly5x0
    isplitl [HOW]; · iexact HOW
    isplitl [HFly8x0]; · iexact HFly8x0
    iexact Hxf3
  iintro %v713 Hxf3 HOW HDon5x1 Hag1L HDon8x1 Hag2
  iapply (seq (c := c))
  iapply (part_22 I K c) $$ [Hxf3]
  · isplitr; · iexact HE
    iexact Hxf3
  iintro Hxf3
  iapply (seq (c := c))
  iapply (part_23 I K c) $$ [Hv10 Hv20 Hac3]
  · isplitr; · iexact HE
    isplitl [Hv10]; · iexact Hv10
    isplitl [Hv20]; · iexact Hv20
    iexact Hac3
  iintro Hac3 Hv10 Hv20
  iapply (seq (c := c))
  iapply (part_24 I K c) $$ [HTok27 HDon27x1 Hw12 Hv10 HTok29 HDon29x1 Hw22 Hv20 Hv11 Hv21 Hac3]
  · isplitr; · iexact HE
    isplitl [HTok27]; · iexact HTok27
    isplitl [HDon27x1]; · iexact HDon27x1
    isplitl [Hw12]; · iexact Hw12
    isplitl [Hv10]; · iexact Hv10
    isplitl [HTok29]; · iexact HTok29
    isplitl [HDon29x1]; · iexact HDon29x1
    isplitl [Hw22]; · iexact Hw22
    isplitl [Hv20]; · iexact Hv20
    isplitl [Hv11]; · iexact Hv11
    isplitl [Hv21]; · iexact Hv21
    iexact Hac3
  iintro Hac3 Hv11 Hv21 HFly27x1 HFly29x1
  iapply (seq (c := c))
  iapply (part_25 I K c) $$ [Hac3 HTok28 HDon28x1 Hw13 Hv11 HTok30 HDon30x1 Hw23 Hv21 HFly27x1 HOW HFly29x1]
  · isplitr; · iexact HE
    isplitl [Hac3]; · iexact Hac3
    isplitl [HTok28]; · iexact HTok28
    isplitl [HDon28x1]; · iexact HDon28x1
    isplitl [Hw13]; · iexact Hw13
    isplitl [Hv11]; · iexact Hv11
    isplitl [HTok30]; · iexact HTok30
    isplitl [HDon30x1]; · iexact HDon30x1
    isplitl [Hw23]; · iexact Hw23
    isplitl [Hv21]; · iexact Hv21
    isplitl [HFly27x1]; · iexact HFly27x1
    isplitl [HOW]; · iexact HOW
    iexact HFly29x1
  iintro Hac3 HOW HFly28x1 HFly30x1 HDon27x2 Hv10 Hw12 HDon29x2 Hv20 Hw22
  iapply (seq (c := c))
  iapply (part_26 I K c) $$ [Hxf1 Hv10 Hv20]
  · isplitr; · iexact HE
    isplitl [Hxf1]; · iexact Hxf1
    isplitl [Hv10]; · iexact Hv10
    iexact Hv20
  iintro Hxf1 Hv10 Hv20
  iapply (seq (c := c))
  iapply (part_27 I K c) $$ [Hac1 Hxf2 Hv10]
  · isplitr; · iexact HE
    isplitl [Hac1]; · iexact Hac1
    isplitl [Hxf2]; · iexact Hxf2
    iexact Hv10
  iintro Hac1 Hxf2 Hv10
  iapply (seq (c := c))
  iapply (part_28 I K c) $$ [Hv20 Hac2 Hxf3]
  · isplitr; · iexact HE
    isplitl [Hv20]; · iexact Hv20
    isplitl [Hac2]; · iexact Hac2
    iexact Hxf3
  iintro Hac2 Hxf3 Hv20
  iapply (seq (c := c))
  iapply (part_29 I K c) $$ [Hv10 Hv20 Hac3]
  · isplitr; · iexact HE
    isplitl [Hv10]; · iexact Hv10
    isplitl [Hv20]; · iexact Hv20
    iexact Hac3
  iintro Hac3 Hv10 Hv20
  iapply (seq (c := c))
  iapply (part_30 I K c) $$ [Hxf0 Hv10 Hv20 Hac0]
  · isplitr; · iexact HE
    isplitl [Hxf0]; · iexact Hxf0
    isplitl [Hv10]; · iexact Hv10
    isplitl [Hv20]; · iexact Hv20
    iexact Hac0
  iintro Hxf0 Hac0 Hv10 Hv20
  iapply (seq (c := c))
  iapply (part_31 I K c) $$ [HFly28x1 HOW HFly30x1]
  · isplitr; · iexact HE
    isplitl [HFly28x1]; · iexact HFly28x1
    isplitl [HOW]; · iexact HOW
    iexact HFly30x1
  iintro HOW HDon28x2 Hv11 Hw13 HDon30x2 Hv21 Hw23
  iapply (seq (c := c))
  iapply (part_32 I K c) $$ [Hxf1 Hv11 Hv21 Hac1]
  · isplitr; · iexact HE
    isplitl [Hxf1]; · iexact Hxf1
    isplitl [Hv11]; · iexact Hv11
    isplitl [Hv21]; · iexact Hv21
    iexact Hac1
  iintro Hv11 Hv21 Hxf1T Hxf1B Hac1T Hac1B
  iapply (seq (c := c))
  iapply (part_33 I K c) $$ [HSnd15x21 Hac1T Hrxrs00 HOW Hxf1B Hv11 Hv21]
  · isplitr; · iexact HE
    isplitr; · iexact Hopn
    isplitl [HSnd15x21]; · iexact HSnd15x21
    isplitl [Hac1T]; · iexact Hac1T
    isplitl [Hrxrs00]; · iexact Hrxrs00
    isplitl [HOW]; · iexact HOW
    isplitl [Hxf1B]; · iexact Hxf1B
    isplitl [Hv11]; · iexact Hv11
    iexact Hv21
  iintro HOW Hv11 Hv21 Hxf1B HFly15x0
  iapply (seq (c := c))
  iapply (part_34 I K c) $$ [Hac1B HSnd16x22 Hrxrs01 HOW]
  · isplitr; · iexact HE
    isplitr; · iexact Hopn
    isplitl [Hac1B]; · iexact Hac1B
    isplitl [HSnd16x22]; · iexact HSnd16x22
    isplitl [Hrxrs01]; · iexact Hrxrs01
    iexact HOW
  iintro HOW HFly16x0
  iapply (seq (c := c))
  iapply (part_35 I K c) $$ [Hxf2 Hv11 Hv21 Hac2]
  · isplitr; · iexact HE
    isplitl [Hxf2]; · iexact Hxf2
    isplitl [Hv11]; · iexact Hv11
    isplitl [Hv21]; · iexact Hv21
    iexact Hac2
  iintro Hv11 Hv21 Hxf2T Hxf2B Hac2T Hac2B
  iapply (seq (c := c))
  iapply (part_36 I K c) $$ [Hac2T HFly21x0 HOW]
  · isplitr; · iexact HE
    isplitl [Hac2T]; · iexact Hac2T
    isplitl [HFly21x0]; · iexact HFly21x0
    iexact HOW
  iintro HOW Hac2T HDon21x1 Hrs00
  iapply (seq (c := c))
  iapply (part_37 I K c) $$ [HSnd17x23 Hrs00 Hrxrs10 HOW Hxf2B Hv11]
  · isplitr; · iexact HE
    isplitr; · iexact Hopn
    isplitl [HSnd17x23]; · iexact HSnd17x23
    isplitl [Hrs00]; · iexact Hrs00
    isplitl [Hrxrs10]; · iexact Hrxrs10
    isplitl [HOW]; · iexact HOW
    isplitl [Hxf2B]; · iexact Hxf2B
    iexact Hv11
  iintro HOW Hv11 Hxf2B HFly17x0
  iapply (seq (c := c))
  iapply (part_38 I K c) $$ [Hv21 Hac2B HFly22x0 HOW]
  · isplitr; · iexact HE
    isplitl [Hv21]; · iexact Hv21
    isplitl [Hac2B]; · iexact Hac2B
    isplitl [HFly22x0]; · iexact HFly22x0
    iexact HOW
  iintro HOW Hv21 Hac2B HDon22x1 Hrs01
  iapply (seq (c := c))
  iapply (part_39 I K c) $$ [Hrs01 HSnd18x24 Hrxrs11 HOW]
  · isplitr; · iexact HE
    isplitr; · iexact Hopn
    isplitl [Hrs01]; · iexact Hrs01
    isplitl [HSnd18x24]; · iexact HSnd18x24
    isplitl [Hrxrs11]; · iexact Hrxrs11
    iexact HOW
  iintro HOW HFly18x0
  iapply (seq (c := c))
  iapply (part_40 I K c) $$ [Hxf3 Hv11 Hv21 Hac3]
  · isplitr; · iexact HE
    isplitl [Hxf3]; · iexact Hxf3
    isplitl [Hv11]; · iexact Hv11
    isplitl [Hv21]; · iexact Hv21
    iexact Hac3
  iintro Hv11 Hv21 Hxf3T Hxf3B Hac3T Hac3B
  iapply (seq (c := c))
  iapply (part_41 I K c) $$ [HFly23x0 HOW Hac3T]
  · isplitr; · iexact HE
    isplitl [HFly23x0]; · iexact HFly23x0
    isplitl [HOW]; · iexact HOW
    iexact Hac3T
  iintro HOW Hac3T HDon23x1 Hrs10
  iapply (seq (c := c))
  iapply (part_42 I K c) $$ [HSnd19x25 Hrs10 Hrxrs20 HOW Hxf3B Hv11 Hv21]
  · isplitr; · iexact HE
    isplitr; · iexact Hopn
    isplitl [HSnd19x25]; · iexact HSnd19x25
    isplitl [Hrs10]; · iexact Hrs10
    isplitl [Hrxrs20]; · iexact Hrxrs20
    isplitl [HOW]; · iexact HOW
    isplitl [Hxf3B]; · iexact Hxf3B
    isplitl [Hv11]; · iexact Hv11
    iexact Hv21
  iintro HOW Hv11 Hv21 Hxf3B HFly19x0
  iapply (seq (c := c))
  iapply (part_43 I K c) $$ [Hac3B HFly24x0 HOW]
  · isplitr; · iexact HE
    isplitl [Hac3B]; · iexact Hac3B
    isplitl [HFly24x0]; · iexact HFly24x0
    iexact HOW
  iintro HOW Hac3B HDon24x1 Hrs11
  iapply (seq (c := c))
  iapply (part_44 I K c) $$ [Hrs11 HSnd20x26 Hrxrs21 HOW]
  · isplitr; · iexact HE
    isplitr; · iexact Hopn
    isplitl [Hrs11]; · iexact Hrs11
    isplitl [HSnd20x26]; · iexact HSnd20x26
    isplitl [Hrxrs21]; · iexact Hrxrs21
    iexact HOW
  iintro HOW HFly20x0
  iapply (seq (c := c))
  iapply (part_45 I K c) $$ [Hxf0 Hv11 Hv21 Hac0]
  · isplitr; · iexact HE
    isplitl [Hxf0]; · iexact Hxf0
    isplitl [Hv11]; · iexact Hv11
    isplitl [Hv21]; · iexact Hv21
    iexact Hac0
  iintro Hv11 Hv21 Hxf0T Hxf0B Hac0T Hac0B
  iapply (seq (c := c))
  iapply (part_46 I K c) $$ [Hxf0B Hv11 Hv21 Hac0B]
  · isplitr; · iexact HE
    isplitl [Hxf0B]; · iexact Hxf0B
    isplitl [Hv11]; · iexact Hv11
    isplitl [Hv21]; · iexact Hv21
    iexact Hac0B
  iintro Hv11 Hv21 Hxf0B Hac0B
  iapply (seq (c := c))
  iapply (part_47 I K c) $$ [HFly25x0 HOW HFly26x0 Hac0T Hac0B HOut]
  · isplitr; · iexact HE
    isplitl [HFly25x0]; · iexact HFly25x0
    isplitl [HOW]; · iexact HOW
    isplitl [HFly26x0]; · iexact HFly26x0
    isplitl [Hac0T]; · iexact Hac0T
    isplitl [Hac0B]; · iexact Hac0B
    iexact HOut
  iintro HOut HOW HDon25x1 HDon26x1 HRS2 Hac0
  iapply (seq (c := c))
  iapply (part_48 I K c) $$ [HFly15x0 HOW HFly16x0 HFly17x0 HFly18x0]
  · isplitr; · iexact HE
    isplitl [HFly15x0]; · iexact HFly15x0
    isplitl [HOW]; · iexact HOW
    isplitl [HFly16x0]; · iexact HFly16x0
    isplitl [HFly17x0]; · iexact HFly17x0
    iexact HFly18x0
  iintro HOW HDon15x1 Hac1T HDon16x1 Hac1B HDon17x1 Hrs00 HDon18x1 Hrs01
  iapply (fin c (r' := ⟨⟩) rfl)
  iapply (wt19_0 I K c) $$ [HFly19x0 HOW]
  · isplitr; · iexact HE
    isplitl [HFly19x0]; · iexact HFly19x0
    iexact HOW
  iintro HOW HDon19x1 Hrs10
  iapply (wt20_0 I K c) $$ [HFly20x0 HOW]
  · isplitr; · iexact HE
    isplitl [HFly20x0]; · iexact HFly20x0
    iexact HOW
  iintro HOW HDon20x1 Hrs11
  iapply (fin_unit c)
  iapply Hk
  unfold Finish
  isplitl [HXR]; · iexact HXR
  isplitl [HOut]; · iexact HOut
  isplitl [HOW]; · iexact HOW
  isplitl [HAtb]; · iexact HAtb
  isplitl [HDon9x1]; · iexact HDon9x1
  isplitl [HRTi]; · iexact HRTi
  isplitl [HDon12x1]; · iexact HDon12x1
  isplitl [HDon10x1]; · iexact HDon10x1
  isplitl [Hrg0]; · iexact Hrg0
  isplitl [HDon13x1]; · iexact HDon13x1
  isplitl [HDon11x1]; · iexact HDon11x1
  isplitl [Hrg1]; · iexact Hrg1
  isplitl [HDon14x1]; · iexact HDon14x1
  isplitl [Hrg2]; · iexact Hrg2
  isplitl [HRF]; · iexact HRF
  isplitl [Hw10]; · iexact Hw10
  isplitl [Hw20]; · iexact Hw20
  isplitl [Hw11]; · iexact Hw11
  isplitl [Hw21]; · iexact Hw21
  isplitl [HDon3x1]; · iexact HDon3x1
  isplitl [HXL]; · iexact HXL
  isplitl [HDon6x1]; · iexact HDon6x1
  isplitl [Hag0R]; · iexact Hag0R
  isplitl [HDon4x1]; · iexact HDon4x1
  isplitl [Hag0L]; · iexact Hag0L
  isplitl [HDon7x1]; · iexact HDon7x1
  isplitl [Hag1R]; · iexact Hag1R
  isplitl [HDon5x1]; · iexact HDon5x1
  isplitl [Hag1L]; · iexact Hag1L
  isplitl [HDon8x1]; · iexact HDon8x1
  isplitl [Hag2]; · iexact Hag2
  isplitl [HDon27x2]; · iexact HDon27x2
  isplitl [Hv10]; · iexact Hv10
  isplitl [Hw12]; · iexact Hw12
  isplitl [HDon29x2]; · iexact HDon29x2
  isplitl [Hv20]; · iexact Hv20
  isplitl [Hw22]; · iexact Hw22
  isplitl [HDon28x2]; · iexact HDon28x2
  isplitl [Hv11]; · iexact Hv11
  isplitl [Hw13]; · iexact Hw13
  isplitl [HDon30x2]; · iexact HDon30x2
  isplitl [Hv21]; · iexact Hv21
  isplitl [Hw23]; · iexact Hw23
  isplitl [Hxf1T]; · iexact Hxf1T
  isplitl [Hxf1B]; · iexact Hxf1B
  isplitl [Hxf2T]; · iexact Hxf2T
  isplitl [Hxf2B]; · iexact Hxf2B
  isplitl [Hac2T]; · iexact Hac2T
  isplitl [Hac2B]; · iexact Hac2B
  isplitl [HDon21x1]; · iexact HDon21x1
  isplitl [HDon22x1]; · iexact HDon22x1
  isplitl [Hxf3T]; · iexact Hxf3T
  isplitl [Hxf3B]; · iexact Hxf3B
  isplitl [Hac3T]; · iexact Hac3T
  isplitl [Hac3B]; · iexact Hac3B
  isplitl [HDon23x1]; · iexact HDon23x1
  isplitl [HDon24x1]; · iexact HDon24x1
  isplitl [Hxf0T]; · iexact Hxf0T
  isplitl [Hxf0B]; · iexact Hxf0B
  isplitl [HDon25x1]; · iexact HDon25x1
  isplitl [HDon26x1]; · iexact HDon26x1
  isplitl [HRS2]; · iexact HRS2
  isplitl [Hac0]; · iexact Hac0
  isplitl [HDon15x1]; · iexact HDon15x1
  isplitl [Hac1T]; · iexact Hac1T
  isplitl [HDon16x1]; · iexact HDon16x1
  isplitl [Hac1B]; · iexact Hac1B
  isplitl [HDon17x1]; · iexact HDon17x1
  isplitl [Hrs00]; · iexact Hrs00
  isplitl [HDon18x1]; · iexact HDon18x1
  isplitl [Hrs01]; · iexact Hrs01
  isplitl [HDon19x1]; · iexact HDon19x1
  isplitl [Hrs10]; · iexact Hrs10
  isplitl [HDon20x1]; · iexact HDon20x1
  iexact Hrs11

end Cert.Moe

end
-- ==== Proof.Whole.lean ====
/-
  A device's whole run of the kernel, from whole buffers to whole buffers, every semaphore closed.
-/
module

public import proofs.«01_k».proof.Proof.Body

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (I : Inp F) (K : GSem nD τ sig → ℕ) (c : Dev nD)
local notation "wp₀" => wp frame (wpE (defs₀ (F := F)) 𝒱₀ (c : Thread nD τ) none) Set.univ

/-- The departure semaphores. -/
def dep : Finset (DmaSem sig) := Finset.univ.filter fun q => (3 ≤ q.val ∧ q.val < 6) ∨ (9 ≤ q.val ∧ q.val < 12) ∨ (15 ≤ q.val ∧ q.val < 21)
/-- The semaphores of the local copies. -/
def loc : Finset (DmaSem sig) := Finset.univ.filter fun q => 27 ≤ q.val

theorem dep_sep (Φ : DmaSem sig → sProp 𝕄) : bigSep dep Φ = iprop(Φ 3 ∗ Φ 4 ∗ Φ 5 ∗ Φ 9 ∗ Φ 10 ∗ Φ 11 ∗ Φ 15 ∗ Φ 16 ∗ Φ 17 ∗ Φ 18 ∗ Φ 19 ∗ Φ 20) :=
  bigSep_eq_bigSepL_of_eq [3, 4, 5, 9, 10, 11, 15, 16, 17, 18, 19, 20] (by decide) (by decide) Φ
theorem land_sep (Φ : DmaSem sig → sProp 𝕄) : bigSep land Φ = iprop(Φ 6 ∗ Φ 7 ∗ Φ 8 ∗ Φ 12 ∗ Φ 13 ∗ Φ 14 ∗ Φ 21 ∗ Φ 22 ∗ Φ 23 ∗ Φ 24 ∗ Φ 25 ∗ Φ 26) :=
  bigSep_eq_bigSepL_of_eq [6, 7, 8, 12, 13, 14, 21, 22, 23, 24, 25, 26] (by decide) (by decide) Φ
theorem loc_sep (Φ : DmaSem sig → sProp 𝕄) : bigSep loc Φ = iprop(Φ 27 ∗ Φ 28 ∗ Φ 29 ∗ Φ 30) :=
  bigSep_eq_bigSepL_of_eq [27, 28, 29, 30] (by decide) (by decide) Φ
theorem mine_sep (Φ : DmaSem sig → sProp 𝕄) : bigSep mine Φ = iprop(Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_eq_bigSepL_of_eq [3, 4, 5, 6, 7, 8, 9, 10, 11, 12, 13, 14, 15, 16, 17, 18, 19, 20, 21, 22, 23, 24, 25, 26, 27, 28, 29, 30] (by decide) (by decide) Φ

/-- The rights and the credit a device starts with. -/
def Toks : sProp 𝕄 := iprop((bigSep dep fun q => dutyTok ER (gd c q) 0 false) ∗ (bigSep land fun q => dutyTok ER (gd (right c) q) 0 false)
  ∗ (bigSep loc fun q => dutyTok ER (gd c q) 0 false) ∗ (bigSep loc fun q => dutyTok ER (gd c q) 1 false)
  ∗ (bigSep land fun q => cred (tallyAt (gd c q) () (amt q))) ∗ bigSep mine fun q => Don c q 0)

/-- The scratch buffers, at contents not chosen. -/
def Scr : sProp 𝕄 := iprop(any (c : Thread nD τ) mXF.view ∗ any (c : Thread nD τ) mRF.view ∗ any (c : Thread nD τ) mAcc.view ∗ any (c : Thread nD τ) mAG.view
  ∗ any (c : Thread nD τ) mRG.view ∗ any (c : Thread nD τ) mRS.view ∗ any (c : Thread nD τ) mV1.view ∗ any (c : Thread nD τ) mV2.view)

/-- The operands. -/
def Ops : sProp 𝕄 := iprop(own (c : Thread nD τ) mX.view fullShare (I.x c) ∗ own (c : Thread nD τ) mRT.view fullShare (I.rt c)
  ∗ own (c : Thread nD τ) mW1.view fullShare (I.w1 c) ∗ own (c : Thread nD τ) mW2.view fullShare (I.w2 c))

/-- What the run ends with. -/
def Endd : sProp 𝕄 := iprop(Ops I c ∗ own (c : Thread nD τ) mOut.view fullShare (I.out c) ∗ Scr c ∗ Ow c [] ∗ semVal (gb c) 0 ∗ bigSep mine fun q => semVal (gd c q) 0)

theorem start : iprop(Bar c ∗ Ow₀ c ∗ Toks c ∗ Ops I c ∗ any (c : Thread nD τ) mOut.view ∗ Scr c) ⊢ Start I c := by
  unfold Toks Ops Scr
  rw [dep_sep, land_sep, loc_sep, loc_sep, land_sep, mine_sep, w1_own, w2_own]
  iintro ⟨HBar, HOw0, ⟨⟨Ht3, Ht4, Ht5, Ht9, Ht10, Ht11, Ht15, Ht16, Ht17, Ht18, Ht19, Ht20⟩, ⟨Ht6, Ht7, Ht8, Ht12, Ht13, Ht14, Ht21, Ht22, Ht23, Ht24, Ht25, Ht26⟩, ⟨Ht27, Ht28, Ht29, Ht30⟩, ⟨Hu27, Hu28, Hu29, Hu30⟩, ⟨Hc6, Hc7, Hc8, Hc12, Hc13, Hc14, Hc21, Hc22, Hc23, Hc24, Hc25, Hc26⟩, Hd3, Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30⟩, ⟨HX, HRTi, ⟨Hw10, Hw11, Hw12, Hw13⟩, Hw20, Hw21, Hw22, Hw23⟩, HOut, HXF, HRF, HAcc, HAG, HRG, HRS, HV1, HV2⟩
  ihave HXs := (own_halves (c : Thread nD τ) mX.view (I.x c)).1 $$ HX
  icases HXs with ⟨HXL, HXR⟩
  ihave HXFs := (any_rows c mXF) $$ HXF
  icases HXFs with ⟨Hxf0, Hxf1, Hxf2, Hxf3⟩
  ihave HAccs := (any_rows c mAcc) $$ HAcc
  icases HAccs with ⟨Hac0, Hac1, Hac2, Hac3⟩
  ihave HRFs := (any_slabs c) $$ HRF
  icases HRFs with ⟨Hrf0, Hrf1, Hrf2, Hrf3⟩
  ihave HV1s := (v1_any c) $$ HV1
  icases HV1s with ⟨Hv10, Hv11⟩
  ihave HV2s := (v2_any c) $$ HV2
  icases HV2s with ⟨Hv20, Hv21⟩
  unfold Start
  isplitl [HBar]; · iexact HBar
  isplitl [HAG HRG HRS]
  · unfold lend
    ihave H1 := (ag_any c) $$ HAG
    icases H1 with ⟨Ha0, Ha1, Ha2⟩
    ihave H2 := (rg_any c) $$ HRG
    icases H2 with ⟨Hg0, Hg1, Hg2⟩
    ihave H3 := (rs_any c) $$ HRS
    isplitl [Ha0]; · iexact Ha0
    isplitl [Ha1]; · iexact Ha1
    isplitl [Ha2]; · iexact Ha2
    isplitl [Hg0]; · iexact Hg0
    isplitl [Hg1]; · iexact Hg1
    isplitl [Hg2]; · iexact Hg2
    iexact H3
  isplitl [HOw0]; · iexact HOw0
  isplitl [HXL]; · iexact HXL
  isplitl [HXR]; · iexact HXR
  isplitl [HRTi]; · iexact HRTi
  isplitl [HOut]; · iexact HOut
  isplitl [Ht3 Ht6 Hd3]
  · unfold Snd
    isplitl [Ht3]; · iexact Ht3
    isplitl [Ht6]; · iexact Ht6
    iexact Hd3
  isplitl [Hc6 Hd6]
  · unfold Fly
    isplitl [Hc6]; · iexact Hc6
    iexact Hd6
  isplitl [Ht9 Ht12 Hd9]
  · unfold Snd
    isplitl [Ht9]; · iexact Ht9
    isplitl [Ht12]; · iexact Ht12
    iexact Hd9
  isplitl [Hc12 Hd12]
  · unfold Fly
    isplitl [Hc12]; · iexact Hc12
    iexact Hd12
  isplitl [Ht10 Ht13 Hd10]
  · unfold Snd
    isplitl [Ht10]; · iexact Ht10
    isplitl [Ht13]; · iexact Ht13
    iexact Hd10
  isplitl [Hc13 Hd13]
  · unfold Fly
    isplitl [Hc13]; · iexact Hc13
    iexact Hd13
  isplitl [Ht11 Ht14 Hd11]
  · unfold Snd
    isplitl [Ht11]; · iexact Ht11
    isplitl [Ht14]; · iexact Ht14
    iexact Hd11
  isplitl [Hc14 Hd14]
  · unfold Fly
    isplitl [Hc14]; · iexact Hc14
    iexact Hd14
  isplitl [Ht4 Ht7 Hd4]
  · unfold Snd
    isplitl [Ht4]; · iexact Ht4
    isplitl [Ht7]; · iexact Ht7
    iexact Hd4
  isplitl [Hc7 Hd7]
  · unfold Fly
    isplitl [Hc7]; · iexact Hc7
    iexact Hd7
  isplitl [Ht5 Ht8 Hd5]
  · unfold Snd
    isplitl [Ht5]; · iexact Ht5
    isplitl [Ht8]; · iexact Ht8
    iexact Hd5
  isplitl [Hc8 Hd8]
  · unfold Fly
    isplitl [Hc8]; · iexact Hc8
    iexact Hd8
  isplitl [Ht15 Ht21 Hd15]
  · unfold Snd
    isplitl [Ht15]; · iexact Ht15
    isplitl [Ht21]; · iexact Ht21
    iexact Hd15
  isplitl [Hc21 Hd21]
  · unfold Fly
    isplitl [Hc21]; · iexact Hc21
    iexact Hd21
  isplitl [Ht16 Ht22 Hd16]
  · unfold Snd
    isplitl [Ht16]; · iexact Ht16
    isplitl [Ht22]; · iexact Ht22
    iexact Hd16
  isplitl [Hc22 Hd22]
  · unfold Fly
    isplitl [Hc22]; · iexact Hc22
    iexact Hd22
  isplitl [Ht17 Ht23 Hd17]
  · unfold Snd
    isplitl [Ht17]; · iexact Ht17
    isplitl [Ht23]; · iexact Ht23
    iexact Hd17
  isplitl [Hc23 Hd23]
  · unfold Fly
    isplitl [Hc23]; · iexact Hc23
    iexact Hd23
  isplitl [Ht18 Ht24 Hd18]
  · unfold Snd
    isplitl [Ht18]; · iexact Ht18
    isplitl [Ht24]; · iexact Ht24
    iexact Hd18
  isplitl [Hc24 Hd24]
  · unfold Fly
    isplitl [Hc24]; · iexact Hc24
    iexact Hd24
  isplitl [Ht19 Ht25 Hd19]
  · unfold Snd
    isplitl [Ht19]; · iexact Ht19
    isplitl [Ht25]; · iexact Ht25
    iexact Hd19
  isplitl [Hc25 Hd25]
  · unfold Fly
    isplitl [Hc25]; · iexact Hc25
    iexact Hd25
  isplitl [Ht20 Ht26 Hd20]
  · unfold Snd
    isplitl [Ht20]; · iexact Ht20
    isplitl [Ht26]; · iexact Ht26
    iexact Hd20
  isplitl [Hc26 Hd26]
  · unfold Fly
    isplitl [Hc26]; · iexact Hc26
    iexact Hd26
  isplitl [Ht27 Hd27]
  · unfold Cpy
    isplitl [Ht27]; · iexact Ht27
    iexact Hd27
  isplitl [Hu27]; · iexact Hu27
  isplitl [Ht28 Hd28]
  · unfold Cpy
    isplitl [Ht28]; · iexact Ht28
    iexact Hd28
  isplitl [Hu28]; · iexact Hu28
  isplitl [Ht29 Hd29]
  · unfold Cpy
    isplitl [Ht29]; · iexact Ht29
    iexact Hd29
  isplitl [Hu29]; · iexact Hu29
  isplitl [Ht30 Hd30]
  · unfold Cpy
    isplitl [Ht30]; · iexact Ht30
    iexact Hd30
  isplitl [Hu30]; · iexact Hu30
  isplitl [Hw10]; · iexact Hw10
  isplitl [Hw20]; · iexact Hw20
  isplitl [Hw11]; · iexact Hw11
  isplitl [Hw21]; · iexact Hw21
  isplitl [Hw12]; · iexact Hw12
  isplitl [Hw22]; · iexact Hw22
  isplitl [Hw13]; · iexact Hw13
  isplitl [Hw23]; · iexact Hw23
  isplitl [Hv10]; · iexact Hv10
  isplitl [Hv20]; · iexact Hv20
  isplitl [Hv11]; · iexact Hv11
  isplitl [Hv21]; · iexact Hv21
  isplitl [Hxf0]; · iexact Hxf0
  isplitl [Hac0]; · iexact Hac0
  isplitl [Hrf0]; · iexact Hrf0
  isplitl [Hxf1]; · iexact Hxf1
  isplitl [Hac1]; · iexact Hac1
  isplitl [Hrf1]; · iexact Hrf1
  isplitl [Hxf2]; · iexact Hxf2
  isplitl [Hac2]; · iexact Hac2
  isplitl [Hrf2]; · iexact Hrf2
  isplitl [Hxf3]; · iexact Hxf3
  isplitl [Hac3]; · iexact Hac3
  iexact Hrf3

/-- The last slot of the reduce-scatter, given up. -/
theorem rs2_any (x : Vec F S1x256x1024 .f32) :
    (own (c : Thread nD τ) (mRS.access (Rect.unit (s := S3x256x1024) ![2, 0, 0] S1x256x1024.size inb_S3x256x1024_S1x256x1024_2_0_0)) fullShare x : sProp 𝕄)
      ⊢ iprop(any (c : Thread nD τ) rsS20.view ∗ any (c : Thread nD τ) rsS21.view) := by
  rw [rs_e4, rs_e5]
  exact ((rs_parts c x).1).trans (BIClass.sep_mono (any_of_own _ _ _) (any_of_own _ _ _))

theorem finish : iprop(Env I K c ∗ Finish I c) ⊢ (|={Set.univ}=> Endd I c : sProp 𝕄) := by
  unfold Finish
  iintro ⟨#HE, HXR, HOut, HOW, HAtb, HDon9x1, HRTi, HDon12x1, HDon10x1, Hrg0, HDon13x1, HDon11x1, Hrg1, HDon14x1, Hrg2, HRF, Hw10, Hw20, Hw11, Hw21, HDon3x1, HXL, HDon6x1, Hag0R, HDon4x1, Hag0L, HDon7x1, Hag1R, HDon5x1, Hag1L, HDon8x1, Hag2, HDon27x2, Hv10, Hw12, HDon29x2, Hv20, Hw22, HDon28x2, Hv11, Hw13, HDon30x2, Hv21, Hw23, Hxf1T, Hxf1B, Hxf2T, Hxf2B, Hac2T, Hac2B, HDon21x1, HDon22x1, Hxf3T, Hxf3B, Hac3T, Hac3B, HDon23x1, HDon24x1, Hxf0T, Hxf0B, HDon25x1, HDon26x1, HRS2, Hac0, HDon15x1, Hac1T, HDon16x1, Hac1B, HDon17x1, Hrs00, HDon18x1, Hrs01, HDon19x1, Hrs10, HDon20x1, Hrs11⟩
  imod (close_dma I K c 3 (by decide) (by decide)) $$ [HDon3x1] with Hs3
  · isplitr; · iexact HE
    iexact HDon3x1
  imod (close_dma I K c 4 (by decide) (by decide)) $$ [HDon4x1] with Hs4
  · isplitr; · iexact HE
    iexact HDon4x1
  imod (close_dma I K c 5 (by decide) (by decide)) $$ [HDon5x1] with Hs5
  · isplitr; · iexact HE
    iexact HDon5x1
  imod (close_dma I K c 6 (by decide) (by decide)) $$ [HDon6x1] with Hs6
  · isplitr; · iexact HE
    iexact HDon6x1
  imod (close_dma I K c 7 (by decide) (by decide)) $$ [HDon7x1] with Hs7
  · isplitr; · iexact HE
    iexact HDon7x1
  imod (close_dma I K c 8 (by decide) (by decide)) $$ [HDon8x1] with Hs8
  · isplitr; · iexact HE
    iexact HDon8x1
  imod (close_dma I K c 9 (by decide) (by decide)) $$ [HDon9x1] with Hs9
  · isplitr; · iexact HE
    iexact HDon9x1
  imod (close_dma I K c 10 (by decide) (by decide)) $$ [HDon10x1] with Hs10
  · isplitr; · iexact HE
    iexact HDon10x1
  imod (close_dma I K c 11 (by decide) (by decide)) $$ [HDon11x1] with Hs11
  · isplitr; · iexact HE
    iexact HDon11x1
  imod (close_dma I K c 12 (by decide) (by decide)) $$ [HDon12x1] with Hs12
  · isplitr; · iexact HE
    iexact HDon12x1
  imod (close_dma I K c 13 (by decide) (by decide)) $$ [HDon13x1] with Hs13
  · isplitr; · iexact HE
    iexact HDon13x1
  imod (close_dma I K c 14 (by decide) (by decide)) $$ [HDon14x1] with Hs14
  · isplitr; · iexact HE
    iexact HDon14x1
  imod (close_dma I K c 15 (by decide) (by decide)) $$ [HDon15x1] with Hs15
  · isplitr; · iexact HE
    iexact HDon15x1
  imod (close_dma I K c 16 (by decide) (by decide)) $$ [HDon16x1] with Hs16
  · isplitr; · iexact HE
    iexact HDon16x1
  imod (close_dma I K c 17 (by decide) (by decide)) $$ [HDon17x1] with Hs17
  · isplitr; · iexact HE
    iexact HDon17x1
  imod (close_dma I K c 18 (by decide) (by decide)) $$ [HDon18x1] with Hs18
  · isplitr; · iexact HE
    iexact HDon18x1
  imod (close_dma I K c 19 (by decide) (by decide)) $$ [HDon19x1] with Hs19
  · isplitr; · iexact HE
    iexact HDon19x1
  imod (close_dma I K c 20 (by decide) (by decide)) $$ [HDon20x1] with Hs20
  · isplitr; · iexact HE
    iexact HDon20x1
  imod (close_dma I K c 21 (by decide) (by decide)) $$ [HDon21x1] with Hs21
  · isplitr; · iexact HE
    iexact HDon21x1
  imod (close_dma I K c 22 (by decide) (by decide)) $$ [HDon22x1] with Hs22
  · isplitr; · iexact HE
    iexact HDon22x1
  imod (close_dma I K c 23 (by decide) (by decide)) $$ [HDon23x1] with Hs23
  · isplitr; · iexact HE
    iexact HDon23x1
  imod (close_dma I K c 24 (by decide) (by decide)) $$ [HDon24x1] with Hs24
  · isplitr; · iexact HE
    iexact HDon24x1
  imod (close_dma I K c 25 (by decide) (by decide)) $$ [HDon25x1] with Hs25
  · isplitr; · iexact HE
    iexact HDon25x1
  imod (close_dma I K c 26 (by decide) (by decide)) $$ [HDon26x1] with Hs26
  · isplitr; · iexact HE
    iexact HDon26x1
  imod (close_dma2 I K c 27 (by decide)) $$ [HDon27x2] with Hs27
  · isplitr; · iexact HE
    iexact HDon27x2
  imod (close_dma2 I K c 28 (by decide)) $$ [HDon28x2] with Hs28
  · isplitr; · iexact HE
    iexact HDon28x2
  imod (close_dma2 I K c 29 (by decide)) $$ [HDon29x2] with Hs29
  · isplitr; · iexact HE
    iexact HDon29x2
  imod (close_dma2 I K c 30 (by decide)) $$ [HDon30x2] with Hs30
  · isplitr; · iexact HE
    iexact HDon30x2
  imod (close_bar I K c) $$ [HAtb] with Hsb
  · isplitr; · iexact HE
    iexact HAtb
  imodintro
  unfold Endd Ops Scr
  rw [mine_sep, w1_own, w2_own]
  isplitl [HXL HXR HRTi Hw10 Hw11 Hw12 Hw13 Hw20 Hw21 Hw22 Hw23]
  · isplitl [HXL HXR]
    · iapply (own_halves (c : Thread nD τ) mX.view (I.x c)).2
      isplitl [HXL]; · iexact HXL
      iexact HXR
    isplitl [HRTi]; · iexact HRTi
    isplitl [Hw10 Hw11 Hw12 Hw13]
    · isplitl [Hw10]; · iexact Hw10
      isplitl [Hw11]; · iexact Hw11
      isplitl [Hw12]; · iexact Hw12
      iexact Hw13
    isplitl [Hw20]; · iexact Hw20
    isplitl [Hw21]; · iexact Hw21
    isplitl [Hw22]; · iexact Hw22
    iexact Hw23
  isplitl [HOut]; · iexact HOut
  isplitl [Hxf0T Hxf0B Hxf1T Hxf1B Hxf2T Hxf2B Hxf3T Hxf3B HRF Hac0 Hac1T Hac1B Hac2T Hac2B Hac3T Hac3B Hag0L Hag0R Hag1L Hag1R Hag2 Hrg0 Hrg1 Hrg2 Hrs00 Hrs01 Hrs10 Hrs11 HRS2 Hv10 Hv11 Hv20 Hv21]
  · isplitl [Hxf0T Hxf0B Hxf1T Hxf1B Hxf2T Hxf2B Hxf3T Hxf3B]
    · iapply (rows_any c mXF)
      isplitl [Hxf0T Hxf0B]
      · iapply (any_of_own (c : Thread nD τ) (mXF.access (rowR (org c 0) (org_lt c 0))) _)
        iapply (row_join c mXF (org c 0) (org_lt c 0) fullShare _ _)
        isplitl [Hxf0T]; · iexact Hxf0T
        iexact Hxf0B
      isplitl [Hxf1T Hxf1B]
      · iapply (any_of_own (c : Thread nD τ) (mXF.access (rowR (org c 1) (org_lt c 1))) _)
        iapply (row_join c mXF (org c 1) (org_lt c 1) fullShare _ _)
        isplitl [Hxf1T]; · iexact Hxf1T
        iexact Hxf1B
      isplitl [Hxf2T Hxf2B]
      · iapply (any_of_own (c : Thread nD τ) (mXF.access (rowR (org c 2) (org_lt c 2))) _)
        iapply (row_join c mXF (org c 2) (org_lt c 2) fullShare _ _)
        isplitl [Hxf2T]; · iexact Hxf2T
        iexact Hxf2B
      iapply (any_of_own (c : Thread nD τ) (mXF.access (rowR (org c 3) (org_lt c 3))) _)
      iapply (row_join c mXF (org c 3) (org_lt c 3) fullShare _ _)
      isplitl [Hxf3T]; · iexact Hxf3T
      iexact Hxf3B
    isplitl [HRF]
    · iapply (any_of_own (c : Thread nD τ) mRF.view _); iexact HRF
    isplitl [Hac0 Hac1T Hac1B Hac2T Hac2B Hac3T Hac3B]
    · iapply (rows_any c mAcc)
      isplitl [Hac0]
      · iapply (any_of_own (c : Thread nD τ) (mAcc.access (rowR (org c 0) (org_lt c 0))) _); iexact Hac0
      isplitl [Hac1T Hac1B]
      · iapply (any_of_own (c : Thread nD τ) (mAcc.access (rowR (org c 1) (org_lt c 1))) _)
        iapply (row_join c mAcc (org c 1) (org_lt c 1) fullShare _ _)
        isplitl [Hac1T]; · iexact Hac1T
        iexact Hac1B
      isplitl [Hac2T Hac2B]
      · iapply (any_of_own (c : Thread nD τ) (mAcc.access (rowR (org c 2) (org_lt c 2))) _)
        iapply (row_join c mAcc (org c 2) (org_lt c 2) fullShare _ _)
        isplitl [Hac2T]; · iexact Hac2T
        iexact Hac2B
      iapply (any_of_own (c : Thread nD τ) (mAcc.access (rowR (org c 3) (org_lt c 3))) _)
      iapply (row_join c mAcc (org c 3) (org_lt c 3) fullShare _ _)
      isplitl [Hac3T]; · iexact Hac3T
      iexact Hac3B
    isplitl [Hag0L Hag0R Hag1L Hag1R Hag2]
    · iapply (any_ag c)
      isplitl [Hag0L Hag0R]
      · iapply (any_of_own (c : Thread nD τ) agS0.view (I.xk c 1))
        iapply (own_halves (c : Thread nD τ) agS0.view (I.xk c 1)).2
        isplitl [Hag0L]; · iexact Hag0L
        iexact Hag0R
      isplitl [Hag1L Hag1R]
      · iapply (any_of_own (c : Thread nD τ) agS1.view (I.xk c 2))
        iapply (own_halves (c : Thread nD τ) agS1.view (I.xk c 2)).2
        isplitl [Hag1L]; · iexact Hag1L
        iexact Hag1R
      iapply (any_of_own (c : Thread nD τ) agS2.view _); iexact Hag2
    isplitl [Hrg0 Hrg1 Hrg2]
    · iapply (any_rg c)
      isplitl [Hrg0]; · iapply (any_of_own (c : Thread nD τ) rgS0.view _); iexact Hrg0
      isplitl [Hrg1]; · iapply (any_of_own (c : Thread nD τ) rgS1.view _); iexact Hrg1
      iapply (any_of_own (c : Thread nD τ) rgS2.view _); iexact Hrg2
    isplitl [Hrs00 Hrs01 Hrs10 Hrs11 HRS2]
    · iapply (any_rs c)
      isplitl [Hrs00]; · iapply (any_of_own (c : Thread nD τ) rsS00.view _); iexact Hrs00
      isplitl [Hrs01]; · iapply (any_of_own (c : Thread nD τ) rsS01.view _); iexact Hrs01
      isplitl [Hrs10]; · iapply (any_of_own (c : Thread nD τ) rsS10.view _); iexact Hrs10
      isplitl [Hrs11]; · iapply (any_of_own (c : Thread nD τ) rsS11.view _); iexact Hrs11
      iapply (rs2_any c _); iexact HRS2
    isplitl [Hv10 Hv11]
    · iapply (any_v1 c)
      isplitl [Hv10]; · iapply (any_of_own (c : Thread nD τ) v1S0.view _); iexact Hv10
      iapply (any_of_own (c : Thread nD τ) v1S1.view _); iexact Hv11
    iapply (any_v2 c)
    isplitl [Hv20]; · iapply (any_of_own (c : Thread nD τ) v2S0.view _); iexact Hv20
    iapply (any_of_own (c : Thread nD τ) v2S1.view _); iexact Hv21
  isplitl [HOW]; · iexact HOW
  isplitl [Hsb]; · iexact Hsb
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  isplitl [Hs12]; · iexact Hs12
  isplitl [Hs13]; · iexact Hs13
  isplitl [Hs14]; · iexact Hs14
  isplitl [Hs15]; · iexact Hs15
  isplitl [Hs16]; · iexact Hs16
  isplitl [Hs17]; · iexact Hs17
  isplitl [Hs18]; · iexact Hs18
  isplitl [Hs19]; · iexact Hs19
  isplitl [Hs20]; · iexact Hs20
  isplitl [Hs21]; · iexact Hs21
  isplitl [Hs22]; · iexact Hs22
  isplitl [Hs23]; · iexact Hs23
  isplitl [Hs24]; · iexact Hs24
  isplitl [Hs25]; · iexact Hs25
  isplitl [Hs26]; · iexact Hs26
  isplitl [Hs27]; · iexact Hs27
  isplitl [Hs28]; · iexact Hs28
  isplitl [Hs29]; · iexact Hs29
  iexact Hs30

/-- The run. -/
theorem whole {Q : PUnit → sProp 𝕄} :
    iprop(Env I K c ∗ opn c ∗ Bar c ∗ Ow₀ c ∗ Toks c ∗ Ops I c ∗ any (c : Thread nD τ) mOut.view ∗ Scr c)
      ⊢ iprop((Endd I c -∗ Q ⟨⟩) -∗ wp₀ (cc0_body mX (Memref.isWhole_whole _) mRT (Memref.isWhole_whole _) mW1 (Memref.isWhole_whole _) mW2 (Memref.isWhole_whole _) mOut (Memref.isWhole_whole _) mXF (Memref.isWhole_whole _) mRF (Memref.isWhole_whole _) mAcc (Memref.isWhole_whole _) mAG (Memref.isWhole_whole _) mRG (Memref.isWhole_whole _) mRS (Memref.isWhole_whole _) mV1 (Memref.isWhole_whole _) mV2 (Memref.isWhole_whole _) cc0_scratch8 cc0_scratch9 cc0_scratch10 cc0_scratch11 cc0_scratch12 cc0_scratch13 cc0_scratch14 cc0_scratch15) Q) := by
  iintro ⟨#HE, #Ho, HS⟩ Hk
  iapply (wp_fupd frame (wpE (defs₀ (F := F)) 𝒱₀ (c : Thread nD τ) none) Set.univ _ Q)
  iapply (body I K c) $$ [HS]
  · isplitr; · iexact HE
    isplitr; · iexact Ho
    iapply (start I c); iexact HS
  iintro HF
  imod (finish I K c) $$ [HF] with HF
  · isplitr; · iexact HE
    iexact HF
  imodintro
  iapply Hk; iexact HF

end Cert.Moe

end
-- ==== Proof.Region.lean ====
/-
  The kernel's one grid point as the region sees it: what it enters with, what it leaves, and that the body does this.
-/
module

public import proofs.«01_k».proof.Proof.Whole
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The devices' blocks as the region finds them. -/
def inp : Inp F where
  x c := V m c main_arg0
  rt c := V m c main_v1
  w1 c := V m c main_arg2
  w2 c := V m c main_arg3

/-! ## Whole buffers -/

theorem own_whole (c : Dev nD) (b : Ref sig .tc) (q : PosShare TreeShare) (x : b.ty.Contents (Elt F)) :
    (own (c : Thread nD τ) (Memref.whole b).view q x : sProp 𝕄) = (((c : Thread nD τ).loc b) ↦{q} x) := by
  have h := own_of_read (Ix := Unit) (Name := ℕ) (U := UU) (Lvl := ℕ) (c : Thread nD τ) (View.whole b) q x x (View.read_whole _ _)
  rw [View.set_whole] at h
  exact h.symm
theorem any_whole (c : Dev nD) (b : Ref sig .tc) :
    (any (c : Thread nD τ) (Memref.whole b).view : sProp 𝕄)
      = iprop(∃ f : Buf (Elt F) ((c : Thread nD τ).loc b), ((c : Thread nD τ).loc b) ↦{fullShare} f) := by
  show iprop(∃ f : Buf (Elt F) ((c : Thread nD τ).loc b), ((c : Thread nD τ).loc b) ↦[(View.whole b).set]{fullShare} f) = _
  rw [View.set_whole]
theorem owns_eq_own (c : Dev nD) (b : Ref sig .tc) (x : b.ty.Contents (Elt F)) :
    (owns (Ix := Unit) (Name := ℕ) (U := UU) (Lvl := ℕ) (c : Thread nD τ) (Memref.whole b) fullShare x : sProp 𝕄)
      ⊣⊢ own (c : Thread nD τ) (Memref.whole b).view fullShare x := by
  rw [own_whole]
  unfold owns; simp only [Memref.view_whole, View.read_whole, View.set_whole]
  constructor
  · iintro ⟨%f, %h, H⟩; rw [← h]; iexact H
  · iintro H; iexists x; isplitr; · ipureintro; rfl
    iexact H

/-! ## The windows -/

theorem read_blk0 (f : (main_arg0 : Ref sig .tc).ty.Contents (Elt F)) : ((cfg0.win 0).blk t0_0).view.read (Elt F) f = f := by
  funext j
  rw [View.read_apply]
  exact congrArg f (Rect.emb_unit_full (s := S256x1024) _ j)
theorem read_blk1 (f : (main_v1 : Ref sig .tc).ty.Contents (Elt F)) : ((cfg0.win 1).blk t0_0).view.read (Elt F) f = f := by
  funext j
  rw [View.read_apply]
  exact congrArg f (Rect.emb_unit_full (s := S4x1024) _ j)
theorem read_blk2 (f : (main_v2 : Ref sig .tc).ty.Contents (Elt F)) : ((cfg0.win 2).blk t0_0).view.read (Elt F) f = f := by
  funext j
  rw [View.read_apply]
  exact congrArg f (Rect.emb_unit_full (s := S256x1024) _ j)

/-! ## The region's data -/

/-- The two weight arrays. -/
def Wts (c : Dev nD) : sProp 𝕄 := iprop(own (c : Thread nD τ) mW1.view fullShare ((inp m).w1 c) ∗ own (c : Thread nD τ) mW2.view fullShare ((inp m).w2 c))

def Φ₀ (c : Dev nD) : sProp 𝕄 :=
  iprop((∃ K, Env (inp m) K c ∗ opn c ∗ Bar c ∗ Toks c) ∗ Wts m c ∗ Scr c ∗ ∃ r, prngReg c r)
def Φ₁ (c : Dev nD) : sProp 𝕄 :=
  iprop(semVal (gb c) 0 ∗ (bigSep mine fun q => semVal (gd c q) 0) ∗ Wts m c ∗ Scr c ∗ ∃ r, prngReg c r)

def dat (c : Dev nD) : Dat τ (Elt F) Unit ℕ UU ℕ cfg0 c where
  A w := V m c (Pipeline.arrRef spec0 w)
  after w _ := match w with
    | ⟨0, _⟩ => (inp m).x c
    | ⟨1, _⟩ => (inp m).rt c
    | ⟨2, _⟩ => (inp m).out c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_0 (c : Dev nD) (d) : (dat m c).before 0 t0_0 d = (inp m).x c := by
  rw [Pipeline.Dat.before_fetched _ _ _ (fetch0_0 t0_0)]
  exact read_blk0 (V m c main_arg0)
theorem before_1 (c : Dev nD) (d) : (dat m c).before 1 t0_0 d = (inp m).rt c := by
  rw [Pipeline.Dat.before_fetched _ _ _ (fetch0_1 t0_0)]
  exact read_blk1 (V m c main_v1)

theorem owesAt_intro (c : Dev nD) (t : Fin (cfg0.N + 1)) (O : CellTallies nD τ sig Unit) (h0 : (dat m c).owed t = O) (W : Waits sig Unit) :
    (owes (c : Thread nD τ) O W : sProp 𝕄) ⊢ (dat m c).owesAt () t := by
  have hr : (dat m c).recorded t = Set.univ := rfl
  unfold Dat.owesAt Pipeline.owesWithin Dat.bound; rw [h0, hr]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-- What the body leaves. -/
def bodyPost (c : Dev nD) : sProp 𝕄 :=
  iprop(Φ₁ m c ∗ (dat m c).owesAt () t0_0.succ ∗ owns (c : Thread nD τ) mX fullShare ((inp m).x c) ∗ owns (c : Thread nD τ) mRT fullShare ((inp m).rt c)
    ∗ owns (c : Thread nD τ) mOut fullShare ((inp m).out c))

/-- What the body starts from. -/
def bodyPre (c : Dev nD) : sProp 𝕄 :=
  iprop(Φ₀ m c ∗ (dat m c).owesAt () t0_0.castSucc ∗ (∃ d, owns (c : Thread nD τ) mX fullShare ((dat m c).before 0 t0_0 d))
    ∗ (∃ d, owns (c : Thread nD τ) mRT fullShare ((dat m c).before 1 t0_0 d)) ∗ (∃ d, owns (c : Thread nD τ) mOut fullShare ((dat m c).before 2 t0_0 d)))

theorem body_run (c : Dev nD) : bodyPre m c ⊢ wp frame (wpE (defs₀ (F := F)) 𝒱₀ (c : Thread nD τ) none) Set.univ
    (cc0_body mX (Memref.isWhole_whole _) mRT (Memref.isWhole_whole _) mW1 (Memref.isWhole_whole _) mW2 (Memref.isWhole_whole _) mOut (Memref.isWhole_whole _)
      mXF (Memref.isWhole_whole _) mRF (Memref.isWhole_whole _) mAcc (Memref.isWhole_whole _) mAG (Memref.isWhole_whole _) mRG (Memref.isWhole_whole _)
      mRS (Memref.isWhole_whole _) mV1 (Memref.isWhole_whole _) mV2 (Memref.isWhole_whole _)
      cc0_scratch8 cc0_scratch9 cc0_scratch10 cc0_scratch11 cc0_scratch12 cc0_scratch13 cc0_scratch14 cc0_scratch15) (fun _ => bodyPost m c) := by
  unfold bodyPre Φ₀ Wts
  simp only [before_0, before_1]
  iintro ⟨⟨⟨%K, #HE, #Ho, HB, HT⟩, ⟨Hw1, Hw2⟩, HS, Hr⟩, HO, ⟨%d0, Hx⟩, ⟨%d1, Hrt⟩, ⟨%d2, Hout⟩⟩
  ihave HO' := (owesAt_elim m c _ (O₀ c) rfl) $$ HO
  ihave Hx' := (owns_eq_own c cc0_stg0_0 _).1 $$ Hx
  ihave Hrt' := (owns_eq_own c cc0_stg1_0 _).1 $$ Hrt
  ihave Hout' := (owns_eq_own c cc0_stg2_0 _).1 $$ Hout
  iapply (whole (inp m) K c) $$ [HB HT Hw1 Hw2 HS HO' Hx' Hrt' Hout']
  · isplitr; · iexact HE
    isplitr; · iexact Ho
    isplitl [HB]; · iexact HB
    isplitl [HO']; · unfold Ow₀; iexact HO'
    isplitl [HT]; · iexact HT
    isplitl [Hx' Hrt' Hw1 Hw2]
    · unfold Ops
      isplitl [Hx']; · iexact Hx'
      isplitl [Hrt']; · iexact Hrt'
      isplitl [Hw1]; · iexact Hw1
      iexact Hw2
    isplitl [Hout']; · iapply (any_of_own (c : Thread nD τ) mOut.view _) $$ Hout'
    iexact HS
  unfold Endd Ops Ow
  iintro ⟨⟨Hx, Hrt, Hw1, Hw2⟩, Hout, HS, ⟨%W, HO⟩, Hb, Hm⟩
  unfold bodyPost Φ₁ Wts
  isplitl [Hb Hm Hw1 Hw2 HS Hr]
  · isplitl [Hb]; · iexact Hb
    isplitl [Hm]; · iexact Hm
    isplitl [Hw1 Hw2]
    · isplitl [Hw1]; · iexact Hw1
      iexact Hw2
    isplitl [HS]; · iexact HS
    iexact Hr
  isplitl [HO]; · iapply (owesAt_intro m c _ 0 rfl W); iexact HO
  isplitl [Hx]; · iapply (owns_eq_own c cc0_stg0_0 _).2 $$ Hx
  isplitl [Hrt]; · iapply (owns_eq_own c cc0_stg1_0 _).2 $$ Hrt
  iapply (owns_eq_own c cc0_stg2_0 _).2 $$ Hout

theorem body_obligation (c : Dev nD) : BodyObligation (dat m c) (defs₀ (F := F)) 𝒱₀ () Set.univ := fun t => by
  obtain rfl := fin_N0 t
  rw [show (Finset.univ : Finset (Fin cfg0.W)) = (Finset.univ : Finset (Fin 3)) from rfl, bigSep_W0, bigSep_W0]
  exact body_run m c

theorem share_eq (c : Dev nD) (w : Fin cfg0.W) : (dat m c).share w = fullShare := by unfold Dat.share; split <;> rfl

theorem arr_out (c : Dev nD) : (dat m c).arrAt 2 cfg0.N = (inp m).out c := by
  rw [show cfg0.N = (t0_0 : Fin cfg0.N).val + 1 from rfl, (dat m c).arrAt_succ 2 t0_0, flush0_2, if_pos rfl]
  refine (read_blk2 _).symm.trans ?_
  exact View.read_write_univ _ _

end Cert.Moe

end
-- ==== Proof.Deal.lean ====
/-
  The kernel's call among the host's operations: how what the launch deals becomes what the body starts with.
-/
module

public import proofs.«01_k».proof.Proof.Region

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The semaphores of the kernel's own -/

abbrev ownSem (k : Fin 28) : DmaSem sig := ⟨k.val + 3, by have := k.isLt; show k.val + 3 < 31; omega⟩
abbrev osem (k : Fin 28) : SemLoc sig := .dma (ownSem k)
theorem ownSem_inj : Function.Injective ownSem := by decide
theorem osem_inj : Function.Injective osem := fun a b h => ownSem_inj (by injection h)
theorem mine_eq : mine = Finset.univ.map ⟨ownSem, ownSem_inj⟩ := by decide

theorem ownSems_eq (c : Dev nD) : (Pipeline.ownSems0 osem c : sProp 𝕄) = bigSep mine fun q => semVal (gd c q) 0 := by
  rw [mine_eq, bigSep_map]; rfl

/-! ## From what the launch deals to what the body starts with -/

/-- The invariants device `c` uses, and the barrier semaphores at their first round. -/
def Recs (K : GSem nD τ sig → ℕ) (c : Dev nD) : sProp 𝕄 :=
  iprop(cellInv ER (sched (inp m)) (K (gb c)) (gb c) ∗ cellInv ER (sched (inp m)) (K (gb (left c))) (gb (left c)) ∗ cellInv ER (sched (inp m)) (K (gb (right c))) (gb (right c))
    ∗ reached ER (gb (left c)) 0 ∗ reached ER (gb (right c)) 0
    ∗ (bigSep mine fun q => cellInv ER (sched (inp m)) (K (gd c q)) (gd c q))
    ∗ (bigSep mine fun q => cellInv ER (sched (inp m)) (K (gd (right c) q)) (gd (right c) q)))
instance Recs_persistent (K : GSem nD τ sig → ℕ) (c : Dev nD) : BI.Persistent (Recs m K c) := by unfold Recs; infer_instance

/-- The payments device `c` is to make, by its own semaphores and the next device's. -/
def Duts (c : Dev nD) : sProp 𝕄 :=
  iprop(dutyTok ER (gb (left c)) 0 false ∗ dutyTok ER (gb (right c)) 0 true
    ∗ (bigSep dep fun q => dutyTok ER (gd c q) 0 false) ∗ (bigSep land fun q => dutyTok ER (gd (right c) q) 0 false)
    ∗ (bigSep loc fun q => dutyTok ER (gd c q) 0 false) ∗ (bigSep loc fun q => dutyTok ER (gd c q) 1 false))

/-- What only device `c` holds. -/
def Lin (c : Dev nD) : sProp 𝕄 := iprop(atPos ER (gb c) 0 ∅ 0 ∗ (bigSep mine fun q => openTok ER (gd c q)) ∗ Duts c)

def Crd (c : Dev nD) : sProp 𝕄 := iprop(cred (tallyAt (gb c) () 2) ∗ bigSep land fun q => cred (tallyAt (gd c q) () (amt q)))

def Tk (c : Dev nD) : sProp 𝕄 := iprop((∃ K, Recs m K c ∗ Lin c) ∗ Crd c)
def Xk (c : Dev nD) : sProp 𝕄 := iprop(∃ K, Env (inp m) K c ∗ opn c ∗ Bar c ∗ Toks c)
def Yk (c : Dev nD) : sProp 𝕄 := semVal (gb c) 0

theorem open_all (K : GSem nD τ sig → ℕ) (c : Dev nD) :
    iprop((bigSep mine fun q => cellInv ER (sched (inp m)) (K (gd c q)) (gd c q)) ∗ (bigSep mine fun q => openTok ER (gd c q))
        ∗ (bigSep mine fun q => semVal (gd c q) 0))
      ⊢ (|={Set.univ}=> bigSep mine fun q => Don c q 0 : sProp 𝕄) := by
  rw [← bigSep_sep', ← bigSep_sep']
  refine BIBase.Entails.trans (bigSep_mono fun q _ => ?_) (bigSep_fupd mine fun q => Don c q 0)
  unfold Don
  exact Rounds.cell_open ER (sched (inp m)) (g := gd c q) (Set.mem_univ (K (gd c q)))

theorem land_sub : land ⊆ mine := by decide

theorem opn_of_don (c : Dev nD) :
    (bigSep mine fun q => Don (F := F) c q 0 : sProp 𝕄) ⊢ iprop((bigSep mine fun q => Don c q 0) ∗ opn c) := by
  unfold Don opn
  rw [bigSep_sep']
  iintro ⟨Ha, #Hr⟩
  isplitl [Ha]
  · isplitl [Ha]; · iexact Ha
    iexact Hr
  have he : (bigSep mine fun q => reached ER (gd c q) 0 : sProp 𝕄) ⊢ bigSep land fun q => reached ER (gd c q) 0 := bigSep_subset land_sub
  iapply he $$ Hr

theorem hopen (c : Dev nD) : iprop(Tk m c ∗ Pipeline.ownSems0 osem c ∗ levAts L lv) ⊢ (|={Set.univ}=> Xk m c : sProp 𝕄) := by
  rw [ownSems_eq]
  unfold Tk Lin Duts Crd
  iintro ⟨⟨⟨%K, #HR, Hat, Hop, HtL, HtR, Hdep, Hland, Hloc, Hloc1⟩, Hcb, Hcl⟩, Hs, #Hlev⟩
  unfold Recs
  icases HR with ⟨#HIb, #HIl, #HIr, #HrL, #HrR, #HIm, #HIn⟩
  imod (open_all m K c) $$ [Hop Hs] with Hd
  · isplitr; · iexact HIm
    isplitl [Hop]; · iexact Hop
    iexact Hs
  ihave Hd' := (opn_of_don (F := F) c) $$ Hd
  icases Hd' with ⟨Hd, #Ho⟩
  imodintro
  unfold Xk Env Bar Toks
  iexists K
  isplitr
  · isplitr; · iexact Hlev
    isplitr; · iexact HIb
    isplitr; · iexact HIl
    isplitr; · iexact HIr
    isplitr; · iexact HrL
    isplitr; · iexact HrR
    isplitr; · iexact HIm
    iexact HIn
  isplitr; · iexact Ho
  isplitl [HtL HtR Hcb Hat]
  · isplitl [HtL]; · iexact HtL
    isplitl [HtR]; · iexact HtR
    isplitl [Hcb]; · iexact Hcb
    iexact Hat
  isplitl [Hdep]; · iexact Hdep
  isplitl [Hland]; · iexact Hland
  isplitl [Hloc]; · iexact Hloc
  isplitl [Hloc1]; · iexact Hloc1
  isplitl [Hcl]; · iexact Hcl
  iexact Hd

/-! ## The buffers by name -/

def V₀ (c : Dev nD) : Valuation τ sig (Elt F) := fun b => m (c, b)
/-- After the host operation. -/
def V₁ (c : Dev nD) : Valuation τ sig (Elt F) := StableHlo.after hostOps0 (V₀ m c)
/-- At the end. -/
def V₂ (c : Dev nD) : Valuation τ sig (Elt F) := Function.update (V₁ m c) (Proc.devRef .tc main_v2) ((inp m).out c)

theorem V₂_out (c : Dev nD) : V₂ m c (Proc.devRef .tc main_v2) = (inp m).out c := Function.update_self _ _ _
theorem V₂_ne (c : Dev nD) (b : DevRef τ sig) (h : b ≠ Proc.devRef .tc main_v2) : V₂ m c b = V₁ m c b := Function.update_of_ne h _ _

def bufs : Finset (DevRef τ sig) := (StableHlo.tcRefs τ sig).filter fun b => ¬ b.isScoped
/-- The buffers the body addresses itself. -/
abbrev Hs : Finset (DevRef τ sig) := {Proc.devRef .tc main_arg2, Proc.devRef .tc main_arg3}
/-- The buffers that are no window's. -/
abbrev Sr : Finset (DevRef τ sig) := {Proc.devRef .tc main_arg1, Proc.devRef .tc main_arg2, Proc.devRef .tc main_arg3}

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arr_sub : Pipeline.arrRefs (τ := τ) (pcfgs (F := F) 0).spec ⊆ bufs := by
  show Pipeline.arrRefs (τ := τ) spec0 ⊆ bufs
  decide
theorem arr_rest : bufs \ Pipeline.arrRefs (τ := τ) (pcfgs (F := F) 0).spec = Sr := by
  show bufs \ Pipeline.arrRefs (τ := τ) spec0 = Sr
  decide
theorem bufs_split (c : Dev nD) (W : Valuation τ sig (Elt F)) :
    (StableHlo.held (c : Thread nD τ) bufs W : sProp 𝕄)
      = iprop(StableHlo.held (c.tc : Thread nD τ) (Pipeline.arrRefs (τ := τ) (pcfgs (F := F) 0).spec) W ∗ StableHlo.held (c.tc : Thread nD τ) Sr W) := by
  rw [StableHlo.held_sub_split (c : Thread nD τ) (arr_sub (F := F)) W, arr_rest]

theorem Hs_eq (c : Dev nD) (W : Valuation τ sig (Elt F)) : (StableHlo.held (c : Thread nD τ) Hs W : sProp 𝕄)
    = iprop((((c : Thread nD τ).loc main_arg2) ↦{fullShare} W (Proc.devRef .tc main_arg2)) ∗ (((c : Thread nD τ).loc main_arg3) ↦{fullShare} W (Proc.devRef .tc main_arg3))) := by
  unfold StableHlo.held
  rw [bigSep_eq_bigSepL_of_eq [Proc.devRef .tc main_arg2, Proc.devRef .tc main_arg3] (by decide) (by decide)]
  rfl

theorem Wts_eq (c : Dev nD) : (StableHlo.held (c : Thread nD τ) Hs (V₁ m c) : sProp 𝕄) = Wts m c := by
  rw [Hs_eq]
  unfold Wts
  rw [own_whole, own_whole]
  rfl
theorem Wts_eq2 (c : Dev nD) : (StableHlo.held (c : Thread nD τ) Hs (V₂ m c) : sProp 𝕄) = Wts m c := by
  rw [← Wts_eq, Hs_eq, Hs_eq, V₂_ne m c _ (by decide), V₂_ne m c _ (by decide)]

theorem Scr_eq (c : Dev nD) : (Pipeline.scopedRest (Ix := Unit) (Name := ℕ) (U := UU) (Lvl := ℕ) (Val := Elt F) spec0 c : sProp 𝕄) = Scr c := by
  rw [scopedRest0_eq]
  unfold Scr
  rw [any_whole, any_whole, any_whole, any_whole, any_whole, any_whole, any_whole, any_whole]

theorem hin (c : Dev nD) : iprop(Pipeline.scopedRest spec0 c ∗ (∃ r, prngReg c r) ∗ StableHlo.held (c.tc : Thread nD τ) Hs (V₁ m c) ∗ Xk m c)
    ⊢ (Φ₀ m c : sProp 𝕄) := by
  rw [Scr_eq, show StableHlo.held (c.tc : Thread nD τ) Hs (V₁ m c) = (Wts m c : sProp 𝕄) from Wts_eq m c]
  unfold Φ₀ Xk
  iintro ⟨Hs, Hp, Hw, Hx⟩
  isplitl [Hx]; · iexact Hx
  isplitl [Hw]; · iexact Hw
  isplitl [Hs]; · iexact Hs
  iexact Hp

theorem hout (c : Dev nD) : (Φ₁ m c : sProp 𝕄)
    ⊢ iprop(Pipeline.scopedRest spec0 c ∗ (∃ r, prngReg c r) ∗ StableHlo.held (c.tc : Thread nD τ) Hs (V₂ m c) ∗ Pipeline.ownSems0 osem c ∗ Yk c) := by
  rw [Scr_eq, show StableHlo.held (c.tc : Thread nD τ) Hs (V₂ m c) = (Wts m c : sProp 𝕄) from Wts_eq2 m c, ownSems_eq]
  unfold Φ₁ Yk
  iintro ⟨Hb, Hm, Hw, Hs, Hp⟩
  isplitl [Hs]; · iexact Hs
  isplitl [Hp]; · iexact Hp
  isplitl [Hw]; · iexact Hw
  isplitl [Hm]; · iexact Hm
  iexact Hb

/-! ## The region -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have bar (d : Dev nD) (h' : 0 < (tallyAt (gb d) () 1 : CellTallies nD τ sig Unit) g u) : u ∈ L g ∧ 0 < lv g u := by
    rw [tallyAt_apply] at h'
    split at h'
    · next hg => rw [hg.1]; exact ⟨by rw [L_tc]; exact Finset.mem_singleton_self _, Nat.one_pos⟩
    · exact absurd h' (Nat.lt_irrefl 0)
  rcases Nat.add_pos_iff_pos_or_pos.mp h with h | h
  · rcases Nat.add_pos_iff_pos_or_pos.mp h with h | h
    · obtain ⟨q, hq, rfl⟩ := owe_pos c order g u h
      exact ⟨by rw [L_tc]; exact Finset.mem_singleton_self _, lt_trans Nat.one_pos (lv_order q hq)⟩
    · exact bar _ h
  · exact bar _ h

theorem cutD (c : Dev nD) (t : Fin (cfg0.N + 1)) (g : GSem nD τ sig) (i : Unit) (h : 0 < (dat m c).owed t g i) :
    i ∈ L g ∧ (0 : ℕ) < lv g i := by
  obtain ⟨t, ht⟩ := t
  match t with
  | 0 => exact O₀_pos (c := c) h
  | t + 1 => exact absurd h (Nat.lt_irrefl 0)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem arr_start (c : Dev nD) (w : Fin 3) : (dat m c).arrAt w 0 = V₁ m c (Proc.devRef .tc (Pipeline.arrRef spec0 w)) := rfl
theorem arr_end (c : Dev nD) : ∀ w : Fin 3, (dat m c).arrAt w cfg0.N = V₂ m c (Proc.devRef .tc (Pipeline.arrRef spec0 w))
  | 0 => ((dat m c).arrAt_in 0 rfl cfg0.N).trans (V₂_ne m c (Proc.devRef .tc main_arg0) (by decide)).symm
  | 1 => ((dat m c).arrAt_in 1 rfl cfg0.N).trans (V₂_ne m c (Proc.devRef .tc main_v1) (by decide)).symm
  | 2 => (arr_out m c).trans (V₂_out m c).symm

theorem rest_eq (c : Dev nD) : ∀ b ∈ Sr \ Hs, V₂ m c b = V₁ m c b := fun b hb => V₂_ne m c b (by
  have : Proc.devRef (τ := τ) .tc main_v2 ∉ (Sr \ Hs : Finset (DevRef τ sig)) := by decide
  rintro rfl; exact this hb)

set_option backward.isDefEq.respectTransparency.types false in
/-- The kernel's call. -/
def reg : ℝ𝕊 0 :=
  Pipeline.RegionSeg.ofTalk (pcfgs (F := F)) adm (pdats m) () defs₀ 𝒱₀ L lv 0 osem (by decide : Pipeline.OwnSemFacts spec0 osem)
    Hs Sr (by decide) kitP rfl (fun c => (body_obligation m c).loose)
    (fun _ => 0) O₀ (fun c => (zero_add (O₀ c)).symm) (fun _ => rfl) (fun _ => rfl) (share_eq m)
    (V₁ m) (V₂ m) (rest_eq m)
    (Tk m) Yk (Xk m) Yk (hopen m) (hin m) (hout m)
    (fun c => by iintro H; imodintro; iexact H)
    (fun _ => 0)
    ⟨fun c w s => by rw [L_tc]; exact Finset.mem_singleton_self _,
      fun c w s => by fin_cases w <;> exact Nat.le_refl 0, fun c t g i h => cutD m c t g i h⟩
    (fun _ => iprop(emp))
    (arr_start m) (arr_end m)

/-- What rides beside the buffers. -/
def Rst (c : Dev nD) : sProp 𝕄 := iprop((∃ r, prngReg c r) ∗ Tk m c ∗ ∃ W, owes (c : Thread nD τ) (O₀ c) W)

theorem ops_sub : ∀ op ∈ (hostOps0 : List (HloOp τ sig (Elt F))), op.bufs ⊆ bufs := fun op h => by
  simp only [hostOps0, List.mem_singleton] at h; subst h
  show ({Proc.devRef .tc main_arg1, Proc.devRef .tc main_v1} : Finset (DevRef τ sig)) ⊆ bufs; decide

/-- The transposed router. -/
def seg : ℍ := Pipeline.HostSeg.ofOps _ _ _ _ _ bufs hostOps0 ops_sub (List.forall_iff_forall_mem.mp hostOps0_fresh) (V₀ m) (Rst m)

theorem reg_pre (c : Dev nD) : iprop(StableHlo.held (c : Thread nD τ) bufs (V₁ m c) ∗ Rst m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [bufs_split, zero_add]
  unfold Rst
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) bufs (V₂ m c) ∗ semVal (gb c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (seg m), .region (reg m)]

theorem main_eq (c : Dev nD) : main (F := F) c = Pipeline.Seg.run (segs m) := main_segs adm (pdats m) () 𝒱₀ L lv (seg m) (reg m) rfl c

end Cert.Moe

end
-- ==== Proof.Launch.lean ====
/-
  The launch: the protocol's cells are made, its rights dealt to the devices, and the whole program runs.
-/
module

public import proofs.«01_k».proof.Proof.Deal

@[expose] public section

set_option maxRecDepth 16384

noncomputable section

namespace Cert.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (ρ : Dev nD → PrngReg)

/-! ## The cells and the tokens -/

def barEmb : Dev nD ↪ GSem nD τ sig := ⟨gb, fun _ _ h => congrArg (fun g : GSem nD τ sig => g.1.1) h⟩
def ownEmb : Dev nD × Fin 28 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

/-- A device's payments on its own cells: two at the barrier, one at each semaphore, a second one at the last four. -/
abbrev tsem (k : Fin 34) : SemLoc sig :=
  if h : k.val < 2 then .reg barS else if h : k.val < 30 then .dma ⟨k.val + 1, by show k.val + 1 < 31; omega⟩ else .dma ⟨k.val - 3, by show k.val - 3 < 31; omega⟩
abbrev tnum (k : Fin 34) : ℕ := if k.val < 30 then 0 else 1
abbrev tbit (k : Fin 34) : Bool := decide (k.val = 1)
theorem tok_inj : Function.Injective (fun k : Fin 34 => (tsem k, tnum k, tbit k)) := by decide
def allToks : Finset (GSem nD τ sig × ℕ × Bool) :=
  Finset.univ.map ⟨fun ck : Dev nD × Fin 34 => (((ck.1 : Thread nD τ), tsem ck.2), tnum ck.2, tbit ck.2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2) h)))⟩

theorem osem_ne_bar (k : Fin 28) : osem k ≠ .reg barS := fun h => by injection h

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem gb_mem (c : Dev nD) : gb c ∈ (barCells ∪ ownCells : Finset (GSem nD τ sig)) :=
  Finset.mem_union_left _ (Finset.mem_map_of_mem barEmb (Finset.mem_univ c))

def dmaEmb (c : Dev nD) : DmaSem sig ↪ GSem nD τ sig := ⟨gd c, fun _ _ h => by injection (congrArg Prod.snd h)⟩
theorem mine_cells (c : Dev nD) : mine.map (dmaEmb c) ⊆ (barCells ∪ ownCells : Finset (GSem nD τ sig)) := by
  intro g hg
  obtain ⟨q, hq, rfl⟩ := Finset.mem_map.mp hg
  rw [mine_eq] at hq
  obtain ⟨k, -, rfl⟩ := Finset.mem_map.mp hq
  exact Finset.mem_union_right _ (Finset.mem_map_of_mem ownEmb (Finset.mem_univ (c, k)))

/-- The launch's element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource on one device. -/
def at0 (X : sProp 𝕄) (c : Dev nD) : sProp 𝕄 := if c = 0 then X else iprop(emp)
theorem bigSep_at0 (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp
def G : Dev nD → sProp 𝕄 := at0 (BI.own (ER (launchOf barCells ownCells allToks)))

/-! ## What every device may consult -/

def Pub (κ : GSem nD τ sig → ℕ) : sProp 𝕄 :=
  iprop((bigSep (barCells ∪ ownCells) fun g => cellInv ER (sched (inp m)) (κ g) g) ∗ bigSep barCells fun g => reached ER g 0)
instance Pub_persistent (κ : GSem nD τ sig → ℕ) : BI.Persistent (Pub m κ) := by unfold Pub; infer_instance

theorem inv_at (κ : GSem nD τ sig → ℕ) {g : GSem nD τ sig} (hg : g ∈ (barCells ∪ ownCells : Finset (GSem nD τ sig))) :
    (bigSep (barCells ∪ ownCells) fun g => (cellInv ER (sched (inp m)) (κ g) g : sProp 𝕄)) ⊢ cellInv ER (sched (inp m)) (κ g) g :=
  bigSep_elim hg
theorem inv_mine (κ : GSem nD τ sig → ℕ) (c : Dev nD) :
    (bigSep (barCells ∪ ownCells) fun g => (cellInv ER (sched (inp m)) (κ g) g : sProp 𝕄))
      ⊢ bigSep mine fun q => cellInv ER (sched (inp m)) (κ (gd c q)) (gd c q) :=
  BIBase.Entails.trans (bigSep_subset (mine_cells c)) (Entails.of_eq (bigSep_map (dmaEmb c)))
theorem reached_at (c : Dev nD) : (bigSep barCells fun g => (reached ER g 0 : sProp 𝕄)) ⊢ reached ER (gb c) 0 :=
  bigSep_elim (Finset.mem_map_of_mem barEmb (Finset.mem_univ c))

theorem recs_intro (κ : GSem nD τ sig → ℕ) (c : Dev nD) : Pub m κ ⊢ Recs m κ c := by
  unfold Pub Recs
  iintro ⟨#HI, #HR⟩
  isplitr; · iapply (inv_at m κ (gb_mem c)); iexact HI
  isplitr; · iapply (inv_at m κ (gb_mem (left c))); iexact HI
  isplitr; · iapply (inv_at m κ (gb_mem (right c))); iexact HI
  isplitr; · iapply (reached_at (F := F) (left c)); iexact HR
  isplitr; · iapply (reached_at (F := F) (right c)); iexact HR
  isplitr; · iapply (inv_mine m κ c); iexact HI
  iapply (inv_mine m κ (right c)); iexact HI

/-! ## The tokens dealt around the ring -/

/-- The payments on a device's own cells. -/
def toks (c : Dev nD) : sProp 𝕄 :=
  iprop(dutyTok ER (gb c) 0 false ∗ dutyTok ER (gb c) 0 true
    ∗ (bigSep dep fun q => dutyTok ER (gd c q) 0 false) ∗ (bigSep land fun q => dutyTok ER (gd c q) 0 false)
    ∗ (bigSep loc fun q => dutyTok ER (gd c q) 0 false) ∗ (bigSep loc fun q => dutyTok ER (gd c q) 1 false))

set_option maxHeartbeats 1000000 in
theorem tok_list (c : Dev nD) :
    (bigSep Finset.univ fun k : Fin 34 => (dutyTok ER ((c : Thread nD τ), tsem k) (tnum k) (tbit k) : sProp 𝕄)) ⊢ toks c := by
  have e : (bigSep Finset.univ fun k : Fin 34 => (dutyTok ER ((c : Thread nD τ), tsem k) (tnum k) (tbit k) : sProp 𝕄))
      = iprop(dutyTok ER (gb c) 0 false ∗ dutyTok ER (gb c) 0 true ∗ dutyTok ER (gd c 3) 0 false ∗ dutyTok ER (gd c 4) 0 false ∗ dutyTok ER (gd c 5) 0 false ∗ dutyTok ER (gd c 6) 0 false ∗ dutyTok ER (gd c 7) 0 false ∗ dutyTok ER (gd c 8) 0 false ∗ dutyTok ER (gd c 9) 0 false ∗ dutyTok ER (gd c 10) 0 false ∗ dutyTok ER (gd c 11) 0 false ∗ dutyTok ER (gd c 12) 0 false ∗ dutyTok ER (gd c 13) 0 false ∗ dutyTok ER (gd c 14) 0 false ∗ dutyTok ER (gd c 15) 0 false ∗ dutyTok ER (gd c 16) 0 false ∗ dutyTok ER (gd c 17) 0 false ∗ dutyTok ER (gd c 18) 0 false ∗ dutyTok ER (gd c 19) 0 false ∗ dutyTok ER (gd c 20) 0 false ∗ dutyTok ER (gd c 21) 0 false ∗ dutyTok ER (gd c 22) 0 false ∗ dutyTok ER (gd c 23) 0 false ∗ dutyTok ER (gd c 24) 0 false ∗ dutyTok ER (gd c 25) 0 false ∗ dutyTok ER (gd c 26) 0 false ∗ dutyTok ER (gd c 27) 0 false ∗ dutyTok ER (gd c 28) 0 false ∗ dutyTok ER (gd c 29) 0 false ∗ dutyTok ER (gd c 30) 0 false ∗ dutyTok ER (gd c 27) 1 false ∗ dutyTok ER (gd c 28) 1 false ∗ dutyTok ER (gd c 29) 1 false ∗ dutyTok ER (gd c 30) 1 false) :=
    bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide) _
  rw [e]
  unfold toks
  rw [dep_sep, land_sep, loc_sep, loc_sep]
  iintro ⟨Hb0, Hb1, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Hu27, Hu28, Hu29, Hu30⟩
  isplitl [Hb0]; · iexact Hb0
  isplitl [Hb1]; · iexact Hb1
  isplitl [Ht3 Ht4 Ht5 Ht9 Ht10 Ht11 Ht15 Ht16 Ht17 Ht18 Ht19 Ht20]
  · isplitl [Ht3]; · iexact Ht3
    isplitl [Ht4]; · iexact Ht4
    isplitl [Ht5]; · iexact Ht5
    isplitl [Ht9]; · iexact Ht9
    isplitl [Ht10]; · iexact Ht10
    isplitl [Ht11]; · iexact Ht11
    isplitl [Ht15]; · iexact Ht15
    isplitl [Ht16]; · iexact Ht16
    isplitl [Ht17]; · iexact Ht17
    isplitl [Ht18]; · iexact Ht18
    isplitl [Ht19]; · iexact Ht19
    iexact Ht20
  isplitl [Ht6 Ht7 Ht8 Ht12 Ht13 Ht14 Ht21 Ht22 Ht23 Ht24 Ht25 Ht26]
  · isplitl [Ht6]; · iexact Ht6
    isplitl [Ht7]; · iexact Ht7
    isplitl [Ht8]; · iexact Ht8
    isplitl [Ht12]; · iexact Ht12
    isplitl [Ht13]; · iexact Ht13
    isplitl [Ht14]; · iexact Ht14
    isplitl [Ht21]; · iexact Ht21
    isplitl [Ht22]; · iexact Ht22
    isplitl [Ht23]; · iexact Ht23
    isplitl [Ht24]; · iexact Ht24
    isplitl [Ht25]; · iexact Ht25
    iexact Ht26
  isplitl [Ht27 Ht28 Ht29 Ht30]
  · isplitl [Ht27]; · iexact Ht27
    isplitl [Ht28]; · iexact Ht28
    isplitl [Ht29]; · iexact Ht29
    iexact Ht30
  isplitl [Hu27]; · iexact Hu27
  isplitl [Hu28]; · iexact Hu28
  isplitl [Hu29]; · iexact Hu29
  iexact Hu30

theorem toks_all : bigSep allToks (fun x => (dutyTok ER x.1 x.2.1 x.2.2 : sProp 𝕄)) ⊢ bigSep Finset.univ fun c : Dev nD => toks c := by
  unfold allToks; rw [bigSep_map, bigSep_univ_prod]
  exact bigSep_mono fun c _ => tok_list c

/-- Each barrier payment to the neighbour who makes it, each landing's to the previous device. -/
theorem toks_around : (bigSep Finset.univ fun c : Dev nD => (toks c : sProp 𝕄)) ⊢ bigSep Finset.univ fun c : Dev nD => Duts c := by
  unfold toks Duts
  simp only [bigSep_sep']
  rw [bigSep_univ_equiv ring.symm (fun c : Dev nD => (dutyTok ER (gb c) 0 false : sProp 𝕄)),
    bigSep_univ_equiv ring (fun c : Dev nD => (dutyTok ER (gb c) 0 true : sProp 𝕄)),
    bigSep_univ_equiv ring (fun c : Dev nD => (bigSep land fun q => dutyTok ER (gd c q) 0 false : sProp 𝕄))]
  exact BI.Entails.refl _

/-! ## The credit of the launch -/

theorem gb_ne_gd (c d : Dev nD) (q : DmaSem sig) : gb c ≠ gd d q := fun h => by injection (congrArg Prod.snd h)
theorem gb_inj {c d : Dev nD} (h : gb c = gb d) : c = d := congrArg (fun g : GSem nD τ sig => g.1.1) h
theorem gd_inj {c d : Dev nD} {q p : DmaSem sig} (h : gd c q = gd d p) : c = d ∧ q = p :=
  ⟨congrArg (fun g : GSem nD τ sig => g.1.1) h, by injection (congrArg Prod.snd h)⟩

theorem owe_bar (d c : Dev nD) (l : List (DmaSem sig)) : owe d l (gb c) () = 0 := by
  by_contra h
  obtain ⟨q, -, hq⟩ := owe_pos d l (gb c) () (Nat.pos_of_ne_zero h)
  exact gb_ne_gd _ _ _ hq

theorem owe_other (d c : Dev nD) (q : DmaSem sig) (l : List (DmaSem sig)) (h : c ≠ right d ∨ q ∉ l) : owe d l (gd c q) () = 0 := by
  by_contra h0
  obtain ⟨p, hp, hq⟩ := owe_pos d l (gd c q) () (Nat.pos_of_ne_zero h0)
  obtain ⟨h1, rfl⟩ := gd_inj hq
  rcases h with h | h
  · exact h h1
  · exact h hp

theorem owe_own (d : Dev nD) (q : DmaSem sig) : ∀ l : List (DmaSem sig), l.Nodup → q ∈ l → owe d l (gd (right d) q) () = amt q
  | [], _, h => absurd h List.not_mem_nil
  | p :: l, hn, h => by
    unfold owe
    rw [Pi.add_apply, Finsupp.add_apply]
    rcases List.mem_cons.mp h with rfl | h
    · rw [owe_other d _ q l (.inr (List.nodup_cons.mp hn).1), tallyAt_apply, if_pos ⟨rfl, rfl⟩, Nat.zero_add]
    · have hne : q ≠ p := fun e => (List.nodup_cons.mp hn).1 (e ▸ h)
      rw [owe_own d q l (List.nodup_cons.mp hn).2 h, tallyAt_apply, if_neg (fun e => hne (gd_inj e.1).2), Nat.add_zero]

theorem owed_bar (d c : Dev nD) : O₀ d (gb c) () = (if d = left c then 1 else 0) + (if d = right c then 1 else 0) := by
  unfold O₀
  rw [Pi.add_apply, Finsupp.add_apply, Pi.add_apply, Finsupp.add_apply, owe_bar, tallyAt_apply, tallyAt_apply, Nat.zero_add]
  have h1 : (gb c = gb (right d) ∧ () = ()) ↔ d = left c :=
    ⟨fun h => by rw [gb_inj h.1, left_right], fun h => by rw [h, right_left]; exact ⟨rfl, rfl⟩⟩
  have h2 : (gb c = gb (left d) ∧ () = ()) ↔ d = right c :=
    ⟨fun h => by rw [gb_inj h.1, right_left], fun h => by rw [h, left_right]; exact ⟨rfl, rfl⟩⟩
  exact congrArg₂ (· + ·) (if_congr h1 rfl rfl) (if_congr h2 rfl rfl)

theorem land_order : ∀ q ∈ land, q ∈ order := by decide

theorem owed_land (d c : Dev nD) (q : DmaSem sig) (h : q ∈ land) : O₀ d (gd c q) () = if d = left c then amt q else 0 := by
  unfold O₀
  rw [Pi.add_apply, Finsupp.add_apply, Pi.add_apply, Finsupp.add_apply, tallyAt_apply, tallyAt_apply,
    if_neg (fun e => gb_ne_gd _ _ _ e.1.symm), if_neg (fun e => gb_ne_gd _ _ _ e.1.symm)]
  by_cases hd : d = left c
  · subst hd
    rw [if_pos rfl]
    have := owe_own (left c) q order (by decide) (land_order q h)
    rw [right_left] at this
    rw [this, Nat.add_zero]
  · rw [if_neg hd, owe_other d c q order (.inl fun e => hd (by rw [e, left_right]))]

theorem launch_bar (c : Dev nD) :
    tallyOn (gb c) (launchCredit (Pipeline.owing O₀) 0 (gb c)) = (tallyAt (gb c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (left c) fun _ => 1, Finset.sum_ite_eq' Finset.univ (right c) fun _ => 1,
    if_pos (Finset.mem_univ _), if_pos (Finset.mem_univ _)]

theorem launch_land (c : Dev nD) (q : DmaSem sig) (h : q ∈ land) :
    tallyOn (gd c q) (launchCredit (Pipeline.owing O₀) 0 (gd c q)) = (tallyAt (gd c q) () (amt q) : CellTallies nD τ sig Unit) := by
  unfold tallyAt; refine congrArg _ (Finsupp.ext fun u => ?_); cases u
  rw [Pipeline.launchCredit_owing, Finsupp.single_eq_same, Finset.sum_congr rfl fun d _ => owed_land d c q h,
    Finset.sum_ite_eq' Finset.univ (left c) fun _ => amt q, if_pos (Finset.mem_univ _)]

def semEmb : DmaSem sig ↪ SemLoc sig := ⟨.dma, fun _ _ h => by injection h⟩
theorem land_sems : land.map semEmb ⊆ (Finset.univ.erase (SemLoc.reg barS) : Finset (SemLoc sig)) := by
  intro s hs
  obtain ⟨q, -, rfl⟩ := Finset.mem_map.mp hs
  exact Finset.mem_erase.mpr ⟨fun h => by injection h, Finset.mem_univ _⟩

theorem creds (c : Dev nD) : (Pipeline.launchCred O₀ c : sProp 𝕄) ⊢ Crd c := by
  unfold Pipeline.launchCred Crd
  rw [bigSep_univ_at _ (SemLoc.reg barS), launch_bar]
  refine sep_mono_right ?_
  refine BIBase.Entails.trans (bigSep_subset land_sems) (Entails.of_eq ?_)
  rw [bigSep_map]
  exact bigSep_congr fun q hq => congrArg cred (launch_land c q hq)

/-! ## The run -/

theorem sep_join (Φ Ψ : Dev nD → sProp 𝕄) : iprop(bigSep Finset.univ Φ ∗ bigSep Finset.univ Ψ) ⊢ bigSep Finset.univ (fun c => iprop(Φ c ∗ Ψ c)) :=
  Entails.of_eq (bigSep_sep' _ Φ Ψ).symm
theorem sep_part (Φ Ψ : Dev nD → sProp 𝕄) : bigSep Finset.univ (fun c => iprop(Φ c ∗ Ψ c)) ⊢ iprop(bigSep Finset.univ Φ ∗ bigSep Finset.univ Ψ) :=
  Entails.of_eq (bigSep_sep' _ Φ Ψ)

theorem unscopedSems_eq (c : Dev nD) : (unscopedSems0 c : sProp 𝕄) = semVal (gb c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) bufs (V₀ m c) ∗ Rst m c)
abbrev Tₙ (c : Dev nD) : sProp 𝕄 := iprop(StableHlo.held (c : Thread nD τ) bufs (V₂ m c) ∗ semVal (gb c) 0)

/-- What of a device's holdings at the launch is not the protocol's. -/
def bundle (c : Dev nD) : sProp 𝕄 :=
  iprop(StableHlo.held (c : Thread nD τ) bufs (V₀ m c) ∗ Crd c ∗ owes (c : Thread nD τ) (O₀ c) ∅ ∗ ∃ r, prngReg c r)

theorem T₀_intro (κ : GSem nD τ sig → ℕ) (c : Dev nD) : iprop(Pub m κ ∗ (Lin c ∗ bundle m c)) ⊢ T₀ m c := by
  unfold bundle T₀ Rst Tk
  iintro ⟨#HR, Hl, Hh, Hc, HO, Hp⟩
  isplitl [Hh]; · iexact Hh
  isplitl [Hp]; · iexact Hp
  isplitr [HO]
  · isplitl [Hl]
    · iexists κ
      isplitr; · iapply (recs_intro m κ c); iexact HR
      iexact Hl
    iexact Hc
  · iexists ∅; iexact HO

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (gb c) 0 ∗ G c)) : sProp 𝕄) := by
  rw [show unscopedBufs c (fun b => m ((c : Thread nD τ).loc b)) = StableHlo.held (c : Thread nD τ) bufs (V₀ m c) from bufs_held c (V₀ m c),
    unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem own_open : bigSep ownCells (fun g => (openTok ER g : sProp 𝕄))
    ⊢ bigSep Finset.univ (fun c : Dev nD => bigSep mine fun q => openTok ER (gd c q)) :=
  Entails.of_eq (by
    rw [bigSep_map, bigSep_univ_prod]
    exact bigSep_congr fun c _ => by rw [mine_eq, bigSep_map]; rfl)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (gb c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (gb c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (gb c) 0 ∗ G c)) : sProp 𝕄) from bigSep_mono fun c _ => core_init m ρ c) $$ H
  ihave H2 := (sep_part (F := F) _ _) $$ H'; icases H2 with ⟨HB, H3⟩
  ihave H4 := (sep_part (F := F) _ _) $$ H3; icases H4 with ⟨Hv, HG⟩
  ihave Hu := (show bigSep Finset.univ (G (F := F)) ⊢ BI.own (ER (launchOf barCells ownCells allToks)) from
    Entails.of_eq (bigSep_at0 (F := F) (BI.own (ER (launchOf barCells ownCells allToks))))) $$ HG
  imod (Rounds.fund_launch ER (sched (inp m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := Pub m κ) (Φ := fun c => iprop(Lin c ∗ bundle m c)) fun c _ => T₀_intro m κ c)
  isplitr
  · unfold Pub
    isplitr; · iexact Hinv
    iexact Hr
  iapply (sep_join (F := F) _ _)
  isplitr [HB]
  · unfold Lin
    iapply (sep_join (F := F) _ _); isplitl [Hat]; · iapply hat $$ Hat
    iapply (sep_join (F := F) _ _); isplitl [Hopen]; · iapply (own_open (F := F)) $$ Hopen
    iapply (toks_around (F := F))
    iapply (toks_all (F := F)) $$ Htok
  · iexact HB

theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_arg2, Proc.devRef .tc main_arg3, Proc.devRef .tc main_v1, Proc.devRef .tc main_v2] (by decide) (by decide)]
  rfl

theorem unscoped_eq : ∀ sm : SemLoc sig, sm.isScoped .tc = false → sm = .reg barS := by decide

/-- What a device's buffers hold at the end. -/
def EndAt (s : MemSt nD τ sig (Elt F)) (c : Dev nD) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_v2) = (inp m).out c

set_option backward.isDefEq.respectTransparency.types false in
/-- From any memory with zero counters every fair run of the program ends, with the arguments unchanged, each device's
    result as named, and every counter at zero. -/
theorem run_main : θ_run defs (onTc (τ := τ) (main (F := F))) (s₀ m ρ)
    (fun r => (∀ c : Dev nD, EndAt m r.2 c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_at0]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0) ∧ s.mem ((c : Thread nD τ).loc main_arg1) = V₂ m c (Proc.devRef .tc main_arg1)
      ∧ s.mem ((c : Thread nD τ).loc main_arg2) = V₂ m c (Proc.devRef .tc main_arg2) ∧ s.mem ((c : Thread nD τ).loc main_arg3) = V₂ m c (Proc.devRef .tc main_arg3)
      ∧ s.mem ((c : Thread nD τ).loc main_v2) = V₂ m c (Proc.devRef .tc main_v2)) ∧ s.sem (gb c) = 0)
    (hfin := fun c s' => by
      dsimp only [Tₙ]; rw [bufs_eq]
      iintro ⟨⟨⟨H0, H1, H2, H3, -, Hv⟩, Hb0⟩, HSI⟩
      icombine HSI H0 gives %h0
      icombine HSI H1 gives %h1
      icombine HSI H2 gives %h2
      icombine HSI H3 gives %h3
      icombine HSI Hv gives %hv
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ hv⟩, by simpa using hb⟩
      iexact HSI)
    (hQ := fun s h hs => ⟨fun c => by
        obtain ⟨⟨h0, h1, h2, h3, hv⟩, -⟩ := h c
        rw [V₂_ne m c _ (by decide)] at h0 h1 h2 h3
        rw [V₂_out] at hv
        exact ⟨h0.trans (V_main_arg0 m c), h1.trans (V_main_arg1 m c), h2.trans (V_main_arg2 m c), h3.trans (V_main_arg3 m c), hv⟩,
      sem_eq_zero hs fun c sm hsm => by
        obtain rfl := unscoped_eq sm hsm
        exact (h c).2⟩)

end Cert.Moe

end
-- ==== Proof.Frames.lean ====
/-
  Both programs run and leave their arguments unchanged and every counter at zero. They have the same text, so one run
  serves for both.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Moe

open Idealize.ShloMosaic Idealize.SL.Sem

local instance : Cert.Kernel.Facts := Cert.Kernel.Gen.facts
local instance : Cert.KernelIdeal.Facts := Cert.KernelIdeal.Gen.facts

variable {F : FTy → Type} [FloatOps F]

/-- The two programs' kernel bodies are one. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- And so are their tables. -/
theorem tables_eq : Cert.Kernel.defs (F := F) = Cert.KernelIdeal.defs (F := F) :=
  congrArg (Pipeline.defs Cert.KernelIdeal.pcfgs) bodies_eq

theorem frame_kernel : Cert.quiescent_Kernel (hKernel := Cert.Kernel.Gen.facts) := fun m ρ _ => by
  have h := run_main (F := Bits) m ρ
  rw [← tables_eq] at h
  exact (θ_run Cert.Kernel.defs _ _).mono (fun _ h => ⟨fun c => ⟨(h.1 c).1, (h.1 c).2.1, (h.1 c).2.2.1, (h.1 c).2.2.2.1⟩, h.2⟩) h

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

end Cert.Moe

end
-- ==== Proof.Order.lean ====
/-
  The two greatest of sixteen extended reals, the earlier first where two are equal: what a maximum followed by the least
  index that reaches it finds, what a stable sort puts in front, and what each row weighs its experts with.
-/
module

public import Idealize.ShloMosaic.Lib.Pointwise
public import Idealize.ShloMosaic.Lib.SortPrefix
public import Idealize.ShloMosaic.Lib.SortNet.Extract

@[expose] public section

noncomputable section

namespace Cert.Moe

open Idealize.ShloMosaic

/-- `a` is the first place of the greatest entry, `b` the first place of the greatest entry elsewhere. -/
structure Top2 (g : Fin 16 → EReal) (a b : Fin 16) : Prop where
  le : ∀ e, g e ≤ g a
  lt : ∀ e, e < a → g e < g a
  ne : b ≠ a
  le' : ∀ e, e ≠ a → g e ≤ g b
  lt' : ∀ e, e ≠ a → e < b → g e < g b

theorem Top2.unique {g : Fin 16 → EReal} {a b a' b' : Fin 16} (h : Top2 g a b) (h' : Top2 g a' b') : a = a' ∧ b = b' := by
  have ea : a = a' := by
    rcases lt_trichotomy a a' with l | l | l
    · exact absurd (h'.lt a l) (not_lt.mpr (h.le a'))
    · exact l
    · exact absurd (h.lt a' l) (not_lt.mpr (h'.le a))
  subst ea
  refine ⟨rfl, ?_⟩
  rcases lt_trichotomy b b' with l | l | l
  · exact absurd (h'.lt' b h.ne l) (not_lt.mpr (h.le' b' h'.ne))
  · exact l
  · exact absurd (h.lt' b' h'.ne l) (not_lt.mpr (h'.le' b h.ne))

/-! ## By maxima -/

/-- A fold of the signed minimum over words, as a number. -/
theorem toInt_fold_min (b : BitVec 32) (f : Fin 16 → BitVec 32) :
    (Finset.univ.fold IntOp.minsi b f).toInt = Finset.univ.fold min b.toInt (fun k => (f k).toInt) :=
  (Finset.fold_hom (op := IntOp.minsi) (op' := min) (m := BitVec.toInt) SortNet.toInt_minsi).symm

theorem toInt_small {n : ℕ} (h : n < 2 ^ 31) : (BitVec.ofNat 32 n).toInt = n := by
  have e : (BitVec.ofNat 32 n).toNat = n := by rw [BitVec.toNat_ofNat]; omega
  rw [BitVec.toInt_eq_toNat_of_lt (by rw [e]; omega), e]

/-- The word that says where the entry is, or sixteen where it is less. -/
def hit (g : Fin 16 → EReal) (m : EReal) (k : Fin 16) : BitVec 32 :=
  if g k = m then BitVec.ofNat 32 k.val else 16#32

theorem first_max (g : Fin 16 → EReal) : ∃ a : Fin 16, Finset.univ.fold max ⊥ g = g a ∧ (∀ e, g e ≤ g a) ∧
    (∀ e, e < a → g e < g a) ∧ Finset.univ.fold IntOp.minsi 2147483647#32 (hit g (g a)) = BitVec.ofNat 32 a.val := by
  obtain ⟨p, -, hp⟩ := Finset.exists_max_image Finset.univ g ⟨0, Finset.mem_univ _⟩
  obtain ⟨a, ha, hmin⟩ := Finset.exists_min_image (Finset.univ.filter fun e => g e = g p) id ⟨p, by simp⟩
  have ea : g a = g p := (Finset.mem_filter.mp ha).2
  have hle : ∀ e, g e ≤ g a := fun e => ea ▸ hp e (Finset.mem_univ _)
  have hlt : ∀ e, e < a → g e < g a := fun e he => by
    refine lt_of_le_of_ne (hle e) fun h => ?_
    exact absurd (hmin e (Finset.mem_filter.mpr ⟨Finset.mem_univ _, h.trans ea⟩)) (not_le.mpr he)
  refine ⟨a, ?_, hle, hlt, ?_⟩
  · refine le_antisymm (Finset.fold_max_le _ |>.mpr ⟨bot_le, fun e _ => hle e⟩) ?_
    exact (Finset.le_fold_max _).mpr (Or.inr ⟨a, Finset.mem_univ _, le_rfl⟩)
  · apply BitVec.eq_of_toInt_eq
    rw [toInt_fold_min, toInt_small (n := a.val) (by have := a.isLt; omega)]
    refine le_antisymm ?_ ?_
    · refine (Finset.fold_min_le _).mpr (Or.inr ⟨a, Finset.mem_univ _, ?_⟩)
      rw [hit, if_pos rfl, toInt_small (n := a.val) (by have := a.isLt; omega)]
    · refine (Finset.le_fold_min _).mpr ⟨?_, fun e _ => ?_⟩
      · have := a.isLt
        have h : (2147483647#32 : BitVec 32).toInt = 2147483647 := by decide
        omega
      · unfold hit
        split
        · rename_i he
          rw [toInt_small (n := e.val) (by have := e.isLt; omega)]
          have : a ≤ e := by
            by_contra hc
            exact absurd he (ne_of_lt (hlt e (not_le.mp hc)))
          exact_mod_cast this
        · have := a.isLt
          have h : (16#32 : BitVec 32).toInt = 16 := by decide
          omega

/-- With one entry put below all the others. -/
def without (g : Fin 16 → EReal) (lo : EReal) (a : Fin 16) (e : Fin 16) : EReal := if e = a then lo else g e

theorem second_max (g : Fin 16 → EReal) (lo : EReal) (hlo : ∀ e, lo < g e) (a : Fin 16) (hle : ∀ e, g e ≤ g a) (hlt : ∀ e, e < a → g e < g a) :
    ∃ b : Fin 16, Top2 g a b ∧ Finset.univ.fold max ⊥ (without g lo a) = g b ∧
      Finset.univ.fold IntOp.minsi 2147483647#32 (hit (without g lo a) (g b)) = BitVec.ofNat 32 b.val := by
  obtain ⟨b, h1, h2, h3, h4⟩ := first_max (without g lo a)
  have hne : b ≠ a := by
    rintro rfl
    obtain ⟨e, he⟩ : ∃ e : Fin 16, e ≠ b := ⟨if b = 0 then 1 else 0, by split <;> omega⟩
    have := h2 e
    rw [without, if_neg he, without, if_pos rfl] at this
    exact absurd (hlo e) (not_lt.mpr this)
  have eb : without g lo a b = g b := if_neg hne
  rw [eb] at h1 h4
  refine ⟨b, ⟨hle, hlt, hne, fun e he => ?_, fun e he hb => ?_⟩, h1, h4⟩
  · have := h2 e
    rwa [eb, without, if_neg he] at this
  · have := h3 e hb
    rwa [eb, without, if_neg he] at this

/-! ## By a stable sort -/

/-- A stable sort asks only whether a later entry goes before an earlier one. -/
theorem stableSort_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_later {n : ℕ} (R R' : Fin n → Fin n → Bool) (h : ∀ a b, a < b → R b a = R' b a) :
    sortedFrom R = sortedFrom R' := by
  have e : sortPositions n R = sortPositions n R' :=
    stableSort_later R R' _ (List.Pairwise.imp (fun {a b} hab => h a b hab) (List.pairwise_lt_finRange n))
  funext k
  unfold sortedFrom
  rw [List.get_of_eq e]
  rfl

/-- The order a stable sort by "greater" makes of the places. -/
def ahead (g : Fin 16 → EReal) (k k' : Fin 16) : Bool :=
  decide (g k' < g k) || (decide (g k = g k') && decide (k < k'))

theorem ahead_total (g : Fin 16 → EReal) : StrictTotalBefore (ahead g) :=
  StrictTotalBefore.of_key_then_position (fun a b : EReal => decide (b < a)) g (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

theorem sorted_ahead (g : Fin 16 → EReal) :
    sortedFrom (fun k k' => Ideal.cmp .ogt (g k) (g k') == 1#1) = sortedFrom (ahead g) := by
  refine sortedFrom_later _ _ fun a b hab => ?_
  have h : ¬ b < a := not_lt.mpr hab.le
  by_cases hc : g a < g b <;> simp [Ideal.cmp, ahead, hc, h]

theorem sorted_top (g : Fin 16 → EReal) {a b : Fin 16} (h : Top2 g a b) (j : Fin 2) :
    sortedFrom (ahead g) (j.castLE (by decide)) = (![a, b] : Fin 2 → Fin 16) j := by
  refine (ahead_total g).sortedFrom_eq_of_prefix (by decide) ![a, b] ?_ ?_ ?_ j
  · intro i j hij
    match i, j with
    | 0, 0 => rfl
    | 0, 1 => exact absurd hij.symm h.ne
    | 1, 0 => exact absurd hij h.ne
    | 1, 1 => rfl
  · intro i j hij
    match i, j with
    | 0, 0 => exact absurd hij (lt_irrefl _)
    | 1, 0 => exact absurd hij (by decide)
    | 1, 1 => exact absurd hij (lt_irrefl _)
    | 0, 1 =>
      show ahead g b a = false
      unfold ahead
      have h1 : ¬ g a < g b := not_lt.mpr (h.le b)
      have h2 : ¬ (g b = g a ∧ b < a) := fun hc => absurd (h.lt b hc.2) (by rw [hc.1]; exact lt_irrefl _)
      simpa [h1] using fun hc => not_lt.mp fun hd => h2 ⟨hc, hd⟩
  · intro i p hp
    have pa : p ≠ a := fun hc => hp 0 hc.symm
    have pb : p ≠ b := fun hc => hp 1 hc.symm
    match i with
    | 0 =>
      show ahead g p a = false
      unfold ahead
      have h1 : ¬ g a < g p := not_lt.mpr (h.le p)
      have h2 : ¬ (g p = g a ∧ p < a) := fun hc => absurd (h.lt p hc.2) (by rw [hc.1]; exact lt_irrefl _)
      simpa [h1] using fun hc => not_lt.mp fun hd => h2 ⟨hc, hd⟩
    | 1 =>
      show ahead g p b = false
      unfold ahead
      have h1 : ¬ g b < g p := not_lt.mpr (h.le' p pa)
      have h2 : ¬ (g p = g b ∧ p < b) := fun hc => absurd (h.lt' p pa hc.2) (by rw [hc.1]; exact lt_irrefl _)
      simpa [h1] using fun hc => not_lt.mp fun hd => h2 ⟨hc, hd⟩

end Cert.Moe

end
-- ==== Proof.Rows.lean ====
/-
  The kernel's routing and products over the extended reals, one row at a time.
-/
module

public import proofs.«01_k».proof.Proof.Values
public import proofs.«01_k».proof.Proof.Order

@[expose] public section

set_option maxRecDepth 16384

noncomputable section

namespace Cert.Moe

open Idealize.ShloMosaic Idealize.ShloMosaic.TcCoe
open Cert.KernelIdeal Cert.KernelIdeal.Gen

theorem same_yes (a : BitVec 32) : IntOp.cmpi .eq a a = 1#1 := by simp [IntOp.cmpi]
theorem same_no {a b : BitVec 32} (h : a ≠ b) : IntOp.cmpi .eq a b = 0#1 := by
  show BitVec.ofBool (a == b) = 0#1
  rw [beq_eq_false_iff_ne.mpr h]; rfl

/-- A comparison's bit, widened and read as a number. -/
theorem flag_eq (a b : BitVec 32) :
    (FloatOps.sitofp .f32 (BitVec.setWidth 32 (IntOp.cmpi .eq a b)) : Ideal .f32) = if a = b then (1 : EReal) else 0 := by
  by_cases h : a = b
  · subst h
    rw [if_pos rfl, same_yes]
    show (((BitVec.setWidth 32 1#1).toInt : ℝ) : EReal) = 1
    norm_num
  · rw [if_neg h, same_no h]
    show (((BitVec.setWidth 32 0#1).toInt : ℝ) : EReal) = 0
    norm_num

theorem gates_apply (rt : FVec Ideal S16x1024 .f32) (x : FVec Ideal S256x1024 .f32) (r : Fin 256) (e : Fin 16) :
    gates rt x (ix2 r e) = ∑ d : Fin 1024, x (ix2 r d) * rt (ix2 e d) := by
  pointwise [gates]

theorem neg_inf : Ideal.ofBits .f32 0xFF800000#32 = ⊥ := by
  simp [Ideal.ofBits, Ideal.ieee]

theorem rmax_apply (g : FVec Ideal S256x16 .f32) (r : Fin 256) (c : Fin 1) :
    rmax g (ix2 r c) = Finset.univ.fold max ⊥ fun e : Fin 16 => g (ix2 r e) := by
  pointwise [rmax]
  rw [neg_inf]

theorem amax_apply (g : FVec Ideal S256x16 .f32) (r : Fin 256) (c : Fin 1) :
    amax g (ix2 r c) = Finset.univ.fold IntOp.minsi 2147483647#32 (hit (fun e : Fin 16 => g (ix2 r e)) (rmax g (ix2 r 0))) := by
  pointwise [amax, ids]
  rfl

theorem masked_apply (g : FVec Ideal S256x16 .f32) (r : Fin 256) (e : Fin 16) :
    masked g (ix2 r e) = if BitVec.ofNat 32 e.val = amax g (ix2 r 0) then Ideal.ofBits .f32 0xFF7FFFFF#32 else g (ix2 r e) := by
  pointwise [masked, ids]
  by_cases h : BitVec.ofNat 32 e.val = amax g (ix2 r 0)
  · rw [if_pos h, h, same_yes]; rfl
  · rw [if_neg h, same_no h]; rfl

theorem ratio_apply (rt : FVec Ideal S16x1024 .f32) (x : FVec Ideal S256x1024 .f32) (r : Fin 256) (c : Fin 1) :
    ratio rt x (ix2 r c) = Ideal.exp (rmax (masked (gates rt x)) (ix2 r c) - rmax (gates rt x) (ix2 r c)) := by
  pointwise [ratio]

theorem sc1_apply (rt : FVec Ideal S16x1024 .f32) (x : FVec Ideal S256x1024 .f32) (r : Fin 256) (c : Fin 1) :
    sc1 rt x (ix2 r c) = Ideal.div 1 (1 + ratio rt x (ix2 r c)) := by
  pointwise [sc1, ones]

theorem sc2_apply (rt : FVec Ideal S16x1024 .f32) (x : FVec Ideal S256x1024 .f32) (r : Fin 256) (c : Fin 1) :
    sc2 rt x (ix2 r c) = Ideal.div (ratio rt x (ix2 r c)) (1 + ratio rt x (ix2 r c)) := by
  pointwise [sc2, ones]

theorem weight_apply (ge : BitVec 32) (a1 a2 : IVec S256x1 32) (s1 s2 : FVec Ideal S256x1 .f32) (r : Fin 256) (c : Fin 1) :
    weight ge a1 a2 s1 s2 (ix2 r c) = s1 (ix2 r c) * (if a1 (ix2 r c) = ge then 1 else 0) + s2 (ix2 r c) * (if a2 (ix2 r c) = ge then 1 else 0) := by
  pointwise [weight]
  rw [flag_eq, flag_eq]

theorem weight0_apply (ge : BitVec 32) (a1 a2 : IVec S256x1 32) (s1 s2 : FVec Ideal S256x1 .f32) (r : Fin 128) (c : Fin 1) :
    weight0 ge a1 a2 s1 s2 (ix2 r c) = weight ge a1 a2 s1 s2 (ix2 ⟨r.val, by omega⟩ c) := by
  obtain rfl : c = 0 := Subsingleton.elim _ _
  pointwise [weight0, weight]
theorem weight1_apply (ge : BitVec 32) (a1 a2 : IVec S256x1 32) (s1 s2 : FVec Ideal S256x1 .f32) (r : Fin 128) (c : Fin 1) :
    weight1 ge a1 a2 s1 s2 (ix2 r c) = weight ge a1 a2 s1 s2 (ix2 ⟨r.val + 128, by omega⟩ c) := by
  obtain rfl : c = 0 := Subsingleton.elim _ _
  have e : (⟨128 + r.val, by omega⟩ : Fin 256) = ⟨r.val + 128, by omega⟩ := Fin.ext (Nat.add_comm _ _)
  pointwise [weight1, weight]
  rw [e]

/-! ## A row's weights -/

/-- What a row weighs its first expert with, and its second. -/
def share1 (u v : EReal) : EReal := Ideal.div 1 (1 + Ideal.exp (v - u))
def share2 (u v : EReal) : EReal := Ideal.div (Ideal.exp (v - u)) (1 + Ideal.exp (v - u))

/-- What a row weighs each expert with: nothing but the first two. -/
def wgt (g : Fin 16 → EReal) (a b e : Fin 16) : EReal :=
  if e = a then share1 (g a) (g b) else if e = b then share2 (g a) (g b) else 0

theorem word_inj {a b : Fin 16} : BitVec.ofNat 32 a.val = BitVec.ofNat 32 b.val ↔ a = b := by
  refine ⟨fun h => ?_, fun h => h ▸ rfl⟩
  have h' := congrArg BitVec.toNat h
  simp only [BitVec.toNat_ofNat] at h'
  apply Fin.ext
  have := a.isLt
  have := b.isLt
  omega

/-- On a row whose gates are all above the mask the kernel finds the two greatest, and weighs by them. -/
theorem weight_row (rt : FVec Ideal S16x1024 .f32) (x : FVec Ideal S256x1024 .f32) (r : Fin 256)
    (hlo : ∀ e : Fin 16, Ideal.ofBits .f32 0xFF7FFFFF#32 < gates rt x (ix2 r e)) :
    ∃ a b : Fin 16, Top2 (fun e => gates rt x (ix2 r e)) a b ∧ ∀ (e : Fin 16) (c : Fin 1),
      weight (BitVec.ofNat 32 e.val) (ex1 rt x) (ex2 rt x) (sc1 rt x) (sc2 rt x) (ix2 r c) = wgt (fun e => gates rt x (ix2 r e)) a b e := by
  obtain ⟨a, ha, hle, hlt, hw⟩ := first_max fun e => gates rt x (ix2 r e)
  obtain ⟨b, ht, hb, hw'⟩ := second_max _ _ hlo a hle hlt
  have m1 : ∀ c : Fin 1, rmax (gates rt x) (ix2 r c) = gates rt x (ix2 r a) := fun c => (rmax_apply _ _ _).trans ha
  have e1 : ∀ c : Fin 1, ex1 rt x (ix2 r c) = BitVec.ofNat 32 a.val := fun c => by
    unfold ex1
    rw [amax_apply, m1, hw]
  have hm : (fun e : Fin 16 => masked (gates rt x) (ix2 r e)) = without (fun e => gates rt x (ix2 r e)) (Ideal.ofBits .f32 0xFF7FFFFF#32) a := by
    funext e
    rw [masked_apply]
    unfold without
    have h : amax (gates rt x) (ix2 r 0) = BitVec.ofNat 32 a.val := e1 0
    simp only [h, word_inj]
  have m2 : ∀ c : Fin 1, rmax (masked (gates rt x)) (ix2 r c) = gates rt x (ix2 r b) := fun c => by
    rw [rmax_apply, hm, hb]
  have e2 : ∀ c : Fin 1, ex2 rt x (ix2 r c) = BitVec.ofNat 32 b.val := fun c => by
    unfold ex2
    rw [amax_apply, m2, hm, hw']
  refine ⟨a, b, ht, fun e c => ?_⟩
  rw [weight_apply, e1, e2, sc1_apply, sc2_apply, ratio_apply, m1, m2]
  simp only [word_inj]
  unfold wgt share1 share2
  by_cases h1 : e = a
  · subst h1
    rw [if_pos rfl, if_neg ht.ne, if_pos rfl, mul_one, mul_zero, add_zero]
  · rw [if_neg (Ne.symm h1), if_neg h1, mul_zero, zero_add]
    by_cases h2 : e = b
    · subst h2
      rw [if_pos rfl, if_pos rfl, mul_one]
    · rw [if_neg (Ne.symm h2), if_neg h2, mul_zero]

/-! ## An expert's part -/

/-- An expert's two products on one row. -/
def ffn (x : Fin 1024 → EReal) (w1 : Fin 1024 → Fin 2048 → EReal) (w2 : Fin 2048 → Fin 1024 → EReal) (n : Fin 1024) : EReal :=
  ∑ f : Fin 2048, max (∑ d : Fin 1024, x d * w1 d f) 0 * w2 f n

theorem part_apply (x : FVec Ideal S256x1024 .f32) (w1 : FVec Ideal S1024x2048 .f32) (w2 : FVec Ideal S2048x1024 .f32) (wt : FVec Ideal S256x1 .f32)
    (r : Fin 256) (n : Fin 1024) :
    part x w1 w2 wt (ix2 r n) = ffn (fun d => x (ix2 r d)) (fun d f => w1 (ix2 d f)) (fun f n => w2 (ix2 f n)) n * wt (ix2 r 0) := by
  pointwise [part, ffn]

theorem partH_apply (x : FVec Ideal S128x1024 .f32) (w1 : FVec Ideal S1024x2048 .f32) (w2 : FVec Ideal S2048x1024 .f32) (wt : FVec Ideal S128x1 .f32)
    (r : Fin 128) (n : Fin 1024) :
    partH x w1 w2 wt (ix2 r n) = ffn (fun d => x (ix2 r d)) (fun d f => w1 (ix2 d f)) (fun f n => w2 (ix2 f n)) n * wt (ix2 r 0) := by
  pointwise [partH, ffn]

end Cert.Moe

end
-- ==== Proof.Sums.lean ====
/-
  The kernel's result over the extended reals: each device's four experts' parts of a row, carried round the ring,
  come to the sum over all sixteen.
-/
module

public import proofs.«01_k».proof.Proof.Rows

@[expose] public section

set_option maxRecDepth 16384

noncomputable section

namespace Cert.Moe

open Idealize.ShloMosaic Idealize.ShloMosaic.TcCoe
open Cert.KernelIdeal Cert.KernelIdeal.Gen

/-! ## Numbers of rows and experts -/

/-- A device's row among all rows, -/
def rowNo (c : Dev nD) (r : Fin 256) : Fin 1024 := ⟨yOf c * 256 + r.val, by have := yOf_lt c; omega⟩
/-- and its expert among all experts. -/
def expNo (c : Dev nD) (el : Fin 4) : Fin 16 := ⟨yOf c * 4 + el.val, by have := yOf_lt c; omega⟩

theorem yOf_atY : ∀ (c : Dev nD) (j : Fin 4), yOf (atY c j) = j.val := by decide +kernel

theorem exNo_eq : ∀ (c : Dev nD) (el : Fin 4), exNo (yWord c) (BitVec.ofNat 32 el.val) = BitVec.ofNat 32 (expNo c el).val := by
  decide +kernel

/-! ## The blocks as parts of whole arrays -/

/-- The devices' blocks are parts of whole arrays. -/
structure Parts (I : Inp Ideal) (X : Fin 1024 → Fin 1024 → EReal) (R : Fin 1024 → Fin 16 → EReal)
    (A : Fin 16 → Fin 1024 → Fin 2048 → EReal) (B : Fin 16 → Fin 2048 → Fin 1024 → EReal) : Prop where
  x : ∀ c r d, I.x c (ix2 r d) = X (rowNo c r) d
  rt : ∀ c j d, I.rt c (ix2 j d) = R d (expNo c j)
  w1 : ∀ c el d f, I.w1 c (ix3 el d f) = A (expNo c el) d f
  w2 : ∀ c el f n, I.w2 c (ix3 el f n) = B (expNo c el) f n

/-- A row's gates. -/
def gateOf (X : Fin 1024 → Fin 1024 → EReal) (R : Fin 1024 → Fin 16 → EReal) (t : Fin 1024) (e : Fin 16) : EReal :=
  ∑ d : Fin 1024, X t d * R d e

/-- An expert's part of a row whose first two experts are `a` and `b`. -/
def term (X : Fin 1024 → Fin 1024 → EReal) (R : Fin 1024 → Fin 16 → EReal)
    (A : Fin 16 → Fin 1024 → Fin 2048 → EReal) (B : Fin 16 → Fin 2048 → Fin 1024 → EReal) (a b : Fin 16) (t n : Fin 1024) (e : Fin 16) : EReal :=
  ffn (X t) (A e) (B e) n * wgt (gateOf X R t) a b e

section
variable {I : Inp Ideal} {X : Fin 1024 → Fin 1024 → EReal} {R : Fin 1024 → Fin 16 → EReal}
variable {A : Fin 16 → Fin 1024 → Fin 2048 → EReal} {B : Fin 16 → Fin 2048 → Fin 1024 → EReal}
variable (hP : Parts I X R A B)
include hP

theorem RT_apply (c : Dev nD) (e : Fin 16) (d : Fin 1024) : I.RT c (ix2 e d) = R d e := by
  pointwise [Inp.RT]
  have h4 : e.val / 4 < 4 := by omega
  have hm : e.val % 4 < 4 := by omega
  have hr : I.RT4 c (ix3 ⟨e.val / 4, h4⟩ ⟨e.val % 4, hm⟩ d) = I.rt (atY c ⟨e.val / 4, h4⟩) (ix2 ⟨e.val % 4, hm⟩ d) := by
    rw [ix2_eq_valueIdx]; rfl
  refine hr.trans ((hP.rt _ _ _).trans (congrArg (R d) (Fin.ext ?_)))
  show yOf (atY c ⟨e.val / 4, h4⟩) * 4 + e.val % 4 = e.val
  rw [yOf_atY]
  show e.val / 4 * 4 + e.val % 4 = e.val
  omega

theorem W1_apply (c : Dev nD) (el : Fin 4) (d : Fin 1024) (f : Fin 2048) : I.W1 c el (ix2 d f) = A (expNo c el) d f := by
  rw [← hP.w1, ix3_eq_valueIdx]; rfl
theorem W2_apply (c : Dev nD) (el : Fin 4) (f : Fin 2048) (n : Fin 1024) : I.W2 c el (ix2 f n) = B (expNo c el) f n := by
  rw [← hP.w2, ix3_eq_valueIdx]; rfl
theorem xk_apply (c : Dev nD) (k : ℕ) (r : Fin 256) (d : Fin 1024) : I.xk c k (ix2 r d) = X (rowNo (back k c) r) d := hP.x _ _ _

theorem gates_row (c : Dev nD) (k : ℕ) (r : Fin 256) (e : Fin 16) : gates (I.RT c) (I.xk c k) (ix2 r e) = gateOf X R (rowNo (back k c) r) e := by
  rw [gates_apply]
  exact Finset.sum_congr rfl fun d _ => by rw [xk_apply hP, RT_apply hP]

variable (hlo : ∀ t e, Ideal.ofBits .f32 0xFF7FFFFF#32 < gateOf X R t e)
include hlo

theorem weight_at (c : Dev nD) (k : ℕ) (r : Fin 256) {a b : Fin 16} (h : Top2 (gateOf X R (rowNo (back k c) r)) a b) (el : Fin 4) (w : BitVec 32)
    (hw : w = BitVec.ofNat 32 el.val) :
    weight (exNo (yWord c) w) (ex1 (I.RT c) (I.xk c k)) (ex2 (I.RT c) (I.xk c k)) (sc1 (I.RT c) (I.xk c k)) (sc2 (I.RT c) (I.xk c k)) (ix2 r 0)
      = wgt (gateOf X R (rowNo (back k c) r)) a b (expNo c el) := by
  have hg : (fun e => gates (I.RT c) (I.xk c k) (ix2 r e)) = gateOf X R (rowNo (back k c) r) := funext fun e => gates_row hP c k r e
  obtain ⟨a', b', ht, hw'⟩ := weight_row (I.RT c) (I.xk c k) r (fun e => by rw [gates_row hP]; exact hlo _ _)
  rw [hg] at ht hw'
  obtain ⟨rfl, rfl⟩ := h.unique ht
  rw [hw, exNo_eq, hw']

theorem ctr_apply (c : Dev nD) (k : ℕ) (r : Fin 256) {a b : Fin 16} (h : Top2 (gateOf X R (rowNo (back k c) r)) a b) (el : Fin 4) (w : BitVec 32)
    (hw : w = BitVec.ofNat 32 el.val) (n : Fin 1024) :
    I.ctr c k el w (ix2 r n) = term X R A B a b (rowNo (back k c) r) n (expNo c el) := by
  unfold Inp.ctr term
  rw [part_apply, weight_at hP hlo c k r h el w hw]
  simp only [xk_apply hP, W1_apply hP, W2_apply hP]

/-- A device's four experts' parts of a row. -/
theorem acc3_apply (c : Dev nD) (k : ℕ) (r : Fin 256) {a b : Fin 16} (h : Top2 (gateOf X R (rowNo (back k c) r)) a b) (n : Fin 1024) :
    I.acc3 c k (ix2 r n) = term X R A B a b (rowNo (back k c) r) n (expNo c 0) + term X R A B a b (rowNo (back k c) r) n (expNo c 1)
      + term X R A B a b (rowNo (back k c) r) n (expNo c 2) := by
  rw [← ctr_apply hP hlo c k r h 0 0#32 rfl, ← ctr_apply hP hlo c k r h 1 1#32 rfl, ← ctr_apply hP hlo c k r h 2 2#32 rfl]
  rfl

theorem accT_apply (c : Dev nD) (k : ℕ) (r : Fin 128) (r' : Fin 256) (hr : r'.val = r.val) {a b : Fin 16}
    (h : Top2 (gateOf X R (rowNo (back k c) r')) a b) (n : Fin 1024) :
    I.accT c k (ix2 r n) = ∑ el : Fin 4, term X R A B a b (rowNo (back k c) r') n (expNo c el) := by
  have hl : r.val < 256 := Nat.lt_of_lt_of_le r.isLt (by decide)
  obtain rfl : r' = ⟨r.val, hl⟩ := Fin.ext hr
  have ht : ∀ (y : Vec Ideal S256x1024 .f32) (d : Fin 1024), top y (ix2 r d) = y (ix2 (n0 := 256) ⟨r.val, by omega⟩ d) := fun y d => by
    rw [ix2_eq_valueIdx (n0 := 256)]; rfl
  rw [Fin.sum_univ_four, ← acc3_apply hP hlo c k _ h]
  unfold term
  have hx : X (rowNo (back k c) ⟨r.val, hl⟩) = fun d => top (I.xk c k) (ix2 r d) := funext fun d => (xk_apply hP c k _ d).symm.trans (ht (I.xk c k) d).symm
  have h1 := funext fun d => funext fun f => (W1_apply hP c 3 d f).symm
  have h2 := funext fun f => funext fun n => (W2_apply hP c 3 f n).symm
  rw [← weight_at hP hlo c k _ h 3 3#32 rfl, ← weight0_apply, ← ht (I.acc3 c k), hx, h1, h2, ← partH_apply]
  rfl

theorem accB_apply (c : Dev nD) (k : ℕ) (r : Fin 128) (r' : Fin 256) (hr : r'.val = r.val + 128) {a b : Fin 16}
    (h : Top2 (gateOf X R (rowNo (back k c) r')) a b) (n : Fin 1024) :
    I.accB c k (ix2 r n) = ∑ el : Fin 4, term X R A B a b (rowNo (back k c) r') n (expNo c el) := by
  have hl : r.val + 128 < 256 := Nat.add_lt_add_right r.isLt 128
  obtain rfl : r' = ⟨r.val + 128, hl⟩ := Fin.ext hr
  have ht : ∀ (y : Vec Ideal S256x1024 .f32) (d : Fin 1024), bot y (ix2 r d) = y (ix2 (n0 := 256) ⟨r.val + 128, by omega⟩ d) := fun y d => by
    rw [ix2_eq_valueIdx (n0 := 256)]; rfl
  rw [Fin.sum_univ_four, ← acc3_apply hP hlo c k _ h]
  unfold term
  have hx : X (rowNo (back k c) ⟨r.val + 128, hl⟩) = fun d => bot (I.xk c k) (ix2 r d) := funext fun d => (xk_apply hP c k _ d).symm.trans (ht (I.xk c k) d).symm
  have h1 := funext fun d => funext fun f => (W1_apply hP c 3 d f).symm
  have h2 := funext fun f => funext fun n => (W2_apply hP c 3 f n).symm
  rw [← weight_at hP hlo c k _ h 3 3#32 rfl, ← weight1_apply, ← ht (I.acc3 c k), hx, h1, h2, ← partH_apply]
  rfl
end

/-! ## Round the ring -/

/-- A device's place along the ring. -/
def yF (c : Dev nD) : Fin 4 := ⟨yOf c, yOf_lt c⟩
theorem yF_left : ∀ c, yF (left c) = yF c + 3 := by decide +kernel
theorem back_round : ∀ c : Dev nD, left (left (left (left c))) = c := by decide +kernel

theorem ring_sum (P : Fin 4 → EReal) : ∀ y : Fin 4, P (y + 3 + 3 + 3) + P (y + 3 + 3) + P (y + 3) + P y = ∑ j : Fin 4, P j := by
  intro y
  rw [Fin.sum_univ_four]
  match y with
  | 0 => show P 1 + P 2 + P 3 + P 0 = _; ac_rfl
  | 1 => show P 2 + P 3 + P 0 + P 1 = _; ac_rfl
  | 2 => show P 3 + P 0 + P 1 + P 2 = _; ac_rfl
  | 3 => show P 0 + P 1 + P 2 + P 3 = _; rfl

theorem sum_experts (h : Fin 16 → EReal) : ∑ e : Fin 16, h e = ∑ j : Fin 4, ∑ el : Fin 4, h ⟨j.val * 4 + el.val, by omega⟩ := by
  rw [← Fintype.sum_prod_type']
  exact (Fintype.sum_equiv (finProdFinEquiv (m := 4) (n := 4)) _ _ fun p => congrArg h (Fin.ext (by
    show p.1.val * 4 + p.2.val = p.2.val + 4 * p.1.val; omega))).symm

/-- The four devices of a ring between them have every expert. -/
theorem four_devices (h : Fin 16 → EReal) (c : Dev nD) :
    (∑ el : Fin 4, h (expNo (left (left (left c))) el)) + (∑ el : Fin 4, h (expNo (left (left c)) el))
      + (∑ el : Fin 4, h (expNo (left c) el)) + (∑ el : Fin 4, h (expNo c el)) = ∑ e : Fin 16, h e := by
  rw [sum_experts, ← ring_sum (fun j => ∑ el : Fin 4, h ⟨j.val * 4 + el.val, by omega⟩) (yF c), ← yF_left, ← yF_left, ← yF_left]
  rfl

section
variable {I : Inp Ideal} {X : Fin 1024 → Fin 1024 → EReal} {R : Fin 1024 → Fin 16 → EReal}
variable {A : Fin 16 → Fin 1024 → Fin 2048 → EReal} {B : Fin 16 → Fin 2048 → Fin 1024 → EReal}
variable (hP : Parts I X R A B) (hlo : ∀ t e, Ideal.ofBits .f32 0xFF7FFFFF#32 < gateOf X R t e)
include hP hlo

/-- Each row of a device's result is the sum of every expert's part of it. -/
theorem out_apply (c : Dev nD) (r : Fin 256) {a b : Fin 16} (h : Top2 (gateOf X R (rowNo c r)) a b) (n : Fin 1024) :
    I.out c (ix2 r n) = ∑ e : Fin 16, term X R A B a b (rowNo c r) n e := by
  have b1 : back 1 (left (left (left c))) = c := back_round c
  have b2 : back 2 (left (left c)) = c := back_round c
  have b3 : back 3 (left c) = c := back_round c
  rw [← four_devices _ c]
  by_cases hr : r.val < 128
  · have e0 := accT_apply hP hlo c 0 ⟨r.val, hr⟩ r rfl h n
    have e1 := accT_apply hP hlo (left (left (left c))) 1 ⟨r.val, hr⟩ r rfl (b1.symm ▸ h) n
    have e2 := accT_apply hP hlo (left (left c)) 2 ⟨r.val, hr⟩ r rfl (b2.symm ▸ h) n
    have e3 := accT_apply hP hlo (left c) 3 ⟨r.val, hr⟩ r rfl (b3.symm ▸ h) n
    rw [b1] at e1; rw [b2] at e2; rw [b3] at e3
    have e0' : I.accT c 0 (ix2 ⟨r.val, hr⟩ n) = ∑ el : Fin 4, term X R A B a b (rowNo c r) n (expNo c el) := e0
    rw [← e0', ← e1, ← e2, ← e3, ix2_eq_valueIdx (n0 := 128)]
    have hj : ∀ y z : FVec Ideal S128x1024 .f32, Inp.join y z (ix2 r n) = y (ValueIdx.ix2 (n0 := 128) ⟨r.val, hr⟩ n) := fun y z => dif_pos hr
    show Inp.join _ _ (ix2 r n) + Inp.join _ _ (ix2 r n) = _
    rw [hj, hj]
    rfl
  · have hb : r.val - 128 < 128 := by omega
    have hs : r.val = r.val - 128 + 128 := by omega
    have e0 := accB_apply hP hlo c 0 ⟨r.val - 128, hb⟩ r hs h n
    have e1 := accB_apply hP hlo (left (left (left c))) 1 ⟨r.val - 128, hb⟩ r hs (b1.symm ▸ h) n
    have e2 := accB_apply hP hlo (left (left c)) 2 ⟨r.val - 128, hb⟩ r hs (b2.symm ▸ h) n
    have e3 := accB_apply hP hlo (left c) 3 ⟨r.val - 128, hb⟩ r hs (b3.symm ▸ h) n
    rw [b1] at e1; rw [b2] at e2; rw [b3] at e3
    have e0' : I.accB c 0 (ix2 ⟨r.val - 128, hb⟩ n) = ∑ el : Fin 4, term X R A B a b (rowNo c r) n (expNo c el) := e0
    rw [← e0', ← e1, ← e2, ← e3, ix2_eq_valueIdx (n0 := 128)]
    have hj : ∀ y z : FVec Ideal S128x1024 .f32, Inp.join y z (ix2 r n) = z (ValueIdx.ix2 (n0 := 128) ⟨r.val - 128, hb⟩ n) := fun y z => dif_neg hr
    show Inp.join _ _ (ix2 r n) + Inp.join _ _ (ix2 r n) = _
    rw [hj, hj]
    rfl
end

end Cert.Moe

end
-- ==== Proof.Bound.lean ====
/-
  What the precondition gives: entries that are real numbers of a bounded size, and gates above the mask.
-/
module

public import Idealize.ShloMosaic.Lib.Pointwise
public import Idealize.ShloMosaic.Lib.ReduceAll

@[expose] public section

noncomputable section

namespace Cert.Moe

open Idealize.ShloMosaic

/-- A real number of size at most two to the fifty-eighth. -/
def Small (x : EReal) : Prop := ∃ a : ℝ, x = (a : EReal) ∧ |a| ≤ 2 ^ 58

theorem word_bound : Ideal.ofBits .f32 0x5C800000#32 = ((2 ^ 58 : ℝ) : EReal) := by
  simp [Ideal.ofBits, Ideal.ieee]
  norm_cast

theorem word_mask : Ideal.ofBits .f32 0xFF7FFFFF#32 = ((-(2 ^ 128 - 2 ^ 104) : ℝ) : EReal) := by
  simp [Ideal.ofBits, Ideal.ieee]
  norm_cast

theorem small_of_le {x : EReal} (h : Ideal.cmp .ole (max x (-x)) (Ideal.ofBits .f32 0x5C800000#32) = 1#1) : Small x := by
  have h' : max x (-x) ≤ ((2 ^ 58 : ℝ) : EReal) := by
    rw [word_bound] at h
    by_contra hc
    rw [Ideal.cmp, show decide (max x (-x) ≤ ((2 ^ 58 : ℝ) : EReal)) = false from decide_eq_false hc] at h
    exact absurd h (by decide)
  obtain ⟨h1, h2⟩ := max_le_iff.mp h'
  induction x with
  | bot => exact absurd h2 (by rw [EReal.neg_bot]; exact not_le.mpr (EReal.coe_lt_top _))
  | top => exact absurd h1 (not_le.mpr (EReal.coe_lt_top _))
  | coe a =>
    refine ⟨a, rfl, abs_le.mpr ⟨?_, EReal.coe_le_coe_iff.mp h1⟩⟩
    have := EReal.coe_le_coe_iff.mp ((EReal.coe_neg a).trans_le h2)
    linarith

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A product of small rows is a real number above the mask. -/
theorem gate_real {x r : Fin 1024 → EReal} (hx : ∀ d, Small (x d)) (hr : ∀ d, Small (r d)) :
    ∃ a : ℝ, ∑ d : Fin 1024, x d * r d = (a : EReal) ∧ Ideal.ofBits .f32 0xFF7FFFFF#32 < (a : EReal) := by
  choose a ha ha' using hx
  choose b hb hb' using hr
  refine ⟨∑ d, a d * b d, ?_, ?_⟩
  · rw [← sum_coe]
    exact Finset.sum_congr rfl fun d _ => by rw [ha, hb, EReal.coe_mul]
  · rw [word_mask, EReal.coe_lt_coe_iff]
    have h : ∀ d, |a d * b d| ≤ 2 ^ 116 := fun d => by
      rw [abs_mul]
      calc |a d| * |b d| ≤ 2 ^ 58 * 2 ^ 58 := mul_le_mul (ha' d) (hb' d) (abs_nonneg _) (by positivity)
        _ = 2 ^ 116 := by norm_num
    have h2 : |∑ d, a d * b d| ≤ 2 ^ 126 := by
      calc |∑ d, a d * b d| ≤ ∑ d : Fin 1024, |a d * b d| := Finset.abs_sum_le_sum_abs _ _
        _ ≤ ∑ _d : Fin 1024, (2 : ℝ) ^ 116 := Finset.sum_le_sum fun d _ => h d
        _ = 2 ^ 126 := by rw [Finset.sum_const, Finset.card_univ, Fintype.card_fin]; norm_num
    have h3 := (abs_le.mp h2).1
    have h4 : -((2 : ℝ) ^ 128 - 2 ^ 104) < -2 ^ 126 := by norm_num
    linarith

end Cert.Moe

end
-- ==== Proof.Refer.lean ====
/-
  What the reference computes over the extended reals, one row at a time.
-/
module

public import proofs.«01_k».proof.Proof.Gen.ReferenceIdeal.Run
public import proofs.«01_k».proof.Proof.Order
public import proofs.«01_k».proof.Proof.Rows
public import proofs.«01_k».proof.Proof.Bound

@[expose] public section

set_option maxRecDepth 16384

noncomputable section

namespace Cert.Moe.Ref

open Idealize.ShloMosaic Idealize.ShloMosaic.TcCoe
open Cert.ReferenceIdeal Cert.ReferenceIdeal.Gen

/-- Every row's gates. -/
def gate (x : FVec Ideal S1024x1024 .f32) (rt : FVec Ideal S1024x16 .f32) : FVec Ideal S1024x16 .f32 :=
  Host.dotGeneral dot_S1024x1024_S1024x16_S1024x16_1_0_0_1_n_n none x rt
/-- The two greatest, and where they are. -/
def vals (g : FVec Ideal S1024x16 .f32) : FVec Ideal S1024x2 .f32 :=
  (Host.topK S1024x2 1 (FloatOps.cmpfTotal .gt) g sliceFits_S1024x16_S1024x2).1
def locs (g : FVec Ideal S1024x16 .f32) : IVec S1024x2 32 :=
  (Host.topK S1024x2 1 (FloatOps.cmpfTotal .gt) g sliceFits_S1024x16_S1024x2).2
/-- The exponentials of the two over the greater. -/
def exps (v : FVec Ideal S1024x2 .f32) : FVec Ideal S1024x2 .f32 :=
  Host.exp (subf v (broadcastInDim S1024x2 ![0, 1] bcast_S1024x1_S1024x2_0_1 (broadcastInDim S1024x1 ![0] bcast_S1024_S1024x1_0
    (Host.reduce FloatOps.maximumf v (constant S_ .f32 0xFF800000#32) reducesTo_S1024x2_S1024_d1 h_S_))))
/-- The two weights. -/
def shares (w : FVec Ideal S1024x2 .f32) : FVec Ideal S1024x2 .f32 :=
  Host.divf w (broadcastInDim S1024x2 ![0, 1] bcast_S1024x1_S1024x2_0_1 (broadcastInDim S1024x1 ![0] bcast_S1024_S1024x1_0
    (Host.reduceAdd w (constant S_ .f32 0x00000000#32) reducesTo_S1024x2_S1024_d1 h_S_)))
/-- Every expert's products on every row. -/
def prods (x : FVec Ideal S1024x1024 .f32) (w1 : FVec Ideal S16x1024x2048 .f32) (w2 : FVec Ideal S16x2048x1024 .f32) : FVec Ideal S16x1024x1024 .f32 :=
  Host.dotGeneral dot_S1024x16x2048_S16x2048x1024_S16x1024x1024_2_1_0_2_1_0 none
    (maximumf (Host.dotGeneral dot_S1024x1024_S16x1024x2048_S1024x16x2048_1_1_0_02_n_n none x w1)
      (broadcastInDim S1024x16x2048 ![] bcast_S_S1024x16x2048 (constant S_ .f32 0x00000000#32))) w2
/-- Whether an expert is a row's first, or second. -/
def chosen (l : IVec S1024x2 32) : IVec S2x16x1024x1024 1 :=
  broadcastInDim S2x16x1024x1024 ![0, 1, 2, 3] bcast_S2x16x1024x1_S2x16x1024x1024_0_1_2_3 (broadcastInDim S2x16x1024x1 ![0, 1, 2] bcast_S2x16x1024_S2x16x1024x1_0_1_2
    (cmpi .eq (broadcastInDim S2x16x1024 ![0, 1, 2] bcast_S2x1x1024_S2x16x1024_0_1_2 (broadcastInDim S2x1x1024 ![0, 2] bcast_S2x1024_S2x1x1024_0_2
        (transpose S2x1024 [1, 0] l transposes_S1024x2_S2x1024_1_0)))
      (broadcastInDim S2x16x1024 ![0, 1, 2] bcast_S1x16x1_S2x16x1024_0_1_2 (broadcastInDim S1x16x1 ![1] bcast_S16_S1x16x1_1 (iotaInDim S16 32 0)))))
/-- The whole: each row's two experts' products at their weights. -/
def whole (y : FVec Ideal S16x1024x1024 .f32) (s : FVec Ideal S1024x2 .f32) (k : IVec S2x16x1024x1024 1) : FVec Ideal S1024x1024 .f32 :=
  Host.reduceAdd (select k
      (mulf (broadcastInDim S2x16x1024x1024 ![0, 1, 2, 3] bcast_S1x16x1024x1024_S2x16x1024x1024_0_1_2_3 (broadcastInDim S1x16x1024x1024 ![1, 2, 3] bcast_S16x1024x1024_S1x16x1024x1024_1_2_3 y))
        (broadcastInDim S2x16x1024x1024 ![0, 1, 2, 3] bcast_S2x1x1024x1_S2x16x1024x1024_0_1_2_3 (broadcastInDim S2x1x1024x1 ![0, 2] bcast_S2x1024_S2x1x1024x1_0_2
          (transpose S2x1024 [1, 0] s transposes_S1024x2_S2x1024_1_0))))
      (broadcastInDim S2x16x1024x1024 ![] bcast_S_S2x16x1024x1024 (id (constant S_ .f32 0x00000000#32))))
    (constant S_ .f32 0x00000000#32) reducesTo_S2x16x1024x1024_S1024x1024_d0_1 h_S_

def result (x : FVec Ideal S1024x1024 .f32) (rt : FVec Ideal S1024x16 .f32) (w1 : FVec Ideal S16x1024x2048 .f32) (w2 : FVec Ideal S16x2048x1024 .f32) :
    FVec Ideal S1024x1024 .f32 :=
  whole (prods x w1 w2) (shares (exps (vals (gate x rt)))) (chosen (locs (gate x rt)))

theorem gate_apply (x : FVec Ideal S1024x1024 .f32) (rt : FVec Ideal S1024x16 .f32) (t : Fin 1024) (e : Fin 16) :
    gate x rt (ix2 t e) = ∑ d : Fin 1024, x (ix2 t d) * rt (ix2 d e) := by
  pointwise [gate]

theorem exps_apply (v : FVec Ideal S1024x2 .f32) (t : Fin 1024) (j : Fin 2) :
    exps v (ix2 t j) = Ideal.exp (v (ix2 t j) - Finset.univ.fold max ⊥ fun k : Fin 2 => v (ix2 t k)) := by
  pointwise [exps]
  rw [neg_inf]

theorem shares_apply (w : FVec Ideal S1024x2 .f32) (t : Fin 1024) (j : Fin 2) :
    shares w (ix2 t j) = Ideal.div (w (ix2 t j)) (∑ k : Fin 2, w (ix2 t k)) := by
  pointwise [shares]

theorem prods_apply (x : FVec Ideal S1024x1024 .f32) (w1 : FVec Ideal S16x1024x2048 .f32) (w2 : FVec Ideal S16x2048x1024 .f32)
    (e : Fin 16) (t n : Fin 1024) :
    prods x w1 w2 (ix3 e t n) = ffn (fun d => x (ix2 t d)) (fun d f => w1 (ix3 e d f)) (fun f n => w2 (ix3 e f n)) n := by
  pointwise [prods, ffn]

theorem chosen_apply (l : IVec S1024x2 32) (j : Fin 2) (e : Fin 16) (t n : Fin 1024) :
    chosen l (ix4 j e t n) = IntOp.cmpi .eq (l (ix2 t j)) (BitVec.ofNat 32 e.val) := by
  pointwise [chosen]

/-- A sum over the first two axes of four. -/
theorem sum_two_axes (v : S2x16x1024x1024.Idx → EReal) (z : EReal) (t n : Fin 1024) :
    Ideal.hostReduceAdd reducesTo_S2x16x1024x1024_S1024x1024_d0_1 v z (ix2 t n) = z + ∑ j : Fin 2, ∑ e : Fin 16, v (ix4 j e t n) := by
  refine congrArg (z + ·) ?_
  refine (Finset.sum_filter_eq_sum_of_fiber _ (fun k : Fin 2 × Fin 16 => (ix4 k.1 k.2 t n : S2x16x1024x1024.Idx))
    (fun _ _ e => Prod.ext (congrFun e 0) (congrFun e 1)) (fun i => ⟨fun e => ?_, ?_⟩) v).trans ?_
  · refine ⟨(i 0, i 1), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl
  · simp only [Fintype.sum_prod_type]

theorem whole_apply (y : FVec Ideal S16x1024x1024 .f32) (s : FVec Ideal S1024x2 .f32) (k : IVec S2x16x1024x1024 1) (t n : Fin 1024) :
    whole y s k (ix2 t n) = ∑ j : Fin 2, ∑ e : Fin 16, Scalar.select (k (ix4 j e t n)) (y (ix3 e t n) * s (ix2 t j)) 0 := by
  pointwise [whole]
  rw [sum_two_axes, zero_add]
  refine Finset.sum_congr rfl fun j _ => Finset.sum_congr rfl fun e _ => ?_
  pointwise
  exact congrArg (Scalar.select _ _) Ideal.ofBits_zero_f32

theorem topK_apply (g : FVec Ideal S1024x16 .f32) (t : Fin 1024) (j : Fin 2) :
    vals g (ix2 t j) = g (ix2 t (sortedFrom (fun k k' => Ideal.cmp .ogt (g (ix2 t k)) (g (ix2 t k')) == 1#1) (j.castLE (by decide)))) ∧
    locs g (ix2 t j) = BitVec.ofNat 32 (sortedFrom (fun k k' => Ideal.cmp .ogt (g (ix2 t k)) (g (ix2 t k')) == 1#1) (j.castLE (by decide) : Fin 16)).val := by
  have hal : ∀ (p k : Fin 16), (ix2 t p : S1024x16.Idx).along 1 k = ix2 t k := fun p k => by
    funext a
    match a with
    | ⟨0, _⟩ => rfl
    | ⟨1, _⟩ => rfl
  constructor
  · unfold vals Host.topK Host.sort2
    pointwise
    simp only [hal]
    rfl
  · unfold locs Host.topK Host.sort2
    pointwise
    simp only [hal]
    rfl

/-- On a row of real gates the reference weighs the two greatest, as the kernel does. -/
theorem result_row (x : FVec Ideal S1024x1024 .f32) (rt : FVec Ideal S1024x16 .f32) (w1 : FVec Ideal S16x1024x2048 .f32) (w2 : FVec Ideal S16x2048x1024 .f32)
    (t : Fin 1024) {a b : Fin 16} (h : Top2 (fun e => gate x rt (ix2 t e)) a b) (hr : ∃ u : ℝ, gate x rt (ix2 t a) = (u : EReal)) (n : Fin 1024) :
    result x rt w1 w2 (ix2 t n) = ∑ e : Fin 16,
      ffn (fun d => x (ix2 t d)) (fun d f => w1 (ix3 e d f)) (fun f n => w2 (ix3 e f n)) n * wgt (fun e => gate x rt (ix2 t e)) a b e := by
  have hs := sorted_top _ h
  have v0 : vals (gate x rt) (ix2 t 0) = gate x rt (ix2 t a) := by
    rw [(topK_apply _ t 0).1, sorted_ahead (fun e => gate x rt (ix2 t e)), hs 0]; rfl
  have v1 : vals (gate x rt) (ix2 t 1) = gate x rt (ix2 t b) := by
    rw [(topK_apply _ t 1).1, sorted_ahead (fun e => gate x rt (ix2 t e)), hs 1]; rfl
  have l0 : locs (gate x rt) (ix2 t 0) = BitVec.ofNat 32 a.val := by
    rw [(topK_apply _ t 0).2, sorted_ahead (fun e => gate x rt (ix2 t e)), hs 0]; rfl
  have l1 : locs (gate x rt) (ix2 t 1) = BitVec.ofNat 32 b.val := by
    rw [(topK_apply _ t 1).2, sorted_ahead (fun e => gate x rt (ix2 t e)), hs 1]; rfl
  have hm : (Finset.univ.fold max ⊥ fun k : Fin 2 => vals (gate x rt) (ix2 t k)) = gate x rt (ix2 t a) := by
    refine le_antisymm ((Finset.fold_max_le _).mpr ⟨bot_le, fun k _ => ?_⟩) ((Finset.le_fold_max _).mpr (Or.inr ⟨0, Finset.mem_univ _, v0.ge⟩))
    match k with
    | 0 => exact v0.le
    | 1 => exact v1.le.trans (h.le b)
  have x0 : exps (vals (gate x rt)) (ix2 t 0) = 1 := by
    rw [exps_apply, hm, v0]
    obtain ⟨u, hu⟩ := hr
    rw [hu, ← EReal.coe_sub, sub_self]
    show ((Real.exp 0 : ℝ) : EReal) = 1
    rw [Real.exp_zero, EReal.coe_one]
  have x1 : exps (vals (gate x rt)) (ix2 t 1) = Ideal.exp (gate x rt (ix2 t b) - gate x rt (ix2 t a)) := by
    rw [exps_apply, hm, v1]
  have s0 : shares (exps (vals (gate x rt))) (ix2 t 0) = share1 (gate x rt (ix2 t a)) (gate x rt (ix2 t b)) := by
    rw [shares_apply, Fin.sum_univ_two, x0, x1]; rfl
  have s1 : shares (exps (vals (gate x rt))) (ix2 t 1) = share2 (gate x rt (ix2 t a)) (gate x rt (ix2 t b)) := by
    rw [shares_apply, Fin.sum_univ_two, x0, x1]; rfl
  unfold result
  rw [whole_apply, Fin.sum_univ_two, ← Finset.sum_add_distrib]
  refine Finset.sum_congr rfl fun e _ => ?_
  rw [chosen_apply, chosen_apply, l0, l1, s0, s1, prods_apply]
  unfold wgt
  by_cases h1 : e = a
  · subst h1
    rw [same_yes, same_no (fun hc => h.ne (word_inj.mp hc)), if_pos rfl]
    exact add_zero _
  · rw [same_no (fun hc => h1 (word_inj.mp hc).symm), if_neg h1]
    by_cases h2 : e = b
    · subst h2
      rw [same_yes, if_pos rfl]
      exact zero_add _
    · rw [same_no (fun hc => h2 (word_inj.mp hc).symm), if_neg h2, mul_zero]
      exact zero_add _

end Cert.Moe.Ref

end
-- ==== Proof.Agree.lean ====
/-
  The kernel on the mesh and the reference on one device: their arrays, their results, and the claim.
-/
module

public import proofs.«01_k».proof.Proof.Frames
public import proofs.«01_k».proof.Proof.Sums
public import proofs.«01_k».proof.Proof.Refer
public import proofs.«01_k».proof.Proof.Gen.Pre_bounded_KernelIdeal
public import Idealize.ShloMosaic.Lib.ReduceAll
public import Idealize.ShloMosaic.Lib.Layout

@[expose] public section

set_option maxRecDepth 16384

noncomputable section

namespace Cert.Moe

open Idealize.ShloMosaic Idealize.ShloMosaic.TcCoe Idealize.SL.Sem

/-! ## The precondition -/

section
open Cert.Pre_bounded_KernelIdeal
local instance : Cert.Pre_bounded_KernelIdeal.Facts := Cert.Pre_bounded_KernelIdeal.Gen.facts

/-- A reduced array of bits, all of which are set, comes of bounded entries. -/
theorem bounded_entries {x : FVec Ideal S256x1024 .f32} {r : FVec Ideal S1024x4 .f32} {w1 : FVec Ideal S4x1024x2048 .f32} {w2 : FVec Ideal S4x2048x1024 .f32}
    (h : Cert.Pre_bounded_KernelIdeal.fn (F := Ideal) x r w1 w2 = fun _ => 1#1) : (∀ i, Small (x i)) ∧ ∀ i, Small (r i) := by
  haveI : Subsingleton S_.Idx := ⟨fun i j => funext fun a => a.elim0⟩
  have h0 := congrFun h ix0
  obtain ⟨h1, h2⟩ : _ = 1#1 ∧ _ = 1#1 := IntOp.andi_eq_one.mp h0
  exact ⟨fun i => small_of_le (Host.reduce_andi_all _ _ _ _ _ h1 i), fun i => small_of_le (Host.reduce_andi_all _ _ _ _ _ h2 i)⟩
end

/-! ## Blocks of whole arrays -/

theorem lin_y : ∀ c : Dev 32, Layout.meshLin [2, 4, 4] c.val [1] = yOf c := by decide +kernel

variable {α : Type}

theorem rows_at (v : (⟨2, ![1024, 1024]⟩ : Shape).Idx → α) (c : Dev 32) (r : Fin 256) (d : Fin 1024) :
    Layout.blockN ⟨2, ![256, 1024]⟩ ⟨2, ![1024, 1024]⟩ (Layout.meshBlock [2, 4, 4] ![[1], []] c) v (by decide) (ix2 r d) = v (ix2 (rowNo c r) d) := by
  refine congrArg v (funext fun b => Fin.ext ?_)
  match b with
  | ⟨0, _⟩ => exact congrArg (· * 256 + r.val) (lin_y c)
  | ⟨1, _⟩ => show 0 * 1024 + d.val = d.val; omega

theorem cols_at (v : (⟨2, ![1024, 16]⟩ : Shape).Idx → α) (c : Dev 32) (d : Fin 1024) (j : Fin 4) :
    Layout.blockN ⟨2, ![1024, 4]⟩ ⟨2, ![1024, 16]⟩ (Layout.meshBlock [2, 4, 4] ![[], [1]] c) v (by decide) (ix2 d j) = v (ix2 d (expNo c j)) := by
  refine congrArg v (funext fun b => Fin.ext ?_)
  match b with
  | ⟨0, _⟩ => show 0 * 1024 + d.val = d.val; omega
  | ⟨1, _⟩ => exact congrArg (· * 4 + j.val) (lin_y c)

theorem firsts_at (v : (⟨3, ![16, 1024, 2048]⟩ : Shape).Idx → α) (c : Dev 32) (el : Fin 4) (d : Fin 1024) (f : Fin 2048) :
    Layout.blockN ⟨3, ![4, 1024, 2048]⟩ ⟨3, ![16, 1024, 2048]⟩ (Layout.meshBlock [2, 4, 4] ![[1], [], []] c) v (by decide) (ix3 el d f) = v (ix3 (expNo c el) d f) := by
  refine congrArg v (funext fun b => Fin.ext ?_)
  match b with
  | ⟨0, _⟩ => exact congrArg (· * 4 + el.val) (lin_y c)
  | ⟨1, _⟩ => show 0 * 1024 + d.val = d.val; omega
  | ⟨2, _⟩ => show 0 * 2048 + f.val = f.val; omega

theorem seconds_at (v : (⟨3, ![16, 2048, 1024]⟩ : Shape).Idx → α) (c : Dev 32) (el : Fin 4) (f : Fin 2048) (n : Fin 1024) :
    Layout.blockN ⟨3, ![4, 2048, 1024]⟩ ⟨3, ![16, 2048, 1024]⟩ (Layout.meshBlock [2, 4, 4] ![[1], [], []] c) v (by decide) (ix3 el f n) = v (ix3 (expNo c el) f n) := by
  refine congrArg v (funext fun b => Fin.ext ?_)
  match b with
  | ⟨0, _⟩ => exact congrArg (· * 4 + el.val) (lin_y c)
  | ⟨1, _⟩ => show 0 * 2048 + f.val = f.val; omega
  | ⟨2, _⟩ => show 0 * 1024 + n.val = n.val; omega

/-- Every row is some device's. -/
theorem row_of (t : Fin 1024) : ∃ (c : Dev 32) (r : Fin 256), rowNo c r = t :=
  ⟨atY (0 : Dev 32) ⟨t.val / 256, by omega⟩, ⟨t.val % 256, by omega⟩, Fin.ext (by
    show yOf (atY (0 : Dev 32) ⟨t.val / 256, _⟩) * 256 + t.val % 256 = t.val
    rw [yOf_atY]; show t.val / 256 * 256 + t.val % 256 = t.val; omega)⟩
/-- Every expert is some device's. -/
theorem exp_of (e : Fin 16) : ∃ (c : Dev 32) (j : Fin 4), expNo c j = e :=
  ⟨atY (0 : Dev 32) ⟨e.val / 4, by omega⟩, ⟨e.val % 4, by omega⟩, Fin.ext (by
    show yOf (atY (0 : Dev 32) ⟨e.val / 4, _⟩) * 4 + e.val % 4 = e.val
    rw [yOf_atY]; show e.val / 4 * 4 + e.val % 4 = e.val; omega)⟩

/-- The first two of any row of real gates above the mask. -/
theorem top2_exists (g : Fin 16 → EReal) (h : ∀ e, Ideal.ofBits .f32 0xFF7FFFFF#32 < g e) : ∃ a b : Fin 16, Top2 g a b := by
  obtain ⟨a, -, h1, h2, -⟩ := first_max g
  obtain ⟨b, ht, -⟩ := second_max g _ h a h1 h2
  exact ⟨a, b, ht⟩

/-! ## The claim -/

section
open Cert.KernelIdeal Cert.KernelIdeal.Gen
variable (m : (ℓ : Loc nD τ sig) → Buf (Elt Ideal) ℓ)

/-- The kernel is given the router's columns turned. -/
theorem V_router (c : Dev nD) : V m c main_v1 = transpose S4x1024 [1, 0] (m ((c.tc : Thread nD τ).loc main_arg1)) transposes_S1024x4_S4x1024_1_0 := rfl

theorem turned_at (v : FVec Ideal S1024x4 .f32) (j : Fin 4) (d : Fin 1024) :
    transpose S4x1024 [1, 0] v transposes_S1024x4_S4x1024_1_0 (ix2 j d) = v (ix2 d j) := by
  pointwise
end

local instance : Cert.Pre_bounded_KernelIdeal.Facts := Cert.Pre_bounded_KernelIdeal.Gen.facts

theorem algebraic : Cert.algebraic_KernelIdeal_ReferenceIdeal_pre_bounded_KernelIdeal (hKernelIdeal := Cert.KernelIdeal.Gen.facts)
    (hReferenceIdeal := Cert.ReferenceIdeal.Gen.facts) (hPre_bounded_KernelIdeal := Cert.Pre_bounded_KernelIdeal.Gen.facts) := by
  intro m g m' g' hpre hm
  let x : FVec Ideal ⟨2, ![1024, 1024]⟩ .f32 := m' (((0 : Dev Cert.ReferenceIdeal.nD).tc : Thread Cert.ReferenceIdeal.nD Cert.ReferenceIdeal.τ).loc Cert.ReferenceIdeal.main_arg0)
  let rt : FVec Ideal ⟨2, ![1024, 16]⟩ .f32 := m' (((0 : Dev Cert.ReferenceIdeal.nD).tc : Thread Cert.ReferenceIdeal.nD Cert.ReferenceIdeal.τ).loc Cert.ReferenceIdeal.main_arg1)
  let w1 : FVec Ideal ⟨3, ![16, 1024, 2048]⟩ .f32 := m' (((0 : Dev Cert.ReferenceIdeal.nD).tc : Thread Cert.ReferenceIdeal.nD Cert.ReferenceIdeal.τ).loc Cert.ReferenceIdeal.main_arg2)
  let w2 : FVec Ideal ⟨3, ![16, 2048, 1024]⟩ .f32 := m' (((0 : Dev Cert.ReferenceIdeal.nD).tc : Thread Cert.ReferenceIdeal.nD Cert.ReferenceIdeal.τ).loc Cert.ReferenceIdeal.main_arg3)
  have hP : Parts (inp m) (fun t d => x (ix2 t d)) (fun d e => rt (ix2 d e)) (fun e d f => w1 (ix3 e d f)) (fun e f n => w2 (ix3 e f n)) :=
    { x := fun c r d => (congrFun ((Cert.KernelIdeal.Gen.V_main_arg0 m c).trans (hm c).1) (ix2 r d)).trans (rows_at x c r d)
      rt := fun c j d => (congrFun (V_router m c) (ix2 j d)).trans ((turned_at _ j d).trans ((congrFun (hm c).2.1 (ix2 d j)).trans (cols_at rt c d j)))
      w1 := fun c el d f => (congrFun ((Cert.KernelIdeal.Gen.V_main_arg2 m c).trans (hm c).2.2.1) (ix3 el d f)).trans (firsts_at w1 c el d f)
      w2 := fun c el f n => (congrFun ((Cert.KernelIdeal.Gen.V_main_arg3 m c).trans (hm c).2.2.2) (ix3 el f n)).trans (seconds_at w2 c el f n) }
  have hx : ∀ t d, Small (x (ix2 t d)) := fun t d => by
    obtain ⟨c, r, rfl⟩ := row_of t
    exact (congrFun (hm c).1 (ix2 r d)).trans (rows_at x c r d) ▸ (bounded_entries (hpre c)).1 (ix2 r d)
  have hr : ∀ d e, Small (rt (ix2 d e)) := fun d e => by
    obtain ⟨c, j, rfl⟩ := exp_of e
    exact (congrFun (hm c).2.1 (ix2 d j)).trans (cols_at rt c d j) ▸ (bounded_entries (hpre c)).2 (ix2 d j)
  have hg : ∀ t e, ∃ a : ℝ, gateOf (fun t d => x (ix2 t d)) (fun d e => rt (ix2 d e)) t e = (a : EReal) ∧ Ideal.ofBits .f32 0xFF7FFFFF#32 < (a : EReal) :=
    fun t e => gate_real (fun d => hx t d) (fun d => hr d e)
  have hlo : ∀ t e, Ideal.ofBits .f32 0xFF7FFFFF#32 < gateOf (fun t d => x (ix2 t d)) (fun d e => rt (ix2 d e)) t e := fun t e => by
    obtain ⟨a, ha, h⟩ := hg t e; rw [ha]; exact h
  have hgate : ∀ t, (fun e => Ref.gate x rt (ix2 t e)) = gateOf (fun t d => x (ix2 t d)) (fun d e => rt (ix2 d e)) t := fun t =>
    funext fun e => Ref.gate_apply x rt t e
  have hout : ∀ c : Dev 32, (inp m).out c = Layout.blockN ⟨2, ![256, 1024]⟩ ⟨2, ![1024, 1024]⟩ (Layout.meshBlock [2, 4, 4] ![[1], []] c) (Ref.result x rt w1 w2) (by decide) := fun c => by
    funext i
    obtain ⟨r, n, rfl⟩ : ∃ (r : Fin 256) (n : Fin 1024), i = ix2 r n := ⟨i 0, i 1, by
      funext b
      match b with
      | ⟨0, _⟩ => rfl
      | ⟨1, _⟩ => rfl⟩
    obtain ⟨a, b, ht⟩ := top2_exists _ (hlo (rowNo c r))
    obtain ⟨u, hu, -⟩ := hg (rowNo c r) a
    rw [rows_at, out_apply hP hlo c r ht n,
      Ref.result_row x rt w1 w2 (rowNo c r) (a := a) (b := b) (by rw [hgate]; exact ht) ⟨u, (Ref.gate_apply x rt (rowNo c r) a).trans hu⟩ n, hgate]
    rfl
  refine ⟨Ref.result x rt w1 w2, ?_, ?_⟩
  · refine (θ_run Cert.KernelIdeal.defs _ _).mono (fun r h c => ?_) (run_main (F := Ideal) m g)
    obtain ⟨h0, h1, h2, h3, h4⟩ := h.1 c
    exact ⟨h4.trans (hout c), h0, h1, h2, h3⟩
  · refine (θ_run Cert.ReferenceIdeal.defs _ _).mono (fun r h => ?_) (Cert.ReferenceIdeal.Value.run m' g')
    obtain ⟨h4, h0⟩ := h 0
    exact ⟨h4, h0⟩

end Cert.Moe

end
-- ==== Proof.lean ====
/-
  The proof of `Cert.Claim`. The frames are `Proof/Frames.lean`, of the run in `Proof/Launch.lean`; the value claim is
  `Proof/Agree.lean`; the idealization makes no rewrite, so that it is preserved is trivial.
-/
module

public import proofs.«01_k».proof.Defs
public import proofs.«01_k».proof.Proof.Agree
public import proofs.«01_k».proof.Proof.Gen.Pre_bounded_ReferenceIdeal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_bounded_KernelIdeal.Gen.facts, Cert.Pre_bounded_ReferenceIdeal.Gen.facts,
    Cert.Moe.frame_kernel, Cert.Moe.frame_ideal, fun m g _ => Cert.Moe.frame_ideal m g trivial, Cert.Moe.frame_reference,
    fun m g _ => Cert.Moe.frame_reference m g trivial, trivial, Cert.Moe.algebraic⟩

end Cert.Proof

end
